-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_ProjReference (m : (ℓ : Loc Cert.ProjReference.nD Cert.ProjReference.τ Cert.ProjReference.sig) → Buf (Elt Bits) ℓ) : Prop :=
  True

def Pre_Feat (m : (ℓ : Loc Cert.Feat.nD Cert.Feat.τ Cert.Feat.sig) → Buf (Elt Bits) ℓ) : Prop :=
  True

def Pre_FeatIdeal (m : (ℓ : Loc Cert.FeatIdeal.nD Cert.FeatIdeal.τ Cert.FeatIdeal.sig) → Buf (Elt Ideal) ℓ) : Prop :=
  True

def Pre_FeatReferenceIdeal (m : (ℓ : Loc Cert.FeatReferenceIdeal.nD Cert.FeatReferenceIdeal.τ Cert.FeatReferenceIdeal.sig) → Buf (Elt Ideal) ℓ) : Prop :=
  True

def Pre_FeatReference (m : (ℓ : Loc Cert.FeatReference.nD Cert.FeatReference.τ Cert.FeatReference.sig) → Buf (Elt Bits) ℓ) : Prop :=
  True

def Pre_Fold4 (m : (ℓ : Loc Cert.Fold4.nD Cert.Fold4.τ Cert.Fold4.sig) → Buf (Elt Bits) ℓ) : Prop :=
  True

def Pre_Fold4Ideal (m : (ℓ : Loc Cert.Fold4Ideal.nD Cert.Fold4Ideal.τ Cert.Fold4Ideal.sig) → Buf (Elt Ideal) ℓ) : Prop :=
  True

def Pre_Fold4ReferenceIdeal (m : (ℓ : Loc Cert.Fold4ReferenceIdeal.nD Cert.Fold4ReferenceIdeal.τ Cert.Fold4ReferenceIdeal.sig) → Buf (Elt Ideal) ℓ) : Prop :=
  True

def Pre_Fold4Reference (m : (ℓ : Loc Cert.Fold4Reference.nD Cert.Fold4Reference.τ Cert.Fold4Reference.sig) → Buf (Elt Bits) ℓ) : Prop :=
  True

def Pre_Fold16 (m : (ℓ : Loc Cert.Fold16.nD Cert.Fold16.τ Cert.Fold16.sig) → Buf (Elt Bits) ℓ) : Prop :=
  True

def Pre_Fold16Ideal (m : (ℓ : Loc Cert.Fold16Ideal.nD Cert.Fold16Ideal.τ Cert.Fold16Ideal.sig) → Buf (Elt Ideal) ℓ) : Prop :=
  True

def Pre_Fold16ReferenceIdeal (m : (ℓ : Loc Cert.Fold16ReferenceIdeal.nD Cert.Fold16ReferenceIdeal.τ Cert.Fold16ReferenceIdeal.sig) → Buf (Elt Ideal) ℓ) : Prop :=
  True

def Pre_Fold16Reference (m : (ℓ : Loc Cert.Fold16Reference.nD Cert.Fold16Reference.τ Cert.Fold16Reference.sig) → Buf (Elt Bits) ℓ) : Prop :=
  True

def Pre_FeatFold4 (m : (ℓ : Loc Cert.FeatFold4.nD Cert.FeatFold4.τ Cert.FeatFold4.sig) → Buf (Elt Bits) ℓ) : Prop :=
  True

def Pre_FeatFold4Ideal (m : (ℓ : Loc Cert.FeatFold4Ideal.nD Cert.FeatFold4Ideal.τ Cert.FeatFold4Ideal.sig) → Buf (Elt Ideal) ℓ) : Prop :=
  True

def Pre_FeatFold4ReferenceIdeal (m : (ℓ : Loc Cert.FeatFold4ReferenceIdeal.nD Cert.FeatFold4ReferenceIdeal.τ Cert.FeatFold4ReferenceIdeal.sig) → Buf (Elt Ideal) ℓ) : Prop :=
  True

def Pre_FeatFold4Reference (m : (ℓ : Loc Cert.FeatFold4Reference.nD Cert.FeatFold4Reference.τ Cert.FeatFold4Reference.sig) → Buf (Elt Bits) ℓ) : Prop :=
  True

def Pre_FeatFold16 (m : (ℓ : Loc Cert.FeatFold16.nD Cert.FeatFold16.τ Cert.FeatFold16.sig) → Buf (Elt Bits) ℓ) : Prop :=
  True

def Pre_FeatFold16Ideal (m : (ℓ : Loc Cert.FeatFold16Ideal.nD Cert.FeatFold16Ideal.τ Cert.FeatFold16Ideal.sig) → Buf (Elt Ideal) ℓ) : Prop :=
  True

def Pre_FeatFold16ReferenceIdeal (m : (ℓ : Loc Cert.FeatFold16ReferenceIdeal.nD Cert.FeatFold16ReferenceIdeal.τ Cert.FeatFold16ReferenceIdeal.sig) → Buf (Elt Ideal) ℓ) : Prop :=
  True

def Pre_FeatFold16Reference (m : (ℓ : Loc Cert.FeatFold16Reference.nD Cert.FeatFold16Reference.τ Cert.FeatFold16Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2))
      ∧ r.2.sem = fun _ => 0)

def quiescent_ProjReference [hProjReference : Cert.ProjReference.Facts] : Prop :=
  ∀ (m : (ℓ : Loc Cert.ProjReference.nD Cert.ProjReference.τ Cert.ProjReference.sig) → Buf (Elt Bits) ℓ) (g : Dev Cert.ProjReference.nD → PrngReg), Pre_ProjReference m →
    θ_run (Cert.ProjReference.defs (F := Bits)) (onTc (τ := Cert.ProjReference.τ) (Cert.ProjReference.main (F := Bits))) ⟨m, fun _ => 0, g⟩ (fun r => (∀ c : Dev Cert.ProjReference.nD,
      r.2.mem ((c.tc : Thread Cert.ProjReference.nD Cert.ProjReference.τ).loc Cert.ProjReference.main_arg0) = m ((c.tc : Thread Cert.ProjReference.nD Cert.ProjReference.τ).loc Cert.ProjReference.main_arg0)
      ∧ r.2.mem ((c.tc : Thread Cert.ProjReference.nD Cert.ProjReference.τ).loc Cert.ProjReference.main_arg1) = m ((c.tc : Thread Cert.ProjReference.nD Cert.ProjReference.τ).loc Cert.ProjReference.main_arg1)
      ∧ r.2.mem ((c.tc : Thread Cert.ProjReference.nD Cert.ProjReference.τ).loc Cert.ProjReference.main_arg2) = m ((c.tc : Thread Cert.ProjReference.nD Cert.ProjReference.τ).loc Cert.ProjReference.main_arg2))
      ∧ r.2.sem = fun _ => 0)

def quiescent_Feat [hFeat : Cert.Feat.Facts] : Prop :=
  ∀ (m : (ℓ : Loc Cert.Feat.nD Cert.Feat.τ Cert.Feat.sig) → Buf (Elt Bits) ℓ) (g : Dev Cert.Feat.nD → PrngReg), Pre_Feat m →
    θ_run (Cert.Feat.defs (F := Bits)) (onTc (τ := Cert.Feat.τ) (Cert.Feat.main (F := Bits))) ⟨m, fun _ => 0, g⟩ (fun r => (∀ c : Dev Cert.Feat.nD,
      r.2.mem ((c.tc : Thread Cert.Feat.nD Cert.Feat.τ).loc Cert.Feat.main_arg0) = m ((c.tc : Thread Cert.Feat.nD Cert.Feat.τ).loc Cert.Feat.main_arg0)
      ∧ r.2.mem ((c.tc : Thread Cert.Feat.nD Cert.Feat.τ).loc Cert.Feat.main_arg1) = m ((c.tc : Thread Cert.Feat.nD Cert.Feat.τ).loc Cert.Feat.main_arg1)
      ∧ r.2.mem ((c.tc : Thread Cert.Feat.nD Cert.Feat.τ).loc Cert.Feat.main_arg2) = m ((c.tc : Thread Cert.Feat.nD Cert.Feat.τ).loc Cert.Feat.main_arg2))
      ∧ r.2.sem = fun _ => 0)

def quiescent_FeatIdeal [hFeatIdeal : Cert.FeatIdeal.Facts] : Prop :=
  ∀ (m : (ℓ : Loc Cert.FeatIdeal.nD Cert.FeatIdeal.τ Cert.FeatIdeal.sig) → Buf (Elt Ideal) ℓ) (g : Dev Cert.FeatIdeal.nD → PrngReg), Pre_FeatIdeal m →
    θ_run (Cert.FeatIdeal.defs (F := Ideal)) (onTc (τ := Cert.FeatIdeal.τ) (Cert.FeatIdeal.main (F := Ideal))) ⟨m, fun _ => 0, g⟩ (fun r => (∀ c : Dev Cert.FeatIdeal.nD,
      r.2.mem ((c.tc : Thread Cert.FeatIdeal.nD Cert.FeatIdeal.τ).loc Cert.FeatIdeal.main_arg0) = m ((c.tc : Thread Cert.FeatIdeal.nD Cert.FeatIdeal.τ).loc Cert.FeatIdeal.main_arg0)
      ∧ r.2.mem ((c.tc : Thread Cert.FeatIdeal.nD Cert.FeatIdeal.τ).loc Cert.FeatIdeal.main_arg1) = m ((c.tc : Thread Cert.FeatIdeal.nD Cert.FeatIdeal.τ).loc Cert.FeatIdeal.main_arg1)
      ∧ r.2.mem ((c.tc : Thread Cert.FeatIdeal.nD Cert.FeatIdeal.τ).loc Cert.FeatIdeal.main_arg2) = m ((c.tc : Thread Cert.FeatIdeal.nD Cert.FeatIdeal.τ).loc Cert.FeatIdeal.main_arg2))
      ∧ r.2.sem = fun _ => 0)

def quiescent_FeatReferenceIdeal [hFeatReferenceIdeal : Cert.FeatReferenceIdeal.Facts] : Prop :=
  ∀ (m : (ℓ : Loc Cert.FeatReferenceIdeal.nD Cert.FeatReferenceIdeal.τ Cert.FeatReferenceIdeal.sig) → Buf (Elt Ideal) ℓ) (g : Dev Cert.FeatReferenceIdeal.nD → PrngReg), Pre_FeatReferenceIdeal m →
    θ_run (Cert.FeatReferenceIdeal.defs (F := Ideal)) (onTc (τ := Cert.FeatReferenceIdeal.τ) (Cert.FeatReferenceIdeal.main (F := Ideal))) ⟨m, fun _ => 0, g⟩ (fun r => (∀ c : Dev Cert.FeatReferenceIdeal.nD,
      r.2.mem ((c.tc : Thread Cert.FeatReferenceIdeal.nD Cert.FeatReferenceIdeal.τ).loc Cert.FeatReferenceIdeal.main_arg0) = m ((c.tc : Thread Cert.FeatReferenceIdeal.nD Cert.FeatReferenceIdeal.τ).loc Cert.FeatReferenceIdeal.main_arg0)
      ∧ r.2.mem ((c.tc : Thread Cert.FeatReferenceIdeal.nD Cert.FeatReferenceIdeal.τ).loc Cert.FeatReferenceIdeal.main_arg1) = m ((c.tc : Thread Cert.FeatReferenceIdeal.nD Cert.FeatReferenceIdeal.τ).loc Cert.FeatReferenceIdeal.main_arg1)
      ∧ r.2.mem ((c.tc : Thread Cert.FeatReferenceIdeal.nD Cert.FeatReferenceIdeal.τ).loc Cert.FeatReferenceIdeal.main_arg2) = m ((c.tc : Thread Cert.FeatReferenceIdeal.nD Cert.FeatReferenceIdeal.τ).loc Cert.FeatReferenceIdeal.main_arg2))
      ∧ r.2.sem = fun _ => 0)

def quiescent_FeatReference [hFeatReference : Cert.FeatReference.Facts] : Prop :=
  ∀ (m : (ℓ : Loc Cert.FeatReference.nD Cert.FeatReference.τ Cert.FeatReference.sig) → Buf (Elt Bits) ℓ) (g : Dev Cert.FeatReference.nD → PrngReg), Pre_FeatReference m →
    θ_run (Cert.FeatReference.defs (F := Bits)) (onTc (τ := Cert.FeatReference.τ) (Cert.FeatReference.main (F := Bits))) ⟨m, fun _ => 0, g⟩ (fun r => (∀ c : Dev Cert.FeatReference.nD,
      r.2.mem ((c.tc : Thread Cert.FeatReference.nD Cert.FeatReference.τ).loc Cert.FeatReference.main_arg0) = m ((c.tc : Thread Cert.FeatReference.nD Cert.FeatReference.τ).loc Cert.FeatReference.main_arg0)
      ∧ r.2.mem ((c.tc : Thread Cert.FeatReference.nD Cert.FeatReference.τ).loc Cert.FeatReference.main_arg1) = m ((c.tc : Thread Cert.FeatReference.nD Cert.FeatReference.τ).loc Cert.FeatReference.main_arg1)
      ∧ r.2.mem ((c.tc : Thread Cert.FeatReference.nD Cert.FeatReference.τ).loc Cert.FeatReference.main_arg2) = m ((c.tc : Thread Cert.FeatReference.nD Cert.FeatReference.τ).loc Cert.FeatReference.main_arg2))
      ∧ r.2.sem = fun _ => 0)

def quiescent_Fold4 [hFold4 : Cert.Fold4.Facts] : Prop :=
  ∀ (m : (ℓ : Loc Cert.Fold4.nD Cert.Fold4.τ Cert.Fold4.sig) → Buf (Elt Bits) ℓ) (g : Dev Cert.Fold4.nD → PrngReg), Pre_Fold4 m →
    θ_run (Cert.Fold4.defs (F := Bits)) (onTc (τ := Cert.Fold4.τ) (Cert.Fold4.main (F := Bits))) ⟨m, fun _ => 0, g⟩ (fun r => (∀ c : Dev Cert.Fold4.nD,
      r.2.mem ((c.tc : Thread Cert.Fold4.nD Cert.Fold4.τ).loc Cert.Fold4.main_arg0) = m ((c.tc : Thread Cert.Fold4.nD Cert.Fold4.τ).loc Cert.Fold4.main_arg0)
      ∧ r.2.mem ((c.tc : Thread Cert.Fold4.nD Cert.Fold4.τ).loc Cert.Fold4.main_arg1) = m ((c.tc : Thread Cert.Fold4.nD Cert.Fold4.τ).loc Cert.Fold4.main_arg1)
      ∧ r.2.mem ((c.tc : Thread Cert.Fold4.nD Cert.Fold4.τ).loc Cert.Fold4.main_arg2) = m ((c.tc : Thread Cert.Fold4.nD Cert.Fold4.τ).loc Cert.Fold4.main_arg2))
      ∧ r.2.sem = fun _ => 0)

def quiescent_Fold4Ideal [hFold4Ideal : Cert.Fold4Ideal.Facts] : Prop :=
  ∀ (m : (ℓ : Loc Cert.Fold4Ideal.nD Cert.Fold4Ideal.τ Cert.Fold4Ideal.sig) → Buf (Elt Ideal) ℓ) (g : Dev Cert.Fold4Ideal.nD → PrngReg), Pre_Fold4Ideal m →
    θ_run (Cert.Fold4Ideal.defs (F := Ideal)) (onTc (τ := Cert.Fold4Ideal.τ) (Cert.Fold4Ideal.main (F := Ideal))) ⟨m, fun _ => 0, g⟩ (fun r => (∀ c : Dev Cert.Fold4Ideal.nD,
      r.2.mem ((c.tc : Thread Cert.Fold4Ideal.nD Cert.Fold4Ideal.τ).loc Cert.Fold4Ideal.main_arg0) = m ((c.tc : Thread Cert.Fold4Ideal.nD Cert.Fold4Ideal.τ).loc Cert.Fold4Ideal.main_arg0)
      ∧ r.2.mem ((c.tc : Thread Cert.Fold4Ideal.nD Cert.Fold4Ideal.τ).loc Cert.Fold4Ideal.main_arg1) = m ((c.tc : Thread Cert.Fold4Ideal.nD Cert.Fold4Ideal.τ).loc Cert.Fold4Ideal.main_arg1)
      ∧ r.2.mem ((c.tc : Thread Cert.Fold4Ideal.nD Cert.Fold4Ideal.τ).loc Cert.Fold4Ideal.main_arg2) = m ((c.tc : Thread Cert.Fold4Ideal.nD Cert.Fold4Ideal.τ).loc Cert.Fold4Ideal.main_arg2))
      ∧ r.2.sem = fun _ => 0)

def quiescent_Fold4ReferenceIdeal [hFold4ReferenceIdeal : Cert.Fold4ReferenceIdeal.Facts] : Prop :=
  ∀ (m : (ℓ : Loc Cert.Fold4ReferenceIdeal.nD Cert.Fold4ReferenceIdeal.τ Cert.Fold4ReferenceIdeal.sig) → Buf (Elt Ideal) ℓ) (g : Dev Cert.Fold4ReferenceIdeal.nD → PrngReg), Pre_Fold4ReferenceIdeal m →
    θ_run (Cert.Fold4ReferenceIdeal.defs (F := Ideal)) (onTc (τ := Cert.Fold4ReferenceIdeal.τ) (Cert.Fold4ReferenceIdeal.main (F := Ideal))) ⟨m, fun _ => 0, g⟩ (fun r => (∀ c : Dev Cert.Fold4ReferenceIdeal.nD,
      r.2.mem ((c.tc : Thread Cert.Fold4ReferenceIdeal.nD Cert.Fold4ReferenceIdeal.τ).loc Cert.Fold4ReferenceIdeal.main_arg0) = m ((c.tc : Thread Cert.Fold4ReferenceIdeal.nD Cert.Fold4ReferenceIdeal.τ).loc Cert.Fold4ReferenceIdeal.main_arg0)
      ∧ r.2.mem ((c.tc : Thread Cert.Fold4ReferenceIdeal.nD Cert.Fold4ReferenceIdeal.τ).loc Cert.Fold4ReferenceIdeal.main_arg1) = m ((c.tc : Thread Cert.Fold4ReferenceIdeal.nD Cert.Fold4ReferenceIdeal.τ).loc Cert.Fold4ReferenceIdeal.main_arg1)
      ∧ r.2.mem ((c.tc : Thread Cert.Fold4ReferenceIdeal.nD Cert.Fold4ReferenceIdeal.τ).loc Cert.Fold4ReferenceIdeal.main_arg2) = m ((c.tc : Thread Cert.Fold4ReferenceIdeal.nD Cert.Fold4ReferenceIdeal.τ).loc Cert.Fold4ReferenceIdeal.main_arg2))
      ∧ r.2.sem = fun _ => 0)

def quiescent_Fold4Reference [hFold4Reference : Cert.Fold4Reference.Facts] : Prop :=
  ∀ (m : (ℓ : Loc Cert.Fold4Reference.nD Cert.Fold4Reference.τ Cert.Fold4Reference.sig) → Buf (Elt Bits) ℓ) (g : Dev Cert.Fold4Reference.nD → PrngReg), Pre_Fold4Reference m →
    θ_run (Cert.Fold4Reference.defs (F := Bits)) (onTc (τ := Cert.Fold4Reference.τ) (Cert.Fold4Reference.main (F := Bits))) ⟨m, fun _ => 0, g⟩ (fun r => (∀ c : Dev Cert.Fold4Reference.nD,
      r.2.mem ((c.tc : Thread Cert.Fold4Reference.nD Cert.Fold4Reference.τ).loc Cert.Fold4Reference.main_arg0) = m ((c.tc : Thread Cert.Fold4Reference.nD Cert.Fold4Reference.τ).loc Cert.Fold4Reference.main_arg0)
      ∧ r.2.mem ((c.tc : Thread Cert.Fold4Reference.nD Cert.Fold4Reference.τ).loc Cert.Fold4Reference.main_arg1) = m ((c.tc : Thread Cert.Fold4Reference.nD Cert.Fold4Reference.τ).loc Cert.Fold4Reference.main_arg1)
      ∧ r.2.mem ((c.tc : Thread Cert.Fold4Reference.nD Cert.Fold4Reference.τ).loc Cert.Fold4Reference.main_arg2) = m ((c.tc : Thread Cert.Fold4Reference.nD Cert.Fold4Reference.τ).loc Cert.Fold4Reference.main_arg2))
      ∧ r.2.sem = fun _ => 0)

def quiescent_Fold16 [hFold16 : Cert.Fold16.Facts] : Prop :=
  ∀ (m : (ℓ : Loc Cert.Fold16.nD Cert.Fold16.τ Cert.Fold16.sig) → Buf (Elt Bits) ℓ) (g : Dev Cert.Fold16.nD → PrngReg), Pre_Fold16 m →
    θ_run (Cert.Fold16.defs (F := Bits)) (onTc (τ := Cert.Fold16.τ) (Cert.Fold16.main (F := Bits))) ⟨m, fun _ => 0, g⟩ (fun r => (∀ c : Dev Cert.Fold16.nD,
      r.2.mem ((c.tc : Thread Cert.Fold16.nD Cert.Fold16.τ).loc Cert.Fold16.main_arg0) = m ((c.tc : Thread Cert.Fold16.nD Cert.Fold16.τ).loc Cert.Fold16.main_arg0)
      ∧ r.2.mem ((c.tc : Thread Cert.Fold16.nD Cert.Fold16.τ).loc Cert.Fold16.main_arg1) = m ((c.tc : Thread Cert.Fold16.nD Cert.Fold16.τ).loc Cert.Fold16.main_arg1)
      ∧ r.2.mem ((c.tc : Thread Cert.Fold16.nD Cert.Fold16.τ).loc Cert.Fold16.main_arg2) = m ((c.tc : Thread Cert.Fold16.nD Cert.Fold16.τ).loc Cert.Fold16.main_arg2))
      ∧ r.2.sem = fun _ => 0)

def quiescent_Fold16Ideal [hFold16Ideal : Cert.Fold16Ideal.Facts] : Prop :=
  ∀ (m : (ℓ : Loc Cert.Fold16Ideal.nD Cert.Fold16Ideal.τ Cert.Fold16Ideal.sig) → Buf (Elt Ideal) ℓ) (g : Dev Cert.Fold16Ideal.nD → PrngReg), Pre_Fold16Ideal m →
    θ_run (Cert.Fold16Ideal.defs (F := Ideal)) (onTc (τ := Cert.Fold16Ideal.τ) (Cert.Fold16Ideal.main (F := Ideal))) ⟨m, fun _ => 0, g⟩ (fun r => (∀ c : Dev Cert.Fold16Ideal.nD,
      r.2.mem ((c.tc : Thread Cert.Fold16Ideal.nD Cert.Fold16Ideal.τ).loc Cert.Fold16Ideal.main_arg0) = m ((c.tc : Thread Cert.Fold16Ideal.nD Cert.Fold16Ideal.τ).loc Cert.Fold16Ideal.main_arg0)
      ∧ r.2.mem ((c.tc : Thread Cert.Fold16Ideal.nD Cert.Fold16Ideal.τ).loc Cert.Fold16Ideal.main_arg1) = m ((c.tc : Thread Cert.Fold16Ideal.nD Cert.Fold16Ideal.τ).loc Cert.Fold16Ideal.main_arg1)
      ∧ r.2.mem ((c.tc : Thread Cert.Fold16Ideal.nD Cert.Fold16Ideal.τ).loc Cert.Fold16Ideal.main_arg2) = m ((c.tc : Thread Cert.Fold16Ideal.nD Cert.Fold16Ideal.τ).loc Cert.Fold16Ideal.main_arg2))
      ∧ r.2.sem = fun _ => 0)

def quiescent_Fold16ReferenceIdeal [hFold16ReferenceIdeal : Cert.Fold16ReferenceIdeal.Facts] : Prop :=
  ∀ (m : (ℓ : Loc Cert.Fold16ReferenceIdeal.nD Cert.Fold16ReferenceIdeal.τ Cert.Fold16ReferenceIdeal.sig) → Buf (Elt Ideal) ℓ) (g : Dev Cert.Fold16ReferenceIdeal.nD → PrngReg), Pre_Fold16ReferenceIdeal m →
    θ_run (Cert.Fold16ReferenceIdeal.defs (F := Ideal)) (onTc (τ := Cert.Fold16ReferenceIdeal.τ) (Cert.Fold16ReferenceIdeal.main (F := Ideal))) ⟨m, fun _ => 0, g⟩ (fun r => (∀ c : Dev Cert.Fold16ReferenceIdeal.nD,
      r.2.mem ((c.tc : Thread Cert.Fold16ReferenceIdeal.nD Cert.Fold16ReferenceIdeal.τ).loc Cert.Fold16ReferenceIdeal.main_arg0) = m ((c.tc : Thread Cert.Fold16ReferenceIdeal.nD Cert.Fold16ReferenceIdeal.τ).loc Cert.Fold16ReferenceIdeal.main_arg0)
      ∧ r.2.mem ((c.tc : Thread Cert.Fold16ReferenceIdeal.nD Cert.Fold16ReferenceIdeal.τ).loc Cert.Fold16ReferenceIdeal.main_arg1) = m ((c.tc : Thread Cert.Fold16ReferenceIdeal.nD Cert.Fold16ReferenceIdeal.τ).loc Cert.Fold16ReferenceIdeal.main_arg1)
      ∧ r.2.mem ((c.tc : Thread Cert.Fold16ReferenceIdeal.nD Cert.Fold16ReferenceIdeal.τ).loc Cert.Fold16ReferenceIdeal.main_arg2) = m ((c.tc : Thread Cert.Fold16ReferenceIdeal.nD Cert.Fold16ReferenceIdeal.τ).loc Cert.Fold16ReferenceIdeal.main_arg2))
      ∧ r.2.sem = fun _ => 0)

def quiescent_Fold16Reference [hFold16Reference : Cert.Fold16Reference.Facts] : Prop :=
  ∀ (m : (ℓ : Loc Cert.Fold16Reference.nD Cert.Fold16Reference.τ Cert.Fold16Reference.sig) → Buf (Elt Bits) ℓ) (g : Dev Cert.Fold16Reference.nD → PrngReg), Pre_Fold16Reference m →
    θ_run (Cert.Fold16Reference.defs (F := Bits)) (onTc (τ := Cert.Fold16Reference.τ) (Cert.Fold16Reference.main (F := Bits))) ⟨m, fun _ => 0, g⟩ (fun r => (∀ c : Dev Cert.Fold16Reference.nD,
      r.2.mem ((c.tc : Thread Cert.Fold16Reference.nD Cert.Fold16Reference.τ).loc Cert.Fold16Reference.main_arg0) = m ((c.tc : Thread Cert.Fold16Reference.nD Cert.Fold16Reference.τ).loc Cert.Fold16Reference.main_arg0)
      ∧ r.2.mem ((c.tc : Thread Cert.Fold16Reference.nD Cert.Fold16Reference.τ).loc Cert.Fold16Reference.main_arg1) = m ((c.tc : Thread Cert.Fold16Reference.nD Cert.Fold16Reference.τ).loc Cert.Fold16Reference.main_arg1)
      ∧ r.2.mem ((c.tc : Thread Cert.Fold16Reference.nD Cert.Fold16Reference.τ).loc Cert.Fold16Reference.main_arg2) = m ((c.tc : Thread Cert.Fold16Reference.nD Cert.Fold16Reference.τ).loc Cert.Fold16Reference.main_arg2))
      ∧ r.2.sem = fun _ => 0)

def quiescent_FeatFold4 [hFeatFold4 : Cert.FeatFold4.Facts] : Prop :=
  ∀ (m : (ℓ : Loc Cert.FeatFold4.nD Cert.FeatFold4.τ Cert.FeatFold4.sig) → Buf (Elt Bits) ℓ) (g : Dev Cert.FeatFold4.nD → PrngReg), Pre_FeatFold4 m →
    θ_run (Cert.FeatFold4.defs (F := Bits)) (onTc (τ := Cert.FeatFold4.τ) (Cert.FeatFold4.main (F := Bits))) ⟨m, fun _ => 0, g⟩ (fun r => (∀ c : Dev Cert.FeatFold4.nD,
      r.2.mem ((c.tc : Thread Cert.FeatFold4.nD Cert.FeatFold4.τ).loc Cert.FeatFold4.main_arg0) = m ((c.tc : Thread Cert.FeatFold4.nD Cert.FeatFold4.τ).loc Cert.FeatFold4.main_arg0)
      ∧ r.2.mem ((c.tc : Thread Cert.FeatFold4.nD Cert.FeatFold4.τ).loc Cert.FeatFold4.main_arg1) = m ((c.tc : Thread Cert.FeatFold4.nD Cert.FeatFold4.τ).loc Cert.FeatFold4.main_arg1)
      ∧ r.2.mem ((c.tc : Thread Cert.FeatFold4.nD Cert.FeatFold4.τ).loc Cert.FeatFold4.main_arg2) = m ((c.tc : Thread Cert.FeatFold4.nD Cert.FeatFold4.τ).loc Cert.FeatFold4.main_arg2))
      ∧ r.2.sem = fun _ => 0)

def quiescent_FeatFold4Ideal [hFeatFold4Ideal : Cert.FeatFold4Ideal.Facts] : Prop :=
  ∀ (m : (ℓ : Loc Cert.FeatFold4Ideal.nD Cert.FeatFold4Ideal.τ Cert.FeatFold4Ideal.sig) → Buf (Elt Ideal) ℓ) (g : Dev Cert.FeatFold4Ideal.nD → PrngReg), Pre_FeatFold4Ideal m →
    θ_run (Cert.FeatFold4Ideal.defs (F := Ideal)) (onTc (τ := Cert.FeatFold4Ideal.τ) (Cert.FeatFold4Ideal.main (F := Ideal))) ⟨m, fun _ => 0, g⟩ (fun r => (∀ c : Dev Cert.FeatFold4Ideal.nD,
      r.2.mem ((c.tc : Thread Cert.FeatFold4Ideal.nD Cert.FeatFold4Ideal.τ).loc Cert.FeatFold4Ideal.main_arg0) = m ((c.tc : Thread Cert.FeatFold4Ideal.nD Cert.FeatFold4Ideal.τ).loc Cert.FeatFold4Ideal.main_arg0)
      ∧ r.2.mem ((c.tc : Thread Cert.FeatFold4Ideal.nD Cert.FeatFold4Ideal.τ).loc Cert.FeatFold4Ideal.main_arg1) = m ((c.tc : Thread Cert.FeatFold4Ideal.nD Cert.FeatFold4Ideal.τ).loc Cert.FeatFold4Ideal.main_arg1)
      ∧ r.2.mem ((c.tc : Thread Cert.FeatFold4Ideal.nD Cert.FeatFold4Ideal.τ).loc Cert.FeatFold4Ideal.main_arg2) = m ((c.tc : Thread Cert.FeatFold4Ideal.nD Cert.FeatFold4Ideal.τ).loc Cert.FeatFold4Ideal.main_arg2))
      ∧ r.2.sem = fun _ => 0)

def quiescent_FeatFold4ReferenceIdeal [hFeatFold4ReferenceIdeal : Cert.FeatFold4ReferenceIdeal.Facts] : Prop :=
  ∀ (m : (ℓ : Loc Cert.FeatFold4ReferenceIdeal.nD Cert.FeatFold4ReferenceIdeal.τ Cert.FeatFold4ReferenceIdeal.sig) → Buf (Elt Ideal) ℓ) (g : Dev Cert.FeatFold4ReferenceIdeal.nD → PrngReg), Pre_FeatFold4ReferenceIdeal m →
    θ_run (Cert.FeatFold4ReferenceIdeal.defs (F := Ideal)) (onTc (τ := Cert.FeatFold4ReferenceIdeal.τ) (Cert.FeatFold4ReferenceIdeal.main (F := Ideal))) ⟨m, fun _ => 0, g⟩ (fun r => (∀ c : Dev Cert.FeatFold4ReferenceIdeal.nD,
      r.2.mem ((c.tc : Thread Cert.FeatFold4ReferenceIdeal.nD Cert.FeatFold4ReferenceIdeal.τ).loc Cert.FeatFold4ReferenceIdeal.main_arg0) = m ((c.tc : Thread Cert.FeatFold4ReferenceIdeal.nD Cert.FeatFold4ReferenceIdeal.τ).loc Cert.FeatFold4ReferenceIdeal.main_arg0)
      ∧ r.2.mem ((c.tc : Thread Cert.FeatFold4ReferenceIdeal.nD Cert.FeatFold4ReferenceIdeal.τ).loc Cert.FeatFold4ReferenceIdeal.main_arg1) = m ((c.tc : Thread Cert.FeatFold4ReferenceIdeal.nD Cert.FeatFold4ReferenceIdeal.τ).loc Cert.FeatFold4ReferenceIdeal.main_arg1)
      ∧ r.2.mem ((c.tc : Thread Cert.FeatFold4ReferenceIdeal.nD Cert.FeatFold4ReferenceIdeal.τ).loc Cert.FeatFold4ReferenceIdeal.main_arg2) = m ((c.tc : Thread Cert.FeatFold4ReferenceIdeal.nD Cert.FeatFold4ReferenceIdeal.τ).loc Cert.FeatFold4ReferenceIdeal.main_arg2))
      ∧ r.2.sem = fun _ => 0)

def quiescent_FeatFold4Reference [hFeatFold4Reference : Cert.FeatFold4Reference.Facts] : Prop :=
  ∀ (m : (ℓ : Loc Cert.FeatFold4Reference.nD Cert.FeatFold4Reference.τ Cert.FeatFold4Reference.sig) → Buf (Elt Bits) ℓ) (g : Dev Cert.FeatFold4Reference.nD → PrngReg), Pre_FeatFold4Reference m →
    θ_run (Cert.FeatFold4Reference.defs (F := Bits)) (onTc (τ := Cert.FeatFold4Reference.τ) (Cert.FeatFold4Reference.main (F := Bits))) ⟨m, fun _ => 0, g⟩ (fun r => (∀ c : Dev Cert.FeatFold4Reference.nD,
      r.2.mem ((c.tc : Thread Cert.FeatFold4Reference.nD Cert.FeatFold4Reference.τ).loc Cert.FeatFold4Reference.main_arg0) = m ((c.tc : Thread Cert.FeatFold4Reference.nD Cert.FeatFold4Reference.τ).loc Cert.FeatFold4Reference.main_arg0)
      ∧ r.2.mem ((c.tc : Thread Cert.FeatFold4Reference.nD Cert.FeatFold4Reference.τ).loc Cert.FeatFold4Reference.main_arg1) = m ((c.tc : Thread Cert.FeatFold4Reference.nD Cert.FeatFold4Reference.τ).loc Cert.FeatFold4Reference.main_arg1)
      ∧ r.2.mem ((c.tc : Thread Cert.FeatFold4Reference.nD Cert.FeatFold4Reference.τ).loc Cert.FeatFold4Reference.main_arg2) = m ((c.tc : Thread Cert.FeatFold4Reference.nD Cert.FeatFold4Reference.τ).loc Cert.FeatFold4Reference.main_arg2))
      ∧ r.2.sem = fun _ => 0)

def quiescent_FeatFold16 [hFeatFold16 : Cert.FeatFold16.Facts] : Prop :=
  ∀ (m : (ℓ : Loc Cert.FeatFold16.nD Cert.FeatFold16.τ Cert.FeatFold16.sig) → Buf (Elt Bits) ℓ) (g : Dev Cert.FeatFold16.nD → PrngReg), Pre_FeatFold16 m →
    θ_run (Cert.FeatFold16.defs (F := Bits)) (onTc (τ := Cert.FeatFold16.τ) (Cert.FeatFold16.main (F := Bits))) ⟨m, fun _ => 0, g⟩ (fun r => (∀ c : Dev Cert.FeatFold16.nD,
      r.2.mem ((c.tc : Thread Cert.FeatFold16.nD Cert.FeatFold16.τ).loc Cert.FeatFold16.main_arg0) = m ((c.tc : Thread Cert.FeatFold16.nD Cert.FeatFold16.τ).loc Cert.FeatFold16.main_arg0)
      ∧ r.2.mem ((c.tc : Thread Cert.FeatFold16.nD Cert.FeatFold16.τ).loc Cert.FeatFold16.main_arg1) = m ((c.tc : Thread Cert.FeatFold16.nD Cert.FeatFold16.τ).loc Cert.FeatFold16.main_arg1)
      ∧ r.2.mem ((c.tc : Thread Cert.FeatFold16.nD Cert.FeatFold16.τ).loc Cert.FeatFold16.main_arg2) = m ((c.tc : Thread Cert.FeatFold16.nD Cert.FeatFold16.τ).loc Cert.FeatFold16.main_arg2))
      ∧ r.2.sem = fun _ => 0)

def quiescent_FeatFold16Ideal [hFeatFold16Ideal : Cert.FeatFold16Ideal.Facts] : Prop :=
  ∀ (m : (ℓ : Loc Cert.FeatFold16Ideal.nD Cert.FeatFold16Ideal.τ Cert.FeatFold16Ideal.sig) → Buf (Elt Ideal) ℓ) (g : Dev Cert.FeatFold16Ideal.nD → PrngReg), Pre_FeatFold16Ideal m →
    θ_run (Cert.FeatFold16Ideal.defs (F := Ideal)) (onTc (τ := Cert.FeatFold16Ideal.τ) (Cert.FeatFold16Ideal.main (F := Ideal))) ⟨m, fun _ => 0, g⟩ (fun r => (∀ c : Dev Cert.FeatFold16Ideal.nD,
      r.2.mem ((c.tc : Thread Cert.FeatFold16Ideal.nD Cert.FeatFold16Ideal.τ).loc Cert.FeatFold16Ideal.main_arg0) = m ((c.tc : Thread Cert.FeatFold16Ideal.nD Cert.FeatFold16Ideal.τ).loc Cert.FeatFold16Ideal.main_arg0)
      ∧ r.2.mem ((c.tc : Thread Cert.FeatFold16Ideal.nD Cert.FeatFold16Ideal.τ).loc Cert.FeatFold16Ideal.main_arg1) = m ((c.tc : Thread Cert.FeatFold16Ideal.nD Cert.FeatFold16Ideal.τ).loc Cert.FeatFold16Ideal.main_arg1)
      ∧ r.2.mem ((c.tc : Thread Cert.FeatFold16Ideal.nD Cert.FeatFold16Ideal.τ).loc Cert.FeatFold16Ideal.main_arg2) = m ((c.tc : Thread Cert.FeatFold16Ideal.nD Cert.FeatFold16Ideal.τ).loc Cert.FeatFold16Ideal.main_arg2))
      ∧ r.2.sem = fun _ => 0)

def quiescent_FeatFold16ReferenceIdeal [hFeatFold16ReferenceIdeal : Cert.FeatFold16ReferenceIdeal.Facts] : Prop :=
  ∀ (m : (ℓ : Loc Cert.FeatFold16ReferenceIdeal.nD Cert.FeatFold16ReferenceIdeal.τ Cert.FeatFold16ReferenceIdeal.sig) → Buf (Elt Ideal) ℓ) (g : Dev Cert.FeatFold16ReferenceIdeal.nD → PrngReg), Pre_FeatFold16ReferenceIdeal m →
    θ_run (Cert.FeatFold16ReferenceIdeal.defs (F := Ideal)) (onTc (τ := Cert.FeatFold16ReferenceIdeal.τ) (Cert.FeatFold16ReferenceIdeal.main (F := Ideal))) ⟨m, fun _ => 0, g⟩ (fun r => (∀ c : Dev Cert.FeatFold16ReferenceIdeal.nD,
      r.2.mem ((c.tc : Thread Cert.FeatFold16ReferenceIdeal.nD Cert.FeatFold16ReferenceIdeal.τ).loc Cert.FeatFold16ReferenceIdeal.main_arg0) = m ((c.tc : Thread Cert.FeatFold16ReferenceIdeal.nD Cert.FeatFold16ReferenceIdeal.τ).loc Cert.FeatFold16ReferenceIdeal.main_arg0)
      ∧ r.2.mem ((c.tc : Thread Cert.FeatFold16ReferenceIdeal.nD Cert.FeatFold16ReferenceIdeal.τ).loc Cert.FeatFold16ReferenceIdeal.main_arg1) = m ((c.tc : Thread Cert.FeatFold16ReferenceIdeal.nD Cert.FeatFold16ReferenceIdeal.τ).loc Cert.FeatFold16ReferenceIdeal.main_arg1)
      ∧ r.2.mem ((c.tc : Thread Cert.FeatFold16ReferenceIdeal.nD Cert.FeatFold16ReferenceIdeal.τ).loc Cert.FeatFold16ReferenceIdeal.main_arg2) = m ((c.tc : Thread Cert.FeatFold16ReferenceIdeal.nD Cert.FeatFold16ReferenceIdeal.τ).loc Cert.FeatFold16ReferenceIdeal.main_arg2))
      ∧ r.2.sem = fun _ => 0)

def quiescent_FeatFold16Reference [hFeatFold16Reference : Cert.FeatFold16Reference.Facts] : Prop :=
  ∀ (m : (ℓ : Loc Cert.FeatFold16Reference.nD Cert.FeatFold16Reference.τ Cert.FeatFold16Reference.sig) → Buf (Elt Bits) ℓ) (g : Dev Cert.FeatFold16Reference.nD → PrngReg), Pre_FeatFold16Reference m →
    θ_run (Cert.FeatFold16Reference.defs (F := Bits)) (onTc (τ := Cert.FeatFold16Reference.τ) (Cert.FeatFold16Reference.main (F := Bits))) ⟨m, fun _ => 0, g⟩ (fun r => (∀ c : Dev Cert.FeatFold16Reference.nD,
      r.2.mem ((c.tc : Thread Cert.FeatFold16Reference.nD Cert.FeatFold16Reference.τ).loc Cert.FeatFold16Reference.main_arg0) = m ((c.tc : Thread Cert.FeatFold16Reference.nD Cert.FeatFold16Reference.τ).loc Cert.FeatFold16Reference.main_arg0)
      ∧ r.2.mem ((c.tc : Thread Cert.FeatFold16Reference.nD Cert.FeatFold16Reference.τ).loc Cert.FeatFold16Reference.main_arg1) = m ((c.tc : Thread Cert.FeatFold16Reference.nD Cert.FeatFold16Reference.τ).loc Cert.FeatFold16Reference.main_arg1)
      ∧ r.2.mem ((c.tc : Thread Cert.FeatFold16Reference.nD Cert.FeatFold16Reference.τ).loc Cert.FeatFold16Reference.main_arg2) = m ((c.tc : Thread Cert.FeatFold16Reference.nD Cert.FeatFold16Reference.τ).loc Cert.FeatFold16Reference.main_arg2))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "half_mask" .f32 0xF0C9F2CA#32 ⊥

def preserves_Reference_ReferenceIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v81_0)) (v1 : (c : Dev Cert.KernelIdeal.nD) → Buf (Elt Ideal) ((c.tc : Thread Cert.KernelIdeal.nD Cert.KernelIdeal.τ).loc Cert.KernelIdeal.main_v81_1)) (v2 : (c : Dev Cert.KernelIdeal.nD) → Buf (Elt Ideal) ((c.tc : Thread Cert.KernelIdeal.nD Cert.KernelIdeal.τ).loc Cert.KernelIdeal.main_v81_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81_0) = v0 c
          ∧ r.2.mem ((c.tc : Thread Cert.KernelIdeal.nD Cert.KernelIdeal.τ).loc Cert.KernelIdeal.main_v81_1) = v1 c
          ∧ r.2.mem ((c.tc : Thread Cert.KernelIdeal.nD Cert.KernelIdeal.τ).loc Cert.KernelIdeal.main_v81_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_v118) = v1 c
          ∧ r.2.mem ((c.tc : Thread Cert.ReferenceIdeal.nD Cert.ReferenceIdeal.τ).loc Cert.ReferenceIdeal.main_v120) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Proj_ProjIdeal : Prop :=
  True

def preserves_ProjReference_ProjReferenceIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v83)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v83) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v50) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2))

def preserves_Feat_FeatIdeal : Prop :=
  True

def preserves_FeatReference_FeatReferenceIdeal : Prop :=
  True

def algebraic_FeatIdeal_FeatReferenceIdeal [hFeatIdeal : Cert.FeatIdeal.Facts] [hFeatReferenceIdeal : Cert.FeatReferenceIdeal.Facts] : Prop :=
  ∀ (m : (ℓ : Loc Cert.FeatIdeal.nD Cert.FeatIdeal.τ Cert.FeatIdeal.sig) → Buf (Elt Ideal) ℓ) (g : Dev Cert.FeatIdeal.nD → PrngReg)
    (m' : (ℓ : Loc Cert.FeatReferenceIdeal.nD Cert.FeatReferenceIdeal.τ Cert.FeatReferenceIdeal.sig) → Buf (Elt Ideal) ℓ) (g' : Dev Cert.FeatReferenceIdeal.nD → PrngReg), Pre_FeatIdeal m →
    (∀ c : Dev Cert.FeatIdeal.nD,
      m' ((c.tc : Thread Cert.FeatReferenceIdeal.nD Cert.FeatReferenceIdeal.τ).loc Cert.FeatReferenceIdeal.main_arg0) = m ((c.tc : Thread Cert.FeatIdeal.nD Cert.FeatIdeal.τ).loc Cert.FeatIdeal.main_arg0)
      ∧ m' ((c.tc : Thread Cert.FeatReferenceIdeal.nD Cert.FeatReferenceIdeal.τ).loc Cert.FeatReferenceIdeal.main_arg1) = m ((c.tc : Thread Cert.FeatIdeal.nD Cert.FeatIdeal.τ).loc Cert.FeatIdeal.main_arg1)
      ∧ m' ((c.tc : Thread Cert.FeatReferenceIdeal.nD Cert.FeatReferenceIdeal.τ).loc Cert.FeatReferenceIdeal.main_arg2) = m ((c.tc : Thread Cert.FeatIdeal.nD Cert.FeatIdeal.τ).loc Cert.FeatIdeal.main_arg2)) →
    ∃ (v0 : (c : Dev Cert.FeatIdeal.nD) → Buf (Elt Ideal) ((c.tc : Thread Cert.FeatIdeal.nD Cert.FeatIdeal.τ).loc Cert.FeatIdeal.main_v15)),
      θ_run (Cert.FeatIdeal.defs (F := Ideal)) (onTc (τ := Cert.FeatIdeal.τ) (Cert.FeatIdeal.main (F := Ideal))) ⟨m, fun _ => 0, g⟩ (fun r => ∀ c : Dev Cert.FeatIdeal.nD,
          r.2.mem ((c.tc : Thread Cert.FeatIdeal.nD Cert.FeatIdeal.τ).loc Cert.FeatIdeal.main_v15) = v0 c
          ∧ r.2.mem ((c.tc : Thread Cert.FeatIdeal.nD Cert.FeatIdeal.τ).loc Cert.FeatIdeal.main_arg0) = m ((c.tc : Thread Cert.FeatIdeal.nD Cert.FeatIdeal.τ).loc Cert.FeatIdeal.main_arg0)
          ∧ r.2.mem ((c.tc : Thread Cert.FeatIdeal.nD Cert.FeatIdeal.τ).loc Cert.FeatIdeal.main_arg1) = m ((c.tc : Thread Cert.FeatIdeal.nD Cert.FeatIdeal.τ).loc Cert.FeatIdeal.main_arg1)
          ∧ r.2.mem ((c.tc : Thread Cert.FeatIdeal.nD Cert.FeatIdeal.τ).loc Cert.FeatIdeal.main_arg2) = m ((c.tc : Thread Cert.FeatIdeal.nD Cert.FeatIdeal.τ).loc Cert.FeatIdeal.main_arg2))
      ∧ θ_run (Cert.FeatReferenceIdeal.defs (F := Ideal)) (onTc (τ := Cert.FeatReferenceIdeal.τ) (Cert.FeatReferenceIdeal.main (F := Ideal))) ⟨m', fun _ => 0, g'⟩ (fun r => ∀ c : Dev Cert.FeatReferenceIdeal.nD,
          r.2.mem ((c.tc : Thread Cert.FeatReferenceIdeal.nD Cert.FeatReferenceIdeal.τ).loc Cert.FeatReferenceIdeal.main_v26) = v0 c
          ∧ r.2.mem ((c.tc : Thread Cert.FeatReferenceIdeal.nD Cert.FeatReferenceIdeal.τ).loc Cert.FeatReferenceIdeal.main_arg0) = m' ((c.tc : Thread Cert.FeatReferenceIdeal.nD Cert.FeatReferenceIdeal.τ).loc Cert.FeatReferenceIdeal.main_arg0)
          ∧ r.2.mem ((c.tc : Thread Cert.FeatReferenceIdeal.nD Cert.FeatReferenceIdeal.τ).loc Cert.FeatReferenceIdeal.main_arg1) = m' ((c.tc : Thread Cert.FeatReferenceIdeal.nD Cert.FeatReferenceIdeal.τ).loc Cert.FeatReferenceIdeal.main_arg1)
          ∧ r.2.mem ((c.tc : Thread Cert.FeatReferenceIdeal.nD Cert.FeatReferenceIdeal.τ).loc Cert.FeatReferenceIdeal.main_arg2) = m' ((c.tc : Thread Cert.FeatReferenceIdeal.nD Cert.FeatReferenceIdeal.τ).loc Cert.FeatReferenceIdeal.main_arg2))

def preserves_Fold4_Fold4Ideal : Prop :=
  True

def preserves_Fold4Reference_Fold4ReferenceIdeal : Prop :=
  True

def algebraic_Fold4Ideal_Fold4ReferenceIdeal [hFold4Ideal : Cert.Fold4Ideal.Facts] [hFold4ReferenceIdeal : Cert.Fold4ReferenceIdeal.Facts] : Prop :=
  ∀ (m : (ℓ : Loc Cert.Fold4Ideal.nD Cert.Fold4Ideal.τ Cert.Fold4Ideal.sig) → Buf (Elt Ideal) ℓ) (g : Dev Cert.Fold4Ideal.nD → PrngReg)
    (m' : (ℓ : Loc Cert.Fold4ReferenceIdeal.nD Cert.Fold4ReferenceIdeal.τ Cert.Fold4ReferenceIdeal.sig) → Buf (Elt Ideal) ℓ) (g' : Dev Cert.Fold4ReferenceIdeal.nD → PrngReg), Pre_Fold4Ideal m →
    (∀ c : Dev Cert.Fold4Ideal.nD,
      m' ((c.tc : Thread Cert.Fold4ReferenceIdeal.nD Cert.Fold4ReferenceIdeal.τ).loc Cert.Fold4ReferenceIdeal.main_arg0) = m ((c.tc : Thread Cert.Fold4Ideal.nD Cert.Fold4Ideal.τ).loc Cert.Fold4Ideal.main_arg0)
      ∧ m' ((c.tc : Thread Cert.Fold4ReferenceIdeal.nD Cert.Fold4ReferenceIdeal.τ).loc Cert.Fold4ReferenceIdeal.main_arg1) = m ((c.tc : Thread Cert.Fold4Ideal.nD Cert.Fold4Ideal.τ).loc Cert.Fold4Ideal.main_arg1)
      ∧ m' ((c.tc : Thread Cert.Fold4ReferenceIdeal.nD Cert.Fold4ReferenceIdeal.τ).loc Cert.Fold4ReferenceIdeal.main_arg2) = m ((c.tc : Thread Cert.Fold4Ideal.nD Cert.Fold4Ideal.τ).loc Cert.Fold4Ideal.main_arg2)) →
    ∃ (v0 : (c : Dev Cert.Fold4Ideal.nD) → Buf (Elt Ideal) ((c.tc : Thread Cert.Fold4Ideal.nD Cert.Fold4Ideal.τ).loc Cert.Fold4Ideal.main_v16)),
      θ_run (Cert.Fold4Ideal.defs (F := Ideal)) (onTc (τ := Cert.Fold4Ideal.τ) (Cert.Fold4Ideal.main (F := Ideal))) ⟨m, fun _ => 0, g⟩ (fun r => ∀ c : Dev Cert.Fold4Ideal.nD,
          r.2.mem ((c.tc : Thread Cert.Fold4Ideal.nD Cert.Fold4Ideal.τ).loc Cert.Fold4Ideal.main_v16) = v0 c
          ∧ r.2.mem ((c.tc : Thread Cert.Fold4Ideal.nD Cert.Fold4Ideal.τ).loc Cert.Fold4Ideal.main_arg0) = m ((c.tc : Thread Cert.Fold4Ideal.nD Cert.Fold4Ideal.τ).loc Cert.Fold4Ideal.main_arg0)
          ∧ r.2.mem ((c.tc : Thread Cert.Fold4Ideal.nD Cert.Fold4Ideal.τ).loc Cert.Fold4Ideal.main_arg1) = m ((c.tc : Thread Cert.Fold4Ideal.nD Cert.Fold4Ideal.τ).loc Cert.Fold4Ideal.main_arg1)
          ∧ r.2.mem ((c.tc : Thread Cert.Fold4Ideal.nD Cert.Fold4Ideal.τ).loc Cert.Fold4Ideal.main_arg2) = m ((c.tc : Thread Cert.Fold4Ideal.nD Cert.Fold4Ideal.τ).loc Cert.Fold4Ideal.main_arg2))
      ∧ θ_run (Cert.Fold4ReferenceIdeal.defs (F := Ideal)) (onTc (τ := Cert.Fold4ReferenceIdeal.τ) (Cert.Fold4ReferenceIdeal.main (F := Ideal))) ⟨m', fun _ => 0, g'⟩ (fun r => ∀ c : Dev Cert.Fold4ReferenceIdeal.nD,
          r.2.mem ((c.tc : Thread Cert.Fold4ReferenceIdeal.nD Cert.Fold4ReferenceIdeal.τ).loc Cert.Fold4ReferenceIdeal.main_v31) = v0 c
          ∧ r.2.mem ((c.tc : Thread Cert.Fold4ReferenceIdeal.nD Cert.Fold4ReferenceIdeal.τ).loc Cert.Fold4ReferenceIdeal.main_arg0) = m' ((c.tc : Thread Cert.Fold4ReferenceIdeal.nD Cert.Fold4ReferenceIdeal.τ).loc Cert.Fold4ReferenceIdeal.main_arg0)
          ∧ r.2.mem ((c.tc : Thread Cert.Fold4ReferenceIdeal.nD Cert.Fold4ReferenceIdeal.τ).loc Cert.Fold4ReferenceIdeal.main_arg1) = m' ((c.tc : Thread Cert.Fold4ReferenceIdeal.nD Cert.Fold4ReferenceIdeal.τ).loc Cert.Fold4ReferenceIdeal.main_arg1)
          ∧ r.2.mem ((c.tc : Thread Cert.Fold4ReferenceIdeal.nD Cert.Fold4ReferenceIdeal.τ).loc Cert.Fold4ReferenceIdeal.main_arg2) = m' ((c.tc : Thread Cert.Fold4ReferenceIdeal.nD Cert.Fold4ReferenceIdeal.τ).loc Cert.Fold4ReferenceIdeal.main_arg2))

def preserves_Fold16_Fold16Ideal : Prop :=
  True

def preserves_Fold16Reference_Fold16ReferenceIdeal : Prop :=
  True

def algebraic_Fold16Ideal_Fold16ReferenceIdeal [hFold16Ideal : Cert.Fold16Ideal.Facts] [hFold16ReferenceIdeal : Cert.Fold16ReferenceIdeal.Facts] : Prop :=
  ∀ (m : (ℓ : Loc Cert.Fold16Ideal.nD Cert.Fold16Ideal.τ Cert.Fold16Ideal.sig) → Buf (Elt Ideal) ℓ) (g : Dev Cert.Fold16Ideal.nD → PrngReg)
    (m' : (ℓ : Loc Cert.Fold16ReferenceIdeal.nD Cert.Fold16ReferenceIdeal.τ Cert.Fold16ReferenceIdeal.sig) → Buf (Elt Ideal) ℓ) (g' : Dev Cert.Fold16ReferenceIdeal.nD → PrngReg), Pre_Fold16Ideal m →
    (∀ c : Dev Cert.Fold16Ideal.nD,
      m' ((c.tc : Thread Cert.Fold16ReferenceIdeal.nD Cert.Fold16ReferenceIdeal.τ).loc Cert.Fold16ReferenceIdeal.main_arg0) = m ((c.tc : Thread Cert.Fold16Ideal.nD Cert.Fold16Ideal.τ).loc Cert.Fold16Ideal.main_arg0)
      ∧ m' ((c.tc : Thread Cert.Fold16ReferenceIdeal.nD Cert.Fold16ReferenceIdeal.τ).loc Cert.Fold16ReferenceIdeal.main_arg1) = m ((c.tc : Thread Cert.Fold16Ideal.nD Cert.Fold16Ideal.τ).loc Cert.Fold16Ideal.main_arg1)
      ∧ m' ((c.tc : Thread Cert.Fold16ReferenceIdeal.nD Cert.Fold16ReferenceIdeal.τ).loc Cert.Fold16ReferenceIdeal.main_arg2) = m ((c.tc : Thread Cert.Fold16Ideal.nD Cert.Fold16Ideal.τ).loc Cert.Fold16Ideal.main_arg2)) →
    ∃ (v0 : (c : Dev Cert.Fold16Ideal.nD) → Buf (Elt Ideal) ((c.tc : Thread Cert.Fold16Ideal.nD Cert.Fold16Ideal.τ).loc Cert.Fold16Ideal.main_v26)),
      θ_run (Cert.Fold16Ideal.defs (F := Ideal)) (onTc (τ := Cert.Fold16Ideal.τ) (Cert.Fold16Ideal.main (F := Ideal))) ⟨m, fun _ => 0, g⟩ (fun r => ∀ c : Dev Cert.Fold16Ideal.nD,
          r.2.mem ((c.tc : Thread Cert.Fold16Ideal.nD Cert.Fold16Ideal.τ).loc Cert.Fold16Ideal.main_v26) = v0 c
          ∧ r.2.mem ((c.tc : Thread Cert.Fold16Ideal.nD Cert.Fold16Ideal.τ).loc Cert.Fold16Ideal.main_arg0) = m ((c.tc : Thread Cert.Fold16Ideal.nD Cert.Fold16Ideal.τ).loc Cert.Fold16Ideal.main_arg0)
          ∧ r.2.mem ((c.tc : Thread Cert.Fold16Ideal.nD Cert.Fold16Ideal.τ).loc Cert.Fold16Ideal.main_arg1) = m ((c.tc : Thread Cert.Fold16Ideal.nD Cert.Fold16Ideal.τ).loc Cert.Fold16Ideal.main_arg1)
          ∧ r.2.mem ((c.tc : Thread Cert.Fold16Ideal.nD Cert.Fold16Ideal.τ).loc Cert.Fold16Ideal.main_arg2) = m ((c.tc : Thread Cert.Fold16Ideal.nD Cert.Fold16Ideal.τ).loc Cert.Fold16Ideal.main_arg2))
      ∧ θ_run (Cert.Fold16ReferenceIdeal.defs (F := Ideal)) (onTc (τ := Cert.Fold16ReferenceIdeal.τ) (Cert.Fold16ReferenceIdeal.main (F := Ideal))) ⟨m', fun _ => 0, g'⟩ (fun r => ∀ c : Dev Cert.Fold16ReferenceIdeal.nD,
          r.2.mem ((c.tc : Thread Cert.Fold16ReferenceIdeal.nD Cert.Fold16ReferenceIdeal.τ).loc Cert.Fold16ReferenceIdeal.main_v36) = v0 c
          ∧ r.2.mem ((c.tc : Thread Cert.Fold16ReferenceIdeal.nD Cert.Fold16ReferenceIdeal.τ).loc Cert.Fold16ReferenceIdeal.main_arg0) = m' ((c.tc : Thread Cert.Fold16ReferenceIdeal.nD Cert.Fold16ReferenceIdeal.τ).loc Cert.Fold16ReferenceIdeal.main_arg0)
          ∧ r.2.mem ((c.tc : Thread Cert.Fold16ReferenceIdeal.nD Cert.Fold16ReferenceIdeal.τ).loc Cert.Fold16ReferenceIdeal.main_arg1) = m' ((c.tc : Thread Cert.Fold16ReferenceIdeal.nD Cert.Fold16ReferenceIdeal.τ).loc Cert.Fold16ReferenceIdeal.main_arg1)
          ∧ r.2.mem ((c.tc : Thread Cert.Fold16ReferenceIdeal.nD Cert.Fold16ReferenceIdeal.τ).loc Cert.Fold16ReferenceIdeal.main_arg2) = m' ((c.tc : Thread Cert.Fold16ReferenceIdeal.nD Cert.Fold16ReferenceIdeal.τ).loc Cert.Fold16ReferenceIdeal.main_arg2))

def preserves_FeatFold4_FeatFold4Ideal : Prop :=
  True

def preserves_FeatFold4Reference_FeatFold4ReferenceIdeal : Prop :=
  True

def algebraic_FeatFold4Ideal_FeatFold4ReferenceIdeal [hFeatFold4Ideal : Cert.FeatFold4Ideal.Facts] [hFeatFold4ReferenceIdeal : Cert.FeatFold4ReferenceIdeal.Facts] : Prop :=
  ∀ (m : (ℓ : Loc Cert.FeatFold4Ideal.nD Cert.FeatFold4Ideal.τ Cert.FeatFold4Ideal.sig) → Buf (Elt Ideal) ℓ) (g : Dev Cert.FeatFold4Ideal.nD → PrngReg)
    (m' : (ℓ : Loc Cert.FeatFold4ReferenceIdeal.nD Cert.FeatFold4ReferenceIdeal.τ Cert.FeatFold4ReferenceIdeal.sig) → Buf (Elt Ideal) ℓ) (g' : Dev Cert.FeatFold4ReferenceIdeal.nD → PrngReg), Pre_FeatFold4Ideal m →
    (∀ c : Dev Cert.FeatFold4Ideal.nD,
      m' ((c.tc : Thread Cert.FeatFold4ReferenceIdeal.nD Cert.FeatFold4ReferenceIdeal.τ).loc Cert.FeatFold4ReferenceIdeal.main_arg0) = m ((c.tc : Thread Cert.FeatFold4Ideal.nD Cert.FeatFold4Ideal.τ).loc Cert.FeatFold4Ideal.main_arg0)
      ∧ m' ((c.tc : Thread Cert.FeatFold4ReferenceIdeal.nD Cert.FeatFold4ReferenceIdeal.τ).loc Cert.FeatFold4ReferenceIdeal.main_arg1) = m ((c.tc : Thread Cert.FeatFold4Ideal.nD Cert.FeatFold4Ideal.τ).loc Cert.FeatFold4Ideal.main_arg1)
      ∧ m' ((c.tc : Thread Cert.FeatFold4ReferenceIdeal.nD Cert.FeatFold4ReferenceIdeal.τ).loc Cert.FeatFold4ReferenceIdeal.main_arg2) = m ((c.tc : Thread Cert.FeatFold4Ideal.nD Cert.FeatFold4Ideal.τ).loc Cert.FeatFold4Ideal.main_arg2)) →
    ∃ (v0 : (c : Dev Cert.FeatFold4Ideal.nD) → Buf (Elt Ideal) ((c.tc : Thread Cert.FeatFold4Ideal.nD Cert.FeatFold4Ideal.τ).loc Cert.FeatFold4Ideal.main_v6)),
      θ_run (Cert.FeatFold4Ideal.defs (F := Ideal)) (onTc (τ := Cert.FeatFold4Ideal.τ) (Cert.FeatFold4Ideal.main (F := Ideal))) ⟨m, fun _ => 0, g⟩ (fun r => ∀ c : Dev Cert.FeatFold4Ideal.nD,
          r.2.mem ((c.tc : Thread Cert.FeatFold4Ideal.nD Cert.FeatFold4Ideal.τ).loc Cert.FeatFold4Ideal.main_v6) = v0 c
          ∧ r.2.mem ((c.tc : Thread Cert.FeatFold4Ideal.nD Cert.FeatFold4Ideal.τ).loc Cert.FeatFold4Ideal.main_arg0) = m ((c.tc : Thread Cert.FeatFold4Ideal.nD Cert.FeatFold4Ideal.τ).loc Cert.FeatFold4Ideal.main_arg0)
          ∧ r.2.mem ((c.tc : Thread Cert.FeatFold4Ideal.nD Cert.FeatFold4Ideal.τ).loc Cert.FeatFold4Ideal.main_arg1) = m ((c.tc : Thread Cert.FeatFold4Ideal.nD Cert.FeatFold4Ideal.τ).loc Cert.FeatFold4Ideal.main_arg1)
          ∧ r.2.mem ((c.tc : Thread Cert.FeatFold4Ideal.nD Cert.FeatFold4Ideal.τ).loc Cert.FeatFold4Ideal.main_arg2) = m ((c.tc : Thread Cert.FeatFold4Ideal.nD Cert.FeatFold4Ideal.τ).loc Cert.FeatFold4Ideal.main_arg2))
      ∧ θ_run (Cert.FeatFold4ReferenceIdeal.defs (F := Ideal)) (onTc (τ := Cert.FeatFold4ReferenceIdeal.τ) (Cert.FeatFold4ReferenceIdeal.main (F := Ideal))) ⟨m', fun _ => 0, g'⟩ (fun r => ∀ c : Dev Cert.FeatFold4ReferenceIdeal.nD,
          r.2.mem ((c.tc : Thread Cert.FeatFold4ReferenceIdeal.nD Cert.FeatFold4ReferenceIdeal.τ).loc Cert.FeatFold4ReferenceIdeal.main_v26) = v0 c
          ∧ r.2.mem ((c.tc : Thread Cert.FeatFold4ReferenceIdeal.nD Cert.FeatFold4ReferenceIdeal.τ).loc Cert.FeatFold4ReferenceIdeal.main_arg0) = m' ((c.tc : Thread Cert.FeatFold4ReferenceIdeal.nD Cert.FeatFold4ReferenceIdeal.τ).loc Cert.FeatFold4ReferenceIdeal.main_arg0)
          ∧ r.2.mem ((c.tc : Thread Cert.FeatFold4ReferenceIdeal.nD Cert.FeatFold4ReferenceIdeal.τ).loc Cert.FeatFold4ReferenceIdeal.main_arg1) = m' ((c.tc : Thread Cert.FeatFold4ReferenceIdeal.nD Cert.FeatFold4ReferenceIdeal.τ).loc Cert.FeatFold4ReferenceIdeal.main_arg1)
          ∧ r.2.mem ((c.tc : Thread Cert.FeatFold4ReferenceIdeal.nD Cert.FeatFold4ReferenceIdeal.τ).loc Cert.FeatFold4ReferenceIdeal.main_arg2) = m' ((c.tc : Thread Cert.FeatFold4ReferenceIdeal.nD Cert.FeatFold4ReferenceIdeal.τ).loc Cert.FeatFold4ReferenceIdeal.main_arg2))

def preserves_FeatFold16_FeatFold16Ideal : Prop :=
  True

def preserves_FeatFold16Reference_FeatFold16ReferenceIdeal : Prop :=
  True

def algebraic_FeatFold16Ideal_FeatFold16ReferenceIdeal [hFeatFold16Ideal : Cert.FeatFold16Ideal.Facts] [hFeatFold16ReferenceIdeal : Cert.FeatFold16ReferenceIdeal.Facts] : Prop :=
  ∀ (m : (ℓ : Loc Cert.FeatFold16Ideal.nD Cert.FeatFold16Ideal.τ Cert.FeatFold16Ideal.sig) → Buf (Elt Ideal) ℓ) (g : Dev Cert.FeatFold16Ideal.nD → PrngReg)
    (m' : (ℓ : Loc Cert.FeatFold16ReferenceIdeal.nD Cert.FeatFold16ReferenceIdeal.τ Cert.FeatFold16ReferenceIdeal.sig) → Buf (Elt Ideal) ℓ) (g' : Dev Cert.FeatFold16ReferenceIdeal.nD → PrngReg), Pre_FeatFold16Ideal m →
    (∀ c : Dev Cert.FeatFold16Ideal.nD,
      m' ((c.tc : Thread Cert.FeatFold16ReferenceIdeal.nD Cert.FeatFold16ReferenceIdeal.τ).loc Cert.FeatFold16ReferenceIdeal.main_arg0) = m ((c.tc : Thread Cert.FeatFold16Ideal.nD Cert.FeatFold16Ideal.τ).loc Cert.FeatFold16Ideal.main_arg0)
      ∧ m' ((c.tc : Thread Cert.FeatFold16ReferenceIdeal.nD Cert.FeatFold16ReferenceIdeal.τ).loc Cert.FeatFold16ReferenceIdeal.main_arg1) = m ((c.tc : Thread Cert.FeatFold16Ideal.nD Cert.FeatFold16Ideal.τ).loc Cert.FeatFold16Ideal.main_arg1)
      ∧ m' ((c.tc : Thread Cert.FeatFold16ReferenceIdeal.nD Cert.FeatFold16ReferenceIdeal.τ).loc Cert.FeatFold16ReferenceIdeal.main_arg2) = m ((c.tc : Thread Cert.FeatFold16Ideal.nD Cert.FeatFold16Ideal.τ).loc Cert.FeatFold16Ideal.main_arg2)) →
    ∃ (v0 : (c : Dev Cert.FeatFold16Ideal.nD) → Buf (Elt Ideal) ((c.tc : Thread Cert.FeatFold16Ideal.nD Cert.FeatFold16Ideal.τ).loc Cert.FeatFold16Ideal.main_v6)),
      θ_run (Cert.FeatFold16Ideal.defs (F := Ideal)) (onTc (τ := Cert.FeatFold16Ideal.τ) (Cert.FeatFold16Ideal.main (F := Ideal))) ⟨m, fun _ => 0, g⟩ (fun r => ∀ c : Dev Cert.FeatFold16Ideal.nD,
          r.2.mem ((c.tc : Thread Cert.FeatFold16Ideal.nD Cert.FeatFold16Ideal.τ).loc Cert.FeatFold16Ideal.main_v6) = v0 c
          ∧ r.2.mem ((c.tc : Thread Cert.FeatFold16Ideal.nD Cert.FeatFold16Ideal.τ).loc Cert.FeatFold16Ideal.main_arg0) = m ((c.tc : Thread Cert.FeatFold16Ideal.nD Cert.FeatFold16Ideal.τ).loc Cert.FeatFold16Ideal.main_arg0)
          ∧ r.2.mem ((c.tc : Thread Cert.FeatFold16Ideal.nD Cert.FeatFold16Ideal.τ).loc Cert.FeatFold16Ideal.main_arg1) = m ((c.tc : Thread Cert.FeatFold16Ideal.nD Cert.FeatFold16Ideal.τ).loc Cert.FeatFold16Ideal.main_arg1)
          ∧ r.2.mem ((c.tc : Thread Cert.FeatFold16Ideal.nD Cert.FeatFold16Ideal.τ).loc Cert.FeatFold16Ideal.main_arg2) = m ((c.tc : Thread Cert.FeatFold16Ideal.nD Cert.FeatFold16Ideal.τ).loc Cert.FeatFold16Ideal.main_arg2))
      ∧ θ_run (Cert.FeatFold16ReferenceIdeal.defs (F := Ideal)) (onTc (τ := Cert.FeatFold16ReferenceIdeal.τ) (Cert.FeatFold16ReferenceIdeal.main (F := Ideal))) ⟨m', fun _ => 0, g'⟩ (fun r => ∀ c : Dev Cert.FeatFold16ReferenceIdeal.nD,
          r.2.mem ((c.tc : Thread Cert.FeatFold16ReferenceIdeal.nD Cert.FeatFold16ReferenceIdeal.τ).loc Cert.FeatFold16ReferenceIdeal.main_v26) = v0 c
          ∧ r.2.mem ((c.tc : Thread Cert.FeatFold16ReferenceIdeal.nD Cert.FeatFold16ReferenceIdeal.τ).loc Cert.FeatFold16ReferenceIdeal.main_arg0) = m' ((c.tc : Thread Cert.FeatFold16ReferenceIdeal.nD Cert.FeatFold16ReferenceIdeal.τ).loc Cert.FeatFold16ReferenceIdeal.main_arg0)
          ∧ r.2.mem ((c.tc : Thread Cert.FeatFold16ReferenceIdeal.nD Cert.FeatFold16ReferenceIdeal.τ).loc Cert.FeatFold16ReferenceIdeal.main_arg1) = m' ((c.tc : Thread Cert.FeatFold16ReferenceIdeal.nD Cert.FeatFold16ReferenceIdeal.τ).loc Cert.FeatFold16ReferenceIdeal.main_arg1)
          ∧ r.2.mem ((c.tc : Thread Cert.FeatFold16ReferenceIdeal.nD Cert.FeatFold16ReferenceIdeal.τ).loc Cert.FeatFold16ReferenceIdeal.main_arg2) = m' ((c.tc : Thread Cert.FeatFold16ReferenceIdeal.nD Cert.FeatFold16ReferenceIdeal.τ).loc Cert.FeatFold16ReferenceIdeal.main_arg2))

def Claim : Prop :=
  ∃ (hKernel : Cert.Kernel.Facts) (hKernelIdeal : Cert.KernelIdeal.Facts) (hReferenceIdeal : Cert.ReferenceIdeal.Facts) (hReference : Cert.Reference.Facts) (hProj : Cert.Proj.Facts) (hProjIdeal : Cert.ProjIdeal.Facts) (hProjReferenceIdeal : Cert.ProjReferenceIdeal.Facts) (hProjReference : Cert.ProjReference.Facts) (hFeat : Cert.Feat.Facts) (hFeatIdeal : Cert.FeatIdeal.Facts) (hFeatReferenceIdeal : Cert.FeatReferenceIdeal.Facts) (hFeatReference : Cert.FeatReference.Facts) (hFold4 : Cert.Fold4.Facts) (hFold4Ideal : Cert.Fold4Ideal.Facts) (hFold4ReferenceIdeal : Cert.Fold4ReferenceIdeal.Facts) (hFold4Reference : Cert.Fold4Reference.Facts) (hFold16 : Cert.Fold16.Facts) (hFold16Ideal : Cert.Fold16Ideal.Facts) (hFold16ReferenceIdeal : Cert.Fold16ReferenceIdeal.Facts) (hFold16Reference : Cert.Fold16Reference.Facts) (hFeatFold4 : Cert.FeatFold4.Facts) (hFeatFold4Ideal : Cert.FeatFold4Ideal.Facts) (hFeatFold4ReferenceIdeal : Cert.FeatFold4ReferenceIdeal.Facts) (hFeatFold4Reference : Cert.FeatFold4Reference.Facts) (hFeatFold16 : Cert.FeatFold16.Facts) (hFeatFold16Ideal : Cert.FeatFold16Ideal.Facts) (hFeatFold16ReferenceIdeal : Cert.FeatFold16ReferenceIdeal.Facts) (hFeatFold16Reference : Cert.FeatFold16Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ quiescent_Proj (hProj := hProj)
    ∧ quiescent_ProjIdeal (hProjIdeal := hProjIdeal)
    ∧ quiescent_ProjReferenceIdeal (hProjReferenceIdeal := hProjReferenceIdeal)
    ∧ quiescent_ProjReference (hProjReference := hProjReference)
    ∧ quiescent_Feat (hFeat := hFeat)
    ∧ quiescent_FeatIdeal (hFeatIdeal := hFeatIdeal)
    ∧ quiescent_FeatReferenceIdeal (hFeatReferenceIdeal := hFeatReferenceIdeal)
    ∧ quiescent_FeatReference (hFeatReference := hFeatReference)
    ∧ quiescent_Fold4 (hFold4 := hFold4)
    ∧ quiescent_Fold4Ideal (hFold4Ideal := hFold4Ideal)
    ∧ quiescent_Fold4ReferenceIdeal (hFold4ReferenceIdeal := hFold4ReferenceIdeal)
    ∧ quiescent_Fold4Reference (hFold4Reference := hFold4Reference)
    ∧ quiescent_Fold16 (hFold16 := hFold16)
    ∧ quiescent_Fold16Ideal (hFold16Ideal := hFold16Ideal)
    ∧ quiescent_Fold16ReferenceIdeal (hFold16ReferenceIdeal := hFold16ReferenceIdeal)
    ∧ quiescent_Fold16Reference (hFold16Reference := hFold16Reference)
    ∧ quiescent_FeatFold4 (hFeatFold4 := hFeatFold4)
    ∧ quiescent_FeatFold4Ideal (hFeatFold4Ideal := hFeatFold4Ideal)
    ∧ quiescent_FeatFold4ReferenceIdeal (hFeatFold4ReferenceIdeal := hFeatFold4ReferenceIdeal)
    ∧ quiescent_FeatFold4Reference (hFeatFold4Reference := hFeatFold4Reference)
    ∧ quiescent_FeatFold16 (hFeatFold16 := hFeatFold16)
    ∧ quiescent_FeatFold16Ideal (hFeatFold16Ideal := hFeatFold16Ideal)
    ∧ quiescent_FeatFold16ReferenceIdeal (hFeatFold16ReferenceIdeal := hFeatFold16ReferenceIdeal)
    ∧ quiescent_FeatFold16Reference (hFeatFold16Reference := hFeatFold16Reference)
    ∧ preserves_Kernel_KernelIdeal
    ∧ preserves_Reference_ReferenceIdeal
    ∧ algebraic_KernelIdeal_ReferenceIdeal (hKernelIdeal := hKernelIdeal) (hReferenceIdeal := hReferenceIdeal)
    ∧ preserves_Proj_ProjIdeal
    ∧ preserves_ProjReference_ProjReferenceIdeal
    ∧ algebraic_ProjIdeal_ProjReferenceIdeal (hProjIdeal := hProjIdeal) (hProjReferenceIdeal := hProjReferenceIdeal)
    ∧ preserves_Feat_FeatIdeal
    ∧ preserves_FeatReference_FeatReferenceIdeal
    ∧ algebraic_FeatIdeal_FeatReferenceIdeal (hFeatIdeal := hFeatIdeal) (hFeatReferenceIdeal := hFeatReferenceIdeal)
    ∧ preserves_Fold4_Fold4Ideal
    ∧ preserves_Fold4Reference_Fold4ReferenceIdeal
    ∧ algebraic_Fold4Ideal_Fold4ReferenceIdeal (hFold4Ideal := hFold4Ideal) (hFold4ReferenceIdeal := hFold4ReferenceIdeal)
    ∧ preserves_Fold16_Fold16Ideal
    ∧ preserves_Fold16Reference_Fold16ReferenceIdeal
    ∧ algebraic_Fold16Ideal_Fold16ReferenceIdeal (hFold16Ideal := hFold16Ideal) (hFold16ReferenceIdeal := hFold16ReferenceIdeal)
    ∧ preserves_FeatFold4_FeatFold4Ideal
    ∧ preserves_FeatFold4Reference_FeatFold4ReferenceIdeal
    ∧ algebraic_FeatFold4Ideal_FeatFold4ReferenceIdeal (hFeatFold4Ideal := hFeatFold4Ideal) (hFeatFold4ReferenceIdeal := hFeatFold4ReferenceIdeal)
    ∧ preserves_FeatFold16_FeatFold16Ideal
    ∧ preserves_FeatFold16Reference_FeatFold16ReferenceIdeal
    ∧ algebraic_FeatFold16Ideal_FeatFold16ReferenceIdeal (hFeatFold16Ideal := hFeatFold16Ideal) (hFeatFold16ReferenceIdeal := hFeatFold16ReferenceIdeal)
-- ==== Kernel.lean ====
abbrev S2x8192x512 : Shape := ⟨3, ![2, 8192, 512]⟩
abbrev S2x511x2x64 : Shape := ⟨4, ![2, 511, 2, 64]⟩
abbrev S8 : Shape := ⟨1, ![8]⟩
abbrev S_ : Shape := ⟨0, ![]⟩
abbrev S2x4 : Shape := ⟨2, ![2, 4]⟩
abbrev S2x4x128 : Shape := ⟨3, ![2, 4, 128]⟩
abbrev S2x512 : Shape := ⟨2, ![2, 512]⟩
abbrev S512 : Shape := ⟨1, ![512]⟩
abbrev S128 : Shape := ⟨1, ![128]⟩
abbrev S1x512 : Shape := ⟨2, ![1, 512]⟩
abbrev S128x1 : Shape := ⟨2, ![128, 1]⟩
abbrev S128x512 : Shape := ⟨2, ![128, 512]⟩
abbrev S1x128 : Shape := ⟨2, ![1, 128]⟩
abbrev S4x128 : Shape := ⟨2, ![4, 128]⟩
abbrev S512x1 : Shape := ⟨2, ![512, 1]⟩
abbrev S512x512 : Shape := ⟨2, ![512, 512]⟩
abbrev S2x1x512 : Shape := ⟨3, ![2, 1, 512]⟩
abbrev S1x512x512 : Shape := ⟨3, ![1, 512, 512]⟩
abbrev S2x512x512 : Shape := ⟨3, ![2, 512, 512]⟩
abbrev S16384x512 : Shape := ⟨2, ![16384, 512]⟩
abbrev S16384x7680 : Shape := ⟨2, ![16384, 7680]⟩
abbrev S2x2x511x64 : Shape := ⟨4, ![2, 2, 511, 64]⟩
abbrev S2x2x512x64 : Shape := ⟨4, ![2, 2, 512, 64]⟩
abbrev S2x2x512x128 : Shape := ⟨4, ![2, 2, 512, 128]⟩
abbrev S2x2x64x511 : Shape := ⟨4, ![2, 2, 64, 511]⟩
abbrev S2x2x64x512 : Shape := ⟨4, ![2, 2, 64, 512]⟩
abbrev S2x2x64x128x128 : Shape := ⟨5, ![2, 2, 64, 128, 128]⟩
abbrev S2x2x64x8x128 : Shape := ⟨5, ![2, 2, 64, 8, 128]⟩
abbrev S1x2x512x128 : Shape := ⟨4, ![1, 2, 512, 128]⟩
abbrev S1x2x64x512 : Shape := ⟨4, ![1, 2, 64, 512]⟩
abbrev S1x2x1x128x128 : Shape := ⟨5, ![1, 2, 1, 128, 128]⟩
abbrev S1x2x1x8x128 : Shape := ⟨5, ![1, 2, 1, 8, 128]⟩
abbrev S512x128 : Shape := ⟨2, ![512, 128]⟩
abbrev S128x128 : Shape := ⟨2, ![128, 128]⟩
abbrev S64x512 : Shape := ⟨2, ![64, 512]⟩
abbrev S1x1x512x128 : Shape := ⟨4, ![1, 1, 512, 128]⟩
abbrev S1x1x64x512 : Shape := ⟨4, ![1, 1, 64, 512]⟩
abbrev S1x1x384x128 : Shape := ⟨4, ![1, 1, 384, 128]⟩
abbrev S384x128 : Shape := ⟨2, ![384, 128]⟩
abbrev S384x512 : Shape := ⟨2, ![384, 512]⟩
abbrev S1x384x512 : Shape := ⟨3, ![1, 384, 512]⟩
abbrev S1x1x64x384 : Shape := ⟨4, ![1, 1, 64, 384]⟩
abbrev S64x384 : Shape := ⟨2, ![64, 384]⟩
abbrev S128x384 : Shape := ⟨2, ![128, 384]⟩
abbrev S1x1x256x128 : Shape := ⟨4, ![1, 1, 256, 128]⟩
abbrev S256x128 : Shape := ⟨2, ![256, 128]⟩
abbrev S256x512 : Shape := ⟨2, ![256, 512]⟩
abbrev S1x256x512 : Shape := ⟨3, ![1, 256, 512]⟩
abbrev S1x1x64x256 : Shape := ⟨4, ![1, 1, 64, 256]⟩
abbrev S64x256 : Shape := ⟨2, ![64, 256]⟩
abbrev S128x256 : Shape := ⟨2, ![128, 256]⟩
abbrev S1x1x128x128 : Shape := ⟨4, ![1, 1, 128, 128]⟩
abbrev S1x128x512 : Shape := ⟨3, ![1, 128, 512]⟩
abbrev S1x1x64x128 : Shape := ⟨4, ![1, 1, 64, 128]⟩
abbrev S64x128 : Shape := ⟨2, ![64, 128]⟩
abbrev S8x128 : Shape := ⟨2, ![8, 128]⟩
abbrev S1x1x1x128x128 : Shape := ⟨5, ![1, 1, 1, 128, 128]⟩
abbrev S1x1x1x8x128 : Shape := ⟨5, ![1, 1, 1, 8, 128]⟩

abbrev nBuf : Space → Nat
  | .hbm => 110
  | .vmem => 16
  | .smem => 0
  | _ => 0

abbrev bufTy : (tb : Table) → Fin (tcTables nBuf tb) → BufTy
  | .hbm, ⟨0, _⟩ => ⟨S2x8192x512, .f32⟩
  | .hbm, ⟨1, _⟩ => ⟨S2x511x2x64, .f32⟩
  | .hbm, ⟨2, _⟩ => ⟨S2x511x2x64, .f32⟩
  | .hbm, ⟨3, _⟩ => ⟨S8, .f32⟩
  | .hbm, ⟨4, _⟩ => ⟨S_, .f32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S2x4, .f32⟩
  | .hbm, ⟨17, _⟩ => ⟨S2x4x128, .f32⟩
  | .hbm, ⟨18, _⟩ => ⟨S2x512, .f32⟩
  | .hbm, ⟨19, _⟩ => ⟨S512, .i32⟩
  | .hbm, ⟨20, _⟩ => ⟨S_, .i32⟩
  | .hbm, ⟨21, _⟩ => ⟨S512, .i32⟩
  | .hbm, ⟨22, _⟩ => ⟨S512, .i32⟩
  | .hbm, ⟨23, _⟩ => ⟨S128, .i32⟩
  | .hbm, ⟨24, _⟩ => ⟨S_, .i32⟩
  | .hbm, ⟨25, _⟩ => ⟨S128, .i32⟩
  | .hbm, ⟨26, _⟩ => ⟨S128, .i32⟩
  | .hbm, ⟨27, _⟩ => ⟨S1x512, .i32⟩
  | .hbm, ⟨28, _⟩ => ⟨S128x1, .i32⟩
  | .hbm, ⟨29, _⟩ => ⟨S_, .i32⟩
  | .hbm, ⟨30, _⟩ => ⟨S128x1, .i32⟩
  | .hbm, ⟨31, _⟩ => ⟨S128x1, .i32⟩
  | .hbm, ⟨32, _⟩ => ⟨S128x512, .i32⟩
  | .hbm, ⟨33, _⟩ => ⟨S128x512, .i32⟩
  | .hbm, ⟨34, _⟩ => ⟨S128x512, .i1⟩
  | .hbm, ⟨35, _⟩ => ⟨S1x512, .i32⟩
  | .hbm, ⟨36, _⟩ => ⟨S_, .i32⟩
  | .hbm, ⟨37, _⟩ => ⟨S1x512, .i32⟩
  | .hbm, ⟨38, _⟩ => ⟨S1x512, .i32⟩
  | .hbm, ⟨39, _⟩ => ⟨S128x1, .i32⟩
  | .hbm, ⟨40, _⟩ => ⟨S128x512, .i32⟩
  | .hbm, ⟨41, _⟩ => ⟨S128x512, .i32⟩
  | .hbm, ⟨42, _⟩ => ⟨S128x512, .i1⟩
  | .hbm, ⟨43, _⟩ => ⟨S128x512, .i1⟩
  | .hbm, ⟨44, _⟩ => ⟨S1x512, .i32⟩
  | .hbm, ⟨45, _⟩ => ⟨S_, .i32⟩
  | .hbm, ⟨46, _⟩ => ⟨S1x512, .i32⟩
  | .hbm, ⟨47, _⟩ => ⟨S1x512, .i32⟩
  | .hbm, ⟨48, _⟩ => ⟨S_, .i32⟩
  | .hbm, ⟨49, _⟩ => ⟨S1x512, .i32⟩
  | .hbm, ⟨50, _⟩ => ⟨S1x512, .i1⟩
  | .hbm, ⟨51, _⟩ => ⟨S128x512, .i1⟩
  | .hbm, ⟨52, _⟩ => ⟨S128x512, .i1⟩
  | .hbm, ⟨53, _⟩ => ⟨S128x512, .f32⟩
  | .hbm, ⟨54, _⟩ => ⟨S128x512, .bf16⟩
  | .hbm, ⟨55, _⟩ => ⟨S128, .i32⟩
  | .hbm, ⟨56, _⟩ => ⟨S1x128, .i32⟩
  | .hbm, ⟨57, _⟩ => ⟨S4x128, .i32⟩
  | .hbm, ⟨58, _⟩ => ⟨S512, .i32⟩
  | .hbm, ⟨59, _⟩ => ⟨S1x512, .i32⟩
  | .hbm, ⟨60, _⟩ => ⟨S512x1, .i32⟩
  | .hbm, ⟨61, _⟩ => ⟨S_, .i32⟩
  | .hbm, ⟨62, _⟩ => ⟨S512x1, .i32⟩
  | .hbm, ⟨63, _⟩ => ⟨S512x1, .i32⟩
  | .hbm, ⟨64, _⟩ => ⟨S_, .i32⟩
  | .hbm, ⟨65, _⟩ => ⟨S512x1, .i32⟩
  | .hbm, ⟨66, _⟩ => ⟨S512x1, .i32⟩
  | .hbm, ⟨67, _⟩ => ⟨S512x512, .i32⟩
  | .hbm, ⟨68, _⟩ => ⟨S512x512, .i32⟩
  | .hbm, ⟨69, _⟩ => ⟨S512x512, .i32⟩
  | .hbm, ⟨70, _⟩ => ⟨S512x512, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S2x512, .f32⟩
  | .hbm, ⟨76, _⟩ => ⟨S2x512, .f32⟩
  | .hbm, ⟨77, _⟩ => ⟨S2x1x512, .f32⟩
  | .hbm, ⟨78, _⟩ => ⟨S2x1x512, .f32⟩
  | .hbm, ⟨79, _⟩ => ⟨S1x512x512, .f32⟩
  | .hbm, ⟨80, _⟩ => ⟨S2x512x512, .f32⟩
  | .hbm, ⟨81, _⟩ => ⟨S2x512x512, .f32⟩
  | .hbm, ⟨82, _⟩ => ⟨S2x512x512, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S2x8192x512, .f32⟩
  | .hbm, ⟨90, _⟩ => ⟨S2x8192x512, .f32⟩
  | .hbm, ⟨91, _⟩ => ⟨S16384x512, .f32⟩
  | .hbm, ⟨92, _⟩ => ⟨S16384x512, .bf16⟩
  | .hbm, ⟨93, _⟩ => ⟨S_, .i32⟩
  | .hbm, ⟨94, _⟩ => ⟨S_, .bf16⟩
  | .hbm, ⟨95, _⟩ => ⟨S16384x7680, .bf16⟩
  | .hbm, ⟨96, _⟩ => ⟨S2x2x511x64, .f32⟩
  | .hbm, ⟨97, _⟩ => ⟨S_, .i32⟩
  | .hbm, ⟨98, _⟩ => ⟨S_, .f32⟩
  | .hbm, ⟨99, _⟩ => ⟨S2x2x512x64, .f32⟩
  | .hbm, ⟨100, _⟩ => ⟨S2x2x512x128, .f32⟩
  | .hbm, ⟨101, _⟩ => ⟨S2x2x512x128, .bf16⟩
  | .hbm, ⟨102, _⟩ => ⟨S2x2x64x511, .f32⟩
  | .hbm, ⟨103, _⟩ => ⟨S_, .i32⟩
  | .hbm, ⟨104, _⟩ => ⟨S_, .f32⟩
  | .hbm, ⟨105, _⟩ => ⟨S2x2x64x512, .f32⟩
  | .hbm, ⟨106, _⟩ => ⟨S2x2x64x512, .bf16⟩
  | .hbm, ⟨107, _⟩ => ⟨S16384x512, .bf16⟩
  | .hbm, ⟨108, _⟩ => ⟨S2x2x64x128x128, .f32⟩
  | .hbm, ⟨109, _⟩ => ⟨S2x2x64x8x128, .f32⟩
  | .local _ .vmem, ⟨0, _⟩ => ⟨S128x512, .bf16⟩
  | .local _ .vmem, ⟨1, _⟩ => ⟨S128x512, .bf16⟩
  | .local _ .vmem, ⟨2, _⟩ => ⟨S1x2x512x128, .bf16⟩
  | .local _ .vmem, ⟨3, _⟩ => ⟨S1x2x512x128, .bf16⟩
  | .local _ .vmem, ⟨4, _⟩ => ⟨S1x2x64x512, .bf16⟩
  | .local _ .vmem, ⟨5, _⟩ => ⟨S1x2x64x512, .bf16⟩
  | .local _ .vmem, ⟨6, _⟩ => ⟨S128x512, .bf16⟩
  | .local _ .vmem, ⟨7, _⟩ => ⟨S512x512, .f32⟩
  | .local _ .vmem, ⟨8, _⟩ => ⟨S2x512x512, .f32⟩
  | .local _ .vmem, ⟨9, _⟩ => ⟨S128x512, .bf16⟩
  | .local _ .vmem, ⟨10, _⟩ => ⟨S128x512, .bf16⟩
  | .local _ .vmem, ⟨11, _⟩ => ⟨S1x2x1x128x128, .f32⟩
  | .local _ .vmem, ⟨12, _⟩ => ⟨S1x2x1x128x128, .f32⟩
  | .local _ .vmem, ⟨13, _⟩ => ⟨S1x2x1x8x128, .f32⟩
  | .local _ .vmem, ⟨14, _⟩ => ⟨S1x2x1x8x128, .f32⟩
  | .local _ .vmem, ⟨15, _⟩ => ⟨S512x128, .f32⟩
  | _, _ => ⟨S2x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_c_6 : Ref sig .tc := ⟨.hbm, 45, rfl⟩
abbrev main_v34 : Ref sig .tc := ⟨.hbm, 46, rfl⟩
abbrev main_v35 : Ref sig .tc := ⟨.hbm, 47, rfl⟩
abbrev main_c_7 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_c_8 : Ref sig .tc := ⟨.hbm, 61, rfl⟩
abbrev main_v48 : Ref sig .tc := ⟨.hbm, 62, rfl⟩
abbrev main_v49 : Ref sig .tc := ⟨.hbm, 63, rfl⟩
abbrev main_c_9 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_10 : Ref sig .tc := ⟨.hbm, 71, rfl⟩
abbrev main_v56 : Ref sig .tc := ⟨.hbm, 72, rfl⟩
abbrev main_cst_11 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_12 : Ref sig .tc := ⟨.hbm, 83, rfl⟩
abbrev main_v66 : Ref sig .tc := ⟨.hbm, 84, rfl⟩
abbrev main_cst_13 : Ref sig .tc := ⟨.hbm, 85, rfl⟩
abbrev main_v67 : Ref sig .tc := ⟨.hbm, 86, rfl⟩
abbrev main_cst_14 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_c_15 : Ref sig .tc := ⟨.hbm, 93, rfl⟩
abbrev main_call0_v0 : Ref sig .tc := ⟨.hbm, 94, rfl⟩
abbrev main_v73 : Ref sig .tc := ⟨.hbm, 95, rfl⟩
abbrev main_v74 : Ref sig .tc := ⟨.hbm, 96, rfl⟩
abbrev main_c_16 : Ref sig .tc := ⟨.hbm, 97, rfl⟩
abbrev main_call1_v0 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_c_17 : Ref sig .tc := ⟨.hbm, 103, rfl⟩
abbrev main_call2_v0 : Ref sig .tc := ⟨.hbm, 104, rfl⟩
abbrev main_v79 : Ref sig .tc := ⟨.hbm, 105, rfl⟩
abbrev main_v80 : Ref sig .tc := ⟨.hbm, 106, rfl⟩
abbrev main_v81_0 : Ref sig .tc := ⟨.hbm, 107, rfl⟩
abbrev main_v81_1 : Ref sig .tc := ⟨.hbm, 108, rfl⟩
abbrev main_v81_2 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![2, 64], ![false, false]⟩

@[reducible] def k0_t1_loop : Scf.Loop 32 :=
  let c0_i32_68 : BitVec 32 := 0#32
  let c13_i32 : BitVec 32 := 13#32
  let v162 : BitVec 32 := Scalar.addi c0_i32_68 c13_i32
  let c1_i32_69 : BitVec 32 := 1#32
  ⟨c0_i32_68, v162, c1_i32_69⟩
def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c8_i32 : BitVec 32 := 8#32
  let c0_i32 : BitVec 32 := 0#32
  ![v1.toNat, c8_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_8 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2x64x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x1x8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "half_mask" => some ⊥
  | "mask" => some ⊥
  | _ => none
-- ==== Reference.lean ====
abbrev S2x8192x512 : Shape := ⟨3, ![2, 8192, 512]⟩
abbrev S2x511x2x64 : Shape := ⟨4, ![2, 511, 2, 64]⟩
abbrev S2x8192x2x4x64 : Shape := ⟨5, ![2, 8192, 2, 4, 64]⟩
abbrev S511 : Shape := ⟨1, ![511]⟩
abbrev S_ : Shape := ⟨0, ![]⟩
abbrev S128 : Shape := ⟨1, ![128]⟩
abbrev S511x1 : Shape := ⟨2, ![511, 1]⟩
abbrev S1x128 : Shape := ⟨2, ![1, 128]⟩
abbrev S511x128 : Shape := ⟨2, ![511, 128]⟩
abbrev S8 : Shape := ⟨1, ![8]⟩
abbrev S2x4 : Shape := ⟨2, ![2, 4]⟩
abbrev S8192 : Shape := ⟨1, ![8192]⟩
abbrev S2x2x511x8192x4 : Shape := ⟨5, ![2, 2, 511, 8192, 4]⟩
abbrev S2x2x4x8192x511 : Shape := ⟨5, ![2, 2, 4, 8192, 511]⟩
abbrev S8192x1 : Shape := ⟨2, ![8192, 1]⟩
abbrev S1x511 : Shape := ⟨2, ![1, 511]⟩
abbrev S8192x511 : Shape := ⟨2, ![8192, 511]⟩
abbrev S2x4x1x1 : Shape := ⟨4, ![2, 4, 1, 1]⟩
abbrev S1x1x8192x511 : Shape := ⟨4, ![1, 1, 8192, 511]⟩
abbrev S2x4x8192x511 : Shape := ⟨4, ![2, 4, 8192, 511]⟩
abbrev S1x2x4x8192x511 : Shape := ⟨5, ![1, 2, 4, 8192, 511]⟩
abbrev S2x2x4x8192 : Shape := ⟨4, ![2, 2, 4, 8192]⟩
abbrev S2x2x4x8192x1 : Shape := ⟨5, ![2, 2, 4, 8192, 1]⟩
abbrev S2x2x64x4x8192 : Shape := ⟨5, ![2, 2, 64, 4, 8192]⟩
abbrev S2x2x8192x511 : Shape := ⟨4, ![2, 2, 8192, 511]⟩
abbrev S2x2x8192x511x1 : Shape := ⟨5, ![2, 2, 8192, 511, 1]⟩
abbrev S1x1x1x511x128 : Shape := ⟨5, ![1, 1, 1, 511, 128]⟩
abbrev S2x2x8192x511x128 : Shape := ⟨5, ![2, 2, 8192, 511, 128]⟩
abbrev S2x2x8192x128 : Shape := ⟨4, ![2, 2, 8192, 128]⟩
abbrev S8192x128 : Shape := ⟨2, ![8192, 128]⟩
abbrev S2x2x8192x16 : Shape := ⟨4, ![2, 2, 8192, 16]⟩
abbrev S2x2x8192x16x1 : Shape := ⟨5, ![2, 2, 8192, 16, 1]⟩
abbrev S1x1x1x1x128 : Shape := ⟨5, ![1, 1, 1, 1, 128]⟩
abbrev S2x2x8192x16x128 : Shape := ⟨5, ![2, 2, 8192, 16, 128]⟩
abbrev S1x1x8192x128 : Shape := ⟨4, ![1, 1, 8192, 128]⟩
abbrev S2x2x64x128x128 : Shape := ⟨5, ![2, 2, 64, 128, 128]⟩
abbrev S2x2x64x128 : Shape := ⟨4, ![2, 2, 64, 128]⟩
abbrev S16384x512 : Shape := ⟨2, ![16384, 512]⟩
abbrev S2x2x64x1x128 : Shape := ⟨5, ![2, 2, 64, 1, 128]⟩
abbrev S2x2x64x8x128 : Shape := ⟨5, ![2, 2, 64, 8, 128]⟩

abbrev nBuf : Space → Nat
  | .hbm => 183
  | .vmem => 0
  | .smem => 0
  | _ => 0

abbrev hbmTy0_0 (i : Nat) : BufTy := match i % 128 with
  | 0 => ⟨S2x8192x512, .f32⟩
  | 1 => ⟨S2x511x2x64, .f32⟩
  | 2 => ⟨S2x511x2x64, .f32⟩
  | 3 => ⟨S2x8192x2x4x64, .f32⟩
  | 4 => ⟨S511, .i32⟩
  | 5 => ⟨S_, .i32⟩
  | 6 => ⟨S511, .i32⟩
  | 7 => ⟨S511, .i32⟩
  | 8 => ⟨S_, .i32⟩
  | 9 => ⟨S511, .i32⟩
  | 10 => ⟨S511, .i32⟩
  | 11 => ⟨S_, .i32⟩
  | 12 => ⟨S511, .i32⟩
  | 13 => ⟨S511, .i32⟩
  | 14 => ⟨S128, .i32⟩
  | 15 => ⟨S_, .i32⟩
  | 16 => ⟨S128, .i32⟩
  | 17 => ⟨S128, .i32⟩
  | 18 => ⟨S511x1, .i32⟩
  | 19 => ⟨S1x128, .i32⟩
  | 20 => ⟨S_, .i32⟩
  | 21 => ⟨S1x128, .i32⟩
  | 22 => ⟨S1x128, .i32⟩
  | 23 => ⟨S511x128, .i32⟩
  | 24 => ⟨S511x128, .i32⟩
  | 25 => ⟨S511x128, .i1⟩
  | 26 => ⟨S511x1, .i32⟩
  | 27 => ⟨S_, .i32⟩
  | 28 => ⟨S511x1, .i32⟩
  | 29 => ⟨S511x1, .i32⟩
  | 30 => ⟨S1x128, .i32⟩
  | 31 => ⟨S511x128, .i32⟩
  | 32 => ⟨S511x128, .i32⟩
  | 33 => ⟨S511x128, .i1⟩
  | 34 => ⟨S511x128, .i1⟩
  | 35 => ⟨S511x128, .f32⟩
  | 36 => ⟨S8, .f32⟩
  | 37 => ⟨S_, .f32⟩
  | 38 => ⟨S8, .f32⟩
  | 39 => ⟨S8, .f32⟩
  | 40 => ⟨S_, .f32⟩
  | 41 => ⟨S8, .f32⟩
  | 42 => ⟨S8, .f32⟩
  | 43 => ⟨S_, .f32⟩
  | 44 => ⟨S8, .f32⟩
  | 45 => ⟨S8, .f32⟩
  | 46 => ⟨S_, .f32⟩
  | 47 => ⟨S8, .f32⟩
  | 48 => ⟨S8, .f32⟩
  | 49 => ⟨S2x4, .f32⟩
  | 50 => ⟨S8192, .i32⟩
  | 51 => ⟨S2x2x511x8192x4, .f32⟩
  | 52 => ⟨S2x2x4x8192x511, .f32⟩
  | 53 => ⟨S_, .f32⟩
  | 54 => ⟨S2x2x4x8192x511, .f32⟩
  | 55 => ⟨S2x2x4x8192x511, .f32⟩
  | 56 => ⟨S8192x1, .i32⟩
  | 57 => ⟨S1x511, .i32⟩
  | 58 => ⟨S8192x511, .i32⟩
  | 59 => ⟨S8192x511, .i32⟩
  | 60 => ⟨S8192x511, .i32⟩
  | 61 => ⟨S8192x511, .f32⟩
  | 62 => ⟨S_, .f32⟩
  | 63 => ⟨S8192x511, .f32⟩
  | 64 => ⟨S8192x511, .i1⟩
  | 65 => ⟨S2x4x1x1, .f32⟩
  | 66 => ⟨S1x1x8192x511, .f32⟩
  | 67 => ⟨S2x4x8192x511, .f32⟩
  | 68 => ⟨S2x4x8192x511, .f32⟩
  | 69 => ⟨S2x4x8192x511, .f32⟩
  | 70 => ⟨S1x2x4x8192x511, .f32⟩
  | 71 => ⟨S2x2x4x8192x511, .f32⟩
  | 72 => ⟨S2x2x4x8192x511, .f32⟩
  | 73 => ⟨S_, .f32⟩
  | 74 => ⟨S_, .f32⟩
  | 75 => ⟨S2x2x4x8192x511, .i1⟩
  | 76 => ⟨S2x2x4x8192x511, .f32⟩
  | 77 => ⟨S2x2x4x8192x511, .f32⟩
  | 78 => ⟨S_, .f32⟩
  | 79 => ⟨S2x2x4x8192, .f32⟩
  | 80 => ⟨S2x2x4x8192x1, .f32⟩
  | 81 => ⟨S2x2x4x8192x511, .f32⟩
  | 82 => ⟨S2x2x4x8192x511, .f32⟩
  | 83 => ⟨S2x2x4x8192x511, .f32⟩
  | 84 => ⟨S_, .f32⟩
  | 85 => ⟨S_, .f32⟩
  | 86 => ⟨S2x2x4x8192x511, .i1⟩
  | 87 => ⟨S2x2x4x8192x511, .f32⟩
  | 88 => ⟨S2x2x4x8192x511, .f32⟩
  | 89 => ⟨S_, .f32⟩
  | 90 => ⟨S2x2x4x8192, .f32⟩
  | 91 => ⟨S2x2x4x8192x1, .f32⟩
  | 92 => ⟨S_, .f32⟩
  | 93 => ⟨S2x2x4x8192x1, .f32⟩
  | 94 => ⟨S2x2x4x8192x1, .i1⟩
  | 95 => ⟨S_, .f32⟩
  | 96 => ⟨S_, .f32⟩
  | 97 => ⟨S2x2x4x8192x1, .f32⟩
  | 98 => ⟨S2x2x4x8192x1, .f32⟩
  | 99 => ⟨S2x2x4x8192x511, .f32⟩
  | 100 => ⟨S2x2x4x8192x511, .f32⟩
  | 101 => ⟨S2x2x64x4x8192, .f32⟩
  | 102 => ⟨S2x8192x2x4x64, .f32⟩
  | 103 => ⟨S_, .f32⟩
  | 104 => ⟨S2x2x8192x511, .f32⟩
  | 105 => ⟨S2x2x8192x511x1, .f32⟩
  | 106 => ⟨S1x1x1x511x128, .f32⟩
  | 107 => ⟨S2x2x8192x511x128, .f32⟩
  | 108 => ⟨S2x2x8192x511x128, .f32⟩
  | 109 => ⟨S2x2x8192x511x128, .f32⟩
  | 110 => ⟨S_, .f32⟩
  | 111 => ⟨S2x2x8192x128, .f32⟩
  | 112 => ⟨S128, .i32⟩
  | 113 => ⟨S1x128, .i32⟩
  | 114 => ⟨S_, .i32⟩
  | 115 => ⟨S_, .i32⟩
  | 116 => ⟨S8192, .i32⟩
  | 117 => ⟨S8192, .i32⟩
  | 118 => ⟨S8192, .i32⟩
  | 119 => ⟨S_, .i32⟩
  | 120 => ⟨S8192, .i32⟩
  | 121 => ⟨S8192, .i1⟩
  | 122 => ⟨S8192, .i32⟩
  | 123 => ⟨S8192, .i32⟩
  | 124 => ⟨S_, .i32⟩
  | 125 => ⟨S8192, .i32⟩
  | 126 => ⟨S8192, .i1⟩
  | 127 => ⟨S8192, .i1⟩
  | _ => ⟨S2x8192x512, .f32⟩

abbrev hbmTy0_1 (i : Nat) : BufTy := match i % 128 with
  | 0 => ⟨S_, .i32⟩
  | 1 => ⟨S8192, .i32⟩
  | 2 => ⟨S8192, .i32⟩
  | 3 => ⟨S8192, .i32⟩
  | 4 => ⟨S8192x1, .i32⟩
  | 5 => ⟨S_, .i32⟩
  | 6 => ⟨S1x128, .i32⟩
  | 7 => ⟨S1x128, .i1⟩
  | 8 => ⟨S8192x128, .i32⟩
  | 9 => ⟨S8192x128, .i32⟩
  | 10 => ⟨S8192x128, .i1⟩
  | 11 => ⟨S8192x128, .i1⟩
  | 12 => ⟨S8192x128, .i1⟩
  | 13 => ⟨S_, .i32⟩
  | 14 => ⟨S8192x1, .i32⟩
  | 15 => ⟨S8192x1, .i32⟩
  | 16 => ⟨S8192x128, .i32⟩
  | 17 => ⟨S8192x128, .i32⟩
  | 18 => ⟨S8192x128, .i1⟩
  | 19 => ⟨S8192x128, .i1⟩
  | 20 => ⟨S8192x128, .i32⟩
  | 21 => ⟨S8192x128, .i32⟩
  | 22 => ⟨S8192x128, .i1⟩
  | 23 => ⟨S_, .f32⟩
  | 24 => ⟨S_, .f32⟩
  | 25 => ⟨S2x2x8192x128, .i1⟩
  | 26 => ⟨S2x2x8192x128, .f32⟩
  | 27 => ⟨S2x2x8192x128, .f32⟩
  | 28 => ⟨S_, .f32⟩
  | 29 => ⟨S_, .f32⟩
  | 30 => ⟨S2x2x8192x128, .i1⟩
  | 31 => ⟨S2x2x8192x128, .f32⟩
  | 32 => ⟨S2x2x8192x128, .f32⟩
  | 33 => ⟨S2x2x8192x16, .f32⟩
  | 34 => ⟨S2x2x8192x16, .i32⟩
  | 35 => ⟨S2x2x8192x16x1, .i32⟩
  | 36 => ⟨S128, .i32⟩
  | 37 => ⟨S1x1x1x1x128, .i32⟩
  | 38 => ⟨S2x2x8192x16x128, .i32⟩
  | 39 => ⟨S2x2x8192x16x128, .i32⟩
  | 40 => ⟨S2x2x8192x16x128, .i1⟩
  | 41 => ⟨S_, .i1⟩
  | 42 => ⟨S2x2x8192x128, .i1⟩
  | 43 => ⟨S1x1x8192x128, .i1⟩
  | 44 => ⟨S2x2x8192x128, .i1⟩
  | 45 => ⟨S2x2x8192x128, .i1⟩
  | 46 => ⟨S2x2x8192x128, .f32⟩
  | 47 => ⟨S2x2x64x128x128, .f32⟩
  | 48 => ⟨S_, .f32⟩
  | 49 => ⟨S2x2x64x128, .f32⟩
  | 50 => ⟨S16384x512, .f32⟩
  | 51 => ⟨S16384x512, .bf16⟩
  | 52 => ⟨S2x2x64x128x128, .f32⟩
  | 53 => ⟨S2x2x64x1x128, .f32⟩
  | 54 => ⟨S2x2x64x8x128, .f32⟩
  | _ => ⟨S2x8192x512, .f32⟩

abbrev hbmTy (i : Nat) : BufTy := match i / 128 with
  | 0 => hbmTy0_0 i
  | 1 => hbmTy0_1 i
  | _ => ⟨S2x8192x512, .f32⟩

abbrev bufTy : (tb : Table) → Fin (tcTables nBuf tb) → BufTy
  | .hbm, ⟨i, _⟩ => hbmTy i
  | _, _ => ⟨S2x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_c_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst : Ref sig .tc := ⟨.hbm, 37, rfl⟩
abbrev main_v28 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_cst_6 : Ref sig .tc := ⟨.hbm, 43, rfl⟩
abbrev main_v32 : Ref sig .tc := ⟨.hbm, 44, rfl⟩
abbrev main_v33 : Ref sig .tc := ⟨.hbm, 45, rfl⟩
abbrev main_cst_7 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_8 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_9 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_10 : Ref sig .tc := ⟨.hbm, 73, rfl⟩
abbrev main_call0_v0 : Ref sig .tc := ⟨.hbm, 74, rfl⟩
abbrev main_call0_v1 : Ref sig .tc := ⟨.hbm, 75, rfl⟩
abbrev main_call0_v2 : Ref sig .tc := ⟨.hbm, 76, rfl⟩
abbrev main_v58 : Ref sig .tc := ⟨.hbm, 77, rfl⟩
abbrev main_cst_11 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_12 : Ref sig .tc := ⟨.hbm, 84, rfl⟩
abbrev main_call1_v0 : Ref sig .tc := ⟨.hbm, 85, rfl⟩
abbrev main_call1_v1 : Ref sig .tc := ⟨.hbm, 86, rfl⟩
abbrev main_call1_v2 : Ref sig .tc := ⟨.hbm, 87, rfl⟩
abbrev main_v64 : Ref sig .tc := ⟨.hbm, 88, rfl⟩
abbrev main_cst_13 : Ref sig .tc := ⟨.hbm, 89, rfl⟩
abbrev main_v65 : Ref sig .tc := ⟨.hbm, 90, rfl⟩
abbrev main_v66 : Ref sig .tc := ⟨.hbm, 91, rfl⟩
abbrev main_cst_14 : Ref sig .tc := ⟨.hbm, 92, rfl⟩
abbrev main_v67 : Ref sig .tc := ⟨.hbm, 93, rfl⟩
abbrev main_v68 : Ref sig .tc := ⟨.hbm, 94, rfl⟩
abbrev main_cst_15 : Ref sig .tc := ⟨.hbm, 95, rfl⟩
abbrev main_call2_v0 : Ref sig .tc := ⟨.hbm, 96, rfl⟩
abbrev main_call2_v1 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_16 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_17 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_c_18 : Ref sig .tc := ⟨.hbm, 114, rfl⟩
abbrev main_call3_v0 : Ref sig .tc := ⟨.hbm, 115, rfl⟩
abbrev main_call3_v1 : Ref sig .tc := ⟨.hbm, 116, rfl⟩
abbrev main_call3_v2 : Ref sig .tc := ⟨.hbm, 117, rfl⟩
abbrev main_call3_v3 : Ref sig .tc := ⟨.hbm, 118, rfl⟩
abbrev main_call3_v4 : Ref sig .tc := ⟨.hbm, 119, rfl⟩
abbrev main_call3_v5 : Ref sig .tc := ⟨.hbm, 120, rfl⟩
abbrev main_call3_v6 : Ref sig .tc := ⟨.hbm, 121, rfl⟩
abbrev main_call3_v7 : Ref sig .tc := ⟨.hbm, 122, rfl⟩
abbrev main_call3_v8 : Ref sig .tc := ⟨.hbm, 123, rfl⟩
abbrev main_call3_c : Ref sig .tc := ⟨.hbm, 124, rfl⟩
abbrev main_call3_v9 : Ref sig .tc := ⟨.hbm, 125, rfl⟩
abbrev main_call3_v10 : Ref sig .tc := ⟨.hbm, 126, rfl⟩
abbrev main_call3_v11 : Ref sig .tc := ⟨.hbm, 127, rfl⟩
abbrev main_call3_c_0 : Ref sig .tc := ⟨.hbm, 128, rfl⟩
abbrev main_call3_v12 : Ref sig .tc := ⟨.hbm, 129, rfl⟩
abbrev main_call3_v13 : Ref sig .tc := ⟨.hbm, 130, rfl⟩
abbrev main_v83 : Ref sig .tc := ⟨.hbm, 131, rfl⟩
abbrev main_v84 : Ref sig .tc := ⟨.hbm, 132, rfl⟩
abbrev main_c_19 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_c_20 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_cst_21 : Ref sig .tc := ⟨.hbm, 151, rfl⟩
abbrev main_call4_v0 : Ref sig .tc := ⟨.hbm, 152, rfl⟩
abbrev main_call4_v1 : Ref sig .tc := ⟨.hbm, 153, rfl⟩
abbrev main_call4_v2 : Ref sig .tc := ⟨.hbm, 154, rfl⟩
abbrev main_v101 : Ref sig .tc := ⟨.hbm, 155, rfl⟩
abbrev main_cst_22 : Ref sig .tc := ⟨.hbm, 156, rfl⟩
abbrev main_call5_v0 : Ref sig .tc := ⟨.hbm, 157, rfl⟩
abbrev main_call5_v1 : Ref sig .tc := ⟨.hbm, 158, rfl⟩
abbrev main_call5_v2 : Ref sig .tc := ⟨.hbm, 159, rfl⟩
abbrev main_v102 : Ref sig .tc := ⟨.hbm, 160, rfl⟩
abbrev main_values : Ref sig .tc := ⟨.hbm, 161, rfl⟩
abbrev main_indices : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_c_23 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_cst_24 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩

abbrev nD : Nat := 1
abbrev τ : Topo := Topo.v7x

variable {F : FTy → Type} [FloatOps F]
-- ==== Proj.lean ====
abbrev S2x8192x1024 : Shape := ⟨3, ![2, 8192, 1024]⟩
abbrev S1024x11288 : Shape := ⟨2, ![1024, 11288]⟩
abbrev S11288 : Shape := ⟨1, ![11288]⟩
abbrev S16384x1024 : Shape := ⟨2, ![16384, 1024]⟩
abbrev S_ : Shape := ⟨0, ![]⟩
abbrev S1024x232 : Shape := ⟨2, ![1024, 232]⟩
abbrev S232 : Shape := ⟨1, ![232]⟩
abbrev S1024x3072 : Shape := ⟨2, ![1024, 3072]⟩
abbrev S3072 : Shape := ⟨1, ![3072]⟩
abbrev S1024x512 : Shape := ⟨2, ![1024, 512]⟩
abbrev S512 : Shape := ⟨1, ![512]⟩
abbrev S1024x64 : Shape := ⟨2, ![1024, 64]⟩
abbrev S64 : Shape := ⟨1, ![64]⟩
abbrev S1024x256 : Shape := ⟨2, ![1024, 256]⟩
abbrev S256 : Shape := ⟨1, ![256]⟩
abbrev S1024x24 : Shape := ⟨2, ![1024, 24]⟩
abbrev S24 : Shape := ⟨1, ![24]⟩
abbrev S1024x7680 : Shape := ⟨2, ![1024, 7680]⟩
abbrev S7680 : Shape := ⟨1, ![7680]⟩
abbrev S1x7680 : Shape := ⟨2, ![1, 7680]⟩
abbrev S16384x7680 : Shape := ⟨2, ![16384, 7680]⟩
abbrev S2048x1024 : Shape := ⟨2, ![2048, 1024]⟩
abbrev S1024x1280 : Shape := ⟨2, ![1024, 1280]⟩
abbrev S1x1280 : Shape := ⟨2, ![1, 1280]⟩
abbrev S2048x1280 : Shape := ⟨2, ![2048, 1280]⟩

abbrev nBuf : Space → Nat
  | .hbm => 92
  | .vmem => 8
  | .smem => 0
  | _ => 0

abbrev bufTy : (tb : Table) → Fin (tcTables nBuf tb) → BufTy
  | .hbm, ⟨0, _⟩ => ⟨S2x8192x1024, .f32⟩
  | .hbm, ⟨1, _⟩ => ⟨S1024x11288, .f32⟩
  | .hbm, ⟨2, _⟩ => ⟨S11288, .f32⟩
  | .hbm, ⟨3, _⟩ => ⟨S16384x1024, .f32⟩
  | .hbm, ⟨4, _⟩ => ⟨S16384x1024, .bf16⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S1024x232, .f32⟩
  | .hbm, ⟨13, _⟩ => ⟨S_, .f32⟩
  | .hbm, ⟨14, _⟩ => ⟨S232, .f32⟩
  | .hbm, ⟨15, _⟩ => ⟨S1024x3072, .f32⟩
  | .hbm, ⟨16, _⟩ => ⟨S3072, .f32⟩
  | .hbm, ⟨17, _⟩ => ⟨S1024x512, .f32⟩
  | .hbm, ⟨18, _⟩ => ⟨S512, .f32⟩
  | .hbm, ⟨19, _⟩ => ⟨S1024x512, .f32⟩
  | .hbm, ⟨20, _⟩ => ⟨S1024x512, .f32⟩
  | .hbm, ⟨21, _⟩ => ⟨S512, .f32⟩
  | .hbm, ⟨22, _⟩ => ⟨S512, .f32⟩
  | .hbm, ⟨23, _⟩ => ⟨S1024x512, .f32⟩
  | .hbm, ⟨24, _⟩ => ⟨S512, .f32⟩
  | .hbm, ⟨25, _⟩ => ⟨S1024x512, .f32⟩
  | .hbm, ⟨26, _⟩ => ⟨S512, .f32⟩
  | .hbm, ⟨27, _⟩ => ⟨S1024x512, .f32⟩
  | .hbm, ⟨28, _⟩ => ⟨S1024x512, .f32⟩
  | .hbm, ⟨29, _⟩ => ⟨S512, .f32⟩
  | .hbm, ⟨30, _⟩ => ⟨S512, .f32⟩
  | .hbm, ⟨31, _⟩ => ⟨S1024x512, .f32⟩
  | .hbm, ⟨32, _⟩ => ⟨S512, .f32⟩
  | .hbm, ⟨33, _⟩ => ⟨S1024x512, .f32⟩
  | .hbm, ⟨34, _⟩ => ⟨S1024x512, .f32⟩
  | .hbm, ⟨35, _⟩ => ⟨S512, .f32⟩
  | .hbm, ⟨36, _⟩ => ⟨S512, .f32⟩
  | .hbm, ⟨37, _⟩ => ⟨S1024x512, .f32⟩
  | .hbm, ⟨38, _⟩ => ⟨S512, .f32⟩
  | .hbm, ⟨39, _⟩ => ⟨S1024x512, .f32⟩
  | .hbm, ⟨40, _⟩ => ⟨S512, .f32⟩
  | .hbm, ⟨41, _⟩ => ⟨S1024x512, .f32⟩
  | .hbm, ⟨42, _⟩ => ⟨S512, .f32⟩
  | .hbm, ⟨43, _⟩ => ⟨S1024x64, .f32⟩
  | .hbm, ⟨44, _⟩ => ⟨S64, .f32⟩
  | .hbm, ⟨45, _⟩ => ⟨S1024x64, .f32⟩
  | .hbm, ⟨46, _⟩ => ⟨S64, .f32⟩
  | .hbm, ⟨47, _⟩ => ⟨S1024x64, .f32⟩
  | .hbm, ⟨48, _⟩ => ⟨S64, .f32⟩
  | .hbm, ⟨49, _⟩ => ⟨S1024x64, .f32⟩
  | .hbm, ⟨50, _⟩ => ⟨S64, .f32⟩
  | .hbm, ⟨51, _⟩ => ⟨S1024x256, .f32⟩
  | .hbm, ⟨52, _⟩ => ⟨S256, .f32⟩
  | .hbm, ⟨53, _⟩ => ⟨S1024x64, .f32⟩
  | .hbm, ⟨54, _⟩ => ⟨S64, .f32⟩
  | .hbm, ⟨55, _⟩ => ⟨S1024x64, .f32⟩
  | .hbm, ⟨56, _⟩ => ⟨S64, .f32⟩
  | .hbm, ⟨57, _⟩ => ⟨S1024x64, .f32⟩
  | .hbm, ⟨58, _⟩ => ⟨S64, .f32⟩
  | .hbm, ⟨59, _⟩ => ⟨S1024x64, .f32⟩
  | .hbm, ⟨60, _⟩ => ⟨S64, .f32⟩
  | .hbm, ⟨61, _⟩ => ⟨S1024x256, .f32⟩
  | .hbm, ⟨62, _⟩ => ⟨S256, .f32⟩
  | .hbm, ⟨63, _⟩ => ⟨S1024x64, .f32⟩
  | .hbm, ⟨64, _⟩ => ⟨S64, .f32⟩
  | .hbm, ⟨65, _⟩ => ⟨S1024x64, .f32⟩
  | .hbm, ⟨66, _⟩ => ⟨S64, .f32⟩
  | .hbm, ⟨67, _⟩ => ⟨S1024x64, .f32⟩
  | .hbm, ⟨68, _⟩ => ⟨S64, .f32⟩
  | .hbm, ⟨69, _⟩ => ⟨S1024x64, .f32⟩
  | .hbm, ⟨70, _⟩ => ⟨S64, .f32⟩
  | .hbm, ⟨71, _⟩ => ⟨S1024x256, .f32⟩
  | .hbm, ⟨72, _⟩ => ⟨S256, .f32⟩
  | .hbm, ⟨73, _⟩ => ⟨S1024x24, .f32⟩
  | .hbm, ⟨74, _⟩ => ⟨S24, .f32⟩
  | .hbm, ⟨75, _⟩ => ⟨S1024x3072, .bf16⟩
  | .hbm, ⟨76, _⟩ => ⟨S1024x512, .bf16⟩
  | .hbm, ⟨77, _⟩ => ⟨S1024x512, .bf16⟩
  | .hbm, ⟨78, _⟩ => ⟨S1024x512, .bf16⟩
  | .hbm, ⟨79, _⟩ => ⟨S1024x512, .bf16⟩
  | .hbm, ⟨80, _⟩ => ⟨S1024x512, .bf16⟩
  | .hbm, ⟨81, _⟩ => ⟨S1024x512, .bf16⟩
  | .hbm, ⟨82, _⟩ => ⟨S1024x512, .bf16⟩
  | .hbm, ⟨83, _⟩ => ⟨S1024x256, .bf16⟩
  | .hbm, ⟨84, _⟩ => ⟨S1024x256, .bf16⟩
  | .hbm, ⟨85, _⟩ => ⟨S1024x256, .bf16⟩
  | .hbm, ⟨86, _⟩ => ⟨S1024x24, .bf16⟩
  | .hbm, ⟨87, _⟩ => ⟨S1024x232, .bf16⟩
  | .hbm, ⟨88, _⟩ => ⟨S1024x7680, .bf16⟩
  | .hbm, ⟨89, _⟩ => ⟨S7680, .f32⟩
  | .hbm, ⟨90, _⟩ => ⟨S1x7680, .f32⟩
  | .hbm, ⟨91, _⟩ => ⟨S16384x7680, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1280, .bf16⟩
  | .local _ .vmem, ⟨3, _⟩ => ⟨S1024x1280, .bf16⟩
  | .local _ .vmem, ⟨4, _⟩ => ⟨S1x1280, .f32⟩
  | .local _ .vmem, ⟨5, _⟩ => ⟨S1x1280, .f32⟩
  | .local _ .vmem, ⟨6, _⟩ => ⟨S2048x1280, .bf16⟩
  | .local _ .vmem, ⟨7, _⟩ => ⟨S2048x1280, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_cst_3 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1280 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjReference.lean ====
abbrev S2x8192x1024 : Shape := ⟨3, ![2, 8192, 1024]⟩
abbrev S1024x11288 : Shape := ⟨2, ![1024, 11288]⟩
abbrev S11288 : Shape := ⟨1, ![11288]⟩
abbrev S2x8192x11288 : Shape := ⟨3, ![2, 8192, 11288]⟩
abbrev S1x1x11288 : Shape := ⟨3, ![1, 1, 11288]⟩
abbrev S2x8192x1536 : Shape := ⟨3, ![2, 8192, 1536]⟩
abbrev S2x8192x512 : Shape := ⟨3, ![2, 8192, 512]⟩
abbrev S2x8192x128 : Shape := ⟨3, ![2, 8192, 128]⟩
abbrev S2x8192x24 : Shape := ⟨3, ![2, 8192, 24]⟩
abbrev S2x8192x3072 : Shape := ⟨3, ![2, 8192, 3072]⟩
abbrev S_ : Shape := ⟨0, ![]⟩
abbrev S2x8192x64 : Shape := ⟨3, ![2, 8192, 64]⟩
abbrev S2x8192x256 : Shape := ⟨3, ![2, 8192, 256]⟩
abbrev S2x8192x232 : Shape := ⟨3, ![2, 8192, 232]⟩
abbrev S2x8192x7680 : Shape := ⟨3, ![2, 8192, 7680]⟩
abbrev S16384x7680 : Shape := ⟨2, ![16384, 7680]⟩

abbrev nBuf : Space → Nat
  | .hbm => 57
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024x11288, .f32⟩
  | .hbm, ⟨2, _⟩ => ⟨S11288, .f32⟩
  | .hbm, ⟨3, _⟩ => ⟨S2x8192x11288, .f32⟩
  | .hbm, ⟨4, _⟩ => ⟨S1x1x11288, .f32⟩
  | .hbm, ⟨5, _⟩ => ⟨S2x8192x11288, .f32⟩
  | .hbm, ⟨6, _⟩ => ⟨S2x8192x11288, .f32⟩
  | .hbm, ⟨7, _⟩ => ⟨S2x8192x1536, .f32⟩
  | .hbm, ⟨8, _⟩ => ⟨S2x8192x1536, .f32⟩
  | .hbm, ⟨9, _⟩ => ⟨S2x8192x1536, .f32⟩
  | .hbm, ⟨10, _⟩ => ⟨S2x8192x512, .f32⟩
  | .hbm, ⟨11, _⟩ => ⟨S2x8192x512, .f32⟩
  | .hbm, ⟨12, _⟩ => ⟨S2x8192x128, .f32⟩
  | .hbm, ⟨13, _⟩ => ⟨S2x8192x128, .f32⟩
  | .hbm, ⟨14, _⟩ => ⟨S2x8192x128, .f32⟩
  | .hbm, ⟨15, _⟩ => ⟨S2x8192x128, .f32⟩
  | .hbm, ⟨16, _⟩ => ⟨S2x8192x128, .f32⟩
  | .hbm, ⟨17, _⟩ => ⟨S2x8192x128, .f32⟩
  | .hbm, ⟨18, _⟩ => ⟨S2x8192x512, .f32⟩
  | .hbm, ⟨19, _⟩ => ⟨S2x8192x24, .f32⟩
  | .hbm, ⟨20, _⟩ => ⟨S2x8192x512, .f32⟩
  | .hbm, ⟨21, _⟩ => ⟨S2x8192x128, .f32⟩
  | .hbm, ⟨22, _⟩ => ⟨S2x8192x128, .f32⟩
  | .hbm, ⟨23, _⟩ => ⟨S2x8192x512, .f32⟩
  | .hbm, ⟨24, _⟩ => ⟨S2x8192x3072, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S2x8192x512, .f32⟩
  | .hbm, ⟨30, _⟩ => ⟨S2x8192x512, .f32⟩
  | .hbm, ⟨31, _⟩ => ⟨S2x8192x512, .f32⟩
  | .hbm, ⟨32, _⟩ => ⟨S2x8192x512, .f32⟩
  | .hbm, ⟨33, _⟩ => ⟨S2x8192x512, .f32⟩
  | .hbm, ⟨34, _⟩ => ⟨S2x8192x512, .f32⟩
  | .hbm, ⟨35, _⟩ => ⟨S2x8192x512, .f32⟩
  | .hbm, ⟨36, _⟩ => ⟨S2x8192x512, .f32⟩
  | .hbm, ⟨37, _⟩ => ⟨S2x8192x64, .f32⟩
  | .hbm, ⟨38, _⟩ => ⟨S2x8192x64, .f32⟩
  | .hbm, ⟨39, _⟩ => ⟨S2x8192x64, .f32⟩
  | .hbm, ⟨40, _⟩ => ⟨S2x8192x64, .f32⟩
  | .hbm, ⟨41, _⟩ => ⟨S2x8192x256, .f32⟩
  | .hbm, ⟨42, _⟩ => ⟨S2x8192x64, .f32⟩
  | .hbm, ⟨43, _⟩ => ⟨S2x8192x64, .f32⟩
  | .hbm, ⟨44, _⟩ => ⟨S2x8192x64, .f32⟩
  | .hbm, ⟨45, _⟩ => ⟨S2x8192x64, .f32⟩
  | .hbm, ⟨46, _⟩ => ⟨S2x8192x256, .f32⟩
  | .hbm, ⟨47, _⟩ => ⟨S2x8192x64, .f32⟩
  | .hbm, ⟨48, _⟩ => ⟨S2x8192x64, .f32⟩
  | .hbm, ⟨49, _⟩ => ⟨S2x8192x64, .f32⟩
  | .hbm, ⟨50, _⟩ => ⟨S2x8192x64, .f32⟩
  | .hbm, ⟨51, _⟩ => ⟨S2x8192x256, .f32⟩
  | .hbm, ⟨52, _⟩ => ⟨S_, .f32⟩
  | .hbm, ⟨53, _⟩ => ⟨S2x8192x232, .f32⟩
  | .hbm, ⟨54, _⟩ => ⟨S2x8192x7680, .f32⟩
  | .hbm, ⟨55, _⟩ => ⟨S16384x7680, .f32⟩
  | .hbm, ⟨56, _⟩ => ⟨S16384x7680, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_cst : Ref sig .tc := ⟨.hbm, 25, rfl⟩
abbrev main_v22 : Ref sig .tc := ⟨.hbm, 26, rfl⟩
abbrev main_cst_0 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_cst_1 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩

abbrev nD : Nat := 1
abbrev τ : Topo := Topo.v7x

variable {F : FTy → Type} [FloatOps F]
-- ==== Feat.lean ====
abbrev S2x8192x1024 : Shape := ⟨3, ![2, 8192, 1024]⟩
abbrev S1024x11288 : Shape := ⟨2, ![1024, 11288]⟩
abbrev S11288 : Shape := ⟨1, ![11288]⟩
abbrev S16384x1024 : Shape := ⟨2, ![16384, 1024]⟩
abbrev S1024x512 : Shape := ⟨2, ![1024, 512]⟩
abbrev S512 : Shape := ⟨1, ![512]⟩
abbrev S1024x128 : Shape := ⟨2, ![1024, 128]⟩
abbrev S128 : Shape := ⟨1, ![128]⟩
abbrev S1024x896 : Shape := ⟨2, ![1024, 896]⟩
abbrev S896x1024 : Shape := ⟨2, ![896, 1024]⟩
abbrev S896 : Shape := ⟨1, ![896]⟩
abbrev S896x1 : Shape := ⟨2, ![896, 1]⟩
abbrev S896x16384 : Shape := ⟨2, ![896, 16384]⟩
abbrev S1024x1024 : Shape := ⟨2, ![1024, 1024]⟩

abbrev nBuf : Space → Nat
  | .hbm => 19
  | .vmem => 6
  | .smem => 0
  | _ => 0

abbrev bufTy : (tb : Table) → Fin (tcTables nBuf tb) → BufTy
  | .hbm, ⟨0, _⟩ => ⟨S2x8192x1024, .f32⟩
  | .hbm, ⟨1, _⟩ => ⟨S1024x11288, .f32⟩
  | .hbm, ⟨2, _⟩ => ⟨S11288, .f32⟩
  | .hbm, ⟨3, _⟩ => ⟨S16384x1024, .f32⟩
  | .hbm, ⟨4, _⟩ => ⟨S16384x1024, .bf16⟩
  | .hbm, ⟨5, _⟩ => ⟨S1024x512, .f32⟩
  | .hbm, ⟨6, _⟩ => ⟨S512, .f32⟩
  | .hbm, ⟨7, _⟩ => ⟨S1024x128, .f32⟩
  | .hbm, ⟨8, _⟩ => ⟨S128, .f32⟩
  | .hbm, ⟨9, _⟩ => ⟨S1024x128, .f32⟩
  | .hbm, ⟨10, _⟩ => ⟨S128, .f32⟩
  | .hbm, ⟨11, _⟩ => ⟨S1024x128, .f32⟩
  | .hbm, ⟨12, _⟩ => ⟨S128, .f32⟩
  | .hbm, ⟨13, _⟩ => ⟨S1024x896, .f32⟩
  | .hbm, ⟨14, _⟩ => ⟨S896x1024, .f32⟩
  | .hbm, ⟨15, _⟩ => ⟨S896x1024, .bf16⟩
  | .hbm, ⟨16, _⟩ => ⟨S896, .f32⟩
  | .hbm, ⟨17, _⟩ => ⟨S896x1, .f32⟩
  | .hbm, ⟨18, _⟩ => ⟨S896x16384, .bf16⟩
  | .local _ .vmem, ⟨0, _⟩ => ⟨S1024x1024, .bf16⟩
  | .local _ .vmem, ⟨1, _⟩ => ⟨S1024x1024, .bf16⟩
  | .local _ .vmem, ⟨2, _⟩ => ⟨S896x1024, .bf16⟩
  | .local _ .vmem, ⟨3, _⟩ => ⟨S896x1, .f32⟩
  | .local _ .vmem, ⟨4, _⟩ => ⟨S896x1024, .bf16⟩
  | .local _ .vmem, ⟨5, _⟩ => ⟨S896x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S896x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S896x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S896x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FeatReference.lean ====
abbrev S2x8192x1024 : Shape := ⟨3, ![2, 8192, 1024]⟩
abbrev S1024x11288 : Shape := ⟨2, ![1024, 11288]⟩
abbrev S11288 : Shape := ⟨1, ![11288]⟩
abbrev S2x8192x11288 : Shape := ⟨3, ![2, 8192, 11288]⟩
abbrev S1x1x11288 : Shape := ⟨3, ![1, 1, 11288]⟩
abbrev S2x8192x1536 : Shape := ⟨3, ![2, 8192, 1536]⟩
abbrev S2x8192x512 : Shape := ⟨3, ![2, 8192, 512]⟩
abbrev S2x8192x128 : Shape := ⟨3, ![2, 8192, 128]⟩
abbrev S2x8192x24 : Shape := ⟨3, ![2, 8192, 24]⟩
abbrev S2x8192x3072 : Shape := ⟨3, ![2, 8192, 3072]⟩
abbrev S2x8192x896 : Shape := ⟨3, ![2, 8192, 896]⟩
abbrev S16384x896 : Shape := ⟨2, ![16384, 896]⟩
abbrev S896x16384 : Shape := ⟨2, ![896, 16384]⟩

abbrev nBuf : Space → Nat
  | .hbm => 30
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024x11288, .f32⟩
  | .hbm, ⟨2, _⟩ => ⟨S11288, .f32⟩
  | .hbm, ⟨3, _⟩ => ⟨S2x8192x11288, .f32⟩
  | .hbm, ⟨4, _⟩ => ⟨S1x1x11288, .f32⟩
  | .hbm, ⟨5, _⟩ => ⟨S2x8192x11288, .f32⟩
  | .hbm, ⟨6, _⟩ => ⟨S2x8192x11288, .f32⟩
  | .hbm, ⟨7, _⟩ => ⟨S2x8192x1536, .f32⟩
  | .hbm, ⟨8, _⟩ => ⟨S2x8192x1536, .f32⟩
  | .hbm, ⟨9, _⟩ => ⟨S2x8192x1536, .f32⟩
  | .hbm, ⟨10, _⟩ => ⟨S2x8192x512, .f32⟩
  | .hbm, ⟨11, _⟩ => ⟨S2x8192x512, .f32⟩
  | .hbm, ⟨12, _⟩ => ⟨S2x8192x128, .f32⟩
  | .hbm, ⟨13, _⟩ => ⟨S2x8192x128, .f32⟩
  | .hbm, ⟨14, _⟩ => ⟨S2x8192x128, .f32⟩
  | .hbm, ⟨15, _⟩ => ⟨S2x8192x128, .f32⟩
  | .hbm, ⟨16, _⟩ => ⟨S2x8192x128, .f32⟩
  | .hbm, ⟨17, _⟩ => ⟨S2x8192x128, .f32⟩
  | .hbm, ⟨18, _⟩ => ⟨S2x8192x512, .f32⟩
  | .hbm, ⟨19, _⟩ => ⟨S2x8192x24, .f32⟩
  | .hbm, ⟨20, _⟩ => ⟨S2x8192x512, .f32⟩
  | .hbm, ⟨21, _⟩ => ⟨S2x8192x128, .f32⟩
  | .hbm, ⟨22, _⟩ => ⟨S2x8192x128, .f32⟩
  | .hbm, ⟨23, _⟩ => ⟨S2x8192x512, .f32⟩
  | .hbm, ⟨24, _⟩ => ⟨S2x8192x3072, .f32⟩
  | .hbm, ⟨25, _⟩ => ⟨S2x8192x512, .f32⟩
  | .hbm, ⟨26, _⟩ => ⟨S2x8192x896, .f32⟩
  | .hbm, ⟨27, _⟩ => ⟨S16384x896, .f32⟩
  | .hbm, ⟨28, _⟩ => ⟨S896x16384, .f32⟩
  | .hbm, ⟨29, _⟩ => ⟨S896x16384, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩

abbrev nD : Nat := 1
abbrev τ : Topo := Topo.v7x

variable {F : FTy → Type} [FloatOps F]
-- ==== Fold4.lean ====
abbrev S2x8192x1024 : Shape := ⟨3, ![2, 8192, 1024]⟩
abbrev S1024x11288 : Shape := ⟨2, ![1024, 11288]⟩
abbrev S11288 : Shape := ⟨1, ![11288]⟩
abbrev S16384x1024 : Shape := ⟨2, ![16384, 1024]⟩
abbrev S_ : Shape := ⟨0, ![]⟩
abbrev S1024x512 : Shape := ⟨2, ![1024, 512]⟩
abbrev S512 : Shape := ⟨1, ![512]⟩
abbrev S1024x1024 : Shape := ⟨2, ![1024, 1024]⟩
abbrev S1024 : Shape := ⟨1, ![1024]⟩
abbrev S1x1024 : Shape := ⟨2, ![1, 1024]⟩
abbrev S4x4096x1024 : Shape := ⟨3, ![4, 4096, 1024]⟩
abbrev S1024x128 : Shape := ⟨2, ![1024, 128]⟩
abbrev S4x256x1024 : Shape := ⟨3, ![4, 256, 1024]⟩
abbrev S256x128 : Shape := ⟨2, ![256, 128]⟩
abbrev S256x1024 : Shape := ⟨2, ![256, 1024]⟩
abbrev S1x256x1024 : Shape := ⟨3, ![1, 256, 1024]⟩

abbrev nBuf : Space → Nat
  | .hbm => 23
  | .vmem => 21
  | .smem => 0
  | _ => 0

abbrev bufTy : (tb : Table) → Fin (tcTables nBuf tb) → BufTy
  | .hbm, ⟨0, _⟩ => ⟨S2x8192x1024, .f32⟩
  | .hbm, ⟨1, _⟩ => ⟨S1024x11288, .f32⟩
  | .hbm, ⟨2, _⟩ => ⟨S11288, .f32⟩
  | .hbm, ⟨3, _⟩ => ⟨S16384x1024, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S1024x512, .f32⟩
  | .hbm, ⟨11, _⟩ => ⟨S512, .f32⟩
  | .hbm, ⟨12, _⟩ => ⟨S1024x512, .f32⟩
  | .hbm, ⟨13, _⟩ => ⟨S512, .f32⟩
  | .hbm, ⟨14, _⟩ => ⟨S1024x512, .f32⟩
  | .hbm, ⟨15, _⟩ => ⟨S1024x512, .f32⟩
  | .hbm, ⟨16, _⟩ => ⟨S1024x1024, .f32⟩
  | .hbm, ⟨17, _⟩ => ⟨S1024x1024, .bf16⟩
  | .hbm, ⟨18, _⟩ => ⟨S512, .f32⟩
  | .hbm, ⟨19, _⟩ => ⟨S512, .f32⟩
  | .hbm, ⟨20, _⟩ => ⟨S1024, .f32⟩
  | .hbm, ⟨21, _⟩ => ⟨S1x1024, .f32⟩
  | .hbm, ⟨22, _⟩ => ⟨S4x4096x1024, .bf16⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1024x1024, .bf16⟩
  | .local _ .vmem, ⟨17, _⟩ => ⟨S1x1024, .f32⟩
  | .local _ .vmem, ⟨18, _⟩ => ⟨S4x256x1024, .bf16⟩
  | .local _ .vmem, ⟨19, _⟩ => ⟨S4x256x1024, .bf16⟩
  | .local _ .vmem, ⟨20, _⟩ => ⟨S1024x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_6 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_7 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S4x256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Fold4Reference.lean ====
abbrev S2x8192x1024 : Shape := ⟨3, ![2, 8192, 1024]⟩
abbrev S1024x11288 : Shape := ⟨2, ![1024, 11288]⟩
abbrev S11288 : Shape := ⟨1, ![11288]⟩
abbrev S2x8192x11288 : Shape := ⟨3, ![2, 8192, 11288]⟩
abbrev S1x1x11288 : Shape := ⟨3, ![1, 1, 11288]⟩
abbrev S2x8192x1536 : Shape := ⟨3, ![2, 8192, 1536]⟩
abbrev S2x8192x512 : Shape := ⟨3, ![2, 8192, 512]⟩
abbrev S2x8192x128 : Shape := ⟨3, ![2, 8192, 128]⟩
abbrev S2x8192x24 : Shape := ⟨3, ![2, 8192, 24]⟩
abbrev S2x8192x3072 : Shape := ⟨3, ![2, 8192, 3072]⟩
abbrev S_ : Shape := ⟨0, ![]⟩
abbrev S4096x4x1024 : Shape := ⟨3, ![4096, 4, 1024]⟩
abbrev S4x4096x1024 : Shape := ⟨3, ![4, 4096, 1024]⟩

abbrev nBuf : Space → Nat
  | .hbm => 37
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024x11288, .f32⟩
  | .hbm, ⟨2, _⟩ => ⟨S11288, .f32⟩
  | .hbm, ⟨3, _⟩ => ⟨S2x8192x11288, .f32⟩
  | .hbm, ⟨4, _⟩ => ⟨S1x1x11288, .f32⟩
  | .hbm, ⟨5, _⟩ => ⟨S2x8192x11288, .f32⟩
  | .hbm, ⟨6, _⟩ => ⟨S2x8192x11288, .f32⟩
  | .hbm, ⟨7, _⟩ => ⟨S2x8192x1536, .f32⟩
  | .hbm, ⟨8, _⟩ => ⟨S2x8192x1536, .f32⟩
  | .hbm, ⟨9, _⟩ => ⟨S2x8192x1536, .f32⟩
  | .hbm, ⟨10, _⟩ => ⟨S2x8192x512, .f32⟩
  | .hbm, ⟨11, _⟩ => ⟨S2x8192x512, .f32⟩
  | .hbm, ⟨12, _⟩ => ⟨S2x8192x128, .f32⟩
  | .hbm, ⟨13, _⟩ => ⟨S2x8192x128, .f32⟩
  | .hbm, ⟨14, _⟩ => ⟨S2x8192x128, .f32⟩
  | .hbm, ⟨15, _⟩ => ⟨S2x8192x128, .f32⟩
  | .hbm, ⟨16, _⟩ => ⟨S2x8192x128, .f32⟩
  | .hbm, ⟨17, _⟩ => ⟨S2x8192x128, .f32⟩
  | .hbm, ⟨18, _⟩ => ⟨S2x8192x512, .f32⟩
  | .hbm, ⟨19, _⟩ => ⟨S2x8192x24, .f32⟩
  | .hbm, ⟨20, _⟩ => ⟨S2x8192x512, .f32⟩
  | .hbm, ⟨21, _⟩ => ⟨S2x8192x128, .f32⟩
  | .hbm, ⟨22, _⟩ => ⟨S2x8192x128, .f32⟩
  | .hbm, ⟨23, _⟩ => ⟨S2x8192x512, .f32⟩
  | .hbm, ⟨24, _⟩ => ⟨S2x8192x3072, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S2x8192x512, .f32⟩
  | .hbm, ⟨30, _⟩ => ⟨S2x8192x512, .f32⟩
  | .hbm, ⟨31, _⟩ => ⟨S2x8192x512, .f32⟩
  | .hbm, ⟨32, _⟩ => ⟨S2x8192x512, .f32⟩
  | .hbm, ⟨33, _⟩ => ⟨S2x8192x1024, .f32⟩
  | .hbm, ⟨34, _⟩ => ⟨S4096x4x1024, .f32⟩
  | .hbm, ⟨35, _⟩ => ⟨S4x4096x1024, .f32⟩
  | .hbm, ⟨36, _⟩ => ⟨S4x4096x1024, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_cst : Ref sig .tc := ⟨.hbm, 25, rfl⟩
abbrev main_v22 : Ref sig .tc := ⟨.hbm, 26, rfl⟩
abbrev main_cst_0 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩

abbrev nD : Nat := 1
abbrev τ : Topo := Topo.v7x

variable {F : FTy → Type} [FloatOps F]
-- ==== Fold16.lean ====
abbrev S2x8192x1024 : Shape := ⟨3, ![2, 8192, 1024]⟩
abbrev S1024x11288 : Shape := ⟨2, ![1024, 11288]⟩
abbrev S11288 : Shape := ⟨1, ![11288]⟩
abbrev S16384x1024 : Shape := ⟨2, ![16384, 1024]⟩
abbrev S_ : Shape := ⟨0, ![]⟩
abbrev S1024x512 : Shape := ⟨2, ![1024, 512]⟩
abbrev S512 : Shape := ⟨1, ![512]⟩
abbrev S1024x64 : Shape := ⟨2, ![1024, 64]⟩
abbrev S64 : Shape := ⟨1, ![64]⟩
abbrev S1024x1536 : Shape := ⟨2, ![1024, 1536]⟩
abbrev S1536 : Shape := ⟨1, ![1536]⟩
abbrev S1x1536 : Shape := ⟨2, ![1, 1536]⟩
abbrev S16x1024x1536 : Shape := ⟨3, ![16, 1024, 1536]⟩
abbrev S1024x128 : Shape := ⟨2, ![1024, 128]⟩
abbrev S16x64x1536 : Shape := ⟨3, ![16, 64, 1536]⟩
abbrev S1024x1024 : Shape := ⟨2, ![1024, 1024]⟩
abbrev S64x128 : Shape := ⟨2, ![64, 128]⟩
abbrev S64x1536 : Shape := ⟨2, ![64, 1536]⟩
abbrev S1x64x1536 : Shape := ⟨3, ![1, 64, 1536]⟩

abbrev nBuf : Space → Nat
  | .hbm => 35
  | .vmem => 21
  | .smem => 0
  | _ => 0

abbrev bufTy : (tb : Table) → Fin (tcTables nBuf tb) → BufTy
  | .hbm, ⟨0, _⟩ => ⟨S2x8192x1024, .f32⟩
  | .hbm, ⟨1, _⟩ => ⟨S1024x11288, .f32⟩
  | .hbm, ⟨2, _⟩ => ⟨S11288, .f32⟩
  | .hbm, ⟨3, _⟩ => ⟨S16384x1024, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S1024x512, .f32⟩
  | .hbm, ⟨11, _⟩ => ⟨S512, .f32⟩
  | .hbm, ⟨12, _⟩ => ⟨S1024x512, .f32⟩
  | .hbm, ⟨13, _⟩ => ⟨S512, .f32⟩
  | .hbm, ⟨14, _⟩ => ⟨S_, .f32⟩
  | .hbm, ⟨15, _⟩ => ⟨S1024x64, .f32⟩
  | .hbm, ⟨16, _⟩ => ⟨S_, .f32⟩
  | .hbm, ⟨17, _⟩ => ⟨S64, .f32⟩
  | .hbm, ⟨18, _⟩ => ⟨S1024x64, .f32⟩
  | .hbm, ⟨19, _⟩ => ⟨S64, .f32⟩
  | .hbm, ⟨20, _⟩ => ⟨S1024x64, .f32⟩
  | .hbm, ⟨21, _⟩ => ⟨S64, .f32⟩
  | .hbm, ⟨22, _⟩ => ⟨S1024x64, .f32⟩
  | .hbm, ⟨23, _⟩ => ⟨S64, .f32⟩
  | .hbm, ⟨24, _⟩ => ⟨S1024x64, .f32⟩
  | .hbm, ⟨25, _⟩ => ⟨S64, .f32⟩
  | .hbm, ⟨26, _⟩ => ⟨S1024x512, .f32⟩
  | .hbm, ⟨27, _⟩ => ⟨S1024x512, .f32⟩
  | .hbm, ⟨28, _⟩ => ⟨S1024x1536, .f32⟩
  | .hbm, ⟨29, _⟩ => ⟨S1024x1536, .bf16⟩
  | .hbm, ⟨30, _⟩ => ⟨S512, .f32⟩
  | .hbm, ⟨31, _⟩ => ⟨S512, .f32⟩
  | .hbm, ⟨32, _⟩ => ⟨S1536, .f32⟩
  | .hbm, ⟨33, _⟩ => ⟨S1x1536, .f32⟩
  | .hbm, ⟨34, _⟩ => ⟨S16x1024x1536, .bf16⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1024x1536, .bf16⟩
  | .local _ .vmem, ⟨17, _⟩ => ⟨S1x1536, .f32⟩
  | .local _ .vmem, ⟨18, _⟩ => ⟨S16x64x1536, .bf16⟩
  | .local _ .vmem, ⟨19, _⟩ => ⟨S16x64x1536, .bf16⟩
  | .local _ .vmem, ⟨20, _⟩ => ⟨S1024x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_6 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_7 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1536 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S16x64x1536 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Fold16Reference.lean ====
abbrev S2x8192x1024 : Shape := ⟨3, ![2, 8192, 1024]⟩
abbrev S1024x11288 : Shape := ⟨2, ![1024, 11288]⟩
abbrev S11288 : Shape := ⟨1, ![11288]⟩
abbrev S2x8192x11288 : Shape := ⟨3, ![2, 8192, 11288]⟩
abbrev S1x1x11288 : Shape := ⟨3, ![1, 1, 11288]⟩
abbrev S2x8192x1536 : Shape := ⟨3, ![2, 8192, 1536]⟩
abbrev S2x8192x512 : Shape := ⟨3, ![2, 8192, 512]⟩
abbrev S2x8192x128 : Shape := ⟨3, ![2, 8192, 128]⟩
abbrev S2x8192x24 : Shape := ⟨3, ![2, 8192, 24]⟩
abbrev S2x8192x3072 : Shape := ⟨3, ![2, 8192, 3072]⟩
abbrev S_ : Shape := ⟨0, ![]⟩
abbrev S2x8192x64 : Shape := ⟨3, ![2, 8192, 64]⟩
abbrev S1024x16x1536 : Shape := ⟨3, ![1024, 16, 1536]⟩
abbrev S16x1024x1536 : Shape := ⟨3, ![16, 1024, 1536]⟩

abbrev nBuf : Space → Nat
  | .hbm => 43
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024x11288, .f32⟩
  | .hbm, ⟨2, _⟩ => ⟨S11288, .f32⟩
  | .hbm, ⟨3, _⟩ => ⟨S2x8192x11288, .f32⟩
  | .hbm, ⟨4, _⟩ => ⟨S1x1x11288, .f32⟩
  | .hbm, ⟨5, _⟩ => ⟨S2x8192x11288, .f32⟩
  | .hbm, ⟨6, _⟩ => ⟨S2x8192x11288, .f32⟩
  | .hbm, ⟨7, _⟩ => ⟨S2x8192x1536, .f32⟩
  | .hbm, ⟨8, _⟩ => ⟨S2x8192x1536, .f32⟩
  | .hbm, ⟨9, _⟩ => ⟨S2x8192x1536, .f32⟩
  | .hbm, ⟨10, _⟩ => ⟨S2x8192x512, .f32⟩
  | .hbm, ⟨11, _⟩ => ⟨S2x8192x512, .f32⟩
  | .hbm, ⟨12, _⟩ => ⟨S2x8192x128, .f32⟩
  | .hbm, ⟨13, _⟩ => ⟨S2x8192x128, .f32⟩
  | .hbm, ⟨14, _⟩ => ⟨S2x8192x128, .f32⟩
  | .hbm, ⟨15, _⟩ => ⟨S2x8192x128, .f32⟩
  | .hbm, ⟨16, _⟩ => ⟨S2x8192x128, .f32⟩
  | .hbm, ⟨17, _⟩ => ⟨S2x8192x128, .f32⟩
  | .hbm, ⟨18, _⟩ => ⟨S2x8192x512, .f32⟩
  | .hbm, ⟨19, _⟩ => ⟨S2x8192x24, .f32⟩
  | .hbm, ⟨20, _⟩ => ⟨S2x8192x512, .f32⟩
  | .hbm, ⟨21, _⟩ => ⟨S2x8192x128, .f32⟩
  | .hbm, ⟨22, _⟩ => ⟨S2x8192x128, .f32⟩
  | .hbm, ⟨23, _⟩ => ⟨S2x8192x512, .f32⟩
  | .hbm, ⟨24, _⟩ => ⟨S2x8192x3072, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S2x8192x64, .f32⟩
  | .hbm, ⟨31, _⟩ => ⟨S2x8192x512, .f32⟩
  | .hbm, ⟨32, _⟩ => ⟨S2x8192x512, .f32⟩
  | .hbm, ⟨33, _⟩ => ⟨S2x8192x512, .f32⟩
  | .hbm, ⟨34, _⟩ => ⟨S2x8192x512, .f32⟩
  | .hbm, ⟨35, _⟩ => ⟨S2x8192x64, .f32⟩
  | .hbm, ⟨36, _⟩ => ⟨S2x8192x64, .f32⟩
  | .hbm, ⟨37, _⟩ => ⟨S2x8192x64, .f32⟩
  | .hbm, ⟨38, _⟩ => ⟨S2x8192x64, .f32⟩
  | .hbm, ⟨39, _⟩ => ⟨S2x8192x1536, .f32⟩
  | .hbm, ⟨40, _⟩ => ⟨S1024x16x1536, .f32⟩
  | .hbm, ⟨41, _⟩ => ⟨S16x1024x1536, .f32⟩
  | .hbm, ⟨42, _⟩ => ⟨S16x1024x1536, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_cst : Ref sig .tc := ⟨.hbm, 25, rfl⟩
abbrev main_v22 : Ref sig .tc := ⟨.hbm, 26, rfl⟩
abbrev main_cst_0 : Ref sig .tc := ⟨.hbm, 27, rfl⟩
abbrev main_v23 : Ref sig .tc := ⟨.hbm, 28, rfl⟩
abbrev main_cst_1 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩

abbrev nD : Nat := 1
abbrev τ : Topo := Topo.v7x

variable {F : FTy → Type} [FloatOps F]
-- ==== FeatFold4.lean ====
abbrev S2x8192x1024 : Shape := ⟨3, ![2, 8192, 1024]⟩
abbrev S1024x11288 : Shape := ⟨2, ![1024, 11288]⟩
abbrev S11288 : Shape := ⟨1, ![11288]⟩
abbrev S16384x1024 : Shape := ⟨2, ![16384, 1024]⟩
abbrev S1024x512 : Shape := ⟨2, ![1024, 512]⟩
abbrev S512x1024 : Shape := ⟨2, ![512, 1024]⟩
abbrev S512 : Shape := ⟨1, ![512]⟩
abbrev S512x1 : Shape := ⟨2, ![512, 1]⟩
abbrev S4x512x4096 : Shape := ⟨3, ![4, 512, 4096]⟩
abbrev S2048x128 : Shape := ⟨2, ![2048, 128]⟩
abbrev S4x512x512 : Shape := ⟨3, ![4, 512, 512]⟩
abbrev S2048x1024 : Shape := ⟨2, ![2048, 1024]⟩
abbrev S512x128 : Shape := ⟨2, ![512, 128]⟩
abbrev S512x2048 : Shape := ⟨2, ![512, 2048]⟩
abbrev S512x512 : Shape := ⟨2, ![512, 512]⟩
abbrev S1x512x512 : Shape := ⟨3, ![1, 512, 512]⟩

abbrev nBuf : Space → Nat
  | .hbm => 10
  | .vmem => 21
  | .smem => 0
  | _ => 0

abbrev bufTy : (tb : Table) → Fin (tcTables nBuf tb) → BufTy
  | .hbm, ⟨0, _⟩ => ⟨S2x8192x1024, .f32⟩
  | .hbm, ⟨1, _⟩ => ⟨S1024x11288, .f32⟩
  | .hbm, ⟨2, _⟩ => ⟨S11288, .f32⟩
  | .hbm, ⟨3, _⟩ => ⟨S16384x1024, .f32⟩
  | .hbm, ⟨4, _⟩ => ⟨S1024x512, .f32⟩
  | .hbm, ⟨5, _⟩ => ⟨S512x1024, .f32⟩
  | .hbm, ⟨6, _⟩ => ⟨S512x1024, .bf16⟩
  | .hbm, ⟨7, _⟩ => ⟨S512, .f32⟩
  | .hbm, ⟨8, _⟩ => ⟨S512x1, .f32⟩
  | .hbm, ⟨9, _⟩ => ⟨S4x512x4096, .bf16⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S512x1024, .bf16⟩
  | .local _ .vmem, ⟨17, _⟩ => ⟨S512x1, .f32⟩
  | .local _ .vmem, ⟨18, _⟩ => ⟨S4x512x512, .bf16⟩
  | .local _ .vmem, ⟨19, _⟩ => ⟨S4x512x512, .bf16⟩
  | .local _ .vmem, ⟨20, _⟩ => ⟨S2048x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_6 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_7 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S4x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== FeatFold4Reference.lean ====
abbrev S2x8192x1024 : Shape := ⟨3, ![2, 8192, 1024]⟩
abbrev S1024x11288 : Shape := ⟨2, ![1024, 11288]⟩
abbrev S11288 : Shape := ⟨1, ![11288]⟩
abbrev S2x8192x11288 : Shape := ⟨3, ![2, 8192, 11288]⟩
abbrev S1x1x11288 : Shape := ⟨3, ![1, 1, 11288]⟩
abbrev S2x8192x1536 : Shape := ⟨3, ![2, 8192, 1536]⟩
abbrev S2x8192x512 : Shape := ⟨3, ![2, 8192, 512]⟩
abbrev S2x8192x128 : Shape := ⟨3, ![2, 8192, 128]⟩
abbrev S2x8192x24 : Shape := ⟨3, ![2, 8192, 24]⟩
abbrev S2x8192x3072 : Shape := ⟨3, ![2, 8192, 3072]⟩
abbrev S4096x4x512 : Shape := ⟨3, ![4096, 4, 512]⟩
abbrev S4x4096x512 : Shape := ⟨3, ![4, 4096, 512]⟩
abbrev S4x512x4096 : Shape := ⟨3, ![4, 512, 4096]⟩

abbrev nBuf : Space → Nat
  | .hbm => 30
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024x11288, .f32⟩
  | .hbm, ⟨2, _⟩ => ⟨S11288, .f32⟩
  | .hbm, ⟨3, _⟩ => ⟨S2x8192x11288, .f32⟩
  | .hbm, ⟨4, _⟩ => ⟨S1x1x11288, .f32⟩
  | .hbm, ⟨5, _⟩ => ⟨S2x8192x11288, .f32⟩
  | .hbm, ⟨6, _⟩ => ⟨S2x8192x11288, .f32⟩
  | .hbm, ⟨7, _⟩ => ⟨S2x8192x1536, .f32⟩
  | .hbm, ⟨8, _⟩ => ⟨S2x8192x1536, .f32⟩
  | .hbm, ⟨9, _⟩ => ⟨S2x8192x1536, .f32⟩
  | .hbm, ⟨10, _⟩ => ⟨S2x8192x512, .f32⟩
  | .hbm, ⟨11, _⟩ => ⟨S2x8192x512, .f32⟩
  | .hbm, ⟨12, _⟩ => ⟨S2x8192x128, .f32⟩
  | .hbm, ⟨13, _⟩ => ⟨S2x8192x128, .f32⟩
  | .hbm, ⟨14, _⟩ => ⟨S2x8192x128, .f32⟩
  | .hbm, ⟨15, _⟩ => ⟨S2x8192x128, .f32⟩
  | .hbm, ⟨16, _⟩ => ⟨S2x8192x128, .f32⟩
  | .hbm, ⟨17, _⟩ => ⟨S2x8192x128, .f32⟩
  | .hbm, ⟨18, _⟩ => ⟨S2x8192x512, .f32⟩
  | .hbm, ⟨19, _⟩ => ⟨S2x8192x24, .f32⟩
  | .hbm, ⟨20, _⟩ => ⟨S2x8192x512, .f32⟩
  | .hbm, ⟨21, _⟩ => ⟨S2x8192x128, .f32⟩
  | .hbm, ⟨22, _⟩ => ⟨S2x8192x128, .f32⟩
  | .hbm, ⟨23, _⟩ => ⟨S2x8192x512, .f32⟩
  | .hbm, ⟨24, _⟩ => ⟨S2x8192x3072, .f32⟩
  | .hbm, ⟨25, _⟩ => ⟨S2x8192x512, .f32⟩
  | .hbm, ⟨26, _⟩ => ⟨S4096x4x512, .f32⟩
  | .hbm, ⟨27, _⟩ => ⟨S4x4096x512, .f32⟩
  | .hbm, ⟨28, _⟩ => ⟨S4x512x4096, .f32⟩
  | .hbm, ⟨29, _⟩ => ⟨S4x512x4096, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩

abbrev nD : Nat := 1
abbrev τ : Topo := Topo.v7x

variable {F : FTy → Type} [FloatOps F]
-- ==== FeatFold16.lean ====
abbrev S2x8192x1024 : Shape := ⟨3, ![2, 8192, 1024]⟩
abbrev S1024x11288 : Shape := ⟨2, ![1024, 11288]⟩
abbrev S11288 : Shape := ⟨1, ![11288]⟩
abbrev S16384x1024 : Shape := ⟨2, ![16384, 1024]⟩
abbrev S1024x512 : Shape := ⟨2, ![1024, 512]⟩
abbrev S512x1024 : Shape := ⟨2, ![512, 1024]⟩
abbrev S512 : Shape := ⟨1, ![512]⟩
abbrev S512x1 : Shape := ⟨2, ![512, 1]⟩
abbrev S16x512x1024 : Shape := ⟨3, ![16, 512, 1024]⟩
abbrev S2048x128 : Shape := ⟨2, ![2048, 128]⟩
abbrev S16x512x128 : Shape := ⟨3, ![16, 512, 128]⟩
abbrev S2048x1024 : Shape := ⟨2, ![2048, 1024]⟩
abbrev S128x128 : Shape := ⟨2, ![128, 128]⟩
abbrev S512x2048 : Shape := ⟨2, ![512, 2048]⟩
abbrev S512x128 : Shape := ⟨2, ![512, 128]⟩
abbrev S1x512x128 : Shape := ⟨3, ![1, 512, 128]⟩

abbrev nBuf : Space → Nat
  | .hbm => 10
  | .vmem => 21
  | .smem => 0
  | _ => 0

abbrev bufTy : (tb : Table) → Fin (tcTables nBuf tb) → BufTy
  | .hbm, ⟨0, _⟩ => ⟨S2x8192x1024, .f32⟩
  | .hbm, ⟨1, _⟩ => ⟨S1024x11288, .f32⟩
  | .hbm, ⟨2, _⟩ => ⟨S11288, .f32⟩
  | .hbm, ⟨3, _⟩ => ⟨S16384x1024, .f32⟩
  | .hbm, ⟨4, _⟩ => ⟨S1024x512, .f32⟩
  | .hbm, ⟨5, _⟩ => ⟨S512x1024, .f32⟩
  | .hbm, ⟨6, _⟩ => ⟨S512x1024, .bf16⟩
  | .hbm, ⟨7, _⟩ => ⟨S512, .f32⟩
  | .hbm, ⟨8, _⟩ => ⟨S512x1, .f32⟩
  | .hbm, ⟨9, _⟩ => ⟨S16x512x1024, .bf16⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S512x1024, .bf16⟩
  | .local _ .vmem, ⟨17, _⟩ => ⟨S512x1, .f32⟩
  | .local _ .vmem, ⟨18, _⟩ => ⟨S16x512x128, .bf16⟩
  | .local _ .vmem, ⟨19, _⟩ => ⟨S16x512x128, .bf16⟩
  | .local _ .vmem, ⟨20, _⟩ => ⟨S2048x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_6 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_7 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S16x512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== FeatFold16Reference.lean ====
abbrev S2x8192x1024 : Shape := ⟨3, ![2, 8192, 1024]⟩
abbrev S1024x11288 : Shape := ⟨2, ![1024, 11288]⟩
abbrev S11288 : Shape := ⟨1, ![11288]⟩
abbrev S2x8192x11288 : Shape := ⟨3, ![2, 8192, 11288]⟩
abbrev S1x1x11288 : Shape := ⟨3, ![1, 1, 11288]⟩
abbrev S2x8192x1536 : Shape := ⟨3, ![2, 8192, 1536]⟩
abbrev S2x8192x512 : Shape := ⟨3, ![2, 8192, 512]⟩
abbrev S2x8192x128 : Shape := ⟨3, ![2, 8192, 128]⟩
abbrev S2x8192x24 : Shape := ⟨3, ![2, 8192, 24]⟩
abbrev S2x8192x3072 : Shape := ⟨3, ![2, 8192, 3072]⟩
abbrev S1024x16x512 : Shape := ⟨3, ![1024, 16, 512]⟩
abbrev S16x1024x512 : Shape := ⟨3, ![16, 1024, 512]⟩
abbrev S16x512x1024 : Shape := ⟨3, ![16, 512, 1024]⟩

abbrev nBuf : Space → Nat
  | .hbm => 30
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024x11288, .f32⟩
  | .hbm, ⟨2, _⟩ => ⟨S11288, .f32⟩
  | .hbm, ⟨3, _⟩ => ⟨S2x8192x11288, .f32⟩
  | .hbm, ⟨4, _⟩ => ⟨S1x1x11288, .f32⟩
  | .hbm, ⟨5, _⟩ => ⟨S2x8192x11288, .f32⟩
  | .hbm, ⟨6, _⟩ => ⟨S2x8192x11288, .f32⟩
  | .hbm, ⟨7, _⟩ => ⟨S2x8192x1536, .f32⟩
  | .hbm, ⟨8, _⟩ => ⟨S2x8192x1536, .f32⟩
  | .hbm, ⟨9, _⟩ => ⟨S2x8192x1536, .f32⟩
  | .hbm, ⟨10, _⟩ => ⟨S2x8192x512, .f32⟩
  | .hbm, ⟨11, _⟩ => ⟨S2x8192x512, .f32⟩
  | .hbm, ⟨12, _⟩ => ⟨S2x8192x128, .f32⟩
  | .hbm, ⟨13, _⟩ => ⟨S2x8192x128, .f32⟩
  | .hbm, ⟨14, _⟩ => ⟨S2x8192x128, .f32⟩
  | .hbm, ⟨15, _⟩ => ⟨S2x8192x128, .f32⟩
  | .hbm, ⟨16, _⟩ => ⟨S2x8192x128, .f32⟩
  | .hbm, ⟨17, _⟩ => ⟨S2x8192x128, .f32⟩
  | .hbm, ⟨18, _⟩ => ⟨S2x8192x512, .f32⟩
  | .hbm, ⟨19, _⟩ => ⟨S2x8192x24, .f32⟩
  | .hbm, ⟨20, _⟩ => ⟨S2x8192x512, .f32⟩
  | .hbm, ⟨21, _⟩ => ⟨S2x8192x128, .f32⟩
  | .hbm, ⟨22, _⟩ => ⟨S2x8192x128, .f32⟩
  | .hbm, ⟨23, _⟩ => ⟨S2x8192x512, .f32⟩
  | .hbm, ⟨24, _⟩ => ⟨S2x8192x3072, .f32⟩
  | .hbm, ⟨25, _⟩ => ⟨S2x8192x512, .f32⟩
  | .hbm, ⟨26, _⟩ => ⟨S1024x16x512, .f32⟩
  | .hbm, ⟨27, _⟩ => ⟨S16x1024x512, .f32⟩
  | .hbm, ⟨28, _⟩ => ⟨S16x512x1024, .f32⟩
  | .hbm, ⟨29, _⟩ => ⟨S16x512x1024, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩

abbrev nD : Nat := 1
abbrev τ : Topo := Topo.v7x

variable {F : FTy → Type} [FloatOps F]
-- ==== Proof.Body.lean ====
/-
  One run of the selection kernel at a grid point. The kernel loads its query tile and its compressed keys, takes one of
  four branches by how many compressed blocks the tile can see (128, 256, 384 or 512 of them), writes the compressed
  attention through a transposing scratch buffer, and picks thirteen further blocks per query in a counted loop.
  `res` is what the taken branch hands on; `out6`, `out7`, `out8` are what the three result blocks then hold, as
  functions of the six input blocks. `sound_kernel` says that the body leaves exactly these.
-/
module

public import proofs.«01_k».proof.Proof.Gen.KernelIdeal.Frame
public import proofs.«01_k».proof.Proof.Gen.KernelIdeal.Skeleton
public import proofs.«01_k».proof.Proof.Gen.KernelIdeal.Loops

@[expose] public section

set_option maxRecDepth 16384

noncomputable section

namespace Cert.KernelIdeal.Nsa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## Which branch a point takes -/

/-- The index of the last compressed block that ends inside the tile, as the kernel computes it from the tile's number. -/
abbrev lastBlock (arg1 : BitVec 32) : BitVec 32 :=
  let v54 : BitVec 32 := Scalar.muli arg1 128#32
  let v55 : BitVec 32 := Scalar.addi v54 128#32
  let v56 : BitVec 32 := Scalar.subi v55 32#32
  let v57 : BitVec 32 := Scalar.divsi v56 16#32
  let v58 : BitVec 1 := Scalar.cmpi .sgt v56 0#32
  let v59 : BitVec 32 := Scalar.extui v58
  let v60 : BitVec 1 := Scalar.cmpi .slt v56 0#32
  let v61 : BitVec 32 := Scalar.extui v60
  let v62 : BitVec 32 := Scalar.subi v59 v61
  let v63 : BitVec 1 := Scalar.cmpi .sgt 16#32 0#32
  let v64 : BitVec 32 := Scalar.extui v63
  let v65 : BitVec 1 := Scalar.cmpi .slt 16#32 0#32
  let v66 : BitVec 32 := Scalar.extui v65
  let v67 : BitVec 32 := Scalar.subi v64 v66
  let v68 : BitVec 1 := Scalar.cmpi .ne v62 v67
  let v69 : BitVec 32 := Scalar.remsi v56 16#32
  let v70 : BitVec 1 := Scalar.cmpi .ne v69 0#32
  let v71 : BitVec 1 := Scalar.andi v68 v70
  let v72 : BitVec 32 := Scalar.subi v57 1#32
  Scalar.select v71 v72 v57

/-- The branch's number: the last block's chunk of 128, clamped to the four there are. -/
abbrev chunk (v73 : BitVec 32) : BitVec 32 :=
  let v74 : BitVec 32 := Scalar.divsi v73 128#32
  let v75 : BitVec 1 := Scalar.cmpi .sgt v73 0#32
  let v76 : BitVec 32 := Scalar.extui v75
  let v77 : BitVec 1 := Scalar.cmpi .slt v73 0#32
  let v78 : BitVec 32 := Scalar.extui v77
  let v79 : BitVec 32 := Scalar.subi v76 v78
  let v80 : BitVec 1 := Scalar.cmpi .sgt 128#32 0#32
  let v81 : BitVec 32 := Scalar.extui v80
  let v82 : BitVec 1 := Scalar.cmpi .slt 128#32 0#32
  let v83 : BitVec 32 := Scalar.extui v82
  let v84 : BitVec 32 := Scalar.subi v81 v83
  let v85 : BitVec 1 := Scalar.cmpi .ne v79 v84
  let v86 : BitVec 32 := Scalar.remsi v73 128#32
  let v87 : BitVec 1 := Scalar.cmpi .ne v86 0#32
  let v88 : BitVec 1 := Scalar.andi v85 v87
  let v89 : BitVec 32 := Scalar.subi v74 1#32
  let v90 : BitVec 32 := Scalar.select v88 v89 v74
  let v91 : BitVec 32 := Scalar.minsi v90 3#32
  let v92 : BitVec 32 := Scalar.maxsi v91 0#32
  Scalar.minsi v92 3#32

/-- The tile's number as a word. -/
abbrev tileW (i : grid0.Coords) : BitVec 32 := BitVec.ofNat 32 (i 1).val

/-- More than 128 rows are needed; -/
abbrev cond1 (i : grid0.Coords) : Prop := Scalar.cmpi .ne (chunk (lastBlock (tileW i))) 0#32 = 1#1
/-- more than 256; -/
abbrev cond2 (i : grid0.Coords) : Prop := Scalar.cmpi .ne (Scalar.subi (chunk (lastBlock (tileW i))) 1#32) 0#32 = 1#1
/-- more than 384. -/
abbrev cond3 (i : grid0.Coords) : Prop := Scalar.cmpi .ne (Scalar.subi (Scalar.subi (chunk (lastBlock (tileW i))) 1#32) 1#32) 0#32 = 1#1

/-! ## What the branches compute -/

/-- A load's rectangle at an offset. -/
abbrev qTile (x2 : Vec F S128x512 .bf16) : Fin 4 → Vec F S128x128 .bf16
  | 0 => View.ld x2 (Rect.unit (s := S128x512) ![0, 0] S128x128.size inb_S128x512_S128x128_0_0)
  | 1 => View.ld x2 (Rect.unit (s := S128x512) ![0, 128] S128x128.size inb_S128x512_S128x128_0_128)
  | 2 => View.ld x2 (Rect.unit (s := S128x512) ![0, 256] S128x128.size inb_S128x512_S128x128_0_256)
  | 3 => View.ld x2 (Rect.unit (s := S128x512) ![0, 384] S128x128.size inb_S128x512_S128x128_0_384)

/-- The stacked queries of the first four heads, the lanes of the other head of a pair cleared. -/
abbrev qs0 (x2 : Vec F S128x512 .bf16) : FVec F S512x128 .bf16 := k0_pay39 (qTile x2 0) (qTile x2 0) (qTile x2 1) (qTile x2 1)
/-- The same of the last four heads. -/
abbrev qs1 (x2 : Vec F S128x512 .bf16) : FVec F S512x128 .bf16 :=
  k0_pay41 (iota .tc S128x128 32 [1] iota_S128x128_d1_w32) (k0_pay40 (qTile x2 2)) (qTile x2 2) (qTile x2 3) (qTile x2 3)

/-- What a branch hands on: per group of four heads the attention output (transposed) and the importance. -/
abbrev Res (F : FTy → Type) : Type := FVec F S64x512 .f32 × FVec F S128x128 .f32 × FVec F S64x512 .f32 × FVec F S128x128 .f32

/-- The branch that takes 512 rows of compressed blocks. -/
def res512 (i : grid0.Coords) (x2 : Vec F S128x512 .bf16) (x3 : Vec F S1x2x512x128 .bf16) (x4 : Vec F S1x2x64x512 .bf16) (x5 : Vec F S128x512 .bf16) (x6 : Vec F S512x512 .f32) (x7 : Vec F S2x512x512 .f32) : Res F :=
  let d := View.ld x6 (Rect.unit (s := S512x512) ![0, 0] S512x512.size inb_S512x512_S512x512_0_0)
  let o := View.ld x5 (Rect.unit (s := S128x512) ![0, 0] S128x512.size inb_S128x512_S128x512_0_0)
  let k0 := View.ld x3 (Rect.unit (s := S1x2x512x128) ![0, 0, 0, 0] S1x1x512x128.size inb_S1x2x512x128_S1x1x512x128_0_0_0_0)
  let b0 := View.ld x7 (Rect.unit (s := S2x512x512) ![0, 0, 0] S1x512x512.size inb_S2x512x512_S1x512x512_0_0_0)
  let u0 := View.ld x4 (Rect.unit (s := S1x2x64x512) ![0, 0, 0, 0] S1x1x64x512.size inb_S1x2x64x512_S1x1x64x512_0_0_0_0)
  let k1 := View.ld x3 (Rect.unit (s := S1x2x512x128) ![0, 1, 0, 0] S1x1x512x128.size inb_S1x2x512x128_S1x1x512x128_0_1_0_0)
  let b1 := View.ld x7 (Rect.unit (s := S2x512x512) ![1, 0, 0] S1x512x512.size inb_S2x512x512_S1x512x512_1_0_0)
  let u1 := View.ld x4 (Rect.unit (s := S1x2x64x512) ![0, 1, 0, 0] S1x1x64x512.size inb_S1x2x64x512_S1x1x64x512_0_1_0_0)
  let t := k0_pay38 (F := F) i
  (k0_pay3 t (qs0 x2) k0 b0 d u0,
   k0_pay5 (k0_pay2 t (qs0 x2) k0 b0 d) (k0_pay4 t (qs0 x2) k0 b0 d) o o,
   k0_pay43 (k0_pay8 t (qs1 x2) k1 b1 d) (k0_pay9 t (qs1 x2) k1 b1 d) (k0_pay10 t (qs1 x2) k1 b1 d) u1,
   k0_pay44 (k0_pay8 t (qs1 x2) k1 b1 d) (k0_pay9 t (qs1 x2) k1 b1 d) (k0_pay10 t (qs1 x2) k1 b1 d) o o)

/-- The branch that takes 384 rows of compressed blocks. -/
def res384 (i : grid0.Coords) (x2 : Vec F S128x512 .bf16) (x3 : Vec F S1x2x512x128 .bf16) (x4 : Vec F S1x2x64x512 .bf16) (x5 : Vec F S128x512 .bf16) (x6 : Vec F S512x512 .f32) (x7 : Vec F S2x512x512 .f32) : Res F :=
  let d := View.ld x6 (Rect.unit (s := S512x512) ![0, 0] S384x512.size inb_S512x512_S384x512_0_0)
  let o := View.ld x5 (Rect.unit (s := S128x512) ![0, 0] S128x384.size inb_S128x512_S128x384_0_0)
  let k0 := View.ld x3 (Rect.unit (s := S1x2x512x128) ![0, 0, 0, 0] S1x1x384x128.size inb_S1x2x512x128_S1x1x384x128_0_0_0_0)
  let b0 := View.ld x7 (Rect.unit (s := S2x512x512) ![0, 0, 0] S1x384x512.size inb_S2x512x512_S1x384x512_0_0_0)
  let u0 := View.ld x4 (Rect.unit (s := S1x2x64x512) ![0, 0, 0, 0] S1x1x64x384.size inb_S1x2x64x512_S1x1x64x384_0_0_0_0)
  let k1 := View.ld x3 (Rect.unit (s := S1x2x512x128) ![0, 1, 0, 0] S1x1x384x128.size inb_S1x2x512x128_S1x1x384x128_0_1_0_0)
  let b1 := View.ld x7 (Rect.unit (s := S2x512x512) ![1, 0, 0] S1x384x512.size inb_S2x512x512_S1x384x512_1_0_0)
  let u1 := View.ld x4 (Rect.unit (s := S1x2x64x512) ![0, 1, 0, 0] S1x1x64x384.size inb_S1x2x64x512_S1x1x64x384_0_1_0_0)
  let t := k0_pay38 (F := F) i
  (k0_pay12 t (qs0 x2) k0 b0 d u0,
   k0_pay14 (k0_pay11 t (qs0 x2) k0 b0 d) (k0_pay13 t (qs0 x2) k0 b0 d) o o,
   k0_pay46 (k0_pay17 t (qs1 x2) k1 b1 d) (k0_pay18 t (qs1 x2) k1 b1 d) (k0_pay19 t (qs1 x2) k1 b1 d) u1,
   k0_pay47 (k0_pay17 t (qs1 x2) k1 b1 d) (k0_pay18 t (qs1 x2) k1 b1 d) (k0_pay19 t (qs1 x2) k1 b1 d) o o)

/-- The branch that takes 256 rows of compressed blocks. -/
def res256 (i : grid0.Coords) (x2 : Vec F S128x512 .bf16) (x3 : Vec F S1x2x512x128 .bf16) (x4 : Vec F S1x2x64x512 .bf16) (x5 : Vec F S128x512 .bf16) (x6 : Vec F S512x512 .f32) (x7 : Vec F S2x512x512 .f32) : Res F :=
  let d := View.ld x6 (Rect.unit (s := S512x512) ![0, 0] S256x512.size inb_S512x512_S256x512_0_0)
  let o := View.ld x5 (Rect.unit (s := S128x512) ![0, 0] S128x256.size inb_S128x512_S128x256_0_0)
  let k0 := View.ld x3 (Rect.unit (s := S1x2x512x128) ![0, 0, 0, 0] S1x1x256x128.size inb_S1x2x512x128_S1x1x256x128_0_0_0_0)
  let b0 := View.ld x7 (Rect.unit (s := S2x512x512) ![0, 0, 0] S1x256x512.size inb_S2x512x512_S1x256x512_0_0_0)
  let u0 := View.ld x4 (Rect.unit (s := S1x2x64x512) ![0, 0, 0, 0] S1x1x64x256.size inb_S1x2x64x512_S1x1x64x256_0_0_0_0)
  let k1 := View.ld x3 (Rect.unit (s := S1x2x512x128) ![0, 1, 0, 0] S1x1x256x128.size inb_S1x2x512x128_S1x1x256x128_0_1_0_0)
  let b1 := View.ld x7 (Rect.unit (s := S2x512x512) ![1, 0, 0] S1x256x512.size inb_S2x512x512_S1x256x512_1_0_0)
  let u1 := View.ld x4 (Rect.unit (s := S1x2x64x512) ![0, 1, 0, 0] S1x1x64x256.size inb_S1x2x64x512_S1x1x64x256_0_1_0_0)
  let t := k0_pay38 (F := F) i
  (k0_pay21 t (qs0 x2) k0 b0 d u0,
   k0_pay23 (k0_pay20 t (qs0 x2) k0 b0 d) (k0_pay22 t (qs0 x2) k0 b0 d) o o,
   k0_pay49 (k0_pay26 t (qs1 x2) k1 b1 d) (k0_pay27 t (qs1 x2) k1 b1 d) (k0_pay28 t (qs1 x2) k1 b1 d) u1,
   k0_pay50 (k0_pay26 t (qs1 x2) k1 b1 d) (k0_pay27 t (qs1 x2) k1 b1 d) (k0_pay28 t (qs1 x2) k1 b1 d) o o)

/-- The branch that takes 128 rows of compressed blocks. -/
def res128 (i : grid0.Coords) (x2 : Vec F S128x512 .bf16) (x3 : Vec F S1x2x512x128 .bf16) (x4 : Vec F S1x2x64x512 .bf16) (x5 : Vec F S128x512 .bf16) (x6 : Vec F S512x512 .f32) (x7 : Vec F S2x512x512 .f32) : Res F :=
  let d := View.ld x6 (Rect.unit (s := S512x512) ![0, 0] S128x512.size inb_S512x512_S128x512_0_0)
  let o := View.ld x5 (Rect.unit (s := S128x512) ![0, 0] S128x128.size inb_S128x512_S128x128_0_0)
  let k0 := View.ld x3 (Rect.unit (s := S1x2x512x128) ![0, 0, 0, 0] S1x1x128x128.size inb_S1x2x512x128_S1x1x128x128_0_0_0_0)
  let b0 := View.ld x7 (Rect.unit (s := S2x512x512) ![0, 0, 0] S1x128x512.size inb_S2x512x512_S1x128x512_0_0_0)
  let u0 := View.ld x4 (Rect.unit (s := S1x2x64x512) ![0, 0, 0, 0] S1x1x64x128.size inb_S1x2x64x512_S1x1x64x128_0_0_0_0)
  let k1 := View.ld x3 (Rect.unit (s := S1x2x512x128) ![0, 1, 0, 0] S1x1x128x128.size inb_S1x2x512x128_S1x1x128x128_0_1_0_0)
  let b1 := View.ld x7 (Rect.unit (s := S2x512x512) ![1, 0, 0] S1x128x512.size inb_S2x512x512_S1x128x512_1_0_0)
  let u1 := View.ld x4 (Rect.unit (s := S1x2x64x512) ![0, 1, 0, 0] S1x1x64x128.size inb_S1x2x64x512_S1x1x64x128_0_1_0_0)
  let t := k0_pay38 (F := F) i
  (k0_pay30 t (qs0 x2) k0 b0 d u0,
   k0_pay32 (k0_pay29 t (qs0 x2) k0 b0 d) (k0_pay31 t (qs0 x2) k0 b0 d) o o,
   k0_pay52 (k0_pay35 t (qs1 x2) k1 b1 d) (k0_pay36 t (qs1 x2) k1 b1 d) (k0_pay37 t (qs1 x2) k1 b1 d) u1,
   k0_pay53 (k0_pay35 t (qs1 x2) k1 b1 d) (k0_pay36 t (qs1 x2) k1 b1 d) (k0_pay37 t (qs1 x2) k1 b1 d) o o)

/-- What the taken branch hands on. -/
def res (i : grid0.Coords) (x2 : Vec F S128x512 .bf16) (x3 : Vec F S1x2x512x128 .bf16) (x4 : Vec F S1x2x64x512 .bf16) (x5 : Vec F S128x512 .bf16) (x6 : Vec F S512x512 .f32) (x7 : Vec F S2x512x512 .f32) : Res F :=
  if cond1 i then (if cond2 i then (if cond3 i then res512 i x2 x3 x4 x5 x6 x7 else res384 i x2 x3 x4 x5 x6 x7)
    else res256 i x2 x3 x4 x5 x6 x7) else res128 i x2 x3 x4 x5 x6 x7

/-! ## What the body leaves -/

/-- The scratch buffer's eight stores, last first: head `h`'s output in rows `64 h` to `64 h + 63`. -/
abbrev otPieces (r : Res F) : List (View.Piece (Elt F) S512x128 .f32) :=
  [⟨Rect.unit (s := S512x128) ![448, 0] S64x128.size inb_S512x128_S64x128_448_0, k0_pay61 r.2.2.1⟩,
   ⟨Rect.unit (s := S512x128) ![384, 0] S64x128.size inb_S512x128_S64x128_384_0, k0_pay60 r.2.2.1⟩,
   ⟨Rect.unit (s := S512x128) ![320, 0] S64x128.size inb_S512x128_S64x128_320_0, k0_pay59 r.2.2.1⟩,
   ⟨Rect.unit (s := S512x128) ![256, 0] S64x128.size inb_S512x128_S64x128_256_0, k0_pay58 r.2.2.1⟩,
   ⟨Rect.unit (s := S512x128) ![192, 0] S64x128.size inb_S512x128_S64x128_192_0, k0_pay57 r.1⟩,
   ⟨Rect.unit (s := S512x128) ![128, 0] S64x128.size inb_S512x128_S64x128_128_0, k0_pay56 r.1⟩,
   ⟨Rect.unit (s := S512x128) ![64, 0] S64x128.size inb_S512x128_S64x128_64_0, k0_pay55 r.1⟩,
   ⟨Rect.unit (s := S512x128) ![0, 0] S64x128.size inb_S512x128_S64x128_0_0, k0_pay54 r.1⟩]

/-- The scratch buffer, loaded whole. -/
def ot (r : Res F) : Vec F S512x128 .f32 :=
  View.ld (View.canon (otPieces r)) (Rect.unit (s := S512x128) ![0, 0] S512x128.size inb_S512x128_S512x128_0_0)

theorem ot_cover (r : Res F) (y : S512x128.Idx) : ∃ p ∈ otPieces r, y ∈ p.1.set :=
  View.cover_of_tiled (otPieces r) S64x128.size (by rfl) y

/-- The attention output's block: the scratch buffer's contents transposed and cast. -/
def out6of (z : Vec F S512x128 .f32) : Vec F S128x512 .bf16 :=
  View.canon [⟨Rect.unit (s := S128x512) ![0, 0] S128x512.size inb_S128x512_S128x512_0_0, k0_pay62 z⟩]
def out6 (r : Res F) : Vec F S128x512 .bf16 := out6of (ot r)

theorem cover6 (p : Vec F S128x512 .bf16) (y : S128x512.Idx) :
    ∃ pc ∈ ([⟨Rect.unit (s := S128x512) ![0, 0] S128x512.size inb_S128x512_S128x512_0_0, p⟩] : List (View.Piece (Elt F) S128x512 .bf16)), y ∈ pc.1.set :=
  View.cover_of_tiled [⟨Rect.unit (s := S128x512) ![0, 0] S128x512.size inb_S128x512_S128x512_0_0, p⟩] S128x512.size (by rfl) y

/-- The two groups' working scores and selections, before and after the counted loop. -/
abbrev Picks (F : FTy → Type) : Type := FVec F S128x128 .f32 × FVec F S128x128 .f32 × FVec F S128x128 .f32 × FVec F S128x128 .f32

/-- One turn of the picking loop. -/
def turn (s : Picks F) : Picks F :=
  (k0_pay73 (k0_pay63 (F := F)) s.1, k0_pay74 (k0_pay63 (F := F)) s.1 s.2.1, k0_pay76 (k0_pay63 (F := F)) s.2.2.1, k0_pay77 (k0_pay63 (F := F)) s.2.2.1 s.2.2.2)

/-- What the loop starts from. -/
def picks0 (i : grid0.Coords) (r : Res F) : Picks F :=
  (k0_pay70 r.2.1 (k0_pay63 (F := F)) (k0_pay64 (tileW i)) (k0_pay65 (F := F) (tileW i)) (k0_pay66 (F := F)),
   k0_pay69 (k0_pay63 (F := F)) (k0_pay64 (tileW i)) (k0_pay65 (F := F) (tileW i)) (k0_pay66 (F := F)),
   k0_pay71 r.2.2.2 (k0_pay63 (F := F)) (k0_pay64 (tileW i)) (k0_pay65 (F := F) (tileW i)) (k0_pay66 (F := F)),
   k0_pay69 (k0_pay63 (F := F)) (k0_pay64 (tileW i)) (k0_pay65 (F := F) (tileW i)) (k0_pay66 (F := F)))

/-- What the loop ends with: thirteen turns. -/
def picks (i : grid0.Coords) (r : Res F) : Picks F :=
  Scf.fold (n := k0_t1_loop.trips) (fun _ s => turn s) (picks0 i r)

/-- The selection's block. -/
def out7 (i : grid0.Coords) (r : Res F) : Vec F S1x2x1x128x128 .f32 :=
  View.canon [⟨Rect.unit (s := S1x2x1x128x128) ![0, 1, 0, 0, 0] S1x1x1x128x128.size inb_S1x2x1x128x128_S1x1x1x128x128_0_1_0_0_0, k0_pay81 (picks i r).2.2.2⟩,
    ⟨Rect.unit (s := S1x2x1x128x128) ![0, 0, 0, 0, 0] S1x1x1x128x128.size inb_S1x2x1x128x128_S1x1x1x128x128_0_0_0_0_0, k0_pay79 (picks i r).2.1⟩]

theorem cover7 (p q : Vec F S1x1x1x128x128 .f32) (y : S1x2x1x128x128.Idx) :
    ∃ pc ∈ ([⟨Rect.unit (s := S1x2x1x128x128) ![0, 1, 0, 0, 0] S1x1x1x128x128.size inb_S1x2x1x128x128_S1x1x1x128x128_0_1_0_0_0, p⟩,
      ⟨Rect.unit (s := S1x2x1x128x128) ![0, 0, 0, 0, 0] S1x1x1x128x128.size inb_S1x2x1x128x128_S1x1x1x128x128_0_0_0_0_0, q⟩] : List (View.Piece (Elt F) S1x2x1x128x128 .f32)), y ∈ pc.1.set :=
  View.cover_of_tiled [⟨Rect.unit (s := S1x2x1x128x128) ![0, 1, 0, 0, 0] S1x1x1x128x128.size inb_S1x2x1x128x128_S1x1x1x128x128_0_1_0_0_0, p⟩,
      ⟨Rect.unit (s := S1x2x1x128x128) ![0, 0, 0, 0, 0] S1x1x1x128x128.size inb_S1x2x1x128x128_S1x1x1x128x128_0_0_0_0_0, q⟩] S1x1x1x128x128.size (by rfl) y

/-- The counts' block. -/
def out8 (i : grid0.Coords) (r : Res F) : Vec F S1x2x1x8x128 .f32 :=
  View.canon [⟨Rect.unit (s := S1x2x1x8x128) ![0, 1, 0, 0, 0] S1x1x1x8x128.size inb_S1x2x1x8x128_S1x1x1x8x128_0_1_0_0_0, k0_pay1 (k0_pay82 (picks i r).2.2.2)⟩,
    ⟨Rect.unit (s := S1x2x1x8x128) ![0, 0, 0, 0, 0] S1x1x1x8x128.size inb_S1x2x1x8x128_S1x1x1x8x128_0_0_0_0_0, k0_pay80 (picks i r).2.1⟩]

theorem cover8 (p q : Vec F S1x1x1x8x128 .f32) (y : S1x2x1x8x128.Idx) :
    ∃ pc ∈ ([⟨Rect.unit (s := S1x2x1x8x128) ![0, 1, 0, 0, 0] S1x1x1x8x128.size inb_S1x2x1x8x128_S1x1x1x8x128_0_1_0_0_0, p⟩,
      ⟨Rect.unit (s := S1x2x1x8x128) ![0, 0, 0, 0, 0] S1x1x1x8x128.size inb_S1x2x1x8x128_S1x1x1x8x128_0_0_0_0_0, q⟩] : List (View.Piece (Elt F) S1x2x1x8x128 .f32)), y ∈ pc.1.set :=
  View.cover_of_tiled [⟨Rect.unit (s := S1x2x1x8x128) ![0, 1, 0, 0, 0] S1x1x1x8x128.size inb_S1x2x1x8x128_S1x1x1x8x128_0_1_0_0_0, p⟩,
      ⟨Rect.unit (s := S1x2x1x8x128) ![0, 0, 0, 0, 0] S1x1x1x8x128.size inb_S1x2x1x8x128_S1x1x1x8x128_0_0_0_0_0, q⟩] S1x1x1x8x128.size (by rfl) y

/-- The body's triple at a branch's result `r`: from the ten buffers held whole, the inputs at given contents, it returns
    with the inputs unchanged, the three results at what `r` gives, and the scratch buffer at something. -/
def Sound (c : Dev nD) (E : Set ℕ) (i : grid0.Coords) (x2 : Vec F S128x512 .bf16) (x3 : Vec F S1x2x512x128 .bf16) (x4 : Vec F S1x2x64x512 .bf16) (x5 : Vec F S128x512 .bf16) (x6 : Vec F S512x512 .f32) (x7 : Vec F S2x512x512 .f32) (r : Res F) : Prop :=
  ∀ (arg2 : Memref sig .tc .vmem S128x512 .bf16) (harg2 : arg2.IsWhole) (arg3 : Memref sig .tc .vmem S1x2x512x128 .bf16) (harg3 : arg3.IsWhole) (arg4 : Memref sig .tc .vmem S1x2x64x512 .bf16) (harg4 : arg4.IsWhole) (arg5 : Memref sig .tc .vmem S128x512 .bf16) (harg5 : arg5.IsWhole) (arg6 : Memref sig .tc .vmem S512x512 .f32) (harg6 : arg6.IsWhole) (arg7 : Memref sig .tc .vmem S2x512x512 .f32) (harg7 : arg7.IsWhole) (arg8 : Memref sig .tc .vmem S128x512 .bf16) (harg8 : arg8.IsWhole) (arg9 : Memref sig .tc .vmem S1x2x1x128x128 .f32) (harg9 : arg9.IsWhole) (arg10 : Memref sig .tc .vmem S1x2x1x8x128 .f32) (harg10 : arg10.IsWhole) (arg11 : Memref sig .tc .vmem S512x128 .f32) (harg11 : arg11.IsWhole) (K : PUnit → sProp 𝕄),
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (out6 r) ∗ owns (c : Thread nD τ) arg9 fullShare (out7 i r) ∗ owns (c : Thread nD τ) arg10 fullShare (out8 i r) ∗ (∃ d, owns (c : Thread nD τ) arg11 fullShare d)) -∗ K ⟨⟩))
      ⊢ wp frame (wpE (defs₀ (F := F)) Variants.none c none) E (cc0_nsa_select i arg2 harg2 arg3 harg3 arg4 harg4 arg5 harg5 arg6 harg6 arg7 harg7 arg8 harg8 arg9 harg9 arg10 harg10 arg11 harg11) K

set_option maxHeartbeats 1000000 in
/-- The branch of 512 rows. -/
theorem sound512 (c : Dev nD) (E : Set ℕ) (i : grid0.Coords) (x2 : Vec F S128x512 .bf16) (x3 : Vec F S1x2x512x128 .bf16) (x4 : Vec F S1x2x64x512 .bf16) (x5 : Vec F S128x512 .bf16) (x6 : Vec F S512x512 .f32) (x7 : Vec F S2x512x512 .f32) (h1 : cond1 i) (h2 : cond2 i) (h3 : cond3 i) :
    Sound c E i x2 x3 x4 x5 x6 x7 (res512 i x2 x3 x4 x5 x6 x7) := by
  intro arg2 harg2 arg3 harg3 arg4 harg4 arg5 harg5 arg6 harg6 arg7 harg7 arg8 harg8 arg9 harg9 arg10 harg10 arg11 harg11 K
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, Hk⟩
  subst hf2 hf3 hf4 hf5 hf6 hf7
  sl_exec_parts! (disch := first | sl_exact h1 | sl_exact h2 | sl_exact h3)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    refine (View.read_writes_eq_canon _ _ _ (cover6 _)).trans ?_
    exact congrArg out6of
      (View.readCov_eq_canon arg11.view (otPieces (res512 i (View.read (Elt F) arg2.view f2) (View.read (Elt F) arg3.view f3) (View.read (Elt F) arg4.view f4) (View.read (Elt F) arg5.view f5) (View.read (Elt F) arg6.view f6) (View.read (Elt F) arg7.view f7)))
        (Rect.unit (s := S512x128) ![0, 0] S512x128.size inb_S512x128_S512x128_0_0).toLoadRect (fun j => ot_cover _ _))
  isplitl [H9]
  · iexists _; isplitr
    swap; · iexact H9
    ipureintro
    exact (View.read_writes_eq_canon _ _ _ (cover7 _ _)).trans rfl
  isplitl [H10]
  · iexists _; isplitr
    swap; · iexact H10
    ipureintro
    exact (View.read_writes_eq_canon _ _ _ (cover8 _ _)).trans rfl
  iexists _; iexists _; isplitr; swap; · iexact H11
  ipureintro; rfl

set_option maxHeartbeats 1000000 in
/-- The branch of 384 rows. -/
theorem sound384 (c : Dev nD) (E : Set ℕ) (i : grid0.Coords) (x2 : Vec F S128x512 .bf16) (x3 : Vec F S1x2x512x128 .bf16) (x4 : Vec F S1x2x64x512 .bf16) (x5 : Vec F S128x512 .bf16) (x6 : Vec F S512x512 .f32) (x7 : Vec F S2x512x512 .f32) (h1 : cond1 i) (h2 : cond2 i) (h3 : ¬ cond3 i) :
    Sound c E i x2 x3 x4 x5 x6 x7 (res384 i x2 x3 x4 x5 x6 x7) := by
  intro arg2 harg2 arg3 harg3 arg4 harg4 arg5 harg5 arg6 harg6 arg7 harg7 arg8 harg8 arg9 harg9 arg10 harg10 arg11 harg11 K
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, Hk⟩
  subst hf2 hf3 hf4 hf5 hf6 hf7
  sl_exec_parts! (disch := first | sl_exact h1 | sl_exact h2 | sl_exact h3)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    refine (View.read_writes_eq_canon _ _ _ (cover6 _)).trans ?_
    exact congrArg out6of
      (View.readCov_eq_canon arg11.view (otPieces (res384 i (View.read (Elt F) arg2.view f2) (View.read (Elt F) arg3.view f3) (View.read (Elt F) arg4.view f4) (View.read (Elt F) arg5.view f5) (View.read (Elt F) arg6.view f6) (View.read (Elt F) arg7.view f7)))
        (Rect.unit (s := S512x128) ![0, 0] S512x128.size inb_S512x128_S512x128_0_0).toLoadRect (fun j => ot_cover _ _))
  isplitl [H9]
  · iexists _; isplitr
    swap; · iexact H9
    ipureintro
    exact (View.read_writes_eq_canon _ _ _ (cover7 _ _)).trans rfl
  isplitl [H10]
  · iexists _; isplitr
    swap; · iexact H10
    ipureintro
    exact (View.read_writes_eq_canon _ _ _ (cover8 _ _)).trans rfl
  iexists _; iexists _; isplitr; swap; · iexact H11
  ipureintro; rfl

set_option maxHeartbeats 1000000 in
/-- The branch of 256 rows. -/
theorem sound256 (c : Dev nD) (E : Set ℕ) (i : grid0.Coords) (x2 : Vec F S128x512 .bf16) (x3 : Vec F S1x2x512x128 .bf16) (x4 : Vec F S1x2x64x512 .bf16) (x5 : Vec F S128x512 .bf16) (x6 : Vec F S512x512 .f32) (x7 : Vec F S2x512x512 .f32) (h1 : cond1 i) (h2 : ¬ cond2 i) :
    Sound c E i x2 x3 x4 x5 x6 x7 (res256 i x2 x3 x4 x5 x6 x7) := by
  intro arg2 harg2 arg3 harg3 arg4 harg4 arg5 harg5 arg6 harg6 arg7 harg7 arg8 harg8 arg9 harg9 arg10 harg10 arg11 harg11 K
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, Hk⟩
  subst hf2 hf3 hf4 hf5 hf6 hf7
  sl_exec_parts! (disch := first | sl_exact h1 | sl_exact h2)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    refine (View.read_writes_eq_canon _ _ _ (cover6 _)).trans ?_
    exact congrArg out6of
      (View.readCov_eq_canon arg11.view (otPieces (res256 i (View.read (Elt F) arg2.view f2) (View.read (Elt F) arg3.view f3) (View.read (Elt F) arg4.view f4) (View.read (Elt F) arg5.view f5) (View.read (Elt F) arg6.view f6) (View.read (Elt F) arg7.view f7)))
        (Rect.unit (s := S512x128) ![0, 0] S512x128.size inb_S512x128_S512x128_0_0).toLoadRect (fun j => ot_cover _ _))
  isplitl [H9]
  · iexists _; isplitr
    swap; · iexact H9
    ipureintro
    exact (View.read_writes_eq_canon _ _ _ (cover7 _ _)).trans rfl
  isplitl [H10]
  · iexists _; isplitr
    swap; · iexact H10
    ipureintro
    exact (View.read_writes_eq_canon _ _ _ (cover8 _ _)).trans rfl
  iexists _; iexists _; isplitr; swap; · iexact H11
  ipureintro; rfl

set_option maxHeartbeats 1000000 in
/-- The branch of 128 rows. -/
theorem sound128 (c : Dev nD) (E : Set ℕ) (i : grid0.Coords) (x2 : Vec F S128x512 .bf16) (x3 : Vec F S1x2x512x128 .bf16) (x4 : Vec F S1x2x64x512 .bf16) (x5 : Vec F S128x512 .bf16) (x6 : Vec F S512x512 .f32) (x7 : Vec F S2x512x512 .f32) (h1 : ¬ cond1 i) :
    Sound c E i x2 x3 x4 x5 x6 x7 (res128 i x2 x3 x4 x5 x6 x7) := by
  intro arg2 harg2 arg3 harg3 arg4 harg4 arg5 harg5 arg6 harg6 arg7 harg7 arg8 harg8 arg9 harg9 arg10 harg10 arg11 harg11 K
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, Hk⟩
  subst hf2 hf3 hf4 hf5 hf6 hf7
  sl_exec_parts! (disch := first | sl_exact h1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    refine (View.read_writes_eq_canon _ _ _ (cover6 _)).trans ?_
    exact congrArg out6of
      (View.readCov_eq_canon arg11.view (otPieces (res128 i (View.read (Elt F) arg2.view f2) (View.read (Elt F) arg3.view f3) (View.read (Elt F) arg4.view f4) (View.read (Elt F) arg5.view f5) (View.read (Elt F) arg6.view f6) (View.read (Elt F) arg7.view f7)))
        (Rect.unit (s := S512x128) ![0, 0] S512x128.size inb_S512x128_S512x128_0_0).toLoadRect (fun j => ot_cover _ _))
  isplitl [H9]
  · iexists _; isplitr
    swap; · iexact H9
    ipureintro
    exact (View.read_writes_eq_canon _ _ _ (cover7 _ _)).trans rfl
  isplitl [H10]
  · iexists _; isplitr
    swap; · iexact H10
    ipureintro
    exact (View.read_writes_eq_canon _ _ _ (cover8 _ _)).trans rfl
  iexists _; iexists _; isplitr; swap; · iexact H11
  ipureintro; rfl

/-- The body at any point. -/
theorem sound (c : Dev nD) (E : Set ℕ) (i : grid0.Coords) (x2 : Vec F S128x512 .bf16) (x3 : Vec F S1x2x512x128 .bf16) (x4 : Vec F S1x2x64x512 .bf16) (x5 : Vec F S128x512 .bf16) (x6 : Vec F S512x512 .f32) (x7 : Vec F S2x512x512 .f32) :
    Sound c E i x2 x3 x4 x5 x6 x7 (res i x2 x3 x4 x5 x6 x7) := by
  unfold res
  by_cases h1 : cond1 i
  · rw [if_pos h1]
    by_cases h2 : cond2 i
    · rw [if_pos h2]
      by_cases h3 : cond3 i
      · rw [if_pos h3]; exact sound512 c E i x2 x3 x4 x5 x6 x7 h1 h2 h3
      · rw [if_neg h3]; exact sound384 c E i x2 x3 x4 x5 x6 x7 h1 h2 h3
    · rw [if_neg h2]; exact sound256 c E i x2 x3 x4 x5 x6 x7 h1 h2
  · rw [if_neg h1]; exact sound128 c E i x2 x3 x4 x5 x6 x7 h1

end Cert.KernelIdeal.Nsa

end
-- ==== Proof.Run.lean ====
/-
  The selection kernel's launch: the pipeline's proof data (each input window's block at a point left in place, each
  result window's block what `Body.lean` says the body leaves), the body obligation, and the run: every weakly fair
  execution terminates with every result array at the blocks written back, and every semaphore at zero.
-/
module

public import proofs.«01_k».proof.Proof.Body
public import Idealize.ShloMosaic.Lib.Pipeline.KitQuiescent

@[expose] public section

set_option maxRecDepth 16384

noncomputable section

namespace Cert.KernelIdeal.Nsa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the branch taken at a point hands on, over the point's input blocks. -/
def resAt (c : Dev nD) (t : Fin cfg0.N) : Res F :=
  res (grid0.coords t) (iblk m c 0 t) (iblk m c 1 t) (iblk m c 2 t) (iblk m c 3 t) (iblk m c 4 t) (iblk m c 5 t)

/-- The proof data: the arrays as the region finds them, the inputs' blocks left in place, the results' blocks what the
    body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 (resAt m c t)
    | ⟨7, _⟩ => out7 (grid0.coords t) (resAt m c t)
    | ⟨8, _⟩ => out8 (grid0.coords t) (resAt m c t)
  Φ _ := Pipeline.ΦA spec0 c
  q _ := fullShare
  owed _ := 0

theorem A_eq (c : Dev nD) (w : Fin cfg0.W) : (dats m 0 c).A w = V m c (Pipeline.arrRef spec0 w) := rfl
theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (A_eq m c 5) (after_5 m c) t d
theorem after_6 (c : Dev nD) (t : Fin cfg0.N) : (dats m 0 c).after 6 t = out6 (resAt m c t) := by dsimp only [dats]
theorem after_7 (c : Dev nD) (t : Fin cfg0.N) : (dats m 0 c).after 7 t = out7 (grid0.coords t) (resAt m c t) := by dsimp only [dats]
theorem after_8 (c : Dev nD) (t : Fin cfg0.N) : (dats m 0 c).after 8 t = out8 (grid0.coords t) (resAt m c t) := by dsimp only [dats]

/-- The scratch buffer owned at some value is held at some contents. -/
theorem scratch_of (c : Dev nD) : (iprop(∃ d, owns (c : Thread nD τ) (Memref.whole cc0_scratch0) fullShare d) : sProp 𝕄)
    ⊢ iprop(∃ f : Buf (Elt F) ((c : Thread nD τ).loc cc0_scratch0), ((c : Thread nD τ).loc cc0_scratch0) ↦{fullShare} f) := by
  simp only [owns_whole_eq]
  iintro ⟨%d, %f, -, H⟩
  iexists f; iexact H

set_option maxHeartbeats 2000000 in
/-- The library's body obligation: the nine staging buffers and the scratch buffer taken apart, `sound` applied, its post
    put together again. -/
theorem body_obligation (c : Dev nD) : BodyObligation (dats m 0 c) (defs₀ (F := F)) Variants.none () Set.univ := fun t => by
  rw [bigSep_W0, bigSep_W0]
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl]
  unfold Pipeline.ΦA; rw [scopedRest0_eq]
  simp only [before_0, before_1, before_2, before_3, before_4, before_5, after_0, after_1, after_2, after_3, after_4, after_5, after_6, after_7, after_8]
  iintro ⟨⟨⟨%fs, Hs⟩, Hg⟩, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound (F := F) c Set.univ (grid0.coords t) (iblk m c 0 t) (iblk m c 1 t) (iblk m c 2 t) (iblk m c 3 t) (iblk m c 4 t) (iblk m c 5 t)
    _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) (Memref.whole cc0_scratch0) (Memref.isWhole_whole _) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [Hs]
  · iexists _; rw [owns_whole_eq]; iexists fs; isplitr; swap; (· iexact Hs); ipureintro; rfl
  iintro ⟨H0, H1, H2, H3, H4, H5, H6, H7, H8, ⟨%ds, Hs⟩⟩
  isplitl [Hs Hg]
  · isplitr [Hg]
    · iapply (scratch_of (F := F) c); iexists ds; iexact Hs
    · iexact Hg
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem share_eq (c : Dev nD) (w : Fin cfg0.W) : (dats m 0 c).share w = fullShare := by
  unfold Dat.share; split <;> rfl

set_option backward.isDefEq.respectTransparency.types false in
/-- Every weakly fair execution terminates, with the result arrays at the blocks written back, the rest as the region
    found it, and every semaphore at zero. -/
theorem run_main : θ_run defs (onTc (τ := τ) (main (F := F))) (s₀ m ρ)
    (fun r => Pipeline.FramePost cfgs (dats m) 0 (V m) r ∧ r.2.sem = fun _ => 0) :=
  Pipeline.θ_run_frame cfgs (dats m) 0 launch0 defs₀ Variants.none m ρ main
    (hbody := fun c => (body_obligation m c).loose) (hshare := share_eq m) (howed := fun _ _ => rfl)
    (V := V m) (hmain := hmain m Variants.none) (hA := fun _ _ => rfl) (hΦ := fun _ _ => rfl) (Q' := _)

/-- The run's frame: the arguments as launched, every semaphore at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r (h : _ ∧ _) => ⟨fun c =>
      ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩)
    (run_main m ρ)

end Cert.KernelIdeal.Nsa

end
-- ==== Proof.Frames.lean ====
/-
  The frame claims: the kernel at words and at extended reals from its two runs, the reference from its host operations;
  and the two named constants.
-/
module

public import proofs.«01_k».proof.Defs
public import proofs.«01_k».proof.Proof.Run
public import proofs.«01_k».proof.Proof.RunBits
public import proofs.«01_k».proof.Proof.Gen.ReferenceIdeal
public import proofs.«01_k».proof.Proof.Gen.Reference
public import Idealize.ShloMosaic.Lib.Claim

@[expose] public section

set_option maxRecDepth 16384

noncomputable section

namespace Cert.Frames

open Idealize.ShloMosaic Idealize.SL.Sem

attribute [local instance] Cert.Kernel.Gen.facts Cert.KernelIdeal.Gen.facts Cert.ReferenceIdeal.Gen.facts Cert.Reference.Gen.facts

theorem kernel : Cert.quiescent_Kernel := fun m g _ => Cert.Kernel.Nsa.frame_main m g

theorem kernelIdeal : Cert.quiescent_KernelIdeal := fun m g _ => Cert.KernelIdeal.Nsa.frame_main m g

set_option maxHeartbeats 3200000 in
theorem referenceIdeal : Cert.quiescent_ReferenceIdeal := by
  intro m g _
  hlo_run
  · exact fun _ => ⟨trivial, trivial, trivial⟩
  · exact sem_eq_zero_of_no_sems (sig := Cert.ReferenceIdeal.sig) (by decide) _

set_option maxHeartbeats 3200000 in
theorem reference : Cert.quiescent_Reference := by
  intro m g _
  hlo_run
  · exact fun _ => ⟨trivial, trivial, trivial⟩
  · exact sem_eq_zero_of_no_sems (sig := Cert.Reference.sig) (by decide) _

/-- The two named constants are the words they were printed from, and negative infinity at extended reals. -/
theorem named : Cert.preserves_Kernel_KernelIdeal := by
  unfold Cert.preserves_Kernel_KernelIdeal
  refine ⟨?_, ?_⟩ <;> exact IdealRules.named_const.statement _ _ _ _ _ rfl

end Cert.Frames

end
-- ==== Proof.Softmax.lean ====
/-
  The softmax over visible keys, on the extended reals, apart from either program. A key that is not visible counts as
  `⊥`; `prob n v x k` is the weight of key `k` among `n` keys with scores `x`, of which `v` says which are visible, and
  it is zero for a row that sees no key. Proved here: the weights are real numbers between zero and one; keys that are
  not visible may be left out or added; scaling the scores by `1 / log 2`, shifting them by a real number and taking
  powers of two gives the same weights; and a product with a reciprocal is the division.
-/
module

public import Idealize.ShloMosaic.PureOps.Ideal

@[expose] public section

noncomputable section

namespace Cert.Softmax

open Idealize.ShloMosaic

variable (n : ℕ) (v : ℕ → Prop) [DecidablePred v] (x : ℕ → EReal)

/-- A score, or `⊥` where the key is not visible. -/
def masked (k : ℕ) : EReal := if v k then x k else ⊥
/-- The greatest score. -/
def top : EReal := Finset.univ.fold max ⊥ fun k : Fin n => masked v x k
/-- The exponential of a score's distance to the greatest. -/
def wt (k : ℕ) : EReal := Ideal.exp (masked v x k - top n v x)
/-- The sum of these. -/
def den : EReal := ∑ k : Fin n, wt n v x k
/-- A key's weight. -/
def prob (k : ℕ) : EReal := Ideal.div (wt n v x k) (if 0 < den n v x then den n v x else 1)

theorem top_eq_sup : top n v x = Finset.univ.sup fun k : Fin n => masked v x k := rfl

theorem le_top {k : ℕ} (hk : k < n) : masked v x k ≤ top n v x := by
  rw [top_eq_sup]
  exact Finset.le_sup (f := fun k : Fin n => masked v x k) (Finset.mem_univ (⟨k, hk⟩ : Fin n))

theorem wt_of_not {k : ℕ} (h : ¬ v k) : wt n v x k = 0 := by
  simp [wt, masked, h, sub_eq_add_neg]

theorem prob_of_not {k : ℕ} (h : ¬ v k) : prob n v x k = 0 := by
  rw [prob, wt_of_not n v x h]
  split
  · rename_i h0
    rw [Ideal.div, if_neg (ne_of_gt h0), zero_mul]
  · simp [Ideal.div]

/-- An extended real is `⊥`, a number or `⊤`. -/
theorem tri (y : EReal) : y = ⊥ ∨ (∃ r : ℝ, y = r) ∨ y = ⊤ := by
  induction y using EReal.rec with
  | bot => exact Or.inl rfl
  | coe r => exact Or.inr (Or.inl ⟨r, rfl⟩)
  | top => exact Or.inr (Or.inr rfl)

/-- Either every weight is zero (no visible key, or an infinite score), or the greatest score is a real number that a key
    attains. -/
theorem cases : (∀ k, k < n → wt n v x k = 0) ∨
    ∃ r : ℝ, top n v x = r ∧ (∀ k, k < n → ∃ w : ℝ, wt n v x k = w ∧ 0 ≤ w ∧ w ≤ 1) ∧ ∃ k, k < n ∧ wt n v x k = 1 := by
  rcases tri (top n v x) with h | ⟨r, h⟩ | h
  · left
    intro k hk
    have : masked v x k = ⊥ := le_bot_iff.mp (by rw [← h]; exact le_top n v x hk)
    simp [wt, this, sub_eq_add_neg]
  · right
    refine ⟨r, h, fun k hk => ?_, ?_⟩
    · have hle := le_top n v x hk
      rw [h] at hle
      rcases tri (masked v x k) with hm | ⟨s, hm⟩ | hm
      · exact ⟨0, by rw [wt, hm]; exact (congrArg Ideal.exp (EReal.bot_sub _)).trans (by simp), le_refl _, zero_le_one⟩
      · rw [hm] at hle
        have hsr : s ≤ r := EReal.coe_le_coe_iff.mp hle
        refine ⟨Real.exp (s - r), ?_, (Real.exp_pos _).le, Real.exp_le_one_iff.mpr (by linarith)⟩
        rw [wt, hm, h, ← EReal.coe_sub, Ideal.exp_coe]
      · rw [hm] at hle
        exact absurd (top_le_iff.mp hle) (EReal.coe_ne_top r)
    · have hne : (Finset.univ : Finset (Fin n)).Nonempty := by
        by_contra hc
        rw [Finset.not_nonempty_iff_eq_empty] at hc
        rw [top_eq_sup, hc, Finset.sup_empty] at h
        exact absurd h.symm (EReal.coe_ne_bot r)
      obtain ⟨k, -, hk⟩ := Finset.exists_mem_eq_sup _ hne fun k : Fin n => masked v x k
      refine ⟨k, k.2, ?_⟩
      rw [wt, ← hk, ← top_eq_sup, h, ← EReal.coe_sub, sub_self, Ideal.exp_coe, Real.exp_zero, EReal.coe_one]
  · left
    intro k hk
    rw [wt, h, sub_eq_add_neg, EReal.neg_top, EReal.add_bot, Ideal.exp_bot]

/-- A finite sum of numbers is a number. -/
theorem sum_coe {ι : Type} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

/-- In the second case the sum of the weights is a real number at least one. -/
theorem den_coe (hw : ∀ k, k < n → ∃ w : ℝ, wt n v x k = w ∧ 0 ≤ w ∧ w ≤ 1) (h1 : ∃ k, k < n ∧ wt n v x k = 1) :
    ∃ d : ℝ, den n v x = d ∧ 1 ≤ d := by
  choose w hw0 hw1 hw2 using fun k : Fin n => hw k k.2
  refine ⟨∑ k, w k, ?_, ?_⟩
  · rw [den, ← sum_coe]
    exact Finset.sum_congr rfl fun k _ => hw0 k
  · obtain ⟨k, hk, h1⟩ := h1
    have : w ⟨k, hk⟩ = 1 := EReal.coe_eq_coe_iff.mp ((hw0 ⟨k, hk⟩).symm.trans (h1.trans EReal.coe_one.symm))
    rw [← this]
    exact Finset.single_le_sum (f := w) (fun i _ => hw1 i) (Finset.mem_univ _)

/-- A weight is a real number between zero and one. -/
theorem prob_coe {k : ℕ} (hk : k < n) : ∃ p : ℝ, prob n v x k = p ∧ 0 ≤ p ∧ p ≤ 1 := by
  rcases cases n v x with h | ⟨r, hr, hw, h1⟩
  · refine ⟨0, ?_, le_refl _, zero_le_one⟩
    have hd : den n v x = 0 := Finset.sum_eq_zero fun i _ => h i i.2
    rw [prob, h k hk, hd, if_neg (lt_irrefl _)]
    simp [Ideal.div]
  · obtain ⟨d, hd, hd1⟩ := den_coe n v x hw h1
    obtain ⟨w, hwk, hw0, hw1⟩ := hw k hk
    have hd0 : (0 : EReal) < (d : EReal) := EReal.coe_pos.mpr (by linarith)
    refine ⟨w / d, ?_, div_nonneg hw0 (by linarith), (div_le_one (by linarith)).mpr (by linarith)⟩
    rw [prob, hd, if_pos hd0, hwk, Ideal.div, if_neg (ne_of_gt hd0), ← EReal.coe_inv, ← EReal.coe_mul, div_eq_mul_inv]

/-- The same weight by a reciprocal, guarded by "some score is above `⊥`". -/
theorem mul_recip {k : ℕ} (hk : k < n) :
    wt n v x k * (if ⊥ < top n v x then Ideal.div 1 (den n v x) else 0) = prob n v x k := by
  rcases cases n v x with h | ⟨r, hr, hw, h1⟩
  · have hd : den n v x = 0 := Finset.sum_eq_zero fun i _ => h i i.2
    rw [prob, h k hk, hd, zero_mul, if_neg (lt_irrefl _)]
    simp [Ideal.div]
  · obtain ⟨d, hd, hd1⟩ := den_coe n v x hw h1
    have hd0 : (0 : EReal) < (d : EReal) := EReal.coe_pos.mpr (by linarith)
    rw [prob, hd, if_pos hd0, hr, if_pos (EReal.bot_lt_coe r), Ideal.div, Ideal.div, if_neg (ne_of_gt hd0), if_neg (ne_of_gt hd0), one_mul]

/-! ## Keys that are not visible -/

variable {n}

theorem masked_of_not {k : ℕ} (h : ¬ v k) : masked v x k = ⊥ := if_neg h

/-- The greatest score over more keys of which none is visible. -/
theorem top_ext {n' : ℕ} (hn : ∀ k, v k → k < n) (hn' : ∀ k, v k → k < n') : top n v x = top n' v x := by
  have key : ∀ {a b : ℕ}, (∀ k, v k → k < b) → top a v x ≤ top b v x := fun {a b} hb => by
    rw [top_eq_sup]
    refine Finset.sup_le fun k _ => ?_
    by_cases hv : v k
    · exact le_top b v x (hb k hv)
    · rw [masked_of_not v x hv]; exact bot_le
  exact le_antisymm (key hn') (key hn)

/-- A sum over keys, of something that is zero where the key is not visible. -/
theorem sum_ext {n' : ℕ} (f : ℕ → EReal) (hn : ∀ k, v k → k < n) (hn' : ∀ k, v k → k < n') (hf : ∀ k, ¬ v k → f k = 0) :
    ∑ k : Fin n, f k = ∑ k : Fin n', f k := by
  rw [Fin.sum_univ_eq_sum_range f n, Fin.sum_univ_eq_sum_range f n']
  have key : ∀ {a : ℕ}, (∀ k, v k → k < a) → ∑ k ∈ Finset.range a, f k = ∑ k ∈ (Finset.range a).filter v, f k := fun {a} _ =>
    (Finset.sum_filter_of_ne fun k _ hk => by by_contra hv; exact hk (hf k hv)).symm
  rw [key hn, key hn']
  refine Finset.sum_congr ?_ fun _ _ => rfl
  ext k
  simp only [Finset.mem_filter, Finset.mem_range]
  exact ⟨fun h => ⟨hn' k h.2, h.2⟩, fun h => ⟨hn k h.2, h.2⟩⟩

theorem wt_ext {n' : ℕ} (hn : ∀ k, v k → k < n) (hn' : ∀ k, v k → k < n') (k : ℕ) : wt n v x k = wt n' v x k := by
  rw [wt, wt, top_ext v x hn hn']

theorem den_ext {n' : ℕ} (hn : ∀ k, v k → k < n) (hn' : ∀ k, v k → k < n') : den n v x = den n' v x := by
  rw [den, sum_ext v (fun k => wt n v x k) hn hn' fun k h => wt_of_not n v x h, den]
  exact Finset.sum_congr rfl fun k _ => wt_ext v x hn hn' k

theorem prob_ext {n' : ℕ} (hn : ∀ k, v k → k < n) (hn' : ∀ k, v k → k < n') (k : ℕ) : prob n v x k = prob n' v x k := by
  rw [prob, prob, wt_ext v x hn hn', den_ext v x hn hn']

/-! ## Powers of two -/

/-- A power of two of a scaled difference is an exponential. -/
theorem exp2_scaled {c : ℝ} (hc : c * Real.log 2 = 1) (y : EReal) : Ideal.exp2 (c * y) = Ideal.exp y := by
  have h2 : 0 < Real.log 2 := Real.log_pos one_lt_two
  have hc0 : 0 < c := by
    by_contra h
    nlinarith
  rcases tri y with rfl | ⟨r, rfl⟩ | rfl
  · exact (congrArg Ideal.exp2 (EReal.coe_mul_bot_of_pos hc0)).trans rfl
  · rw [← EReal.coe_mul, Ideal.exp2_coe, Ideal.exp_coe]
    refine congrArg _ ?_
    show (2 : ℝ) ^ (c * r) = Real.exp r
    rw [Real.rpow_def_of_pos two_pos]
    congr 1
    calc Real.log 2 * (c * r) = (c * Real.log 2) * r := by ring
      _ = r := by rw [hc, one_mul]
  · exact (congrArg Ideal.exp2 (EReal.coe_mul_top_of_pos hc0)).trans rfl

/-- Scaling and shifting scores leaves their differences scaled. -/
theorem scaled_sub {c : ℝ} (hc : 0 < c) (a : ℝ) (y z : EReal) : (c : EReal) * (y + a) - c * (z + a) = c * (y - z) := by
  rcases tri y with rfl | ⟨y, rfl⟩ | rfl <;> rcases tri z with rfl | ⟨z, rfl⟩ | rfl <;>
    simp [EReal.coe_mul_bot_of_pos hc, EReal.coe_mul_top_of_pos hc, sub_eq_add_neg, EReal.neg_top, EReal.neg_bot,
      ← EReal.coe_add, ← EReal.coe_mul, ← EReal.coe_neg]
  all_goals ring

/-- Scaling and shifting the scores scales and shifts their maximum. -/
theorem masked_scaled {c : ℝ} (hc : 0 < c) (a : ℝ) (x' : ℕ → EReal) (hx : ∀ k, v k → x' k = c * (x k + a)) (k : ℕ) :
    masked v x' k = c * (masked v x k + a) := by
  unfold masked
  split
  · exact hx k ‹_›
  · rw [EReal.bot_add, EReal.coe_mul_bot_of_pos hc]

theorem scaled_mono {c : ℝ} (hc : 0 < c) (a : ℝ) : Monotone fun y : EReal => (c : EReal) * (y + a) := fun y z h =>
  mul_le_mul_of_nonneg_left (add_le_add_left h _) (EReal.coe_nonneg.mpr hc.le)

theorem top_scaled {c : ℝ} (hc : 0 < c) (a : ℝ) (x' : ℕ → EReal) (hx : ∀ k, v k → x' k = c * (x k + a)) :
    top n v x' = c * (top n v x + a) := by
  rw [top_eq_sup, top_eq_sup, Finset.comp_sup_eq_sup_comp_of_is_total (fun y : EReal => (c : EReal) * (y + a)) (scaled_mono hc a)
    (by rw [EReal.bot_add, EReal.coe_mul_bot_of_pos hc])]
  exact Finset.sup_congr rfl fun k _ => masked_scaled v x hc a x' hx k

variable (n)

/-- The weights before normalisation, as powers of two of scaled and shifted scores. -/
theorem wt_exp2 {c : ℝ} (hc : c * Real.log 2 = 1) (a : ℝ) (x' : ℕ → EReal) (hx : ∀ k, v k → x' k = c * (x k + a)) (k : ℕ) :
    Ideal.exp2 (masked v x' k - top n v x') = wt n v x k := by
  have hc0 : 0 < c := by
    have := Real.log_pos one_lt_two
    by_contra h
    nlinarith
  rw [masked_scaled v x hc0 a x' hx, top_scaled v x hc0 a x' hx, scaled_sub hc0, exp2_scaled hc, wt]

/-- Some scaled and shifted score is above `⊥` exactly where a score is. -/
theorem bot_lt_top_scaled {c : ℝ} (hc : 0 < c) (a : ℝ) (x' : ℕ → EReal) (hx : ∀ k, v k → x' k = c * (x k + a)) :
    (⊥ < top n v x') = (⊥ < top n v x) := by
  rw [top_scaled v x hc a x' hx]
  rcases tri (top n v x) with h | ⟨r, h⟩ | h <;> rw [h]
  · rw [EReal.bot_add, EReal.coe_mul_bot_of_pos hc]
  · rw [← EReal.coe_add, ← EReal.coe_mul]; exact propext ⟨fun _ => EReal.bot_lt_coe _, fun _ => EReal.bot_lt_coe _⟩
  · rw [EReal.top_add_coe, EReal.coe_mul_top_of_pos hc]

/-- THE KERNEL'S WEIGHT: powers of two of scaled and shifted scores, times the guarded reciprocal of their sum. -/
theorem prob_exp2 {c : ℝ} (hc : c * Real.log 2 = 1) (a : ℝ) (x' : ℕ → EReal) (hx : ∀ k, v k → x' k = c * (x k + a)) {k : ℕ} (hk : k < n) :
    Ideal.exp2 (masked v x' k - top n v x')
        * (if ⊥ < top n v x' then Ideal.div 1 (∑ l : Fin n, Ideal.exp2 (masked v x' l - top n v x')) else 0)
      = prob n v x k := by
  have hc0 : 0 < c := by
    have := Real.log_pos one_lt_two
    by_contra h
    nlinarith
  have hs : ∑ l : Fin n, Ideal.exp2 (masked v x' l - top n v x') = den n v x :=
    Finset.sum_congr rfl fun l _ => wt_exp2 n v x hc a x' hx l
  rw [wt_exp2 n v x hc a x' hx, hs, ← mul_recip n v x hk]
  simp only [bot_lt_top_scaled n v x hc0 a x' hx]

/-- One score: the kernel folds the scale into the query and adds the distance from the tile's start. -/
theorem score_scaled {c : ℝ} (hc : 0 < c) (σ d a : ℝ) (S : EReal) :
    ((c * (1 / 8) : ℝ) : EReal) * S + ((-(σ * c) * d : ℝ) : EReal)
      = c * ((S * ((1 / 8 : ℝ) : EReal) - ((σ * (d + a) : ℝ) : EReal)) + ((σ * a : ℝ) : EReal)) := by
  have h8 : (0 : ℝ) < 1 / 8 := by norm_num
  have hc8 : 0 < c * (1 / 8) := mul_pos hc h8
  rcases tri S with rfl | ⟨s, rfl⟩ | rfl
  · rw [EReal.coe_mul_bot_of_pos hc8, EReal.bot_add, EReal.bot_mul_coe_of_pos h8, EReal.bot_sub, EReal.bot_add, EReal.coe_mul_bot_of_pos hc]
  · rw [← EReal.coe_mul, ← EReal.coe_add, ← EReal.coe_mul, ← EReal.coe_sub, ← EReal.coe_add, ← EReal.coe_mul]
    congr 1
    ring
  · rw [EReal.coe_mul_top_of_pos hc8, EReal.top_add_coe, EReal.top_mul_coe_of_pos h8, sub_eq_add_neg, ← EReal.coe_neg, EReal.top_add_coe,
      EReal.top_add_coe, EReal.coe_mul_top_of_pos hc]

/-- A real factor moves out of a sum of extended reals. -/
theorem sum_mul_right {m : ℕ} (f : Fin m → EReal) {c : ℝ} (hc : 0 < c) (g : Fin m → EReal) :
    ∑ k, f k * (g k * c) = c * ∑ k, f k * g k := by
  have hs : ∀ s : Finset (Fin m), ∑ k ∈ s, f k * (g k * c) = c * ∑ k ∈ s, f k * g k := fun s => by
    induction s using Finset.induction_on with
    | empty => simp
    | insert a s ha ih =>
      rw [Finset.sum_insert ha, Finset.sum_insert ha, ih, EReal.left_distrib_of_nonneg_of_ne_top (EReal.coe_nonneg.mpr hc.le) (EReal.coe_ne_top c)]
      congr 1
      rw [mul_comm (c : EReal), mul_assoc]
  exact hs Finset.univ

end Cert.Softmax

end
-- ==== Proof.Picks.lean ====
/-
  The selection of blocks, apart from either program. `bet w a b`: block `a` comes before block `b` by importance `w`,
  ties by position; `rank` counts the free blocks before one. Proved here: a stable sort puts `j` among the first `k`
  exactly where fewer than `k` blocks come before it; a round that takes the first of the greatest remaining blocks
  takes, in round `r`, the free block of rank `r`; and sixteen of the scores with the forced blocks on top are the
  forced blocks and the thirteen first free ones.
-/
module

public import Idealize.ShloMosaic.PureOps.Ideal
public import Idealize.ShloMosaic.Lib.SortPrefix
public import Mathlib.Order.Interval.Finset.Fin

@[expose] public section

noncomputable section

namespace Cert.Picks

open Idealize.ShloMosaic

variable {n : ℕ}

/-- Block `a` comes before block `b`: more important, or as important and earlier. -/
def bet (w : Fin n → EReal) (a b : Fin n) : Prop := w b < w a ∨ (w a = w b ∧ a < b)

theorem bet_irrefl (w : Fin n → EReal) (a : Fin n) : ¬ bet w a a := by simp [bet]
theorem bet_trans {w : Fin n → EReal} {a b c : Fin n} (h : bet w a b) (h' : bet w b c) : bet w a c := by
  rcases h with h | ⟨e, h⟩ <;> rcases h' with h' | ⟨e', h'⟩
  · exact Or.inl (h'.trans h)
  · exact Or.inl (e' ▸ h)
  · exact Or.inl (e ▸ h')
  · exact Or.inr ⟨e.trans e', h.trans h'⟩
theorem bet_total (w : Fin n → EReal) {a b : Fin n} (h : a ≠ b) : bet w a b ∨ bet w b a := by
  rcases lt_trichotomy (w a) (w b) with h1 | h1 | h1
  · exact Or.inr (Or.inl h1)
  · rcases lt_or_gt_of_ne h with h2 | h2
    · exact Or.inl (Or.inr ⟨h1, h2⟩)
    · exact Or.inr (Or.inr ⟨h1.symm, h2⟩)
  · exact Or.inl (Or.inl h1)

open Classical in
/-- How many of the blocks of `P` come before `j`. -/
def rank (w : Fin n → EReal) (P : Fin n → Prop) (j : Fin n) : ℕ := (Finset.univ.filter fun a => P a ∧ bet w a j).card

theorem rank_def (w : Fin n → EReal) (P : Fin n → Prop) (j : Fin n) [DecidablePred fun a => P a ∧ bet w a j] :
    rank w P j = (Finset.univ.filter fun a => P a ∧ bet w a j).card := by
  unfold rank
  congr!

/-! ## The sort -/

/-- A stable sort of distinct ascending positions may break ties by position. -/
theorem stableSort_ties (B B' : Fin n → Fin n → Bool) (h : ∀ a b, a < b → B b a = B' b a) :
    ∀ l : List (Fin n), l.Pairwise (· < ·) → stableSort B l = stableSort B' l
  | [], _ => rfl
  | a :: l, hl => by
    rw [List.pairwise_cons] at hl
    unfold stableSort
    rw [stableSort_ties B B' h l hl.2]
    exact insertBefore_congr B B' a _ fun b hb => h a b (hl.1 b ((perm_stableSort B' l).mem_iff.mp hb))

open Classical in
/-- THE SORT: position `j` is among the first `k` by value, the greater first, where fewer than `k` come before it. -/
theorem sorted_first (w : Fin n → EReal) (B : Fin n → Fin n → Bool) (hB : ∀ a b, B a b = decide (w b < w a)) (j : Fin n) (k : ℕ) :
    (∃ i : Fin n, i.val < k ∧ sortedFrom B i = j) ↔ rank w (fun _ => True) j < k := by
  set B' : Fin n → Fin n → Bool := fun a b => decide (bet w a b) with hB'
  have hst : StrictTotalBefore B' :=
    { irrefl := fun a => decide_eq_false (bet_irrefl w a)
      trans := fun a b c hab hbc => decide_eq_true (bet_trans (of_decide_eq_true hab) (of_decide_eq_true hbc))
      total := fun a b h => (bet_total w h).imp (fun h => decide_eq_true h) fun h => decide_eq_true h }
  have hs : sortedFrom B = sortedFrom B' := by
    have : sortPositions n B = sortPositions n B' :=
      stableSort_ties B B' (fun a b hab => by
        rw [hB, hB']
        refine decide_eq_decide.mpr ⟨Or.inl, fun h => h.resolve_right fun h' => absurd h'.2 (not_lt.mpr hab.le)⟩)
        _ (List.pairwise_lt_finRange n)
    funext i
    unfold sortedFrom
    simp only [List.get_eq_getElem, this, Fin.val_cast]
  rw [hs]
  have hord : ∀ i i' : Fin n, i < i' → bet w (sortedFrom B' i) (sortedFrom B' i') := fun i i' h => by
    have h1 := sortedFrom_noInversion B' B' (fun a b h => hst.asymm a b h) (fun _ _ h => h) hst.negTrans i i' h
    refine (bet_total w fun e => ?_).resolve_right (of_decide_eq_false h1)
    exact absurd (sortedFrom_injective B' e) h.ne
  have hcard : ∀ p : Fin n, rank w (fun _ => True) (sortedFrom B' p) = p.val := fun p => by
    have : (Finset.univ.filter fun a => True ∧ bet w a (sortedFrom B' p)) = (Finset.Iio p).image (sortedFrom B') := by
      ext a
      simp only [Finset.mem_filter, Finset.mem_univ, true_and, Finset.mem_image, Finset.mem_Iio]
      constructor
      · intro h
        obtain ⟨i, rfl⟩ := sortedFrom_surjective B' a
        refine ⟨i, ?_, rfl⟩
        rcases lt_trichotomy i p with h1 | h1 | h1
        · exact h1
        · subst h1; exact absurd h (bet_irrefl w _)
        · exact absurd (bet_trans h (hord p i h1)) (bet_irrefl w _)
      · rintro ⟨i, hi, rfl⟩
        exact hord i p hi
    rw [(rank_def _ _ _).trans (congrArg Finset.card this), Finset.card_image_of_injective _ (sortedFrom_injective B'), Fin.card_Iio]
  constructor
  · rintro ⟨i, hi, rfl⟩
    rw [hcard]; exact hi
  · intro h
    obtain ⟨p, rfl⟩ := sortedFrom_surjective B' j
    rw [hcard] at h
    exact ⟨p, h, rfl⟩

/-! ## The rounds -/

variable (w : Fin n → EReal) (P : Fin n → Prop)

theorem rank_lt {a b : Fin n} (ha : P a) (h : bet w a b) : rank w P a < rank w P b := by
  classical
  refine Finset.card_lt_card ⟨fun c hc => ?_, fun hc => ?_⟩
  · simp only [Finset.mem_filter, Finset.mem_univ, true_and] at hc ⊢
    exact ⟨hc.1, bet_trans hc.2 h⟩
  · have : a ∈ (Finset.univ.filter fun c => P c ∧ bet w c b) := by
      simp only [Finset.mem_filter, Finset.mem_univ, true_and]; exact ⟨ha, h⟩
    have := hc this
    simp only [Finset.mem_filter, Finset.mem_univ, true_and] at this
    exact bet_irrefl w a this.2

theorem rank_inj {a b : Fin n} (ha : P a) (hb : P b) (h : rank w P a = rank w P b) : a = b := by
  by_contra hne
  rcases bet_total w hne with h' | h'
  · exact absurd h (rank_lt w P ha h').ne
  · exact absurd h.symm (rank_lt w P hb h').ne

/-- The values before round `r`: a free block not yet taken keeps its importance, every other is at `lo`. -/
def work (lo : EReal) (r : ℕ) (j : Fin n) : EReal := by
  classical exact if P j ∧ r ≤ rank w P j then w j else lo

/-- Of the blocks whose value is the greatest there is a first. -/
theorem exists_first [NeZero n] (u : Fin n → EReal) : ∃ f : Fin n, u f = Finset.univ.fold max ⊥ u ∧ ∀ l, u l = Finset.univ.fold max ⊥ u → f ≤ l := by
  classical
  have hne : (Finset.univ : Finset (Fin n)).Nonempty := ⟨0, Finset.mem_univ _⟩
  obtain ⟨k, -, hk⟩ := Finset.exists_mem_eq_sup _ hne u
  have hS : (Finset.univ.filter fun l => u l = Finset.univ.fold max ⊥ u).Nonempty := ⟨k, by
    simp only [Finset.mem_filter, Finset.mem_univ, true_and]; exact hk.symm⟩
  refine ⟨_, (Finset.mem_filter.mp (Finset.min'_mem _ hS)).2, fun l hl => Finset.min'_le _ _ ?_⟩
  simp only [Finset.mem_filter, Finset.mem_univ, true_and]; exact hl

theorem le_fold_max (u : Fin n → EReal) (j : Fin n) : u j ≤ Finset.univ.fold max ⊥ u :=
  Finset.le_sup (f := u) (Finset.mem_univ j)

/-- The first of the greatest as the kernel finds it: the least position among the greatest values' (a large number for
    the others). -/
theorem first_eq [NeZero n] (u : Fin n → EReal) (big : EReal) (hbig : ∀ j : Fin n, ((j.val : ℝ) : EReal) ≤ big) (j : Fin n) :
    (((j.val : ℝ) : EReal) = Finset.univ.fold min ⊤ fun l : Fin n => if u l = Finset.univ.fold max ⊥ u then ((l.val : ℝ) : EReal) else big)
      ↔ u j = Finset.univ.fold max ⊥ u ∧ ∀ l, u l = Finset.univ.fold max ⊥ u → j ≤ l := by
  obtain ⟨f, hf, hmin⟩ := exists_first u
  have hval : (Finset.univ.fold min ⊤ fun l : Fin n => if u l = Finset.univ.fold max ⊥ u then ((l.val : ℝ) : EReal) else big) = ((f.val : ℝ) : EReal) := by
    show Finset.univ.inf (fun l : Fin n => if u l = Finset.univ.fold max ⊥ u then ((l.val : ℝ) : EReal) else big) = _
    refine le_antisymm ?_ (Finset.le_inf fun l _ => ?_)
    · refine (Finset.inf_le (Finset.mem_univ f)).trans ?_
      rw [if_pos hf]
    · split
      · exact EReal.coe_le_coe_iff.mpr (Nat.cast_le.mpr (hmin l ‹_›))
      · exact hbig f
  rw [hval]
  constructor
  · intro h
    have : j = f := Fin.ext (by exact_mod_cast h)
    subst this
    exact ⟨hf, hmin⟩
  · rintro ⟨h1, h2⟩
    rw [le_antisymm (h2 f hf) (hmin j h1)]

/-- A ROUND takes the free block of the round's number in rank. -/
theorem hit_iff {lo : EReal} (hlo : lo < 0) (hw : ∀ j, P j → 0 ≤ w j) (r : ℕ) (j : Fin n) :
    ((work w P lo r j = Finset.univ.fold max ⊥ (work w P lo r) ∧ ∀ l, work w P lo r l = Finset.univ.fold max ⊥ (work w P lo r) → j ≤ l)
        ∧ 0 ≤ Finset.univ.fold max ⊥ (work w P lo r))
      ↔ P j ∧ rank w P j = r := by
  classical
  have : NeZero n := ⟨by have := j.2; omega⟩
  have hwork : ∀ a, P a → r ≤ rank w P a → work w P lo r a = w a := fun a h h' => if_pos ⟨h, h'⟩
  have key : ∀ f, (work w P lo r f = Finset.univ.fold max ⊥ (work w P lo r) ∧ ∀ l, work w P lo r l = Finset.univ.fold max ⊥ (work w P lo r) → f ≤ l)
      → 0 ≤ Finset.univ.fold max ⊥ (work w P lo r) → P f ∧ rank w P f = r := by
    rintro f ⟨h1, h2⟩ h3
    have hf : P f ∧ r ≤ rank w P f := by
      by_contra hc
      have : work w P lo r f = lo := if_neg hc
      rw [← h1, this] at h3
      exact absurd h3 (not_le.mpr hlo)
    refine ⟨hf.1, le_antisymm ?_ hf.2⟩
    have hsub : ∀ a, P a → bet w a f → rank w P a < r := fun a ha hb => by
      by_contra hc
      have ea := hwork a ha (not_lt.mp hc)
      have ef := hwork f hf.1 hf.2
      have hle := le_fold_max (work w P lo r) a
      rw [← h1, ea, ef] at hle
      rcases hb with hb | ⟨e, hb⟩
      · exact absurd hle (not_le.mpr hb)
      · exact absurd (h2 a (by rw [ea, e, ← ef, h1])) (not_le.mpr hb)
    calc rank w P f = (Finset.univ.filter fun a => P a ∧ bet w a f).card := rfl
      _ ≤ (Finset.range r).card := Finset.card_le_card_of_injOn (rank w P)
          (fun a ha => by
            simp only [Finset.coe_filter, Finset.mem_univ, true_and, Set.mem_setOf_eq] at ha
            exact Finset.mem_coe.mpr (Finset.mem_range.mpr (hsub a ha.1 ha.2)))
          (fun a ha b hb hab => by
            simp only [Finset.coe_filter, Finset.mem_univ, true_and, Set.mem_setOf_eq] at ha hb
            exact rank_inj w P ha.1 hb.1 hab)
      _ = r := Finset.card_range r
  constructor
  · rintro ⟨h, h3⟩
    exact key j h h3
  · rintro ⟨hj, hr⟩
    have h0 : 0 ≤ Finset.univ.fold max ⊥ (work w P lo r) :=
      (hw j hj).trans ((hwork j hj hr.ge) ▸ le_fold_max (work w P lo r) j)
    obtain ⟨f, hf⟩ := exists_first (work w P lo r)
    obtain ⟨hPf, hrf⟩ := key f hf h0
    rw [rank_inj w P hj hPf (hr.trans hrf.symm)]
    exact ⟨hf, h0⟩

/-- The values after a round. -/
theorem work_succ (lo : EReal) (r : ℕ) (j : Fin n) [Decidable (P j ∧ rank w P j = r)] :
    work w P lo (r + 1) j = if P j ∧ rank w P j = r then lo else work w P lo r j := by
  classical
  unfold work
  by_cases hP : P j
  · rcases lt_trichotomy (rank w P j) r with h | h | h
    · simp [hP, h.ne, not_le.mpr h, not_le.mpr (h.trans (Nat.lt_succ_self r))]
    · simp [hP, h]
    · simp [hP, h.ne', h.le, Nat.succ_le_of_lt h]
  · simp [hP]

/-! ## Sixteen of the scores -/

/-- The blocks a query always takes: the first, its own and the one before. -/
def forced (cur : ℕ) (j : Fin n) : Prop := j.val = 0 ∨ j.val = cur ∨ j.val + 1 = cur
/-- The other blocks up to its own. -/
def free (cur : ℕ) (j : Fin n) : Prop := j.val ≤ cur ∧ ¬ forced cur j
/-- What a query takes. -/
def taken (w : Fin n → EReal) (cur : ℕ) (j : Fin n) : Prop := forced cur j ∨ (free cur j ∧ rank w (free cur) j < 13)

/-- THE REFERENCE'S CHOICE: the sixteen greatest of the scores, as far as they are not after the query. -/
theorem sixteen (w s : Fin n → EReal) {cur : ℕ} (hcur : cur < n) {hi : EReal} (hs1 : ∀ j, forced cur j → s j = hi)
    (hs2 : ∀ j, free cur j → s j = w j ∧ 0 ≤ w j ∧ w j < hi) (hs3 : ∀ j : Fin n, ¬ forced cur j → ¬ j.val ≤ cur → s j < 0) (h0 : 0 ≤ hi) (j : Fin n) :
    (rank s (fun _ => True) j < 16 ∧ j.val ≤ cur) ↔ taken w cur j := by
  classical
  have hle : ∀ j : Fin n, forced cur j → j.val ≤ cur := fun j h => by rcases h with h | h | h <;> omega
  have hlow : ∀ a : Fin n, ¬ forced cur a → s a < hi := fun a ha => by
    by_cases h : a.val ≤ cur
    · obtain ⟨h1, h2, h3⟩ := hs2 a ⟨h, ha⟩
      rw [h1]; exact h3
    · exact (hs3 a ha h).trans_le h0
  have hforcedcard : (Finset.univ.filter fun a : Fin n => forced cur a).card ≤ 3 := by
    have : (Finset.univ.filter fun a : Fin n => forced cur a).image Fin.val ⊆ {0, cur, cur - 1} := fun v hv => by
      simp only [Finset.mem_image, Finset.mem_filter, Finset.mem_univ, true_and] at hv
      obtain ⟨a, ha, rfl⟩ := hv
      simp only [Finset.mem_insert, Finset.mem_singleton]
      rcases ha with h | h | h <;> omega
    rw [← Finset.card_image_of_injective _ Fin.val_injective]
    exact (Finset.card_le_card this).trans Finset.card_le_three
  by_cases hf : forced cur j
  · refine iff_of_true ⟨?_, hle j hf⟩ (Or.inl hf)
    refine lt_of_le_of_lt ?_ (show 3 < 16 by norm_num)
    refine (Finset.card_le_card fun a ha => ?_).trans hforcedcard
    simp only [Finset.mem_filter, Finset.mem_univ, true_and] at ha ⊢
    by_contra hc
    have h1 := hlow a hc
    rw [bet, hs1 j hf] at ha
    rcases ha with h | ⟨h, _⟩
    · exact absurd h1 (not_lt.mpr h.le)
    · exact absurd h1 (by rw [h]; exact lt_irrefl _)
  · by_cases hc : j.val ≤ cur
    · have hfree : free cur j := ⟨hc, hf⟩
      have hset : (Finset.univ.filter fun a => True ∧ bet s a j)
          = (Finset.univ.filter fun a => forced cur a) ∪ (Finset.univ.filter fun a => free cur a ∧ bet w a j) := by
        ext a
        simp only [Finset.mem_filter, Finset.mem_univ, true_and, Finset.mem_union]
        obtain ⟨ej, hj0, hjhi⟩ := hs2 j hfree
        by_cases ha : forced cur a
        · refine iff_of_true ?_ (Or.inl ha)
          left; rw [hs1 a ha, ej]; exact hjhi
        · by_cases hac : a.val ≤ cur
          · obtain ⟨ea, _, _⟩ := hs2 a ⟨hac, ha⟩
            have : bet s a j ↔ bet w a j := by rw [bet, bet, ea, ej]
            rw [this]
            exact ⟨fun h => Or.inr ⟨⟨hac, ha⟩, h⟩, fun h => h.elim (fun h => absurd h ha) fun h => h.2⟩
          · have h1 := hs3 a ha hac
            refine iff_of_false (fun h => ?_) (fun h => h.elim ha fun h => hac h.1.1)
            rcases h with h | ⟨h, _⟩
            · exact absurd (h.trans h1) (not_lt.mpr (ej ▸ hj0))
            · exact absurd h1 (by rw [h, ej]; exact not_lt.mpr hj0)
      have hdisj : Disjoint (Finset.univ.filter fun a => forced cur a) (Finset.univ.filter fun a => free cur a ∧ bet w a j) := by
        rw [Finset.disjoint_filter]
        exact fun a _ h h' => h'.1.2 h
      have h3 : (Finset.univ.filter fun a : Fin n => forced cur a).card = 3 := by
        have hj : 3 ≤ cur ∧ 0 < n := by
          refine ⟨?_, by omega⟩
          by_contra h
          refine hf ?_
          unfold forced
          omega
        refine le_antisymm hforcedcard ?_
        have hsub : ({⟨0, hj.2⟩, ⟨cur, hcur⟩, ⟨cur - 1, by omega⟩} : Finset (Fin n)) ⊆ Finset.univ.filter fun a : Fin n => forced cur a := fun a ha => by
          simp only [Finset.mem_insert, Finset.mem_singleton] at ha
          refine Finset.mem_filter.mpr ⟨Finset.mem_univ _, ?_⟩
          rcases ha with rfl | rfl | rfl
          · exact Or.inl rfl
          · exact Or.inr (Or.inl rfl)
          · refine Or.inr (Or.inr ?_)
            show cur - 1 + 1 = cur
            omega
        refine le_trans (Eq.ge ?_) (Finset.card_le_card hsub)
        refine Finset.card_eq_three.mpr ⟨_, _, _, ?_, ?_, ?_, rfl⟩ <;> simp only [ne_eq, Fin.mk.injEq] <;> omega
      have hr : rank s (fun _ => True) j = 3 + rank w (free cur) j := by
        rw [(rank_def _ _ _).trans (congrArg Finset.card hset), Finset.card_union_of_disjoint hdisj, h3, rank_def w (free cur) j]
      rw [hr]
      constructor
      · rintro ⟨h, _⟩
        exact Or.inr ⟨hfree, by omega⟩
      · rintro (h | ⟨_, h⟩)
        · exact absurd h hf
        · exact ⟨by omega, hc⟩
    · exact iff_of_false (fun h => hc h.2) (fun h => h.elim hf fun h => hc h.1.1)

end Cert.Picks

end
-- ==== Proof.Spec.lean ====
/-
  What both programs compute, in terms of the queries `A0`, the compressed keys `A1` and the compressed values `A2`: each
  query's weights over the 511 compressed blocks, its attention output, its blocks' importances, and the blocks it takes.
-/
module

public import proofs.«01_k».proof.Proof.Softmax
public import proofs.«01_k».proof.Proof.Picks
public import Idealize.ShloMosaic.Lib.IdealHost
public import Idealize.ShloMosaic.Lib.WordCmp
public import Idealize.ShloMosaic.Lib.WordArith

@[expose] public section

set_option maxRecDepth 16384

noncomputable section

namespace Cert.Spec

open Idealize.ShloMosaic
open Cert.Softmax Cert.Picks

/-! ## Constants -/

theorem ofBits_two : Ideal.ofBits .f32 0x40000000#32 = ((2 : ℝ) : EReal) := by
  simp [Ideal.ofBits, Ideal.ieee]
  first | done | (rw [← EReal.coe_mul]; norm_num)
theorem ofBits_neg8 : Ideal.ofBits .f32 0xC1000000#32 = ((-8 : ℝ) : EReal) := by
  simp [Ideal.ofBits, Ideal.ieee]
  first | done | (rw [← EReal.coe_mul]; norm_num)
theorem ofBits_eight : Ideal.ofBits .f32 0x41000000#32 = ((8 : ℝ) : EReal) := by
  simp [Ideal.ofBits, Ideal.ieee]
  first | done | (rw [← EReal.coe_mul]; norm_num)
theorem ofBits_eighth : Ideal.ofBits .f32 0x3E000000#32 = ((1 / 8 : ℝ) : EReal) := by
  simp [Ideal.ofBits, Ideal.ieee]
  first | done | (rw [← EReal.coe_mul]; norm_num)
theorem ofBits_force : Ideal.ofBits .f32 0x461C4000#32 = ((10000 : ℝ) : EReal) := by
  simp [Ideal.ofBits, Ideal.ieee]
  first | done | (rw [← EReal.coe_mul]; norm_num)
theorem ofBits_neg1 : Ideal.ofBits .f32 0xBF800000#32 = ((-1 : ℝ) : EReal) := by
  simp [Ideal.ofBits, Ideal.ieee]
  first | done | (rw [← EReal.coe_mul]; norm_num)

/-- The factor that turns an exponential into a power of two. -/
abbrev log2e : ℝ := 1 / Real.log 2
theorem log2e_mul : log2e * Real.log 2 = 1 := one_div_mul_cancel (Real.log_pos one_lt_two).ne'
theorem log2e_pos : 0 < log2e := one_div_pos.mpr (Real.log_pos one_lt_two)
theorem log2e_word : Ideal.div 1 (Ideal.log (Ideal.ofBits .f32 0x40000000#32)) = ((log2e : ℝ) : EReal) := by
  have h := Real.log_pos one_lt_two
  rw [ofBits_two, Ideal.log_coe, if_neg (by norm_num), Ideal.div, if_neg (by exact_mod_cast h.ne'), one_mul, ← EReal.coe_inv, log2e, one_div]

/-- Head `h`'s slope, `2 ^ (-8 (1 + h) / 8)`. -/
def slope (h : ℕ) : EReal :=
  Ideal.pow (Ideal.ofBits .f32 0x40000000#32) (Ideal.div (Ideal.ofBits .f32 0xC1000000#32 * (1 + ((h : ℝ) : EReal))) (Ideal.ofBits .f32 0x41000000#32))
theorem slope_real (h : ℕ) : ∃ σ : ℝ, slope h = σ := by
  refine ⟨Real.rpow 2 ((-8 * (1 + h)) * 8⁻¹), ?_⟩
  rw [slope, ofBits_two, ofBits_neg8, ofBits_eight, ← EReal.coe_one, ← EReal.coe_add, ← EReal.coe_mul, Ideal.div, if_neg (by exact_mod_cast (by norm_num : (8 : ℝ) ≠ 0)),
    ← EReal.coe_inv, ← EReal.coe_mul]
  rfl

/-! ## Words -/

/-- The last position of compressed block `k`. -/
theorem end_word (k : ℕ) : IntOp.subi (IntOp.addi (IntOp.muli (BitVec.ofNat 32 k) 16#32) 32#32) 1#32 = BitVec.ofNat 32 (16 * k + 31) := by
  show BitVec.ofNat 32 k * 16#32 + 32#32 - 1#32 = _
  bv_omega
theorem mul_word (k n : ℕ) : IntOp.muli (BitVec.ofNat 32 k) (BitVec.ofNat 32 n) = BitVec.ofNat 32 (k * n) := (BitVec.ofNat_mul k n).symm
theorem add_word (k n : ℕ) : IntOp.addi (BitVec.ofNat 32 k) (BitVec.ofNat 32 n) = BitVec.ofNat 32 (k + n) := (BitVec.ofNat_add k n).symm
theorem nat_real (a : ℕ) (h : a < 2 ^ 31) : FloatOps.sitofp (F := Ideal) .f32 (BitVec.ofNat 32 a) = ((a : ℝ) : EReal) := by
  show (((BitVec.ofNat 32 a).toInt : ℝ) : EReal) = _
  rw [WordArith.toInt_ofNat_small _ h]
  rfl
/-- The distance from compressed block `k`'s end to position `a`. -/
theorem dist_word (a k : ℕ) (ha : a < 2 ^ 31) (hk : 16 * k + 31 < 2 ^ 31) :
    FloatOps.sitofp (F := Ideal) .f32 (IntOp.subi (BitVec.ofNat 32 a) (IntOp.subi (IntOp.addi (IntOp.muli (BitVec.ofNat 32 k) 16#32) 32#32) 1#32))
      = (((a : ℝ) - (16 * k + 31) : ℝ) : EReal) := by
  rw [end_word]
  show (((IntOp.subi _ _).toInt : ℝ) : EReal) = _
  rw [WordArith.toInt_subi_of_nonneg _ _ (by rw [WordArith.toInt_ofNat_small _ ha]; omega) (by rw [WordArith.toInt_ofNat_small _ hk]; omega),
    WordArith.toInt_ofNat_small _ ha, WordArith.toInt_ofNat_small _ hk]
  push_cast
  rfl

/-! ## The attention over compressed blocks -/

variable (A0 : Fin 2 → Fin 8192 → Fin 512 → EReal) (A1 A2 : Fin 2 → Fin 511 → Fin 2 → Fin 64 → EReal)

/-- Head `4 g + j`'s columns. -/
def col (g : Fin 2) (j : Fin 4) (e : Fin 64) : Fin 512 := ⟨256 * g.val + 64 * j.val + e.val, by omega⟩
/-- A compressed block's row, zero past the last. -/
def row (A : Fin 2 → Fin 511 → Fin 2 → Fin 64 → EReal) (b g : Fin 2) (k : ℕ) (e : Fin 64) : EReal := if h : k < 511 then A b ⟨k, h⟩ g e else 0
/-- A query sees a compressed block that ends at or before it. -/
def seen (t k : ℕ) : Prop := 16 * k + 31 ≤ t
instance (t : ℕ) : DecidablePred (seen t) := fun k => inferInstanceAs (Decidable (16 * k + 31 ≤ t))
/-- A query's score of a compressed block. -/
def score (b g : Fin 2) (j : Fin 4) (t : Fin 8192) (k : ℕ) : EReal :=
  (∑ e, row A1 b g k e * A0 b t (col g j e)) * ((1 / 8 : ℝ) : EReal) - slope (4 * g.val + j.val) * (((t.val : ℝ) - (16 * k + 31) : ℝ) : EReal)
/-- Its weight. -/
def p (b g : Fin 2) (j : Fin 4) (t : Fin 8192) (k : ℕ) : EReal := prob 511 (seen t) (score A0 A1 b g j t) k
/-- The attention output. -/
def attn (b g : Fin 2) (j : Fin 4) (t : Fin 8192) (e : Fin 64) : EReal := ∑ k : Fin 511, row A2 b g k e * p A0 A1 b g j t k
/-- Whether compressed block `k` overlaps selection block `r`. -/
def lap (r k : ℕ) : EReal := if 16 * k < 64 * r + 64 ∧ 64 * r < 16 * k + 32 ∧ k < 511 then 1 else 0
/-- A selection block's importance to a query. -/
def imp (b g : Fin 2) (t : Fin 8192) (r : Fin 128) : EReal := ∑ k : Fin 511, (∑ j : Fin 4, p A0 A1 b g j t k) * lap r k
open Classical in
/-- One for a block the query takes, zero for another. -/
def pick (b g : Fin 2) (t : Fin 8192) (r : Fin 128) : EReal := if taken (imp A0 A1 b g t) (t.val / 64) r then 1 else 0

/-! ## The three results, by their arrays' coordinates -/

/-- The attention outputs: a row a position of a sequence, a column a head's entry. -/
def outO (t : Fin 16384) (z : Fin 512) : EReal :=
  attn A0 A1 A2 ⟨t.val / 8192, by omega⟩ ⟨z.val / 256, by omega⟩ ⟨z.val / 64 % 4, by omega⟩ ⟨t.val % 8192, by omega⟩ ⟨z.val % 64, by omega⟩
/-- The selection of tile `s`'s query `q`. -/
def outSel (b g : Fin 2) (s : Fin 64) (r q : Fin 128) : EReal := pick A0 A1 b g ⟨128 * s.val + q.val, by omega⟩ r
/-- How many queries of tile `s` take a block. -/
def outCnt (b g : Fin 2) (s : Fin 64) (r : Fin 128) : EReal := ∑ q : Fin 128, outSel A0 A1 b g s r q

theorem lap_cases (r k : ℕ) : lap r k = ((0 : ℝ) : EReal) ∨ lap r k = ((1 : ℝ) : EReal) := by
  unfold lap; split
  · exact Or.inr rfl
  · exact Or.inl rfl

theorem imp_real (b g : Fin 2) (t : Fin 8192) (r : Fin 128) : ∃ y : ℝ, imp A0 A1 b g t r = y ∧ 0 ≤ y ∧ y < 10000 := by
  have h : ∀ k : Fin 511, ∃ y : ℝ, (∑ j : Fin 4, p A0 A1 b g j t k) * lap r k = y ∧ 0 ≤ y ∧ y ≤ 4 := fun k => by
    choose y hy h0 h1 using fun j : Fin 4 => prob_coe 511 (seen t) (score A0 A1 b g j t) k.2
    have hs : (∑ j : Fin 4, p A0 A1 b g j t k) = ((∑ j, y j : ℝ) : EReal) := by
      rw [← sum_coe]; exact Finset.sum_congr rfl fun j _ => hy j
    have h0' : 0 ≤ ∑ j, y j := Finset.sum_nonneg fun j _ => h0 j
    have h4 : ∑ j, y j ≤ 4 := (Finset.sum_le_card_nsmul Finset.univ y 1 fun j _ => h1 j).trans (by simp)
    rw [hs]
    rcases lap_cases r k with h | h <;> rw [h, ← EReal.coe_mul]
    · exact ⟨_, rfl, by simp, by simp⟩
    · exact ⟨_, rfl, by simpa using h0', by simpa using h4⟩
  choose y hy h0 h4 using h
  refine ⟨∑ k, y k, ?_, Finset.sum_nonneg fun k _ => h0 k, ?_⟩
  · rw [imp, ← sum_coe]; exact Finset.sum_congr rfl fun k _ => hy k
  · have := Finset.sum_le_card_nsmul Finset.univ y 4 fun k _ => h4 k
    simp at this
    linarith

theorem imp_nonneg (b g : Fin 2) (t : Fin 8192) (r : Fin 128) : 0 ≤ imp A0 A1 b g t r := by
  obtain ⟨y, h, h0, -⟩ := imp_real A0 A1 b g t r
  rw [h]; exact_mod_cast h0

end Cert.Spec

end
-- ==== Proof.Operands.lean ====
/-
  What the launch's operands hold: the queries scaled, the compressed keys and values padded by a row of zeros, the
  overlap table, the distances, and the slopes' bias; and the blocks of them that a point of the grid is given.
-/
module

public import proofs.«01_k».proof.Proof.Gen.KernelIdeal.Frame
public import Idealize.ShloMosaic.Lib.Pipeline.ValueKit
public import Idealize.ShloMosaic.Lib.Pointwise
public import proofs.«01_k».proof.Proof.Spec

@[expose] public section

set_option maxRecDepth 16384

noncomputable section

namespace Cert.KernelIdeal.Operands

open Cert.KernelIdeal Cert.KernelIdeal.Gen
open Idealize.ShloMosaic Idealize.ShloMosaic.TcCoe Idealize.SL.Sem Idealize.ShloMosaic.StableHlo
open Idealize.ShloMosaic.Pipeline (Dat)
open Cert.Spec

variable (m : (ℓ : Loc nD τ sig) → Buf (Elt Ideal) ℓ)

/-- The arguments as the launch finds them. -/
abbrev A0 (c : Dev nD) : Fin 2 → Fin 8192 → Fin 512 → EReal := fun b t z => m ((c.tc : Thread nD τ).loc main_arg0) (ix3 b t z)
abbrev A1 (c : Dev nD) : Fin 2 → Fin 511 → Fin 2 → Fin 64 → EReal := fun b k g e => m ((c.tc : Thread nD τ).loc main_arg1) (ix4 b k g e)
abbrev A2 (c : Dev nD) : Fin 2 → Fin 511 → Fin 2 → Fin 64 → EReal := fun b k g e => m ((c.tc : Thread nD τ).loc main_arg2) (ix4 b k g e)

theorem word_zero : FloatOps.sitofp (F := Ideal) .f32 0#32 = (0 : EReal) := by
  show (((0#32 : BitVec 32).toInt : ℝ) : EReal) = 0
  simp

theorem scale_word (u : EReal) : u * (Ideal.ofBits .f32 0x3E000000#32 * Ideal.div 1 (Ideal.log (Ideal.ofBits .f32 0x40000000#32))) = u * ((1 / 8 * log2e : ℝ) : EReal) := by
  rw [ofBits_eighth, log2e_word, ← EReal.coe_mul]

/-- The scaled queries. -/
theorem q_entry (c : Dev nD) (b : Fin 2) (t : Fin 8192) (z : Fin 512) :
    @Eq EReal (V m c main_v73 (ix2 ⟨8192 * b.val + t.val, by omega⟩ ⟨4096 + z.val, by omega⟩)) (A0 m c b t z * ((1 / 8 * log2e : ℝ) : EReal)) := by
  simp only [V, hostOps0, hostOps0_1, hostOps0_2, hostOps0_3, hostOps0_4, hostOps0_5, hostOps0_6, List.flatten_cons, List.flatten_nil, List.append_nil, List.cons_append, List.nil_append, TRef.binary, TRef.nullary, TRef.ternary, TRef.unary, TRef.toBuf, TRef.ofBuf, cast_eq]
  after_results_simp
  pointwise
  rw [dif_pos (by omega)]
  simp only [show (8192 * b.val + t.val) / 8192 = b.val by omega, show (8192 * b.val + t.val) % 8192 = t.val by omega]
  exact scale_word _

/-- The compressed keys, twice side by side. -/
theorem kc_entry_lo (c : Dev nD) (b g : Fin 2) (k : Fin 512) (e : Fin 64) : @Eq EReal (V m c main_v77 (ix4 b g k ⟨e.val, by omega⟩)) (row (A1 m c) b g k.val e) := by
  simp only [V, hostOps0, hostOps0_1, hostOps0_2, hostOps0_3, hostOps0_4, hostOps0_5, hostOps0_6, List.flatten_cons, List.flatten_nil, List.append_nil, List.cons_append, List.nil_append, TRef.binary, TRef.nullary, TRef.ternary, TRef.unary, TRef.toBuf, TRef.ofBuf, cast_eq]
  after_results_simp
  pointwise
  after_results_simp
  pointwise
  rw [word_zero]
  rfl
theorem kc_entry_hi (c : Dev nD) (b g : Fin 2) (k : Fin 512) (e : Fin 64) : @Eq EReal (V m c main_v77 (ix4 b g k ⟨64 + e.val, by omega⟩)) (row (A1 m c) b g k.val e) := by
  simp only [V, hostOps0, hostOps0_1, hostOps0_2, hostOps0_3, hostOps0_4, hostOps0_5, hostOps0_6, List.flatten_cons, List.flatten_nil, List.append_nil, List.cons_append, List.nil_append, TRef.binary, TRef.nullary, TRef.ternary, TRef.unary, TRef.toBuf, TRef.ofBuf, cast_eq]
  after_results_simp
  pointwise
  after_results_simp
  pointwise
  rw [word_zero]
  rfl

/-- The compressed values. -/
theorem vct_entry (c : Dev nD) (b g : Fin 2) (k : Fin 512) (e : Fin 64) : @Eq EReal (V m c main_v80 (ix4 b g e k)) (row (A2 m c) b g k.val e) := by
  simp only [V, hostOps0, hostOps0_1, hostOps0_2, hostOps0_3, hostOps0_4, hostOps0_5, hostOps0_6, List.flatten_cons, List.flatten_nil, List.append_nil, List.cons_append, List.nil_append, TRef.binary, TRef.nullary, TRef.ternary, TRef.unary, TRef.toBuf, TRef.ofBuf, cast_eq]
  after_results_simp
  pointwise
  rw [word_zero]
  rfl

theorem ovt_word (r : Fin 128) (k : Fin 512) :
    IntOp.andi (IntOp.andi (IntOp.cmpi .slt (IntOp.muli (BitVec.ofNat 32 k.val) 16#32) (IntOp.addi (IntOp.muli (BitVec.ofNat 32 r.val) 64#32) 64#32))
        (IntOp.cmpi .sgt (IntOp.addi (IntOp.muli (BitVec.ofNat 32 k.val) 16#32) 32#32) (IntOp.muli (BitVec.ofNat 32 r.val) 64#32)))
      (IntOp.cmpi .sle (IntOp.addi (IntOp.muli (BitVec.ofNat 32 k.val) 16#32) 32#32) 8192#32)
      = BitVec.ofBool (decide (16 * k.val < 64 * r.val + 64 ∧ 64 * r.val < 16 * k.val + 32 ∧ k.val < 511)) := by
  rw [mul_word, mul_word, add_word, add_word, WordCmp.cmpi_slt_ofNat (by omega) (by omega), WordCmp.cmpi_sgt_ofNat (by omega) (by omega), WordCmp.cmpi_sle_ofNat (by omega) (by omega)]
  have hand : ∀ a b : Bool, IntOp.andi (BitVec.ofBool a) (BitVec.ofBool b) = BitVec.ofBool (a && b) := fun a b => by cases a <;> cases b <;> rfl
  rw [hand, hand, ← Bool.decide_and, ← Bool.decide_and]
  exact congrArg BitVec.ofBool (decide_eq_decide.mpr (by omega))

/-- The overlap table. -/
theorem ovt_entry (c : Dev nD) (r : Fin 128) (k : Fin 512) : @Eq EReal (V m c main_v41 (ix2 r k)) (lap r.val k.val) := by
  simp only [V, hostOps0, hostOps0_1, hostOps0_2, hostOps0_3, hostOps0_4, hostOps0_5, hostOps0_6, List.flatten_cons, List.flatten_nil, List.append_nil, List.cons_append, List.nil_append, TRef.binary, TRef.nullary, TRef.ternary, TRef.unary, TRef.toBuf, TRef.ofBuf, cast_eq]
  after_results_simp
  pointwise
  rw [ovt_word, lap]
  show (((BitVec.ofBool _).toNat : ℝ) : EReal) = _
  split <;> simp [*]

/-- A query's distance to a compressed block's end, counted from the tile's first query. -/
theorem d0_entry (c : Dev nD) (k : Fin 512) (j : Fin 4) (q : Fin 128) :
    @Eq EReal (V m c main_v55 (ix2 k ⟨128 * j.val + q.val, by omega⟩)) (((q.val : ℝ) - (16 * k.val + 31) : ℝ) : EReal) := by
  simp only [V, hostOps0, hostOps0_1, hostOps0_2, hostOps0_3, hostOps0_4, hostOps0_5, hostOps0_6, List.flatten_cons, List.flatten_nil, List.append_nil, List.cons_append, List.nil_append, TRef.binary, TRef.nullary, TRef.ternary, TRef.unary, TRef.toBuf, TRef.ofBuf, cast_eq]
  after_results_simp
  pointwise
  rw [show (128 * j.val + q.val) % 128 = q.val by omega]
  exact dist_word q.val k.val (by omega) (by omega)

/-- The slopes' bias. -/
theorem cb_entry (c : Dev nD) (g : Fin 2) (k : Fin 512) (j : Fin 4) (q : Fin 128) :
    @Eq EReal (V m c main_v65 (ix3 g k ⟨128 * j.val + q.val, by omega⟩))
      (-(Spec.slope (4 * g.val + j.val) * ((log2e : ℝ) : EReal)) * (((q.val : ℝ) - (16 * k.val + 31) : ℝ) : EReal)) := by
  simp only [V, hostOps0, hostOps0_1, hostOps0_2, hostOps0_3, hostOps0_4, hostOps0_5, hostOps0_6, List.flatten_cons, List.flatten_nil, List.append_nil, List.cons_append, List.nil_append, TRef.binary, TRef.nullary, TRef.ternary, TRef.unary, TRef.toBuf, TRef.ofBuf, cast_eq]
  after_results_simp
  pointwise
  rw [show (128 * j.val + q.val) % 128 = q.val by omega, show g.val * 4 + (128 * j.val + q.val) / 128 = 4 * g.val + j.val by omega, log2e_word,
    nat_real _ (by omega), dist_word q.val k.val (by omega) (by omega)]
  rfl

theorem idx : ∀ t : Fin cfg0.N, win0_0.index t = ![t.val, 8] ∧ win0_1.index t = ![t.val / 64, 0, 0, 0] ∧ win0_2.index t = ![t.val / 64, 0, 0, 0]
    ∧ win0_3.index t = ![0, 0] ∧ win0_4.index t = ![0, 0] ∧ win0_5.index t = ![0, 0, 0] ∧ win0_6.index t = ![t.val, 0]
    ∧ win0_7.index t = ![t.val / 64, 0, t.val % 64, 0, 0] ∧ win0_8.index t = ![t.val / 64, 0, t.val % 64, 0, 0] ∧ (grid0.coords t 1).val = t.val % 64 :=
  (by decide +kernel : ∀ t : Fin grid0.N, _)

end Cert.KernelIdeal.Operands

end
-- ==== Proof.Tile.lean ====
/-
  The pieces of the kernel's tile arithmetic read entry by entry: a query row among a group's four heads' rows, the
  visibility of a compressed block, and the masked scores.
-/
module

public import proofs.«01_k».proof.Proof.Body
public import Idealize.ShloMosaic.Lib.Pointwise
public import Idealize.ShloMosaic.Lib.Pipeline.ValueKit

@[expose] public section

set_option maxRecDepth 16384

noncomputable section

namespace Cert.KernelIdeal.Tile

open Cert.KernelIdeal Cert.KernelIdeal.Gen Cert.KernelIdeal.Nsa
open Idealize.ShloMosaic Idealize.ShloMosaic.TcCoe Idealize.SL.Sem

theorem lo_slt : ∀ c : Fin 64, IntOp.cmpi .slt (BitVec.ofNat 32 c.val) 64#32 = 1#1 := by decide +kernel
theorem lo_sge : ∀ c : Fin 64, IntOp.cmpi .sge (BitVec.ofNat 32 c.val) 64#32 = 0#1 := by decide +kernel
theorem hi_slt : ∀ c : Fin 64, IntOp.cmpi .slt (BitVec.ofNat 32 (64 + c.val)) 64#32 = 0#1 := by decide +kernel
theorem hi_sge : ∀ c : Fin 64, IntOp.cmpi .sge (BitVec.ofNat 32 (64 + c.val)) 64#32 = 1#1 := by decide +kernel
theorem sel_one (a b : EReal) : Scalar.select 1#1 a b = a := rfl
theorem sel_zero (a b : EReal) : Scalar.select 0#1 a b = b := rfl

/-- The stacked queries of the first four heads at the lower half of the lanes: an even head's query, or zero. -/
theorem qs0_lo (x2 : FVec Ideal S128x512 .bf16) (j : Fin 4) (q : Fin 128) (c : Fin 64) :
    qs0 (F := Ideal) x2 (ix2 ⟨128 * j.val + q.val, by omega⟩ ⟨c.val, by omega⟩) = if j.val % 2 = 0 then x2 (ix2 q ⟨64 * j.val + c.val, by omega⟩) else 0 := by
  pointwise [qs0, qTile, k0_pay39, lo_slt, lo_sge, hi_slt, hi_sge, sel_one, sel_zero]
  rcases (by omega : j.val = 0 ∨ j.val = 1 ∨ j.val = 2 ∨ j.val = 3) with hj | hj | hj | hj <;> simp only [hj] <;> split_ifs <;>
    first | rfl | (exfalso; omega) | contradiction | blk_ext

/-- The stacked queries of the first four heads at the upper half of the lanes: an odd head's query, or zero. -/
theorem qs0_hi (x2 : FVec Ideal S128x512 .bf16) (j : Fin 4) (q : Fin 128) (c : Fin 64) :
    qs0 (F := Ideal) x2 (ix2 ⟨128 * j.val + q.val, by omega⟩ ⟨64 + c.val, by omega⟩) = if j.val % 2 = 0 then 0 else x2 (ix2 q ⟨64 * j.val + c.val, by omega⟩) := by
  pointwise [qs0, qTile, k0_pay39, lo_slt, lo_sge, hi_slt, hi_sge, sel_one, sel_zero]
  rcases (by omega : j.val = 0 ∨ j.val = 1 ∨ j.val = 2 ∨ j.val = 3) with hj | hj | hj | hj <;> simp only [hj] <;> split_ifs <;>
    first | rfl | (exfalso; omega) | contradiction | blk_ext

/-- The stacked queries of the second four heads at the lower half of the lanes: an even head's query, or zero. -/
theorem qs1_lo (x2 : FVec Ideal S128x512 .bf16) (j : Fin 4) (q : Fin 128) (c : Fin 64) :
    qs1 (F := Ideal) x2 (ix2 ⟨128 * j.val + q.val, by omega⟩ ⟨c.val, by omega⟩) = if j.val % 2 = 0 then x2 (ix2 q ⟨256 + (64 * j.val + c.val), by omega⟩) else 0 := by
  pointwise [qs1, qTile, k0_pay41, k0_pay40, lo_slt, lo_sge, hi_slt, hi_sge, sel_one, sel_zero]
  rcases (by omega : j.val = 0 ∨ j.val = 1 ∨ j.val = 2 ∨ j.val = 3) with hj | hj | hj | hj <;> simp only [hj] <;> split_ifs <;>
    first | rfl | (exfalso; omega) | contradiction | blk_ext

/-- The stacked queries of the second four heads at the upper half of the lanes: an odd head's query, or zero. -/
theorem qs1_hi (x2 : FVec Ideal S128x512 .bf16) (j : Fin 4) (q : Fin 128) (c : Fin 64) :
    qs1 (F := Ideal) x2 (ix2 ⟨128 * j.val + q.val, by omega⟩ ⟨64 + c.val, by omega⟩) = if j.val % 2 = 0 then 0 else x2 (ix2 q ⟨256 + (64 * j.val + c.val), by omega⟩) := by
  pointwise [qs1, qTile, k0_pay41, k0_pay40, lo_slt, lo_sge, hi_slt, hi_sge, sel_one, sel_zero]
  rcases (by omega : j.val = 0 ∨ j.val = 1 ∨ j.val = 2 ∨ j.val = 3) with hj | hj | hj | hj <;> simp only [hj] <;> split_ifs <;>
    first | rfl | (exfalso; omega) | contradiction | blk_ext

/-- A key whose two halves agree, against a stacked query: the product over the head's own 64 entries. -/
theorem qdot0 (x2 : FVec Ideal S128x512 .bf16) (y : Fin 128 → EReal) (z : Fin 64 → EReal) (hlo : ∀ e : Fin 64, y ⟨e.val, by omega⟩ = z e)
    (hhi : ∀ e : Fin 64, y ⟨64 + e.val, by omega⟩ = z e) (j : Fin 4) (q : Fin 128) :
    ∑ c : Fin 128, y c * qs0 (F := Ideal) x2 (ix2 ⟨128 * j.val + q.val, by omega⟩ c)
      = ∑ e : Fin 64, z e * x2 (ix2 q ⟨64 * j.val + e.val, by omega⟩) := by
  rw [Fin.sum_univ_two_halves 64 64 rfl]
  have h1 : ∀ e : Fin 64, y ⟨e.val, by omega⟩ * qs0 (F := Ideal) x2 (ix2 ⟨128 * j.val + q.val, by omega⟩ ⟨e.val, by omega⟩)
      = z e * if j.val % 2 = 0 then x2 (ix2 q ⟨64 * j.val + e.val, by omega⟩) else 0 := fun e => by rw [hlo, qs0_lo]
  have h2 : ∀ e : Fin 64, y ⟨64 + e.val, by omega⟩ * qs0 (F := Ideal) x2 (ix2 ⟨128 * j.val + q.val, by omega⟩ ⟨64 + e.val, by omega⟩)
      = z e * if j.val % 2 = 0 then 0 else x2 (ix2 q ⟨64 * j.val + e.val, by omega⟩) := fun e => by rw [hhi, qs0_hi]
  refine (congrArg₂ (· + ·) (Finset.sum_congr rfl fun e _ => h1 e) (Finset.sum_congr rfl fun e _ => h2 e)).trans ?_
  by_cases hj : j.val % 2 = 0
  · simp only [if_pos hj, mul_zero, Finset.sum_const_zero, add_zero]
  · simp only [if_neg hj, mul_zero, Finset.sum_const_zero, zero_add]

/-- A key whose two halves agree, against a stacked query: the product over the head's own 64 entries. -/
theorem qdot1 (x2 : FVec Ideal S128x512 .bf16) (y : Fin 128 → EReal) (z : Fin 64 → EReal) (hlo : ∀ e : Fin 64, y ⟨e.val, by omega⟩ = z e)
    (hhi : ∀ e : Fin 64, y ⟨64 + e.val, by omega⟩ = z e) (j : Fin 4) (q : Fin 128) :
    ∑ c : Fin 128, y c * qs1 (F := Ideal) x2 (ix2 ⟨128 * j.val + q.val, by omega⟩ c)
      = ∑ e : Fin 64, z e * x2 (ix2 q ⟨256 + (64 * j.val + e.val), by omega⟩) := by
  rw [Fin.sum_univ_two_halves 64 64 rfl]
  have h1 : ∀ e : Fin 64, y ⟨e.val, by omega⟩ * qs1 (F := Ideal) x2 (ix2 ⟨128 * j.val + q.val, by omega⟩ ⟨e.val, by omega⟩)
      = z e * if j.val % 2 = 0 then x2 (ix2 q ⟨256 + (64 * j.val + e.val), by omega⟩) else 0 := fun e => by rw [hlo, qs1_lo]
  have h2 : ∀ e : Fin 64, y ⟨64 + e.val, by omega⟩ * qs1 (F := Ideal) x2 (ix2 ⟨128 * j.val + q.val, by omega⟩ ⟨64 + e.val, by omega⟩)
      = z e * if j.val % 2 = 0 then 0 else x2 (ix2 q ⟨256 + (64 * j.val + e.val), by omega⟩) := fun e => by rw [hhi, qs1_hi]
  refine (congrArg₂ (· + ·) (Finset.sum_congr rfl fun e _ => h1 e) (Finset.sum_congr rfl fun e _ => h2 e)).trans ?_
  by_cases hj : j.val % 2 = 0
  · simp only [if_pos hj, mul_zero, Finset.sum_const_zero, add_zero]
  · simp only [if_neg hj, mul_zero, Finset.sum_const_zero, zero_add]

end Cert.KernelIdeal.Tile

end
-- ==== Proof.Weights.lean ====
/-
  What a branch of the selection kernel computes, on the extended reals, entry by entry. Each branch scores its rows of
  compressed keys against the stacked queries of four heads, turns every column into softmax weights by powers of two,
  multiplies them into the values and, summed over the four heads, into the overlap of compressed and selected blocks.
  For a branch whose rows hold every key a query can see, the weights are the softmax weights over all 511 keys.
-/
module

public import proofs.«01_k».proof.Proof.Gen.KernelIdeal.Skeleton
public import proofs.«01_k».proof.Proof.Softmax
public import Idealize.ShloMosaic.Lib.Pointwise

@[expose] public section

set_option maxRecDepth 16384

noncomputable section

namespace Cert.KernelIdeal.Weights

open Cert.KernelIdeal Cert.KernelIdeal.Gen
open Idealize.ShloMosaic Idealize.ShloMosaic.TcCoe Idealize.SL.Sem
open Cert.Softmax

theorem kappa_mask (b : BitVec 32) : Named.named (F := Ideal) (φ := .f32) κ "mask" b = (⊥ : EReal) := rfl
theorem kappa_half (b : BitVec 32) : Named.named (F := Ideal) (φ := .f32) κ "half_mask" b = (⊥ : EReal) := rfl
theorem neg_inf : Ideal.ofBits .f32 0xFF800000#32 = (⊥ : EReal) := by simp [Ideal.ofBits, Ideal.ieee]

/-- The weights summed over four heads, rounded and not, into the overlaps: what rounding loses is nothing here. -/
theorem imp_sum {n : ℕ} (v : ℕ → Prop) [DecidablePred v] (x : Fin 4 → ℕ → EReal) (w : ℕ → EReal) (hn : ∀ k, v k → k < n) (h5 : ∀ k, v k → k < 511) :
    (∑ k : Fin n, w k * (((prob n v (x 0) k + prob n v (x 1) k) + prob n v (x 2) k) + prob n v (x 3) k))
      + (∑ k : Fin n, w k * ((((prob n v (x 0) k + prob n v (x 1) k) + prob n v (x 2) k) + prob n v (x 3) k)
          - (((prob n v (x 0) k + prob n v (x 1) k) + prob n v (x 2) k) + prob n v (x 3) k)))
      = ∑ k : Fin 511, (∑ j : Fin 4, prob 511 v (x j) k) * w k := by
  have h0 : ∀ k : Fin n, w k * ((((prob n v (x 0) k + prob n v (x 1) k) + prob n v (x 2) k) + prob n v (x 3) k)
          - (((prob n v (x 0) k + prob n v (x 1) k) + prob n v (x 2) k) + prob n v (x 3) k)) = 0 := fun k => by
    obtain ⟨p0, e0, _⟩ := prob_coe n v (x 0) k.2
    obtain ⟨p1, e1, _⟩ := prob_coe n v (x 1) k.2
    obtain ⟨p2, e2, _⟩ := prob_coe n v (x 2) k.2
    obtain ⟨p3, e3, _⟩ := prob_coe n v (x 3) k.2
    rw [e0, e1, e2, e3, ← EReal.coe_add, ← EReal.coe_add, ← EReal.coe_add, ← EReal.coe_sub, sub_self, EReal.coe_zero, mul_zero]
  rw [Finset.sum_eq_zero fun k _ => h0 k, add_zero,
    sum_ext v (fun k => w k * (((prob n v (x 0) k + prob n v (x 1) k) + prob n v (x 2) k) + prob n v (x 3) k)) hn h5 fun k h => by
      simp only [prob_of_not _ v _ h, add_zero, mul_zero]]
  refine Finset.sum_congr rfl fun k _ => ?_
  simp only [Fin.sum_univ_four, prob_ext v _ hn h5]
  exact mul_comm _ _

/-- The weights into the values. -/
theorem attn_sum {n : ℕ} (v : ℕ → Prop) [DecidablePred v] (x w : ℕ → EReal) (hn : ∀ k, v k → k < n) (h5 : ∀ k, v k → k < 511) :
    ∑ k : Fin n, w k * prob n v x k = ∑ k : Fin 511, w k * prob 511 v x k := by
  rw [sum_ext v (fun k => w k * prob n v x k) hn h5 fun k h => by simp only [prob_of_not _ v _ h, mul_zero]]
  exact Finset.sum_congr rfl fun k _ => by rw [prob_ext v x hn h5]

/-- Branch of 512 rows, first group: the weights of a column. -/
theorem weight512_0 (v : ℕ → Prop) [DecidablePred v] (x x' : ℕ → EReal) (t : EReal) (qs : FVec Ideal S512x128 .bf16) (kk : FVec Ideal S1x1x512x128 .bf16) (b : FVec Ideal S1x512x512 .f32)
    (d : FVec Ideal S512x512 .f32) (l : Fin 512)
    (hS : ∀ k : Fin 512, (∑ c : Fin 128, kk (ix4 0 0 k c) * qs (ix2 l c)) + b (ix3 0 k l) = x' k.val)
    (hV : ∀ k : Fin 512, (0 ≤ d (ix2 k l) + t) ↔ v k.val)
    {c : ℝ} (hc : c * Real.log 2 = 1) (a : ℝ) (hx : ∀ k, v k → x' k = c * (x k + a)) (k : Fin 512) :
    k0_pay2 (F := Ideal) t qs kk b d (ix2 k l) = prob 512 v x k.val := by
  rw [← prob_exp2 512 v x hc a x' hx k.2]
  pointwise [k0_pay2, hS, hV, kappa_mask, kappa_half, masked, top, neg_inf]
  rfl

/-- Its attention. -/
theorem attn512_0 (v : ℕ → Prop) [DecidablePred v] (x x' w : ℕ → EReal) (t : EReal) (qs : FVec Ideal S512x128 .bf16) (kk : FVec Ideal S1x1x512x128 .bf16) (b : FVec Ideal S1x512x512 .f32)
    (d : FVec Ideal S512x512 .f32) (u : FVec Ideal S1x1x64x512 .bf16) (l : Fin 512) (e : Fin 64)
    (hS : ∀ k : Fin 512, (∑ c : Fin 128, kk (ix4 0 0 k c) * qs (ix2 l c)) + b (ix3 0 k l) = x' k.val)
    (hV : ∀ k : Fin 512, (0 ≤ d (ix2 k l) + t) ↔ v k.val)
    {c : ℝ} (hc : c * Real.log 2 = 1) (a : ℝ) (hx : ∀ k, v k → x' k = c * (x k + a))
    (hU : ∀ k : Fin 512, u (ix4 0 0 e k) = w k.val) (hn : ∀ k, v k → k < 512) (h5 : ∀ k, v k → k < 511) :
    k0_pay3 (F := Ideal) t qs kk b d u (ix2 e l) = ∑ k : Fin 511, w k.val * prob 511 v x k.val := by
  rw [← attn_sum v x w hn h5]
  have hw := weight512_0 v x x' t qs kk b d l hS hV hc a hx
  pointwise [k0_pay3, hU, hw]

/-- Its importance. -/
theorem imp512_0 (v : ℕ → Prop) [DecidablePred v] (x x' : Fin 4 → ℕ → EReal) (w : ℕ → EReal) (t : EReal) (qs : FVec Ideal S512x128 .bf16) (kk : FVec Ideal S1x1x512x128 .bf16) (b : FVec Ideal S1x512x512 .f32)
    (d : FVec Ideal S512x512 .f32) (o : FVec Ideal S128x512 .bf16) (q r : Fin 128)
    (hS : ∀ (j : Fin 4) (k : Fin 512), (∑ c : Fin 128, kk (ix4 0 0 k c) * qs (ix2 ⟨128 * j.val + q.val, by omega⟩ c)) + b (ix3 0 k ⟨128 * j.val + q.val, by omega⟩) = x' j k.val)
    (hV : ∀ (j : Fin 4) (k : Fin 512), (0 ≤ d (ix2 k ⟨128 * j.val + q.val, by omega⟩) + t) ↔ v k.val)
    {c : ℝ} (hc : c * Real.log 2 = 1) (a : Fin 4 → ℝ) (hx : ∀ j k, v k → x' j k = c * (x j k + a j))
    (hU : ∀ k : Fin 512, o (ix2 r k) = w k.val) (hn : ∀ k, v k → k < 512) (h5 : ∀ k, v k → k < 511) :
    k0_pay5 (F := Ideal) (k0_pay2 (F := Ideal) t qs kk b d) (k0_pay4 (F := Ideal) t qs kk b d) o o (ix2 r q) = ∑ k : Fin 511, (∑ j : Fin 4, prob 511 v (x j) k.val) * w k.val := by
  rw [← imp_sum v x w hn h5]
  have hw := fun j k => weight512_0 v (x j) (x' j) t qs kk b d ⟨128 * j.val + q.val, by omega⟩ (hS j) (hV j) hc (a j) (hx j) k
  have h0 := hw 0
  have h1 := hw 1
  have h2 := hw 2
  have h3 := hw 3
  simp only [Fin.val_zero, Fin.val_one, Fin.val_two, show (3 : Fin 4).val = 3 from rfl, Nat.mul_zero, Nat.zero_add, Nat.mul_one, Nat.reduceMul] at h0 h1 h2 h3
  pointwise [k0_pay5, k0_pay4, hU, h0, h1, h2, h3]

/-- Branch of 512 rows, second group: the weights of a column. -/
theorem weight512_1 (v : ℕ → Prop) [DecidablePred v] (x x' : ℕ → EReal) (t : EReal) (qs : FVec Ideal S512x128 .bf16) (kk : FVec Ideal S1x1x512x128 .bf16) (b : FVec Ideal S1x512x512 .f32)
    (d : FVec Ideal S512x512 .f32) (l : Fin 512)
    (hS : ∀ k : Fin 512, (∑ c : Fin 128, kk (ix4 0 0 k c) * qs (ix2 l c)) + b (ix3 0 k l) = x' k.val)
    (hV : ∀ k : Fin 512, (0 ≤ d (ix2 k l) + t) ↔ v k.val)
    {c : ℝ} (hc : c * Real.log 2 = 1) (a : ℝ) (hx : ∀ k, v k → x' k = c * (x k + a)) (k : Fin 512) :
    k0_pay42 (F := Ideal) (k0_pay8 (F := Ideal) t qs kk b d) (k0_pay9 (F := Ideal) t qs kk b d) (k0_pay10 (F := Ideal) t qs kk b d) (ix2 k l) = prob 512 v x k.val := by
  rw [← prob_exp2 512 v x hc a x' hx k.2]
  pointwise [k0_pay42, k0_pay10, k0_pay9, k0_pay8, k0_pay7, k0_pay6, hS, hV, kappa_mask, kappa_half, masked, top, neg_inf]
  rfl

/-- Its attention. -/
theorem attn512_1 (v : ℕ → Prop) [DecidablePred v] (x x' w : ℕ → EReal) (t : EReal) (qs : FVec Ideal S512x128 .bf16) (kk : FVec Ideal S1x1x512x128 .bf16) (b : FVec Ideal S1x512x512 .f32)
    (d : FVec Ideal S512x512 .f32) (u : FVec Ideal S1x1x64x512 .bf16) (l : Fin 512) (e : Fin 64)
    (hS : ∀ k : Fin 512, (∑ c : Fin 128, kk (ix4 0 0 k c) * qs (ix2 l c)) + b (ix3 0 k l) = x' k.val)
    (hV : ∀ k : Fin 512, (0 ≤ d (ix2 k l) + t) ↔ v k.val)
    {c : ℝ} (hc : c * Real.log 2 = 1) (a : ℝ) (hx : ∀ k, v k → x' k = c * (x k + a))
    (hU : ∀ k : Fin 512, u (ix4 0 0 e k) = w k.val) (hn : ∀ k, v k → k < 512) (h5 : ∀ k, v k → k < 511) :
    k0_pay43 (F := Ideal) (k0_pay8 (F := Ideal) t qs kk b d) (k0_pay9 (F := Ideal) t qs kk b d) (k0_pay10 (F := Ideal) t qs kk b d) u (ix2 e l) = ∑ k : Fin 511, w k.val * prob 511 v x k.val := by
  rw [← attn_sum v x w hn h5]
  have hw := weight512_1 v x x' t qs kk b d l hS hV hc a hx
  pointwise [k0_pay43, hU, hw]

/-- Its importance. -/
theorem imp512_1 (v : ℕ → Prop) [DecidablePred v] (x x' : Fin 4 → ℕ → EReal) (w : ℕ → EReal) (t : EReal) (qs : FVec Ideal S512x128 .bf16) (kk : FVec Ideal S1x1x512x128 .bf16) (b : FVec Ideal S1x512x512 .f32)
    (d : FVec Ideal S512x512 .f32) (o : FVec Ideal S128x512 .bf16) (q r : Fin 128)
    (hS : ∀ (j : Fin 4) (k : Fin 512), (∑ c : Fin 128, kk (ix4 0 0 k c) * qs (ix2 ⟨128 * j.val + q.val, by omega⟩ c)) + b (ix3 0 k ⟨128 * j.val + q.val, by omega⟩) = x' j k.val)
    (hV : ∀ (j : Fin 4) (k : Fin 512), (0 ≤ d (ix2 k ⟨128 * j.val + q.val, by omega⟩) + t) ↔ v k.val)
    {c : ℝ} (hc : c * Real.log 2 = 1) (a : Fin 4 → ℝ) (hx : ∀ j k, v k → x' j k = c * (x j k + a j))
    (hU : ∀ k : Fin 512, o (ix2 r k) = w k.val) (hn : ∀ k, v k → k < 512) (h5 : ∀ k, v k → k < 511) :
    k0_pay44 (F := Ideal) (k0_pay8 (F := Ideal) t qs kk b d) (k0_pay9 (F := Ideal) t qs kk b d) (k0_pay10 (F := Ideal) t qs kk b d) o o (ix2 r q) = ∑ k : Fin 511, (∑ j : Fin 4, prob 511 v (x j) k.val) * w k.val := by
  rw [← imp_sum v x w hn h5]
  have hw := fun j k => weight512_1 v (x j) (x' j) t qs kk b d ⟨128 * j.val + q.val, by omega⟩ (hS j) (hV j) hc (a j) (hx j) k
  have h0 := hw 0
  have h1 := hw 1
  have h2 := hw 2
  have h3 := hw 3
  simp only [Fin.val_zero, Fin.val_one, Fin.val_two, show (3 : Fin 4).val = 3 from rfl, Nat.mul_zero, Nat.zero_add, Nat.mul_one, Nat.reduceMul] at h0 h1 h2 h3
  pointwise [k0_pay44, hU, h0, h1, h2, h3]

/-- Branch of 384 rows, first group: the weights of a column. -/
theorem weight384_0 (v : ℕ → Prop) [DecidablePred v] (x x' : ℕ → EReal) (t : EReal) (qs : FVec Ideal S512x128 .bf16) (kk : FVec Ideal S1x1x384x128 .bf16) (b : FVec Ideal S1x384x512 .f32)
    (d : FVec Ideal S384x512 .f32) (l : Fin 512)
    (hS : ∀ k : Fin 384, (∑ c : Fin 128, kk (ix4 0 0 k c) * qs (ix2 l c)) + b (ix3 0 k l) = x' k.val)
    (hV : ∀ k : Fin 384, (0 ≤ d (ix2 k l) + t) ↔ v k.val)
    {c : ℝ} (hc : c * Real.log 2 = 1) (a : ℝ) (hx : ∀ k, v k → x' k = c * (x k + a)) (k : Fin 384) :
    k0_pay11 (F := Ideal) t qs kk b d (ix2 k l) = prob 384 v x k.val := by
  rw [← prob_exp2 384 v x hc a x' hx k.2]
  pointwise [k0_pay11, hS, hV, kappa_mask, kappa_half, masked, top, neg_inf]
  rfl

/-- Its attention. -/
theorem attn384_0 (v : ℕ → Prop) [DecidablePred v] (x x' w : ℕ → EReal) (t : EReal) (qs : FVec Ideal S512x128 .bf16) (kk : FVec Ideal S1x1x384x128 .bf16) (b : FVec Ideal S1x384x512 .f32)
    (d : FVec Ideal S384x512 .f32) (u : FVec Ideal S1x1x64x384 .bf16) (l : Fin 512) (e : Fin 64)
    (hS : ∀ k : Fin 384, (∑ c : Fin 128, kk (ix4 0 0 k c) * qs (ix2 l c)) + b (ix3 0 k l) = x' k.val)
    (hV : ∀ k : Fin 384, (0 ≤ d (ix2 k l) + t) ↔ v k.val)
    {c : ℝ} (hc : c * Real.log 2 = 1) (a : ℝ) (hx : ∀ k, v k → x' k = c * (x k + a))
    (hU : ∀ k : Fin 384, u (ix4 0 0 e k) = w k.val) (hn : ∀ k, v k → k < 384) (h5 : ∀ k, v k → k < 511) :
    k0_pay12 (F := Ideal) t qs kk b d u (ix2 e l) = ∑ k : Fin 511, w k.val * prob 511 v x k.val := by
  rw [← attn_sum v x w hn h5]
  have hw := weight384_0 v x x' t qs kk b d l hS hV hc a hx
  pointwise [k0_pay12, hU, hw]

/-- Its importance. -/
theorem imp384_0 (v : ℕ → Prop) [DecidablePred v] (x x' : Fin 4 → ℕ → EReal) (w : ℕ → EReal) (t : EReal) (qs : FVec Ideal S512x128 .bf16) (kk : FVec Ideal S1x1x384x128 .bf16) (b : FVec Ideal S1x384x512 .f32)
    (d : FVec Ideal S384x512 .f32) (o : FVec Ideal S128x384 .bf16) (q r : Fin 128)
    (hS : ∀ (j : Fin 4) (k : Fin 384), (∑ c : Fin 128, kk (ix4 0 0 k c) * qs (ix2 ⟨128 * j.val + q.val, by omega⟩ c)) + b (ix3 0 k ⟨128 * j.val + q.val, by omega⟩) = x' j k.val)
    (hV : ∀ (j : Fin 4) (k : Fin 384), (0 ≤ d (ix2 k ⟨128 * j.val + q.val, by omega⟩) + t) ↔ v k.val)
    {c : ℝ} (hc : c * Real.log 2 = 1) (a : Fin 4 → ℝ) (hx : ∀ j k, v k → x' j k = c * (x j k + a j))
    (hU : ∀ k : Fin 384, o (ix2 r k) = w k.val) (hn : ∀ k, v k → k < 384) (h5 : ∀ k, v k → k < 511) :
    k0_pay14 (F := Ideal) (k0_pay11 (F := Ideal) t qs kk b d) (k0_pay13 (F := Ideal) t qs kk b d) o o (ix2 r q) = ∑ k : Fin 511, (∑ j : Fin 4, prob 511 v (x j) k.val) * w k.val := by
  rw [← imp_sum v x w hn h5]
  have hw := fun j k => weight384_0 v (x j) (x' j) t qs kk b d ⟨128 * j.val + q.val, by omega⟩ (hS j) (hV j) hc (a j) (hx j) k
  have h0 := hw 0
  have h1 := hw 1
  have h2 := hw 2
  have h3 := hw 3
  simp only [Fin.val_zero, Fin.val_one, Fin.val_two, show (3 : Fin 4).val = 3 from rfl, Nat.mul_zero, Nat.zero_add, Nat.mul_one, Nat.reduceMul] at h0 h1 h2 h3
  pointwise [k0_pay14, k0_pay13, hU, h0, h1, h2, h3]

/-- Branch of 384 rows, second group: the weights of a column. -/
theorem weight384_1 (v : ℕ → Prop) [DecidablePred v] (x x' : ℕ → EReal) (t : EReal) (qs : FVec Ideal S512x128 .bf16) (kk : FVec Ideal S1x1x384x128 .bf16) (b : FVec Ideal S1x384x512 .f32)
    (d : FVec Ideal S384x512 .f32) (l : Fin 512)
    (hS : ∀ k : Fin 384, (∑ c : Fin 128, kk (ix4 0 0 k c) * qs (ix2 l c)) + b (ix3 0 k l) = x' k.val)
    (hV : ∀ k : Fin 384, (0 ≤ d (ix2 k l) + t) ↔ v k.val)
    {c : ℝ} (hc : c * Real.log 2 = 1) (a : ℝ) (hx : ∀ k, v k → x' k = c * (x k + a)) (k : Fin 384) :
    k0_pay45 (F := Ideal) (k0_pay17 (F := Ideal) t qs kk b d) (k0_pay18 (F := Ideal) t qs kk b d) (k0_pay19 (F := Ideal) t qs kk b d) (ix2 k l) = prob 384 v x k.val := by
  rw [← prob_exp2 384 v x hc a x' hx k.2]
  pointwise [k0_pay45, k0_pay19, k0_pay18, k0_pay17, k0_pay16, k0_pay15, hS, hV, kappa_mask, kappa_half, masked, top, neg_inf]
  rfl

/-- Its attention. -/
theorem attn384_1 (v : ℕ → Prop) [DecidablePred v] (x x' w : ℕ → EReal) (t : EReal) (qs : FVec Ideal S512x128 .bf16) (kk : FVec Ideal S1x1x384x128 .bf16) (b : FVec Ideal S1x384x512 .f32)
    (d : FVec Ideal S384x512 .f32) (u : FVec Ideal S1x1x64x384 .bf16) (l : Fin 512) (e : Fin 64)
    (hS : ∀ k : Fin 384, (∑ c : Fin 128, kk (ix4 0 0 k c) * qs (ix2 l c)) + b (ix3 0 k l) = x' k.val)
    (hV : ∀ k : Fin 384, (0 ≤ d (ix2 k l) + t) ↔ v k.val)
    {c : ℝ} (hc : c * Real.log 2 = 1) (a : ℝ) (hx : ∀ k, v k → x' k = c * (x k + a))
    (hU : ∀ k : Fin 384, u (ix4 0 0 e k) = w k.val) (hn : ∀ k, v k → k < 384) (h5 : ∀ k, v k → k < 511) :
    k0_pay46 (F := Ideal) (k0_pay17 (F := Ideal) t qs kk b d) (k0_pay18 (F := Ideal) t qs kk b d) (k0_pay19 (F := Ideal) t qs kk b d) u (ix2 e l) = ∑ k : Fin 511, w k.val * prob 511 v x k.val := by
  rw [← attn_sum v x w hn h5]
  have hw := weight384_1 v x x' t qs kk b d l hS hV hc a hx
  pointwise [k0_pay46, hU, hw]

/-- Its importance. -/
theorem imp384_1 (v : ℕ → Prop) [DecidablePred v] (x x' : Fin 4 → ℕ → EReal) (w : ℕ → EReal) (t : EReal) (qs : FVec Ideal S512x128 .bf16) (kk : FVec Ideal S1x1x384x128 .bf16) (b : FVec Ideal S1x384x512 .f32)
    (d : FVec Ideal S384x512 .f32) (o : FVec Ideal S128x384 .bf16) (q r : Fin 128)
    (hS : ∀ (j : Fin 4) (k : Fin 384), (∑ c : Fin 128, kk (ix4 0 0 k c) * qs (ix2 ⟨128 * j.val + q.val, by omega⟩ c)) + b (ix3 0 k ⟨128 * j.val + q.val, by omega⟩) = x' j k.val)
    (hV : ∀ (j : Fin 4) (k : Fin 384), (0 ≤ d (ix2 k ⟨128 * j.val + q.val, by omega⟩) + t) ↔ v k.val)
    {c : ℝ} (hc : c * Real.log 2 = 1) (a : Fin 4 → ℝ) (hx : ∀ j k, v k → x' j k = c * (x j k + a j))
    (hU : ∀ k : Fin 384, o (ix2 r k) = w k.val) (hn : ∀ k, v k → k < 384) (h5 : ∀ k, v k → k < 511) :
    k0_pay47 (F := Ideal) (k0_pay17 (F := Ideal) t qs kk b d) (k0_pay18 (F := Ideal) t qs kk b d) (k0_pay19 (F := Ideal) t qs kk b d) o o (ix2 r q) = ∑ k : Fin 511, (∑ j : Fin 4, prob 511 v (x j) k.val) * w k.val := by
  rw [← imp_sum v x w hn h5]
  have hw := fun j k => weight384_1 v (x j) (x' j) t qs kk b d ⟨128 * j.val + q.val, by omega⟩ (hS j) (hV j) hc (a j) (hx j) k
  have h0 := hw 0
  have h1 := hw 1
  have h2 := hw 2
  have h3 := hw 3
  simp only [Fin.val_zero, Fin.val_one, Fin.val_two, show (3 : Fin 4).val = 3 from rfl, Nat.mul_zero, Nat.zero_add, Nat.mul_one, Nat.reduceMul] at h0 h1 h2 h3
  pointwise [k0_pay47, hU, h0, h1, h2, h3]

/-- Branch of 256 rows, first group: the weights of a column. -/
theorem weight256_0 (v : ℕ → Prop) [DecidablePred v] (x x' : ℕ → EReal) (t : EReal) (qs : FVec Ideal S512x128 .bf16) (kk : FVec Ideal S1x1x256x128 .bf16) (b : FVec Ideal S1x256x512 .f32)
    (d : FVec Ideal S256x512 .f32) (l : Fin 512)
    (hS : ∀ k : Fin 256, (∑ c : Fin 128, kk (ix4 0 0 k c) * qs (ix2 l c)) + b (ix3 0 k l) = x' k.val)
    (hV : ∀ k : Fin 256, (0 ≤ d (ix2 k l) + t) ↔ v k.val)
    {c : ℝ} (hc : c * Real.log 2 = 1) (a : ℝ) (hx : ∀ k, v k → x' k = c * (x k + a)) (k : Fin 256) :
    k0_pay20 (F := Ideal) t qs kk b d (ix2 k l) = prob 256 v x k.val := by
  rw [← prob_exp2 256 v x hc a x' hx k.2]
  pointwise [k0_pay20, hS, hV, kappa_mask, kappa_half, masked, top, neg_inf]
  rfl

/-- Its attention. -/
theorem attn256_0 (v : ℕ → Prop) [DecidablePred v] (x x' w : ℕ → EReal) (t : EReal) (qs : FVec Ideal S512x128 .bf16) (kk : FVec Ideal S1x1x256x128 .bf16) (b : FVec Ideal S1x256x512 .f32)
    (d : FVec Ideal S256x512 .f32) (u : FVec Ideal S1x1x64x256 .bf16) (l : Fin 512) (e : Fin 64)
    (hS : ∀ k : Fin 256, (∑ c : Fin 128, kk (ix4 0 0 k c) * qs (ix2 l c)) + b (ix3 0 k l) = x' k.val)
    (hV : ∀ k : Fin 256, (0 ≤ d (ix2 k l) + t) ↔ v k.val)
    {c : ℝ} (hc : c * Real.log 2 = 1) (a : ℝ) (hx : ∀ k, v k → x' k = c * (x k + a))
    (hU : ∀ k : Fin 256, u (ix4 0 0 e k) = w k.val) (hn : ∀ k, v k → k < 256) (h5 : ∀ k, v k → k < 511) :
    k0_pay21 (F := Ideal) t qs kk b d u (ix2 e l) = ∑ k : Fin 511, w k.val * prob 511 v x k.val := by
  rw [← attn_sum v x w hn h5]
  have hw := weight256_0 v x x' t qs kk b d l hS hV hc a hx
  pointwise [k0_pay21, hU, hw]

/-- Its importance. -/
theorem imp256_0 (v : ℕ → Prop) [DecidablePred v] (x x' : Fin 4 → ℕ → EReal) (w : ℕ → EReal) (t : EReal) (qs : FVec Ideal S512x128 .bf16) (kk : FVec Ideal S1x1x256x128 .bf16) (b : FVec Ideal S1x256x512 .f32)
    (d : FVec Ideal S256x512 .f32) (o : FVec Ideal S128x256 .bf16) (q r : Fin 128)
    (hS : ∀ (j : Fin 4) (k : Fin 256), (∑ c : Fin 128, kk (ix4 0 0 k c) * qs (ix2 ⟨128 * j.val + q.val, by omega⟩ c)) + b (ix3 0 k ⟨128 * j.val + q.val, by omega⟩) = x' j k.val)
    (hV : ∀ (j : Fin 4) (k : Fin 256), (0 ≤ d (ix2 k ⟨128 * j.val + q.val, by omega⟩) + t) ↔ v k.val)
    {c : ℝ} (hc : c * Real.log 2 = 1) (a : Fin 4 → ℝ) (hx : ∀ j k, v k → x' j k = c * (x j k + a j))
    (hU : ∀ k : Fin 256, o (ix2 r k) = w k.val) (hn : ∀ k, v k → k < 256) (h5 : ∀ k, v k → k < 511) :
    k0_pay23 (F := Ideal) (k0_pay20 (F := Ideal) t qs kk b d) (k0_pay22 (F := Ideal) t qs kk b d) o o (ix2 r q) = ∑ k : Fin 511, (∑ j : Fin 4, prob 511 v (x j) k.val) * w k.val := by
  rw [← imp_sum v x w hn h5]
  have hw := fun j k => weight256_0 v (x j) (x' j) t qs kk b d ⟨128 * j.val + q.val, by omega⟩ (hS j) (hV j) hc (a j) (hx j) k
  have h0 := hw 0
  have h1 := hw 1
  have h2 := hw 2
  have h3 := hw 3
  simp only [Fin.val_zero, Fin.val_one, Fin.val_two, show (3 : Fin 4).val = 3 from rfl, Nat.mul_zero, Nat.zero_add, Nat.mul_one, Nat.reduceMul] at h0 h1 h2 h3
  pointwise [k0_pay23, k0_pay22, hU, h0, h1, h2, h3]

/-- Branch of 256 rows, second group: the weights of a column. -/
theorem weight256_1 (v : ℕ → Prop) [DecidablePred v] (x x' : ℕ → EReal) (t : EReal) (qs : FVec Ideal S512x128 .bf16) (kk : FVec Ideal S1x1x256x128 .bf16) (b : FVec Ideal S1x256x512 .f32)
    (d : FVec Ideal S256x512 .f32) (l : Fin 512)
    (hS : ∀ k : Fin 256, (∑ c : Fin 128, kk (ix4 0 0 k c) * qs (ix2 l c)) + b (ix3 0 k l) = x' k.val)
    (hV : ∀ k : Fin 256, (0 ≤ d (ix2 k l) + t) ↔ v k.val)
    {c : ℝ} (hc : c * Real.log 2 = 1) (a : ℝ) (hx : ∀ k, v k → x' k = c * (x k + a)) (k : Fin 256) :
    k0_pay48 (F := Ideal) (k0_pay26 (F := Ideal) t qs kk b d) (k0_pay27 (F := Ideal) t qs kk b d) (k0_pay28 (F := Ideal) t qs kk b d) (ix2 k l) = prob 256 v x k.val := by
  rw [← prob_exp2 256 v x hc a x' hx k.2]
  pointwise [k0_pay48, k0_pay28, k0_pay27, k0_pay26, k0_pay25, k0_pay24, hS, hV, kappa_mask, kappa_half, masked, top, neg_inf]
  rfl

/-- Its attention. -/
theorem attn256_1 (v : ℕ → Prop) [DecidablePred v] (x x' w : ℕ → EReal) (t : EReal) (qs : FVec Ideal S512x128 .bf16) (kk : FVec Ideal S1x1x256x128 .bf16) (b : FVec Ideal S1x256x512 .f32)
    (d : FVec Ideal S256x512 .f32) (u : FVec Ideal S1x1x64x256 .bf16) (l : Fin 512) (e : Fin 64)
    (hS : ∀ k : Fin 256, (∑ c : Fin 128, kk (ix4 0 0 k c) * qs (ix2 l c)) + b (ix3 0 k l) = x' k.val)
    (hV : ∀ k : Fin 256, (0 ≤ d (ix2 k l) + t) ↔ v k.val)
    {c : ℝ} (hc : c * Real.log 2 = 1) (a : ℝ) (hx : ∀ k, v k → x' k = c * (x k + a))
    (hU : ∀ k : Fin 256, u (ix4 0 0 e k) = w k.val) (hn : ∀ k, v k → k < 256) (h5 : ∀ k, v k → k < 511) :
    k0_pay49 (F := Ideal) (k0_pay26 (F := Ideal) t qs kk b d) (k0_pay27 (F := Ideal) t qs kk b d) (k0_pay28 (F := Ideal) t qs kk b d) u (ix2 e l) = ∑ k : Fin 511, w k.val * prob 511 v x k.val := by
  rw [← attn_sum v x w hn h5]
  have hw := weight256_1 v x x' t qs kk b d l hS hV hc a hx
  pointwise [k0_pay49, hU, hw]

/-- Its importance. -/
theorem imp256_1 (v : ℕ → Prop) [DecidablePred v] (x x' : Fin 4 → ℕ → EReal) (w : ℕ → EReal) (t : EReal) (qs : FVec Ideal S512x128 .bf16) (kk : FVec Ideal S1x1x256x128 .bf16) (b : FVec Ideal S1x256x512 .f32)
    (d : FVec Ideal S256x512 .f32) (o : FVec Ideal S128x256 .bf16) (q r : Fin 128)
    (hS : ∀ (j : Fin 4) (k : Fin 256), (∑ c : Fin 128, kk (ix4 0 0 k c) * qs (ix2 ⟨128 * j.val + q.val, by omega⟩ c)) + b (ix3 0 k ⟨128 * j.val + q.val, by omega⟩) = x' j k.val)
    (hV : ∀ (j : Fin 4) (k : Fin 256), (0 ≤ d (ix2 k ⟨128 * j.val + q.val, by omega⟩) + t) ↔ v k.val)
    {c : ℝ} (hc : c * Real.log 2 = 1) (a : Fin 4 → ℝ) (hx : ∀ j k, v k → x' j k = c * (x j k + a j))
    (hU : ∀ k : Fin 256, o (ix2 r k) = w k.val) (hn : ∀ k, v k → k < 256) (h5 : ∀ k, v k → k < 511) :
    k0_pay50 (F := Ideal) (k0_pay26 (F := Ideal) t qs kk b d) (k0_pay27 (F := Ideal) t qs kk b d) (k0_pay28 (F := Ideal) t qs kk b d) o o (ix2 r q) = ∑ k : Fin 511, (∑ j : Fin 4, prob 511 v (x j) k.val) * w k.val := by
  rw [← imp_sum v x w hn h5]
  have hw := fun j k => weight256_1 v (x j) (x' j) t qs kk b d ⟨128 * j.val + q.val, by omega⟩ (hS j) (hV j) hc (a j) (hx j) k
  have h0 := hw 0
  have h1 := hw 1
  have h2 := hw 2
  have h3 := hw 3
  simp only [Fin.val_zero, Fin.val_one, Fin.val_two, show (3 : Fin 4).val = 3 from rfl, Nat.mul_zero, Nat.zero_add, Nat.mul_one, Nat.reduceMul] at h0 h1 h2 h3
  pointwise [k0_pay50, hU, h0, h1, h2, h3]

/-- Branch of 128 rows, first group: the weights of a column. -/
theorem weight128_0 (v : ℕ → Prop) [DecidablePred v] (x x' : ℕ → EReal) (t : EReal) (qs : FVec Ideal S512x128 .bf16) (kk : FVec Ideal S1x1x128x128 .bf16) (b : FVec Ideal S1x128x512 .f32)
    (d : FVec Ideal S128x512 .f32) (l : Fin 512)
    (hS : ∀ k : Fin 128, (∑ c : Fin 128, kk (ix4 0 0 k c) * qs (ix2 l c)) + b (ix3 0 k l) = x' k.val)
    (hV : ∀ k : Fin 128, (0 ≤ d (ix2 k l) + t) ↔ v k.val)
    {c : ℝ} (hc : c * Real.log 2 = 1) (a : ℝ) (hx : ∀ k, v k → x' k = c * (x k + a)) (k : Fin 128) :
    k0_pay29 (F := Ideal) t qs kk b d (ix2 k l) = prob 128 v x k.val := by
  rw [← prob_exp2 128 v x hc a x' hx k.2]
  pointwise [k0_pay29, hS, hV, kappa_mask, kappa_half, masked, top, neg_inf]
  rfl

/-- Its attention. -/
theorem attn128_0 (v : ℕ → Prop) [DecidablePred v] (x x' w : ℕ → EReal) (t : EReal) (qs : FVec Ideal S512x128 .bf16) (kk : FVec Ideal S1x1x128x128 .bf16) (b : FVec Ideal S1x128x512 .f32)
    (d : FVec Ideal S128x512 .f32) (u : FVec Ideal S1x1x64x128 .bf16) (l : Fin 512) (e : Fin 64)
    (hS : ∀ k : Fin 128, (∑ c : Fin 128, kk (ix4 0 0 k c) * qs (ix2 l c)) + b (ix3 0 k l) = x' k.val)
    (hV : ∀ k : Fin 128, (0 ≤ d (ix2 k l) + t) ↔ v k.val)
    {c : ℝ} (hc : c * Real.log 2 = 1) (a : ℝ) (hx : ∀ k, v k → x' k = c * (x k + a))
    (hU : ∀ k : Fin 128, u (ix4 0 0 e k) = w k.val) (hn : ∀ k, v k → k < 128) (h5 : ∀ k, v k → k < 511) :
    k0_pay30 (F := Ideal) t qs kk b d u (ix2 e l) = ∑ k : Fin 511, w k.val * prob 511 v x k.val := by
  rw [← attn_sum v x w hn h5]
  have hw := weight128_0 v x x' t qs kk b d l hS hV hc a hx
  pointwise [k0_pay30, hU, hw]

/-- Its importance. -/
theorem imp128_0 (v : ℕ → Prop) [DecidablePred v] (x x' : Fin 4 → ℕ → EReal) (w : ℕ → EReal) (t : EReal) (qs : FVec Ideal S512x128 .bf16) (kk : FVec Ideal S1x1x128x128 .bf16) (b : FVec Ideal S1x128x512 .f32)
    (d : FVec Ideal S128x512 .f32) (o : FVec Ideal S128x128 .bf16) (q r : Fin 128)
    (hS : ∀ (j : Fin 4) (k : Fin 128), (∑ c : Fin 128, kk (ix4 0 0 k c) * qs (ix2 ⟨128 * j.val + q.val, by omega⟩ c)) + b (ix3 0 k ⟨128 * j.val + q.val, by omega⟩) = x' j k.val)
    (hV : ∀ (j : Fin 4) (k : Fin 128), (0 ≤ d (ix2 k ⟨128 * j.val + q.val, by omega⟩) + t) ↔ v k.val)
    {c : ℝ} (hc : c * Real.log 2 = 1) (a : Fin 4 → ℝ) (hx : ∀ j k, v k → x' j k = c * (x j k + a j))
    (hU : ∀ k : Fin 128, o (ix2 r k) = w k.val) (hn : ∀ k, v k → k < 128) (h5 : ∀ k, v k → k < 511) :
    k0_pay32 (F := Ideal) (k0_pay29 (F := Ideal) t qs kk b d) (k0_pay31 (F := Ideal) t qs kk b d) o o (ix2 r q) = ∑ k : Fin 511, (∑ j : Fin 4, prob 511 v (x j) k.val) * w k.val := by
  rw [← imp_sum v x w hn h5]
  have hw := fun j k => weight128_0 v (x j) (x' j) t qs kk b d ⟨128 * j.val + q.val, by omega⟩ (hS j) (hV j) hc (a j) (hx j) k
  have h0 := hw 0
  have h1 := hw 1
  have h2 := hw 2
  have h3 := hw 3
  simp only [Fin.val_zero, Fin.val_one, Fin.val_two, show (3 : Fin 4).val = 3 from rfl, Nat.mul_zero, Nat.zero_add, Nat.mul_one, Nat.reduceMul] at h0 h1 h2 h3
  pointwise [k0_pay32, k0_pay31, hU, h0, h1, h2, h3]

/-- Branch of 128 rows, second group: the weights of a column. -/
theorem weight128_1 (v : ℕ → Prop) [DecidablePred v] (x x' : ℕ → EReal) (t : EReal) (qs : FVec Ideal S512x128 .bf16) (kk : FVec Ideal S1x1x128x128 .bf16) (b : FVec Ideal S1x128x512 .f32)
    (d : FVec Ideal S128x512 .f32) (l : Fin 512)
    (hS : ∀ k : Fin 128, (∑ c : Fin 128, kk (ix4 0 0 k c) * qs (ix2 l c)) + b (ix3 0 k l) = x' k.val)
    (hV : ∀ k : Fin 128, (0 ≤ d (ix2 k l) + t) ↔ v k.val)
    {c : ℝ} (hc : c * Real.log 2 = 1) (a : ℝ) (hx : ∀ k, v k → x' k = c * (x k + a)) (k : Fin 128) :
    k0_pay51 (F := Ideal) (k0_pay35 (F := Ideal) t qs kk b d) (k0_pay36 (F := Ideal) t qs kk b d) (k0_pay37 (F := Ideal) t qs kk b d) (ix2 k l) = prob 128 v x k.val := by
  rw [← prob_exp2 128 v x hc a x' hx k.2]
  pointwise [k0_pay51, k0_pay37, k0_pay36, k0_pay35, k0_pay34, k0_pay33, hS, hV, kappa_mask, kappa_half, masked, top, neg_inf]
  rfl

/-- Its attention. -/
theorem attn128_1 (v : ℕ → Prop) [DecidablePred v] (x x' w : ℕ → EReal) (t : EReal) (qs : FVec Ideal S512x128 .bf16) (kk : FVec Ideal S1x1x128x128 .bf16) (b : FVec Ideal S1x128x512 .f32)
    (d : FVec Ideal S128x512 .f32) (u : FVec Ideal S1x1x64x128 .bf16) (l : Fin 512) (e : Fin 64)
    (hS : ∀ k : Fin 128, (∑ c : Fin 128, kk (ix4 0 0 k c) * qs (ix2 l c)) + b (ix3 0 k l) = x' k.val)
    (hV : ∀ k : Fin 128, (0 ≤ d (ix2 k l) + t) ↔ v k.val)
    {c : ℝ} (hc : c * Real.log 2 = 1) (a : ℝ) (hx : ∀ k, v k → x' k = c * (x k + a))
    (hU : ∀ k : Fin 128, u (ix4 0 0 e k) = w k.val) (hn : ∀ k, v k → k < 128) (h5 : ∀ k, v k → k < 511) :
    k0_pay52 (F := Ideal) (k0_pay35 (F := Ideal) t qs kk b d) (k0_pay36 (F := Ideal) t qs kk b d) (k0_pay37 (F := Ideal) t qs kk b d) u (ix2 e l) = ∑ k : Fin 511, w k.val * prob 511 v x k.val := by
  rw [← attn_sum v x w hn h5]
  have hw := weight128_1 v x x' t qs kk b d l hS hV hc a hx
  pointwise [k0_pay52, hU, hw]

/-- Its importance. -/
theorem imp128_1 (v : ℕ → Prop) [DecidablePred v] (x x' : Fin 4 → ℕ → EReal) (w : ℕ → EReal) (t : EReal) (qs : FVec Ideal S512x128 .bf16) (kk : FVec Ideal S1x1x128x128 .bf16) (b : FVec Ideal S1x128x512 .f32)
    (d : FVec Ideal S128x512 .f32) (o : FVec Ideal S128x128 .bf16) (q r : Fin 128)
    (hS : ∀ (j : Fin 4) (k : Fin 128), (∑ c : Fin 128, kk (ix4 0 0 k c) * qs (ix2 ⟨128 * j.val + q.val, by omega⟩ c)) + b (ix3 0 k ⟨128 * j.val + q.val, by omega⟩) = x' j k.val)
    (hV : ∀ (j : Fin 4) (k : Fin 128), (0 ≤ d (ix2 k ⟨128 * j.val + q.val, by omega⟩) + t) ↔ v k.val)
    {c : ℝ} (hc : c * Real.log 2 = 1) (a : Fin 4 → ℝ) (hx : ∀ j k, v k → x' j k = c * (x j k + a j))
    (hU : ∀ k : Fin 128, o (ix2 r k) = w k.val) (hn : ∀ k, v k → k < 128) (h5 : ∀ k, v k → k < 511) :
    k0_pay53 (F := Ideal) (k0_pay35 (F := Ideal) t qs kk b d) (k0_pay36 (F := Ideal) t qs kk b d) (k0_pay37 (F := Ideal) t qs kk b d) o o (ix2 r q) = ∑ k : Fin 511, (∑ j : Fin 4, prob 511 v (x j) k.val) * w k.val := by
  rw [← imp_sum v x w hn h5]
  have hw := fun j k => weight128_1 v (x j) (x' j) t qs kk b d ⟨128 * j.val + q.val, by omega⟩ (hS j) (hV j) hc (a j) (hx j) k
  have h0 := hw 0
  have h1 := hw 1
  have h2 := hw 2
  have h3 := hw 3
  simp only [Fin.val_zero, Fin.val_one, Fin.val_two, show (3 : Fin 4).val = 3 from rfl, Nat.mul_zero, Nat.zero_add, Nat.mul_one, Nat.reduceMul] at h0 h1 h2 h3
  pointwise [k0_pay53, hU, h0, h1, h2, h3]

end Cert.KernelIdeal.Weights

end
-- ==== Proof.Branches.lean ====
/-
  What the branch a tile takes hands on, over the tile's six input blocks: whichever of the four branches it is, the
  attention of each head is the softmax over all 511 keys into the values, and the importance is the weights of a group's
  four heads into the overlaps. A tile's branch has as many rows as its last query can see.
-/
module

public import proofs.«01_k».proof.Proof.Tile
public import proofs.«01_k».proof.Proof.Weights

@[expose] public section

set_option maxRecDepth 16384

noncomputable section

namespace Cert.KernelIdeal.Tile

open Cert.KernelIdeal Cert.KernelIdeal.Gen Cert.KernelIdeal.Nsa Cert.KernelIdeal.Weights
open Idealize.ShloMosaic Idealize.ShloMosaic.TcCoe Idealize.SL.Sem
open Cert.Softmax

theorem below1 (i : grid0.Coords) (h : ¬ cond1 i) : (i 1).val < 16 :=
  ((by decide +kernel : ∀ a : Fin 64, (Scalar.cmpi .ne (chunk (lastBlock (BitVec.ofNat 32 a.val))) 0#32 = 1#1) ∨ a.val < 16) (i 1)).resolve_left h
theorem below2 (i : grid0.Coords) (h : ¬ cond2 i) : (i 1).val < 32 :=
  ((by decide +kernel : ∀ a : Fin 64, (Scalar.cmpi .ne (Scalar.subi (chunk (lastBlock (BitVec.ofNat 32 a.val))) 1#32) 0#32 = 1#1) ∨ a.val < 32) (i 1)).resolve_left h
theorem below3 (i : grid0.Coords) (h : ¬ cond3 i) : (i 1).val < 48 :=
  ((by decide +kernel : ∀ a : Fin 64, (Scalar.cmpi .ne (Scalar.subi (Scalar.subi (chunk (lastBlock (BitVec.ofNat 32 a.val))) 1#32) 1#32) 0#32 = 1#1) ∨ a.val < 48) (i 1)).resolve_left h

variable (i : grid0.Coords) (x2 : FVec Ideal S128x512 .bf16) (x3 : FVec Ideal S1x2x512x128 .bf16) (x4 : FVec Ideal S1x2x64x512 .bf16) (x5 : FVec Ideal S128x512 .bf16) (x6 : FVec Ideal S512x512 .f32) (x7 : FVec Ideal S2x512x512 .f32)

/-- The distance of a tile's first query, as the kernel adds it. -/
abbrev start : EReal := k0_pay38 (F := Ideal) i

/-- Attention, branch of 512 rows, first group. -/
theorem res512_attn0 (v : ℕ → Prop) [DecidablePred v] (x x' w : ℕ → EReal) (K : ℕ → Fin 64 → EReal) (j : Fin 4) (q : Fin 128) (e : Fin 64)
    (hlo : ∀ (k : Fin 512) (e : Fin 64), x3 (ix4 0 0 k ⟨e.val, by omega⟩) = K k.val e)
    (hhi : ∀ (k : Fin 512) (e : Fin 64), x3 (ix4 0 0 k ⟨64 + e.val, by omega⟩) = K k.val e)
    (hS : ∀ k : Fin 512, (∑ e : Fin 64, K k.val e * x2 (ix2 q ⟨64 * j.val + e.val, by omega⟩)) + x7 (ix3 0 k ⟨128 * j.val + q.val, by omega⟩) = x' k.val)
    (hV : ∀ k : Fin 512, (0 ≤ x6 (ix2 k ⟨128 * j.val + q.val, by omega⟩) + start i) ↔ v k.val)
    {c : ℝ} (hc : c * Real.log 2 = 1) (a : ℝ) (hx : ∀ k, v k → x' k = c * (x k + a))
    (hU : ∀ k : Fin 512, x4 (ix4 0 0 e k) = w k.val) (hn : ∀ k, v k → k < 512) (h5 : ∀ k, v k → k < 511) :
    (res512 (F := Ideal) i x2 x3 x4 x5 x6 x7).1 (ix2 e ⟨128 * j.val + q.val, by omega⟩) = ∑ k : Fin 511, w k.val * prob 511 v x k.val := by
  unfold res512
  refine attn512_0 v x x' w _ (qs0 x2) _ _ _ _ _ e (fun k => ?_) (fun k => ?_) hc a hx (fun k => ?_) hn h5
  · pointwise
    exact (congrArg₂ (· + ·) (qdot0 x2 (fun c => x3 (ix4 0 0 k c)) (K k.val) (hlo k) (hhi k) j q) rfl).trans (hS k)
  · pointwise
    exact hV k
  · pointwise
    exact hU k

/-- Importance, branch of 512 rows, first group. -/
theorem res512_imp0 (v : ℕ → Prop) [DecidablePred v] (x x' : Fin 4 → ℕ → EReal) (w : ℕ → EReal) (K : ℕ → Fin 64 → EReal) (q r : Fin 128)
    (hlo : ∀ (k : Fin 512) (e : Fin 64), x3 (ix4 0 0 k ⟨e.val, by omega⟩) = K k.val e)
    (hhi : ∀ (k : Fin 512) (e : Fin 64), x3 (ix4 0 0 k ⟨64 + e.val, by omega⟩) = K k.val e)
    (hS : ∀ (j : Fin 4) (k : Fin 512), (∑ e : Fin 64, K k.val e * x2 (ix2 q ⟨64 * j.val + e.val, by omega⟩)) + x7 (ix3 0 k ⟨128 * j.val + q.val, by omega⟩) = x' j k.val)
    (hV : ∀ (j : Fin 4) (k : Fin 512), (0 ≤ x6 (ix2 k ⟨128 * j.val + q.val, by omega⟩) + start i) ↔ v k.val)
    {c : ℝ} (hc : c * Real.log 2 = 1) (a : Fin 4 → ℝ) (hx : ∀ j k, v k → x' j k = c * (x j k + a j))
    (hU : ∀ k : Fin 512, x5 (ix2 r k) = w k.val) (hn : ∀ k, v k → k < 512) (h5 : ∀ k, v k → k < 511) :
    (res512 (F := Ideal) i x2 x3 x4 x5 x6 x7).2.1 (ix2 r q) = ∑ k : Fin 511, (∑ j : Fin 4, prob 511 v (x j) k.val) * w k.val := by
  unfold res512
  refine imp512_0 v x x' w _ (qs0 x2) _ _ _ _ q r (fun j k => ?_) (fun j k => ?_) hc a hx (fun k => ?_) hn h5
  · pointwise
    exact (congrArg₂ (· + ·) (qdot0 x2 (fun c => x3 (ix4 0 0 k c)) (K k.val) (hlo k) (hhi k) j q) rfl).trans (hS j k)
  · pointwise
    exact hV j k
  · pointwise
    exact hU k

/-- Attention, branch of 512 rows, second group. -/
theorem res512_attn1 (v : ℕ → Prop) [DecidablePred v] (x x' w : ℕ → EReal) (K : ℕ → Fin 64 → EReal) (j : Fin 4) (q : Fin 128) (e : Fin 64)
    (hlo : ∀ (k : Fin 512) (e : Fin 64), x3 (ix4 0 1 k ⟨e.val, by omega⟩) = K k.val e)
    (hhi : ∀ (k : Fin 512) (e : Fin 64), x3 (ix4 0 1 k ⟨64 + e.val, by omega⟩) = K k.val e)
    (hS : ∀ k : Fin 512, (∑ e : Fin 64, K k.val e * x2 (ix2 q ⟨256 + (64 * j.val + e.val), by omega⟩)) + x7 (ix3 1 k ⟨128 * j.val + q.val, by omega⟩) = x' k.val)
    (hV : ∀ k : Fin 512, (0 ≤ x6 (ix2 k ⟨128 * j.val + q.val, by omega⟩) + start i) ↔ v k.val)
    {c : ℝ} (hc : c * Real.log 2 = 1) (a : ℝ) (hx : ∀ k, v k → x' k = c * (x k + a))
    (hU : ∀ k : Fin 512, x4 (ix4 0 1 e k) = w k.val) (hn : ∀ k, v k → k < 512) (h5 : ∀ k, v k → k < 511) :
    (res512 (F := Ideal) i x2 x3 x4 x5 x6 x7).2.2.1 (ix2 e ⟨128 * j.val + q.val, by omega⟩) = ∑ k : Fin 511, w k.val * prob 511 v x k.val := by
  unfold res512
  refine attn512_1 v x x' w _ (qs1 x2) _ _ _ _ _ e (fun k => ?_) (fun k => ?_) hc a hx (fun k => ?_) hn h5
  · pointwise
    exact (congrArg₂ (· + ·) (qdot1 x2 (fun c => x3 (ix4 0 1 k c)) (K k.val) (hlo k) (hhi k) j q) rfl).trans (hS k)
  · pointwise
    exact hV k
  · pointwise
    exact hU k

/-- Importance, branch of 512 rows, second group. -/
theorem res512_imp1 (v : ℕ → Prop) [DecidablePred v] (x x' : Fin 4 → ℕ → EReal) (w : ℕ → EReal) (K : ℕ → Fin 64 → EReal) (q r : Fin 128)
    (hlo : ∀ (k : Fin 512) (e : Fin 64), x3 (ix4 0 1 k ⟨e.val, by omega⟩) = K k.val e)
    (hhi : ∀ (k : Fin 512) (e : Fin 64), x3 (ix4 0 1 k ⟨64 + e.val, by omega⟩) = K k.val e)
    (hS : ∀ (j : Fin 4) (k : Fin 512), (∑ e : Fin 64, K k.val e * x2 (ix2 q ⟨256 + (64 * j.val + e.val), by omega⟩)) + x7 (ix3 1 k ⟨128 * j.val + q.val, by omega⟩) = x' j k.val)
    (hV : ∀ (j : Fin 4) (k : Fin 512), (0 ≤ x6 (ix2 k ⟨128 * j.val + q.val, by omega⟩) + start i) ↔ v k.val)
    {c : ℝ} (hc : c * Real.log 2 = 1) (a : Fin 4 → ℝ) (hx : ∀ j k, v k → x' j k = c * (x j k + a j))
    (hU : ∀ k : Fin 512, x5 (ix2 r k) = w k.val) (hn : ∀ k, v k → k < 512) (h5 : ∀ k, v k → k < 511) :
    (res512 (F := Ideal) i x2 x3 x4 x5 x6 x7).2.2.2 (ix2 r q) = ∑ k : Fin 511, (∑ j : Fin 4, prob 511 v (x j) k.val) * w k.val := by
  unfold res512
  refine imp512_1 v x x' w _ (qs1 x2) _ _ _ _ q r (fun j k => ?_) (fun j k => ?_) hc a hx (fun k => ?_) hn h5
  · pointwise
    exact (congrArg₂ (· + ·) (qdot1 x2 (fun c => x3 (ix4 0 1 k c)) (K k.val) (hlo k) (hhi k) j q) rfl).trans (hS j k)
  · pointwise
    exact hV j k
  · pointwise
    exact hU k

/-- Attention, branch of 384 rows, first group. -/
theorem res384_attn0 (v : ℕ → Prop) [DecidablePred v] (x x' w : ℕ → EReal) (K : ℕ → Fin 64 → EReal) (j : Fin 4) (q : Fin 128) (e : Fin 64)
    (hlo : ∀ (k : Fin 512) (e : Fin 64), x3 (ix4 0 0 k ⟨e.val, by omega⟩) = K k.val e)
    (hhi : ∀ (k : Fin 512) (e : Fin 64), x3 (ix4 0 0 k ⟨64 + e.val, by omega⟩) = K k.val e)
    (hS : ∀ k : Fin 512, (∑ e : Fin 64, K k.val e * x2 (ix2 q ⟨64 * j.val + e.val, by omega⟩)) + x7 (ix3 0 k ⟨128 * j.val + q.val, by omega⟩) = x' k.val)
    (hV : ∀ k : Fin 512, (0 ≤ x6 (ix2 k ⟨128 * j.val + q.val, by omega⟩) + start i) ↔ v k.val)
    {c : ℝ} (hc : c * Real.log 2 = 1) (a : ℝ) (hx : ∀ k, v k → x' k = c * (x k + a))
    (hU : ∀ k : Fin 512, x4 (ix4 0 0 e k) = w k.val) (hn : ∀ k, v k → k < 384) (h5 : ∀ k, v k → k < 511) :
    (res384 (F := Ideal) i x2 x3 x4 x5 x6 x7).1 (ix2 e ⟨128 * j.val + q.val, by omega⟩) = ∑ k : Fin 511, w k.val * prob 511 v x k.val := by
  unfold res384
  refine attn384_0 v x x' w _ (qs0 x2) _ _ _ _ _ e (fun k => ?_) (fun k => ?_) hc a hx (fun k => ?_) hn h5
  · pointwise
    exact (congrArg₂ (· + ·) (qdot0 x2 (fun c => x3 (ix4 0 0 ⟨k.val, by omega⟩ c)) (K k.val) (hlo ⟨k.val, by omega⟩) (hhi ⟨k.val, by omega⟩) j q) rfl).trans (hS ⟨k.val, by omega⟩)
  · pointwise
    exact hV ⟨k.val, by omega⟩
  · pointwise
    exact hU ⟨k.val, by omega⟩

/-- Importance, branch of 384 rows, first group. -/
theorem res384_imp0 (v : ℕ → Prop) [DecidablePred v] (x x' : Fin 4 → ℕ → EReal) (w : ℕ → EReal) (K : ℕ → Fin 64 → EReal) (q r : Fin 128)
    (hlo : ∀ (k : Fin 512) (e : Fin 64), x3 (ix4 0 0 k ⟨e.val, by omega⟩) = K k.val e)
    (hhi : ∀ (k : Fin 512) (e : Fin 64), x3 (ix4 0 0 k ⟨64 + e.val, by omega⟩) = K k.val e)
    (hS : ∀ (j : Fin 4) (k : Fin 512), (∑ e : Fin 64, K k.val e * x2 (ix2 q ⟨64 * j.val + e.val, by omega⟩)) + x7 (ix3 0 k ⟨128 * j.val + q.val, by omega⟩) = x' j k.val)
    (hV : ∀ (j : Fin 4) (k : Fin 512), (0 ≤ x6 (ix2 k ⟨128 * j.val + q.val, by omega⟩) + start i) ↔ v k.val)
    {c : ℝ} (hc : c * Real.log 2 = 1) (a : Fin 4 → ℝ) (hx : ∀ j k, v k → x' j k = c * (x j k + a j))
    (hU : ∀ k : Fin 512, x5 (ix2 r k) = w k.val) (hn : ∀ k, v k → k < 384) (h5 : ∀ k, v k → k < 511) :
    (res384 (F := Ideal) i x2 x3 x4 x5 x6 x7).2.1 (ix2 r q) = ∑ k : Fin 511, (∑ j : Fin 4, prob 511 v (x j) k.val) * w k.val := by
  unfold res384
  refine imp384_0 v x x' w _ (qs0 x2) _ _ _ _ q r (fun j k => ?_) (fun j k => ?_) hc a hx (fun k => ?_) hn h5
  · pointwise
    exact (congrArg₂ (· + ·) (qdot0 x2 (fun c => x3 (ix4 0 0 ⟨k.val, by omega⟩ c)) (K k.val) (hlo ⟨k.val, by omega⟩) (hhi ⟨k.val, by omega⟩) j q) rfl).trans (hS j ⟨k.val, by omega⟩)
  · pointwise
    exact hV j ⟨k.val, by omega⟩
  · pointwise
    exact hU ⟨k.val, by omega⟩

/-- Attention, branch of 384 rows, second group. -/
theorem res384_attn1 (v : ℕ → Prop) [DecidablePred v] (x x' w : ℕ → EReal) (K : ℕ → Fin 64 → EReal) (j : Fin 4) (q : Fin 128) (e : Fin 64)
    (hlo : ∀ (k : Fin 512) (e : Fin 64), x3 (ix4 0 1 k ⟨e.val, by omega⟩) = K k.val e)
    (hhi : ∀ (k : Fin 512) (e : Fin 64), x3 (ix4 0 1 k ⟨64 + e.val, by omega⟩) = K k.val e)
    (hS : ∀ k : Fin 512, (∑ e : Fin 64, K k.val e * x2 (ix2 q ⟨256 + (64 * j.val + e.val), by omega⟩)) + x7 (ix3 1 k ⟨128 * j.val + q.val, by omega⟩) = x' k.val)
    (hV : ∀ k : Fin 512, (0 ≤ x6 (ix2 k ⟨128 * j.val + q.val, by omega⟩) + start i) ↔ v k.val)
    {c : ℝ} (hc : c * Real.log 2 = 1) (a : ℝ) (hx : ∀ k, v k → x' k = c * (x k + a))
    (hU : ∀ k : Fin 512, x4 (ix4 0 1 e k) = w k.val) (hn : ∀ k, v k → k < 384) (h5 : ∀ k, v k → k < 511) :
    (res384 (F := Ideal) i x2 x3 x4 x5 x6 x7).2.2.1 (ix2 e ⟨128 * j.val + q.val, by omega⟩) = ∑ k : Fin 511, w k.val * prob 511 v x k.val := by
  unfold res384
  refine attn384_1 v x x' w _ (qs1 x2) _ _ _ _ _ e (fun k => ?_) (fun k => ?_) hc a hx (fun k => ?_) hn h5
  · pointwise
    exact (congrArg₂ (· + ·) (qdot1 x2 (fun c => x3 (ix4 0 1 ⟨k.val, by omega⟩ c)) (K k.val) (hlo ⟨k.val, by omega⟩) (hhi ⟨k.val, by omega⟩) j q) rfl).trans (hS ⟨k.val, by omega⟩)
  · pointwise
    exact hV ⟨k.val, by omega⟩
  · pointwise
    exact hU ⟨k.val, by omega⟩

/-- Importance, branch of 384 rows, second group. -/
theorem res384_imp1 (v : ℕ → Prop) [DecidablePred v] (x x' : Fin 4 → ℕ → EReal) (w : ℕ → EReal) (K : ℕ → Fin 64 → EReal) (q r : Fin 128)
    (hlo : ∀ (k : Fin 512) (e : Fin 64), x3 (ix4 0 1 k ⟨e.val, by omega⟩) = K k.val e)
    (hhi : ∀ (k : Fin 512) (e : Fin 64), x3 (ix4 0 1 k ⟨64 + e.val, by omega⟩) = K k.val e)
    (hS : ∀ (j : Fin 4) (k : Fin 512), (∑ e : Fin 64, K k.val e * x2 (ix2 q ⟨256 + (64 * j.val + e.val), by omega⟩)) + x7 (ix3 1 k ⟨128 * j.val + q.val, by omega⟩) = x' j k.val)
    (hV : ∀ (j : Fin 4) (k : Fin 512), (0 ≤ x6 (ix2 k ⟨128 * j.val + q.val, by omega⟩) + start i) ↔ v k.val)
    {c : ℝ} (hc : c * Real.log 2 = 1) (a : Fin 4 → ℝ) (hx : ∀ j k, v k → x' j k = c * (x j k + a j))
    (hU : ∀ k : Fin 512, x5 (ix2 r k) = w k.val) (hn : ∀ k, v k → k < 384) (h5 : ∀ k, v k → k < 511) :
    (res384 (F := Ideal) i x2 x3 x4 x5 x6 x7).2.2.2 (ix2 r q) = ∑ k : Fin 511, (∑ j : Fin 4, prob 511 v (x j) k.val) * w k.val := by
  unfold res384
  refine imp384_1 v x x' w _ (qs1 x2) _ _ _ _ q r (fun j k => ?_) (fun j k => ?_) hc a hx (fun k => ?_) hn h5
  · pointwise
    exact (congrArg₂ (· + ·) (qdot1 x2 (fun c => x3 (ix4 0 1 ⟨k.val, by omega⟩ c)) (K k.val) (hlo ⟨k.val, by omega⟩) (hhi ⟨k.val, by omega⟩) j q) rfl).trans (hS j ⟨k.val, by omega⟩)
  · pointwise
    exact hV j ⟨k.val, by omega⟩
  · pointwise
    exact hU ⟨k.val, by omega⟩

/-- Attention, branch of 256 rows, first group. -/
theorem res256_attn0 (v : ℕ → Prop) [DecidablePred v] (x x' w : ℕ → EReal) (K : ℕ → Fin 64 → EReal) (j : Fin 4) (q : Fin 128) (e : Fin 64)
    (hlo : ∀ (k : Fin 512) (e : Fin 64), x3 (ix4 0 0 k ⟨e.val, by omega⟩) = K k.val e)
    (hhi : ∀ (k : Fin 512) (e : Fin 64), x3 (ix4 0 0 k ⟨64 + e.val, by omega⟩) = K k.val e)
    (hS : ∀ k : Fin 512, (∑ e : Fin 64, K k.val e * x2 (ix2 q ⟨64 * j.val + e.val, by omega⟩)) + x7 (ix3 0 k ⟨128 * j.val + q.val, by omega⟩) = x' k.val)
    (hV : ∀ k : Fin 512, (0 ≤ x6 (ix2 k ⟨128 * j.val + q.val, by omega⟩) + start i) ↔ v k.val)
    {c : ℝ} (hc : c * Real.log 2 = 1) (a : ℝ) (hx : ∀ k, v k → x' k = c * (x k + a))
    (hU : ∀ k : Fin 512, x4 (ix4 0 0 e k) = w k.val) (hn : ∀ k, v k → k < 256) (h5 : ∀ k, v k → k < 511) :
    (res256 (F := Ideal) i x2 x3 x4 x5 x6 x7).1 (ix2 e ⟨128 * j.val + q.val, by omega⟩) = ∑ k : Fin 511, w k.val * prob 511 v x k.val := by
  unfold res256
  refine attn256_0 v x x' w _ (qs0 x2) _ _ _ _ _ e (fun k => ?_) (fun k => ?_) hc a hx (fun k => ?_) hn h5
  · pointwise
    exact (congrArg₂ (· + ·) (qdot0 x2 (fun c => x3 (ix4 0 0 ⟨k.val, by omega⟩ c)) (K k.val) (hlo ⟨k.val, by omega⟩) (hhi ⟨k.val, by omega⟩) j q) rfl).trans (hS ⟨k.val, by omega⟩)
  · pointwise
    exact hV ⟨k.val, by omega⟩
  · pointwise
    exact hU ⟨k.val, by omega⟩

/-- Importance, branch of 256 rows, first group. -/
theorem res256_imp0 (v : ℕ → Prop) [DecidablePred v] (x x' : Fin 4 → ℕ → EReal) (w : ℕ → EReal) (K : ℕ → Fin 64 → EReal) (q r : Fin 128)
    (hlo : ∀ (k : Fin 512) (e : Fin 64), x3 (ix4 0 0 k ⟨e.val, by omega⟩) = K k.val e)
    (hhi : ∀ (k : Fin 512) (e : Fin 64), x3 (ix4 0 0 k ⟨64 + e.val, by omega⟩) = K k.val e)
    (hS : ∀ (j : Fin 4) (k : Fin 512), (∑ e : Fin 64, K k.val e * x2 (ix2 q ⟨64 * j.val + e.val, by omega⟩)) + x7 (ix3 0 k ⟨128 * j.val + q.val, by omega⟩) = x' j k.val)
    (hV : ∀ (j : Fin 4) (k : Fin 512), (0 ≤ x6 (ix2 k ⟨128 * j.val + q.val, by omega⟩) + start i) ↔ v k.val)
    {c : ℝ} (hc : c * Real.log 2 = 1) (a : Fin 4 → ℝ) (hx : ∀ j k, v k → x' j k = c * (x j k + a j))
    (hU : ∀ k : Fin 512, x5 (ix2 r k) = w k.val) (hn : ∀ k, v k → k < 256) (h5 : ∀ k, v k → k < 511) :
    (res256 (F := Ideal) i x2 x3 x4 x5 x6 x7).2.1 (ix2 r q) = ∑ k : Fin 511, (∑ j : Fin 4, prob 511 v (x j) k.val) * w k.val := by
  unfold res256
  refine imp256_0 v x x' w _ (qs0 x2) _ _ _ _ q r (fun j k => ?_) (fun j k => ?_) hc a hx (fun k => ?_) hn h5
  · pointwise
    exact (congrArg₂ (· + ·) (qdot0 x2 (fun c => x3 (ix4 0 0 ⟨k.val, by omega⟩ c)) (K k.val) (hlo ⟨k.val, by omega⟩) (hhi ⟨k.val, by omega⟩) j q) rfl).trans (hS j ⟨k.val, by omega⟩)
  · pointwise
    exact hV j ⟨k.val, by omega⟩
  · pointwise
    exact hU ⟨k.val, by omega⟩

/-- Attention, branch of 256 rows, second group. -/
theorem res256_attn1 (v : ℕ → Prop) [DecidablePred v] (x x' w : ℕ → EReal) (K : ℕ → Fin 64 → EReal) (j : Fin 4) (q : Fin 128) (e : Fin 64)
    (hlo : ∀ (k : Fin 512) (e : Fin 64), x3 (ix4 0 1 k ⟨e.val, by omega⟩) = K k.val e)
    (hhi : ∀ (k : Fin 512) (e : Fin 64), x3 (ix4 0 1 k ⟨64 + e.val, by omega⟩) = K k.val e)
    (hS : ∀ k : Fin 512, (∑ e : Fin 64, K k.val e * x2 (ix2 q ⟨256 + (64 * j.val + e.val), by omega⟩)) + x7 (ix3 1 k ⟨128 * j.val + q.val, by omega⟩) = x' k.val)
    (hV : ∀ k : Fin 512, (0 ≤ x6 (ix2 k ⟨128 * j.val + q.val, by omega⟩) + start i) ↔ v k.val)
    {c : ℝ} (hc : c * Real.log 2 = 1) (a : ℝ) (hx : ∀ k, v k → x' k = c * (x k + a))
    (hU : ∀ k : Fin 512, x4 (ix4 0 1 e k) = w k.val) (hn : ∀ k, v k → k < 256) (h5 : ∀ k, v k → k < 511) :
    (res256 (F := Ideal) i x2 x3 x4 x5 x6 x7).2.2.1 (ix2 e ⟨128 * j.val + q.val, by omega⟩) = ∑ k : Fin 511, w k.val * prob 511 v x k.val := by
  unfold res256
  refine attn256_1 v x x' w _ (qs1 x2) _ _ _ _ _ e (fun k => ?_) (fun k => ?_) hc a hx (fun k => ?_) hn h5
  · pointwise
    exact (congrArg₂ (· + ·) (qdot1 x2 (fun c => x3 (ix4 0 1 ⟨k.val, by omega⟩ c)) (K k.val) (hlo ⟨k.val, by omega⟩) (hhi ⟨k.val, by omega⟩) j q) rfl).trans (hS ⟨k.val, by omega⟩)
  · pointwise
    exact hV ⟨k.val, by omega⟩
  · pointwise
    exact hU ⟨k.val, by omega⟩

/-- Importance, branch of 256 rows, second group. -/
theorem res256_imp1 (v : ℕ → Prop) [DecidablePred v] (x x' : Fin 4 → ℕ → EReal) (w : ℕ → EReal) (K : ℕ → Fin 64 → EReal) (q r : Fin 128)
    (hlo : ∀ (k : Fin 512) (e : Fin 64), x3 (ix4 0 1 k ⟨e.val, by omega⟩) = K k.val e)
    (hhi : ∀ (k : Fin 512) (e : Fin 64), x3 (ix4 0 1 k ⟨64 + e.val, by omega⟩) = K k.val e)
    (hS : ∀ (j : Fin 4) (k : Fin 512), (∑ e : Fin 64, K k.val e * x2 (ix2 q ⟨256 + (64 * j.val + e.val), by omega⟩)) + x7 (ix3 1 k ⟨128 * j.val + q.val, by omega⟩) = x' j k.val)
    (hV : ∀ (j : Fin 4) (k : Fin 512), (0 ≤ x6 (ix2 k ⟨128 * j.val + q.val, by omega⟩) + start i) ↔ v k.val)
    {c : ℝ} (hc : c * Real.log 2 = 1) (a : Fin 4 → ℝ) (hx : ∀ j k, v k → x' j k = c * (x j k + a j))
    (hU : ∀ k : Fin 512, x5 (ix2 r k) = w k.val) (hn : ∀ k, v k → k < 256) (h5 : ∀ k, v k → k < 511) :
    (res256 (F := Ideal) i x2 x3 x4 x5 x6 x7).2.2.2 (ix2 r q) = ∑ k : Fin 511, (∑ j : Fin 4, prob 511 v (x j) k.val) * w k.val := by
  unfold res256
  refine imp256_1 v x x' w _ (qs1 x2) _ _ _ _ q r (fun j k => ?_) (fun j k => ?_) hc a hx (fun k => ?_) hn h5
  · pointwise
    exact (congrArg₂ (· + ·) (qdot1 x2 (fun c => x3 (ix4 0 1 ⟨k.val, by omega⟩ c)) (K k.val) (hlo ⟨k.val, by omega⟩) (hhi ⟨k.val, by omega⟩) j q) rfl).trans (hS j ⟨k.val, by omega⟩)
  · pointwise
    exact hV j ⟨k.val, by omega⟩
  · pointwise
    exact hU ⟨k.val, by omega⟩

/-- Attention, branch of 128 rows, first group. -/
theorem res128_attn0 (v : ℕ → Prop) [DecidablePred v] (x x' w : ℕ → EReal) (K : ℕ → Fin 64 → EReal) (j : Fin 4) (q : Fin 128) (e : Fin 64)
    (hlo : ∀ (k : Fin 512) (e : Fin 64), x3 (ix4 0 0 k ⟨e.val, by omega⟩) = K k.val e)
    (hhi : ∀ (k : Fin 512) (e : Fin 64), x3 (ix4 0 0 k ⟨64 + e.val, by omega⟩) = K k.val e)
    (hS : ∀ k : Fin 512, (∑ e : Fin 64, K k.val e * x2 (ix2 q ⟨64 * j.val + e.val, by omega⟩)) + x7 (ix3 0 k ⟨128 * j.val + q.val, by omega⟩) = x' k.val)
    (hV : ∀ k : Fin 512, (0 ≤ x6 (ix2 k ⟨128 * j.val + q.val, by omega⟩) + start i) ↔ v k.val)
    {c : ℝ} (hc : c * Real.log 2 = 1) (a : ℝ) (hx : ∀ k, v k → x' k = c * (x k + a))
    (hU : ∀ k : Fin 512, x4 (ix4 0 0 e k) = w k.val) (hn : ∀ k, v k → k < 128) (h5 : ∀ k, v k → k < 511) :
    (res128 (F := Ideal) i x2 x3 x4 x5 x6 x7).1 (ix2 e ⟨128 * j.val + q.val, by omega⟩) = ∑ k : Fin 511, w k.val * prob 511 v x k.val := by
  unfold res128
  refine attn128_0 v x x' w _ (qs0 x2) _ _ _ _ _ e (fun k => ?_) (fun k => ?_) hc a hx (fun k => ?_) hn h5
  · pointwise
    exact (congrArg₂ (· + ·) (qdot0 x2 (fun c => x3 (ix4 0 0 ⟨k.val, by omega⟩ c)) (K k.val) (hlo ⟨k.val, by omega⟩) (hhi ⟨k.val, by omega⟩) j q) rfl).trans (hS ⟨k.val, by omega⟩)
  · pointwise
    exact hV ⟨k.val, by omega⟩
  · pointwise
    exact hU ⟨k.val, by omega⟩

/-- Importance, branch of 128 rows, first group. -/
theorem res128_imp0 (v : ℕ → Prop) [DecidablePred v] (x x' : Fin 4 → ℕ → EReal) (w : ℕ → EReal) (K : ℕ → Fin 64 → EReal) (q r : Fin 128)
    (hlo : ∀ (k : Fin 512) (e : Fin 64), x3 (ix4 0 0 k ⟨e.val, by omega⟩) = K k.val e)
    (hhi : ∀ (k : Fin 512) (e : Fin 64), x3 (ix4 0 0 k ⟨64 + e.val, by omega⟩) = K k.val e)
    (hS : ∀ (j : Fin 4) (k : Fin 512), (∑ e : Fin 64, K k.val e * x2 (ix2 q ⟨64 * j.val + e.val, by omega⟩)) + x7 (ix3 0 k ⟨128 * j.val + q.val, by omega⟩) = x' j k.val)
    (hV : ∀ (j : Fin 4) (k : Fin 512), (0 ≤ x6 (ix2 k ⟨128 * j.val + q.val, by omega⟩) + start i) ↔ v k.val)
    {c : ℝ} (hc : c * Real.log 2 = 1) (a : Fin 4 → ℝ) (hx : ∀ j k, v k → x' j k = c * (x j k + a j))
    (hU : ∀ k : Fin 512, x5 (ix2 r k) = w k.val) (hn : ∀ k, v k → k < 128) (h5 : ∀ k, v k → k < 511) :
    (res128 (F := Ideal) i x2 x3 x4 x5 x6 x7).2.1 (ix2 r q) = ∑ k : Fin 511, (∑ j : Fin 4, prob 511 v (x j) k.val) * w k.val := by
  unfold res128
  refine imp128_0 v x x' w _ (qs0 x2) _ _ _ _ q r (fun j k => ?_) (fun j k => ?_) hc a hx (fun k => ?_) hn h5
  · pointwise
    exact (congrArg₂ (· + ·) (qdot0 x2 (fun c => x3 (ix4 0 0 ⟨k.val, by omega⟩ c)) (K k.val) (hlo ⟨k.val, by omega⟩) (hhi ⟨k.val, by omega⟩) j q) rfl).trans (hS j ⟨k.val, by omega⟩)
  · pointwise
    exact hV j ⟨k.val, by omega⟩
  · pointwise
    exact hU ⟨k.val, by omega⟩

/-- Attention, branch of 128 rows, second group. -/
theorem res128_attn1 (v : ℕ → Prop) [DecidablePred v] (x x' w : ℕ → EReal) (K : ℕ → Fin 64 → EReal) (j : Fin 4) (q : Fin 128) (e : Fin 64)
    (hlo : ∀ (k : Fin 512) (e : Fin 64), x3 (ix4 0 1 k ⟨e.val, by omega⟩) = K k.val e)
    (hhi : ∀ (k : Fin 512) (e : Fin 64), x3 (ix4 0 1 k ⟨64 + e.val, by omega⟩) = K k.val e)
    (hS : ∀ k : Fin 512, (∑ e : Fin 64, K k.val e * x2 (ix2 q ⟨256 + (64 * j.val + e.val), by omega⟩)) + x7 (ix3 1 k ⟨128 * j.val + q.val, by omega⟩) = x' k.val)
    (hV : ∀ k : Fin 512, (0 ≤ x6 (ix2 k ⟨128 * j.val + q.val, by omega⟩) + start i) ↔ v k.val)
    {c : ℝ} (hc : c * Real.log 2 = 1) (a : ℝ) (hx : ∀ k, v k → x' k = c * (x k + a))
    (hU : ∀ k : Fin 512, x4 (ix4 0 1 e k) = w k.val) (hn : ∀ k, v k → k < 128) (h5 : ∀ k, v k → k < 511) :
    (res128 (F := Ideal) i x2 x3 x4 x5 x6 x7).2.2.1 (ix2 e ⟨128 * j.val + q.val, by omega⟩) = ∑ k : Fin 511, w k.val * prob 511 v x k.val := by
  unfold res128
  refine attn128_1 v x x' w _ (qs1 x2) _ _ _ _ _ e (fun k => ?_) (fun k => ?_) hc a hx (fun k => ?_) hn h5
  · pointwise
    exact (congrArg₂ (· + ·) (qdot1 x2 (fun c => x3 (ix4 0 1 ⟨k.val, by omega⟩ c)) (K k.val) (hlo ⟨k.val, by omega⟩) (hhi ⟨k.val, by omega⟩) j q) rfl).trans (hS ⟨k.val, by omega⟩)
  · pointwise
    exact hV ⟨k.val, by omega⟩
  · pointwise
    exact hU ⟨k.val, by omega⟩

/-- Importance, branch of 128 rows, second group. -/
theorem res128_imp1 (v : ℕ → Prop) [DecidablePred v] (x x' : Fin 4 → ℕ → EReal) (w : ℕ → EReal) (K : ℕ → Fin 64 → EReal) (q r : Fin 128)
    (hlo : ∀ (k : Fin 512) (e : Fin 64), x3 (ix4 0 1 k ⟨e.val, by omega⟩) = K k.val e)
    (hhi : ∀ (k : Fin 512) (e : Fin 64), x3 (ix4 0 1 k ⟨64 + e.val, by omega⟩) = K k.val e)
    (hS : ∀ (j : Fin 4) (k : Fin 512), (∑ e : Fin 64, K k.val e * x2 (ix2 q ⟨256 + (64 * j.val + e.val), by omega⟩)) + x7 (ix3 1 k ⟨128 * j.val + q.val, by omega⟩) = x' j k.val)
    (hV : ∀ (j : Fin 4) (k : Fin 512), (0 ≤ x6 (ix2 k ⟨128 * j.val + q.val, by omega⟩) + start i) ↔ v k.val)
    {c : ℝ} (hc : c * Real.log 2 = 1) (a : Fin 4 → ℝ) (hx : ∀ j k, v k → x' j k = c * (x j k + a j))
    (hU : ∀ k : Fin 512, x5 (ix2 r k) = w k.val) (hn : ∀ k, v k → k < 128) (h5 : ∀ k, v k → k < 511) :
    (res128 (F := Ideal) i x2 x3 x4 x5 x6 x7).2.2.2 (ix2 r q) = ∑ k : Fin 511, (∑ j : Fin 4, prob 511 v (x j) k.val) * w k.val := by
  unfold res128
  refine imp128_1 v x x' w _ (qs1 x2) _ _ _ _ q r (fun j k => ?_) (fun j k => ?_) hc a hx (fun k => ?_) hn h5
  · pointwise
    exact (congrArg₂ (· + ·) (qdot1 x2 (fun c => x3 (ix4 0 1 ⟨k.val, by omega⟩ c)) (K k.val) (hlo ⟨k.val, by omega⟩) (hhi ⟨k.val, by omega⟩) j q) rfl).trans (hS j ⟨k.val, by omega⟩)
  · pointwise
    exact hV j ⟨k.val, by omega⟩
  · pointwise
    exact hU ⟨k.val, by omega⟩

/-- THE ATTENTION a tile hands on, first group. -/
theorem res_attn0 (v : ℕ → Prop) [DecidablePred v] (x x' w : ℕ → EReal) (K : ℕ → Fin 64 → EReal) (j : Fin 4) (q : Fin 128) (e : Fin 64)
    (hlo : ∀ (k : Fin 512) (e : Fin 64), x3 (ix4 0 0 k ⟨e.val, by omega⟩) = K k.val e)
    (hhi : ∀ (k : Fin 512) (e : Fin 64), x3 (ix4 0 0 k ⟨64 + e.val, by omega⟩) = K k.val e)
    (hS : ∀ k : Fin 512, (∑ e : Fin 64, K k.val e * x2 (ix2 q ⟨64 * j.val + e.val, by omega⟩)) + x7 (ix3 0 k ⟨128 * j.val + q.val, by omega⟩) = x' k.val)
    (hV : ∀ k : Fin 512, (0 ≤ x6 (ix2 k ⟨128 * j.val + q.val, by omega⟩) + start i) ↔ v k.val)
    {c : ℝ} (hc : c * Real.log 2 = 1) (a : ℝ) (hx : ∀ k, v k → x' k = c * (x k + a))
    (hU : ∀ k : Fin 512, x4 (ix4 0 0 e k) = w k.val) (hvis : ∀ k, v k → 16 * k + 31 ≤ 128 * (i 1).val + 127) (h5 : ∀ k, v k → k < 511) :
    (res (F := Ideal) i x2 x3 x4 x5 x6 x7).1 (ix2 e ⟨128 * j.val + q.val, by omega⟩) = ∑ k : Fin 511, w k.val * prob 511 v x k.val := by
  unfold res
  split
  · split
    · split
      · exact res512_attn0 i x2 x3 x4 x5 x6 x7 v x x' w K j q e hlo hhi hS hV hc a hx hU (fun k hk => by have := h5 k hk; omega) h5
      · rename_i _ _ h
        exact res384_attn0 i x2 x3 x4 x5 x6 x7 v x x' w K j q e hlo hhi hS hV hc a hx hU (fun k hk => by have := hvis k hk; have := below3 i h; omega) h5
    · rename_i _ h
      exact res256_attn0 i x2 x3 x4 x5 x6 x7 v x x' w K j q e hlo hhi hS hV hc a hx hU (fun k hk => by have := hvis k hk; have := below2 i h; omega) h5
  · rename_i h
    exact res128_attn0 i x2 x3 x4 x5 x6 x7 v x x' w K j q e hlo hhi hS hV hc a hx hU (fun k hk => by have := hvis k hk; have := below1 i h; omega) h5

/-- THE IMPORTANCE a tile hands on, first group. -/
theorem res_imp0 (v : ℕ → Prop) [DecidablePred v] (x x' : Fin 4 → ℕ → EReal) (w : ℕ → EReal) (K : ℕ → Fin 64 → EReal) (q r : Fin 128)
    (hlo : ∀ (k : Fin 512) (e : Fin 64), x3 (ix4 0 0 k ⟨e.val, by omega⟩) = K k.val e)
    (hhi : ∀ (k : Fin 512) (e : Fin 64), x3 (ix4 0 0 k ⟨64 + e.val, by omega⟩) = K k.val e)
    (hS : ∀ (j : Fin 4) (k : Fin 512), (∑ e : Fin 64, K k.val e * x2 (ix2 q ⟨64 * j.val + e.val, by omega⟩)) + x7 (ix3 0 k ⟨128 * j.val + q.val, by omega⟩) = x' j k.val)
    (hV : ∀ (j : Fin 4) (k : Fin 512), (0 ≤ x6 (ix2 k ⟨128 * j.val + q.val, by omega⟩) + start i) ↔ v k.val)
    {c : ℝ} (hc : c * Real.log 2 = 1) (a : Fin 4 → ℝ) (hx : ∀ j k, v k → x' j k = c * (x j k + a j))
    (hU : ∀ k : Fin 512, x5 (ix2 r k) = w k.val) (hvis : ∀ k, v k → 16 * k + 31 ≤ 128 * (i 1).val + 127) (h5 : ∀ k, v k → k < 511) :
    (res (F := Ideal) i x2 x3 x4 x5 x6 x7).2.1 (ix2 r q) = ∑ k : Fin 511, (∑ j : Fin 4, prob 511 v (x j) k.val) * w k.val := by
  unfold res
  split
  · split
    · split
      · exact res512_imp0 i x2 x3 x4 x5 x6 x7 v x x' w K q r hlo hhi hS hV hc a hx hU (fun k hk => by have := h5 k hk; omega) h5
      · rename_i _ _ h
        exact res384_imp0 i x2 x3 x4 x5 x6 x7 v x x' w K q r hlo hhi hS hV hc a hx hU (fun k hk => by have := hvis k hk; have := below3 i h; omega) h5
    · rename_i _ h
      exact res256_imp0 i x2 x3 x4 x5 x6 x7 v x x' w K q r hlo hhi hS hV hc a hx hU (fun k hk => by have := hvis k hk; have := below2 i h; omega) h5
  · rename_i h
    exact res128_imp0 i x2 x3 x4 x5 x6 x7 v x x' w K q r hlo hhi hS hV hc a hx hU (fun k hk => by have := hvis k hk; have := below1 i h; omega) h5

/-- THE ATTENTION a tile hands on, second group. -/
theorem res_attn1 (v : ℕ → Prop) [DecidablePred v] (x x' w : ℕ → EReal) (K : ℕ → Fin 64 → EReal) (j : Fin 4) (q : Fin 128) (e : Fin 64)
    (hlo : ∀ (k : Fin 512) (e : Fin 64), x3 (ix4 0 1 k ⟨e.val, by omega⟩) = K k.val e)
    (hhi : ∀ (k : Fin 512) (e : Fin 64), x3 (ix4 0 1 k ⟨64 + e.val, by omega⟩) = K k.val e)
    (hS : ∀ k : Fin 512, (∑ e : Fin 64, K k.val e * x2 (ix2 q ⟨256 + (64 * j.val + e.val), by omega⟩)) + x7 (ix3 1 k ⟨128 * j.val + q.val, by omega⟩) = x' k.val)
    (hV : ∀ k : Fin 512, (0 ≤ x6 (ix2 k ⟨128 * j.val + q.val, by omega⟩) + start i) ↔ v k.val)
    {c : ℝ} (hc : c * Real.log 2 = 1) (a : ℝ) (hx : ∀ k, v k → x' k = c * (x k + a))
    (hU : ∀ k : Fin 512, x4 (ix4 0 1 e k) = w k.val) (hvis : ∀ k, v k → 16 * k + 31 ≤ 128 * (i 1).val + 127) (h5 : ∀ k, v k → k < 511) :
    (res (F := Ideal) i x2 x3 x4 x5 x6 x7).2.2.1 (ix2 e ⟨128 * j.val + q.val, by omega⟩) = ∑ k : Fin 511, w k.val * prob 511 v x k.val := by
  unfold res
  split
  · split
    · split
      · exact res512_attn1 i x2 x3 x4 x5 x6 x7 v x x' w K j q e hlo hhi hS hV hc a hx hU (fun k hk => by have := h5 k hk; omega) h5
      · rename_i _ _ h
        exact res384_attn1 i x2 x3 x4 x5 x6 x7 v x x' w K j q e hlo hhi hS hV hc a hx hU (fun k hk => by have := hvis k hk; have := below3 i h; omega) h5
    · rename_i _ h
      exact res256_attn1 i x2 x3 x4 x5 x6 x7 v x x' w K j q e hlo hhi hS hV hc a hx hU (fun k hk => by have := hvis k hk; have := below2 i h; omega) h5
  · rename_i h
    exact res128_attn1 i x2 x3 x4 x5 x6 x7 v x x' w K j q e hlo hhi hS hV hc a hx hU (fun k hk => by have := hvis k hk; have := below1 i h; omega) h5

/-- THE IMPORTANCE a tile hands on, second group. -/
theorem res_imp1 (v : ℕ → Prop) [DecidablePred v] (x x' : Fin 4 → ℕ → EReal) (w : ℕ → EReal) (K : ℕ → Fin 64 → EReal) (q r : Fin 128)
    (hlo : ∀ (k : Fin 512) (e : Fin 64), x3 (ix4 0 1 k ⟨e.val, by omega⟩) = K k.val e)
    (hhi : ∀ (k : Fin 512) (e : Fin 64), x3 (ix4 0 1 k ⟨64 + e.val, by omega⟩) = K k.val e)
    (hS : ∀ (j : Fin 4) (k : Fin 512), (∑ e : Fin 64, K k.val e * x2 (ix2 q ⟨256 + (64 * j.val + e.val), by omega⟩)) + x7 (ix3 1 k ⟨128 * j.val + q.val, by omega⟩) = x' j k.val)
    (hV : ∀ (j : Fin 4) (k : Fin 512), (0 ≤ x6 (ix2 k ⟨128 * j.val + q.val, by omega⟩) + start i) ↔ v k.val)
    {c : ℝ} (hc : c * Real.log 2 = 1) (a : Fin 4 → ℝ) (hx : ∀ j k, v k → x' j k = c * (x j k + a j))
    (hU : ∀ k : Fin 512, x5 (ix2 r k) = w k.val) (hvis : ∀ k, v k → 16 * k + 31 ≤ 128 * (i 1).val + 127) (h5 : ∀ k, v k → k < 511) :
    (res (F := Ideal) i x2 x3 x4 x5 x6 x7).2.2.2 (ix2 r q) = ∑ k : Fin 511, (∑ j : Fin 4, prob 511 v (x j) k.val) * w k.val := by
  unfold res
  split
  · split
    · split
      · exact res512_imp1 i x2 x3 x4 x5 x6 x7 v x x' w K q r hlo hhi hS hV hc a hx hU (fun k hk => by have := h5 k hk; omega) h5
      · rename_i _ _ h
        exact res384_imp1 i x2 x3 x4 x5 x6 x7 v x x' w K q r hlo hhi hS hV hc a hx hU (fun k hk => by have := hvis k hk; have := below3 i h; omega) h5
    · rename_i _ h
      exact res256_imp1 i x2 x3 x4 x5 x6 x7 v x x' w K q r hlo hhi hS hV hc a hx hU (fun k hk => by have := hvis k hk; have := below2 i h; omega) h5
  · rename_i h
    exact res128_imp1 i x2 x3 x4 x5 x6 x7 v x x' w K q r hlo hhi hS hV hc a hx hU (fun k hk => by have := hvis k hk; have := below1 i h; omega) h5

end Cert.KernelIdeal.Tile

end
-- ==== Proof.Bools.lean ====
/-
  One-bit words that come from decided propositions.
-/
module

public import Idealize.ShloMosaic.Lib.Pointwise
public import Idealize.ShloMosaic.Lib.Pipeline.ValueKit

@[expose] public section

noncomputable section

namespace Cert.Bools

open Idealize.ShloMosaic

theorem or_bool (a b : Bool) : IntOp.ori (BitVec.ofBool a) (BitVec.ofBool b) = BitVec.ofBool (a || b) := by cases a <;> cases b <;> rfl
theorem and_bool (a b : Bool) : IntOp.andi (BitVec.ofBool a) (BitVec.ofBool b) = BitVec.ofBool (a && b) := by cases a <;> cases b <;> rfl
theorem not_bool (a : Bool) : IntOp.xori (BitVec.ofBool a) 1#1 = BitVec.ofBool (!a) := by cases a <;> rfl
theorem sel_bool (a : Bool) (x y : EReal) : Scalar.select (BitVec.ofBool a) x y = if a = true then x else y := by cases a <;> rfl

end Cert.Bools

end
-- ==== Proof.Rounds.lean ====
/-
  The picking of blocks by the kernel, entry by entry: where the loop starts, what a turn does, and what thirteen turns
  leave.
-/
module

public import proofs.«01_k».proof.Proof.Body
public import proofs.«01_k».proof.Proof.Picks
public import proofs.«01_k».proof.Proof.Bools
public import Idealize.ShloMosaic.Lib.Pointwise
public import Idealize.ShloMosaic.Lib.Pipeline.ValueKit

@[expose] public section

set_option maxRecDepth 16384

noncomputable section

namespace Cert.KernelIdeal.Tile

open Cert.KernelIdeal Cert.KernelIdeal.Gen Cert.KernelIdeal.Nsa
open Idealize.ShloMosaic Idealize.ShloMosaic.TcCoe Idealize.SL.Sem
open Cert.Picks Cert.Bools

theorem toInt_lt (a : Fin 128) : (BitVec.ofNat 32 a.val).toInt = a.val :=
  (by decide +kernel : ∀ a : Fin 128, (BitVec.ofNat 32 a.val).toInt = a.val) a
theorem word_real (a : Fin 128) : FloatOps.sitofp (F := Ideal) .f32 (BitVec.ofNat 32 a.val) = ((a.val : ℝ) : EReal) := by
  show (((BitVec.ofNat 32 a.val).toInt : ℝ) : EReal) = _
  rw [toInt_lt]
  rfl

/-- The block a query of a tile lies in. -/
def curOf (i : grid0.Coords) (q : Fin 128) : ℕ := 2 * (i 1).val + if 64 ≤ q.val then 1 else 0

theorem tile_word (i : grid0.Coords) : (Scalar.muli (tileW i) 2#32).toInt = 2 * (i 1).val :=
  (by decide +kernel : ∀ a : Fin 64, (Scalar.muli (BitVec.ofNat 32 a.val) 2#32).toInt = 2 * a.val) (i 1)
theorem ge_word (q : Fin 128) : IntOp.cmpi .sge (BitVec.ofNat 32 q.val) 64#32 = BitVec.ofBool (decide (64 ≤ q.val)) :=
  (by decide +kernel : ∀ q : Fin 128, IntOp.cmpi .sge (BitVec.ofNat 32 q.val) 64#32 = BitVec.ofBool (decide (64 ≤ q.val))) q

theorem cur_real (i : grid0.Coords) (q : Fin 128) :
    ((((Scalar.muli (tileW i) 2#32).toInt : ℝ) : EReal) + Scalar.select (IntOp.cmpi .sge (BitVec.ofNat 32 q.val) 64#32) 1 0) = ((curOf i q : ℝ) : EReal) := by
  rw [tile_word, ge_word, sel_bool, curOf]
  by_cases h : 64 ≤ q.val
  · simp only [h, decide_true, if_true]
    rw [← EReal.coe_one, ← EReal.coe_add]
    push_cast
    rfl
  · simp only [h, decide_false, if_false, add_zero, Bool.false_eq_true]
    push_cast
    rfl

theorem eq_cur (a b : ℕ) : (((a : ℝ) : EReal) = ((b : ℝ) : EReal)) = (a = b) := propext ⟨fun h => by exact_mod_cast h, fun h => by rw [h]⟩
theorem le_cur (a b : ℕ) : (((a : ℝ) : EReal) ≤ ((b : ℝ) : EReal)) = (a ≤ b) := propext ⟨fun h => by exact_mod_cast h, fun h => by exact_mod_cast h⟩
theorem eq_zero (a : ℕ) : (((a : ℝ) : EReal) = 0) = (a = 0) := propext ⟨fun h => by exact_mod_cast h, fun h => by rw [h]; simp⟩
theorem eq_pred (a b : ℕ) : (((a : ℝ) : EReal) = ((b : ℝ) : EReal) - 1) = (a + 1 = b) := by
  rw [← EReal.coe_one, ← EReal.coe_sub]
  refine propext ⟨fun h => ?_, fun h => ?_⟩
  · have := EReal.coe_eq_coe_iff.mp h
    exact_mod_cast (by linarith : (a : ℝ) + 1 = b)
  · subst h; exact EReal.coe_eq_coe_iff.mpr (by push_cast; ring)

/-- The value a taken block is put to. -/
abbrev low : EReal := Ideal.ofBits .f32 0xC0000000#32
theorem low_eq : low = ((-2 : ℝ) : EReal) := by
  simp [low, Ideal.ofBits, Ideal.ieee]
  rw [← EReal.coe_mul]
  norm_num
theorem low_neg : low < 0 := by
  rw [low_eq]
  exact_mod_cast (by norm_num : (-2 : ℝ) < 0)
theorem big_le (j : Fin 128) : ((j.val : ℝ) : EReal) ≤ Ideal.ofBits .f32 0x4E6E6B28#32 := by
  have : Ideal.ofBits .f32 0x4E6E6B28#32 = ((1000000000 : ℝ) : EReal) := by
    simp [Ideal.ofBits, Ideal.ieee]
    rw [← EReal.coe_pow, ← EReal.coe_mul]
    norm_num
  rw [this, EReal.coe_le_coe_iff]
  have : (j.val : ℝ) ≤ 128 := by exact_mod_cast j.2.le
  linarith

open Classical in
/-- The selection before the first turn: the forced blocks. -/
theorem pay69_at (i : grid0.Coords) (j q : Fin 128) :
    k0_pay69 (F := Ideal) (k0_pay63 (F := Ideal)) (k0_pay64 (tileW i)) (k0_pay65 (F := Ideal) (tileW i)) (k0_pay66 (F := Ideal)) (ix2 j q)
      = if forced (curOf i q) j then 1 else 0 := by
  pointwise [k0_pay69, k0_pay67, k0_pay63, k0_pay64, k0_pay65, k0_pay66]
  simp only [cur_real, word_real, eq_cur, eq_zero, eq_pred, or_bool, sel_bool, Bool.or_eq_true, decide_eq_true_eq]
  exact if_congr or_assoc rfl rfl

open Classical in
/-- The working values before the first turn: the free blocks' importance. -/
theorem pay70_at (I : FVec Ideal S128x128 .f32) (i : grid0.Coords) (j q : Fin 128) :
    k0_pay70 (F := Ideal) I (k0_pay63 (F := Ideal)) (k0_pay64 (tileW i)) (k0_pay65 (F := Ideal) (tileW i)) (k0_pay66 (F := Ideal)) (ix2 j q)
      = if free (curOf i q) j then I (ix2 j q) else low := by
  pointwise [k0_pay70, k0_pay68, k0_pay67, k0_pay63, k0_pay64, k0_pay65, k0_pay66]
  simp only [cur_real, word_real, eq_cur, le_cur, eq_zero, eq_pred, or_bool, and_bool, not_bool, sel_bool, Bool.or_eq_true, Bool.and_eq_true, Bool.not_eq_true', decide_eq_true_eq,
    Bool.or_eq_false_iff, decide_eq_false_iff_not, free, forced, or_assoc, not_or, and_assoc]

open Classical in
/-- A turn's hit, as the loop computes it, is the first of the greatest values if that is not negative. -/
theorem hit_at (w : FVec Ideal S128x128 .f32) (j q : Fin 128) :
    k0_pay72 (F := Ideal) (k0_pay63 (F := Ideal)) w (ix2 j q)
      = BitVec.ofBool (decide ((w (ix2 j q) = Finset.univ.fold max ⊥ (fun l : Fin 128 => w (ix2 l q)) ∧
          ∀ l : Fin 128, w (ix2 l q) = Finset.univ.fold max ⊥ (fun l : Fin 128 => w (ix2 l q)) → j ≤ l) ∧ 0 ≤ Finset.univ.fold max ⊥ (fun l : Fin 128 => w (ix2 l q)))) := by
  pointwise [k0_pay72, k0_pay63]
  have h1 : Ideal.ofBits .f32 0xFF800000#32 = (⊥ : EReal) := by simp [Ideal.ofBits, Ideal.ieee]
  have h2 : Ideal.ofBits .f32 0x7F800000#32 = (⊤ : EReal) := by simp [Ideal.ofBits, Ideal.ieee]
  simp only [h1, h2, word_real]
  rw [and_bool]
  refine congrArg BitVec.ofBool ?_
  rw [← Bool.decide_and]
  refine decide_eq_decide.mpr (and_congr ?_ Iff.rfl)
  rw [← first_eq (fun l : Fin 128 => w (ix2 l q)) _ big_le j]

/-- The second group's hit is the same computation. -/
theorem pay75_eq : k0_pay75 (F := Ideal) = k0_pay72 (F := Ideal) := rfl

section
open Classical

/-- One group's values and selection after `r` turns, for a query's column of importances `I`. -/
def Inv (I : Fin 128 → EReal) (cur r : ℕ) (w s : Fin 128 → EReal) : Prop :=
  (∀ j, w j = work I (free cur) low r j) ∧ ∀ j, s j = if forced cur j ∨ (free cur j ∧ rank I (free cur) j < r) then 1 else 0

/-- A turn keeps it. -/
theorem inv_turn (w s : FVec Ideal S128x128 .f32) (q : Fin 128) (I : Fin 128 → EReal) (cur r : ℕ) (hI : ∀ j, free cur j → 0 ≤ I j)
    (h : Inv I cur r (fun j => w (ix2 j q)) fun j => s (ix2 j q)) :
    Inv I cur (r + 1) (fun j => k0_pay73 (F := Ideal) (k0_pay63 (F := Ideal)) w (ix2 j q)) fun j => k0_pay74 (F := Ideal) (k0_pay63 (F := Ideal)) w s (ix2 j q) := by
  obtain ⟨hw, hs⟩ := h
  have hw' : (fun l : Fin 128 => w (ix2 l q)) = work I (free cur) low r := funext hw
  have hhit : ∀ j, k0_pay72 (F := Ideal) (k0_pay63 (F := Ideal)) w (ix2 j q) = BitVec.ofBool (decide (free cur j ∧ rank I (free cur) j = r)) := fun j => by
    rw [hit_at]
    refine congrArg BitVec.ofBool (decide_eq_decide.mpr ?_)
    have := hit_iff I (free cur) low_neg hI r j
    rw [← hw'] at this
    exact this
  refine ⟨fun j => ?_, fun j => ?_⟩
  · show Scalar.select (k0_pay72 (F := Ideal) (k0_pay63 (F := Ideal)) w (ix2 j q)) low (w (ix2 j q)) = _
    rw [hhit, sel_bool, work_succ, ← hw]
    simp only [decide_eq_true_eq]
  · show Scalar.select (k0_pay72 (F := Ideal) (k0_pay63 (F := Ideal)) w (ix2 j q)) (Ideal.ofBits .f32 0x3F800000#32) (s (ix2 j q)) = _
    have hs' := hs j
    simp only at hs'
    rw [hhit, sel_bool, hs', Ideal.ofBits_one_f32]
    simp only [decide_eq_true_eq]
    by_cases h1 : free cur j ∧ rank I (free cur) j = r
    · rw [if_pos h1, if_pos (Or.inr ⟨h1.1, by omega⟩)]
    · rw [if_neg h1]
      refine if_congr (or_congr Iff.rfl (and_congr_right fun hf => ⟨fun h => by omega, fun h => ?_⟩)) rfl rfl
      have : rank I (free cur) j ≠ r := fun e => h1 ⟨hf, e⟩
      omega

/-- What the loop starts from keeps it with no turn made. -/
theorem inv_start (A : FVec Ideal S128x128 .f32) (i : grid0.Coords) (q : Fin 128) :
    Inv (fun j => A (ix2 j q)) (curOf i q) 0
      (fun j => k0_pay70 (F := Ideal) A (k0_pay63 (F := Ideal)) (k0_pay64 (tileW i)) (k0_pay65 (F := Ideal) (tileW i)) (k0_pay66 (F := Ideal)) (ix2 j q))
      fun j => k0_pay69 (F := Ideal) (k0_pay63 (F := Ideal)) (k0_pay64 (tileW i)) (k0_pay65 (F := Ideal) (tileW i)) (k0_pay66 (F := Ideal)) (ix2 j q) := by
  refine ⟨fun j => ?_, fun j => ?_⟩
  · show k0_pay70 (F := Ideal) A _ _ _ _ (ix2 j q) = _
    rw [pay70_at, work]
    simp only [Nat.zero_le, and_true]
  · show k0_pay69 (F := Ideal) _ _ _ _ (ix2 j q) = _
    rw [pay69_at]
    simp only [Nat.not_lt_zero, and_false, or_false]

/-- After `r` turns of a fold both groups keep it. -/
theorem inv_fold (i : grid0.Coords) (r : Res Ideal) (q : Fin 128) (h0 : ∀ j, free (curOf i q) j → 0 ≤ r.2.1 (ix2 j q)) (h1 : ∀ j, free (curOf i q) j → 0 ≤ r.2.2.2 (ix2 j q)) :
    ∀ t : ℕ, (fun s : Picks Ideal => Inv (fun j => r.2.1 (ix2 j q)) (curOf i q) t (fun j => s.1 (ix2 j q)) (fun j => s.2.1 (ix2 j q))
      ∧ Inv (fun j => r.2.2.2 (ix2 j q)) (curOf i q) t (fun j => s.2.2.1 (ix2 j q)) (fun j => s.2.2.2 (ix2 j q))) (turn^[t] (picks0 i r))
  | 0 => ⟨inv_start r.2.1 i q, inv_start r.2.2.2 i q⟩
  | t + 1 => by
    have ih := inv_fold i r q h0 h1 t
    rw [Function.iterate_succ_apply']
    exact ⟨inv_turn _ _ q _ _ t h0 ih.1, inv_turn _ _ q _ _ t h1 ih.2⟩

/-- The loop is thirteen turns. -/
theorem picks_eq (i : grid0.Coords) (r : Res Ideal) : picks i r = turn^[13] (picks0 i r) := by
  rw [picks, Scf.fold_eq, List.foldl_const, List.length_finRange]
  exact congrArg (fun t => turn^[t] (picks0 i r)) (by decide +kernel : k0_t1_loop.trips = 13)

/-- WHAT THE LOOP LEAVES, per group: one for a block the query takes and zero for any other. -/
theorem picks_at (i : grid0.Coords) (r : Res Ideal) (q : Fin 128) (h0 : ∀ j, free (curOf i q) j → 0 ≤ r.2.1 (ix2 j q)) (h1 : ∀ j, free (curOf i q) j → 0 ≤ r.2.2.2 (ix2 j q)) (j : Fin 128) :
    (picks i r).2.1 (ix2 j q) = (if taken (fun j => r.2.1 (ix2 j q)) (curOf i q) j then 1 else 0)
      ∧ (picks i r).2.2.2 (ix2 j q) = if taken (fun j => r.2.2.2 (ix2 j q)) (curOf i q) j then 1 else 0 := by
  obtain ⟨⟨_, a⟩, ⟨_, b⟩⟩ := inv_fold i r q h0 h1 13
  rw [picks_eq]
  exact ⟨(a j).trans (if_congr Iff.rfl rfl rfl), (b j).trans (if_congr Iff.rfl rfl rfl)⟩

end

end Cert.KernelIdeal.Tile

end
-- ==== Proof.Points.lean ====
/-
  What one point of the grid computes: the branch it takes hands on, of its 128 queries, each head's attention and each
  group's block importances, whichever branch it is.
-/
module

public import proofs.«01_k».proof.Proof.Operands
public import proofs.«01_k».proof.Proof.Branches
public import proofs.«01_k».proof.Proof.Rounds
public import proofs.«01_k».proof.Proof.Run

@[expose] public section

set_option maxRecDepth 16384

noncomputable section

namespace Cert.KernelIdeal.Points

open Cert.KernelIdeal Cert.KernelIdeal.Gen Cert.KernelIdeal.Nsa Cert.KernelIdeal.Tile Cert.KernelIdeal.Operands
open Idealize.ShloMosaic Idealize.ShloMosaic.TcCoe Idealize.SL.Sem
open Idealize.ShloMosaic.Pipeline (Dat)
open Cert.Spec Cert.Softmax Cert.Picks

/-! ## The tile's first query, and what a query sees -/

theorem start_eq (i : grid0.Coords) : start i = ((128 * (i 1).val : ℝ) : EReal) := by
  have h1 : (i 1).val < 64 := (i 1).isLt
  show (((Scalar.muli (tileW i) 128#32).toInt : ℝ) : EReal) = _
  rw [show Scalar.muli (tileW i) 128#32 = BitVec.ofNat 32 ((i 1).val * 128) from mul_word _ _, WordArith.toInt_ofNat_small _ (by omega)]
  push_cast
  rw [mul_comm]

theorem sees (q k s : ℕ) : (0 : EReal) ≤ (((q : ℝ) - (16 * k + 31) : ℝ) : EReal) + ((128 * s : ℝ) : EReal) ↔ seen (128 * s + q) k := by
  rw [← EReal.coe_add]
  constructor
  · intro h
    have h : (0 : ℝ) ≤ q - (16 * k + 31) + 128 * s := by exact_mod_cast h
    have h : ((16 * k + 31 : ℕ) : ℝ) ≤ ((128 * s + q : ℕ) : ℝ) := by push_cast; linarith
    exact_mod_cast h
  · intro h
    have h : ((16 * k + 31 : ℕ) : ℝ) ≤ ((128 * s + q : ℕ) : ℝ) := by exact_mod_cast h
    push_cast at h
    exact_mod_cast (by linarith : (0 : ℝ) ≤ q - (16 * k + 31) + 128 * s)

/-! ## The scores -/

variable (A0 : Fin 2 → Fin 8192 → Fin 512 → EReal) (A1 A2 : Fin 2 → Fin 511 → Fin 2 → Fin 64 → EReal)

/-- The kernel's score: in units of a power of two, and counted from the tile's first query. -/
def score2 (b g : Fin 2) (j : Fin 4) (T : Fin 8192) (q k : ℕ) : EReal :=
  (∑ e, row A1 b g k e * (A0 b T (col g j e) * ((1 / 8 * log2e : ℝ) : EReal)))
    + -(Spec.slope (4 * g.val + j.val) * ((log2e : ℝ) : EReal)) * (((q : ℝ) - (16 * k + 31) : ℝ) : EReal)

/-- The kernel's score is the plain one moved by a constant and scaled. -/
theorem score2_eq (b g : Fin 2) (j : Fin 4) (T : Fin 8192) (q s : ℕ) (hT : T.val = 128 * s + q) :
    ∃ a : ℝ, ∀ k, score2 A0 A1 b g j T q k = (log2e : ℝ) * (score A0 A1 b g j T k + (a : EReal)) := by
  obtain ⟨σ, hσ⟩ := slope_real (4 * g.val + j.val)
  refine ⟨σ * (128 * s), fun k => ?_⟩
  have h := score_scaled log2e_pos σ ((q : ℝ) - (16 * k + 31)) (128 * s) (∑ e, row A1 b g k e * A0 b T (col g j e))
  rw [score2, score, hσ, sum_mul_right _ (by have := log2e_pos; positivity), mul_comm (1 / 8) log2e, ← EReal.coe_mul, ← EReal.coe_neg, ← EReal.coe_mul, h,
    ← EReal.coe_mul, show ((T.val : ℝ) - (16 * k + 31)) = (q : ℝ) - (16 * k + 31) + 128 * s by rw [hT]; push_cast; ring]

/-! ## What the branch hands on -/

/-- The six blocks of tile `s` of sequence `b`. -/
structure Blocks (i : grid0.Coords) (x2 : Vec Ideal S128x512 .bf16) (x3 : Vec Ideal S1x2x512x128 .bf16) (x4 : Vec Ideal S1x2x64x512 .bf16) (x5 : Vec Ideal S128x512 .bf16)
    (x6 : Vec Ideal S512x512 .f32) (x7 : Vec Ideal S2x512x512 .f32) (b : Fin 2) (s : ℕ) : Prop where
  tile : (i 1).val = s
  q : ∀ (q : Fin 128) (z : Fin 512) (T : Fin 8192), T.val = 128 * s + q.val → x2 (ix2 q z) = A0 b T z * ((1 / 8 * log2e : ℝ) : EReal)
  lo : ∀ (g : Fin 2) (k : Fin 512) (e : Fin 64), x3 (ix4 0 g k ⟨e.val, by omega⟩) = row A1 b g k.val e
  hi : ∀ (g : Fin 2) (k : Fin 512) (e : Fin 64), x3 (ix4 0 g k ⟨64 + e.val, by omega⟩) = row A1 b g k.val e
  v : ∀ (g : Fin 2) (k : Fin 512) (e : Fin 64), x4 (ix4 0 g e k) = row A2 b g k.val e
  lap : ∀ (r : Fin 128) (k : Fin 512), x5 (ix2 r k) = Spec.lap r.val k.val
  d0 : ∀ (k : Fin 512) (j : Fin 4) (q : Fin 128), x6 (ix2 k ⟨128 * j.val + q.val, by omega⟩) = (((q.val : ℝ) - (16 * k.val + 31) : ℝ) : EReal)
  cb : ∀ (g : Fin 2) (k : Fin 512) (j : Fin 4) (q : Fin 128), x7 (ix3 g k ⟨128 * j.val + q.val, by omega⟩)
    = -(Spec.slope (4 * g.val + j.val) * ((log2e : ℝ) : EReal)) * (((q.val : ℝ) - (16 * k.val + 31) : ℝ) : EReal)

section Values

variable (i : grid0.Coords) (x2 : Vec Ideal S128x512 .bf16) (x3 : Vec Ideal S1x2x512x128 .bf16) (x4 : Vec Ideal S1x2x64x512 .bf16) (x5 : Vec Ideal S128x512 .bf16)
  (x6 : Vec Ideal S512x512 .f32) (x7 : Vec Ideal S2x512x512 .f32) (b : Fin 2) (s : ℕ) (H : Blocks A0 A1 A2 i x2 x3 x4 x5 x6 x7 b s)
  (q : Fin 128) (T : Fin 8192) (hT : T.val = 128 * s + q.val)

include H hT in
theorem sees_at (j : Fin 4) (k : Fin 512) : ((0 : EReal) ≤ x6 (ix2 k ⟨128 * j.val + q.val, by omega⟩) + start i) ↔ seen T.val k.val := by
  rw [start_eq, H.tile, hT, H.d0]
  exact sees q.val k.val s

include H hT in
theorem seen_row (k : ℕ) (h : seen T.val k) : 16 * k + 31 ≤ 128 * (i 1).val + 127 := by
  rw [H.tile]
  unfold seen at h
  omega

theorem seen_lt (k : ℕ) (h : seen T.val k) : k < 511 := by
  unfold seen at h
  omega

include H hT in
theorem score0 (j : Fin 4) (k : Fin 512) :
    (∑ e : Fin 64, row A1 b 0 k.val e * x2 (ix2 q ⟨64 * j.val + e.val, by omega⟩)) + x7 (ix3 0 k ⟨128 * j.val + q.val, by omega⟩)
      = score2 A0 A1 b 0 j T q.val k.val := by
  refine congrArg₂ (fun x y : EReal => x + y) (Finset.sum_congr rfl fun e _ => ?_) (H.cb 0 k j q)
  refine congrArg (fun x : EReal => row A1 b 0 k.val e * x) ((H.q q ⟨64 * j.val + e.val, by omega⟩ T hT).trans ?_)
  rw [show (⟨64 * j.val + e.val, by omega⟩ : Fin 512) = col 0 j e from Fin.ext (by simp [col])]

include H hT in
theorem attn0 (j : Fin 4) (e : Fin 64) :
    (res i x2 x3 x4 x5 x6 x7).1 (ix2 e ⟨128 * j.val + q.val, by omega⟩) = attn A0 A1 A2 b 0 j T e := by
  obtain ⟨a, ha⟩ := score2_eq A0 A1 b 0 j T q.val s hT
  have h := res_attn0 i x2 x3 x4 x5 x6 x7 (seen T.val) (score A0 A1 b 0 j T) (score2 A0 A1 b 0 j T q.val)
    (fun k => row A2 b 0 k e) (row A1 b 0) j q e (H.lo 0) (H.hi 0) (score0 A0 A1 A2 i x2 x3 x4 x5 x6 x7 b s H q T hT j)
    (sees_at A0 A1 A2 i x2 x3 x4 x5 x6 x7 b s H q T hT j) log2e_mul a (fun k _ => ha k) (fun k => H.v 0 k e)
    (seen_row A0 A1 A2 i x2 x3 x4 x5 x6 x7 b s H q T hT) (seen_lt T)
  generalize res i x2 x3 x4 x5 x6 x7 = R at h ⊢
  exact h

include H hT in
theorem imp0 (r : Fin 128) : (res i x2 x3 x4 x5 x6 x7).2.1 (ix2 r q) = imp A0 A1 b 0 T r := by
  choose a ha using fun j : Fin 4 => score2_eq A0 A1 b 0 j T q.val s hT
  exact res_imp0 i x2 x3 x4 x5 x6 x7 (seen T.val) (fun j => score A0 A1 b 0 j T) (fun j => score2 A0 A1 b 0 j T q.val)
    (lap r.val) (row A1 b 0) q r (H.lo 0) (H.hi 0) (fun j => score0 A0 A1 A2 i x2 x3 x4 x5 x6 x7 b s H q T hT j)
    (fun j => sees_at A0 A1 A2 i x2 x3 x4 x5 x6 x7 b s H q T hT j) log2e_mul a (fun j k _ => ha j k) (fun k => H.lap r k)
    (seen_row A0 A1 A2 i x2 x3 x4 x5 x6 x7 b s H q T hT) (seen_lt T)

include H hT in
theorem score1 (j : Fin 4) (k : Fin 512) :
    (∑ e : Fin 64, row A1 b 1 k.val e * x2 (ix2 q ⟨256 + (64 * j.val + e.val), by omega⟩)) + x7 (ix3 1 k ⟨128 * j.val + q.val, by omega⟩)
      = score2 A0 A1 b 1 j T q.val k.val := by
  refine congrArg₂ (fun x y : EReal => x + y) (Finset.sum_congr rfl fun e _ => ?_) (H.cb 1 k j q)
  refine congrArg (fun x : EReal => row A1 b 1 k.val e * x) ((H.q q ⟨256 + (64 * j.val + e.val), by omega⟩ T hT).trans ?_)
  rw [show (⟨256 + (64 * j.val + e.val), by omega⟩ : Fin 512) = col 1 j e from Fin.ext (by simp [col]; omega)]

include H hT in
theorem attn1 (j : Fin 4) (e : Fin 64) :
    (res i x2 x3 x4 x5 x6 x7).2.2.1 (ix2 e ⟨128 * j.val + q.val, by omega⟩) = attn A0 A1 A2 b 1 j T e := by
  obtain ⟨a, ha⟩ := score2_eq A0 A1 b 1 j T q.val s hT
  have h := res_attn1 i x2 x3 x4 x5 x6 x7 (seen T.val) (score A0 A1 b 1 j T) (score2 A0 A1 b 1 j T q.val)
    (fun k => row A2 b 1 k e) (row A1 b 1) j q e (H.lo 1) (H.hi 1) (score1 A0 A1 A2 i x2 x3 x4 x5 x6 x7 b s H q T hT j)
    (sees_at A0 A1 A2 i x2 x3 x4 x5 x6 x7 b s H q T hT j) log2e_mul a (fun k _ => ha k) (fun k => H.v 1 k e)
    (seen_row A0 A1 A2 i x2 x3 x4 x5 x6 x7 b s H q T hT) (seen_lt T)
  generalize res i x2 x3 x4 x5 x6 x7 = R at h ⊢
  exact h

include H hT in
theorem imp1 (r : Fin 128) : (res i x2 x3 x4 x5 x6 x7).2.2.2 (ix2 r q) = imp A0 A1 b 1 T r := by
  choose a ha using fun j : Fin 4 => score2_eq A0 A1 b 1 j T q.val s hT
  exact res_imp1 i x2 x3 x4 x5 x6 x7 (seen T.val) (fun j => score A0 A1 b 1 j T) (fun j => score2 A0 A1 b 1 j T q.val)
    (lap r.val) (row A1 b 1) q r (H.lo 1) (H.hi 1) (fun j => score1 A0 A1 A2 i x2 x3 x4 x5 x6 x7 b s H q T hT j)
    (fun j => sees_at A0 A1 A2 i x2 x3 x4 x5 x6 x7 b s H q T hT j) log2e_mul a (fun j k _ => ha j k) (fun k => H.lap r k)
    (seen_row A0 A1 A2 i x2 x3 x4 x5 x6 x7 b s H q T hT) (seen_lt T)

include H hT in
theorem picks_at_point (r : Fin 128) :
    (picks i (res i x2 x3 x4 x5 x6 x7)).2.1 (ix2 r q) = pick A0 A1 b 0 T r ∧ (picks i (res i x2 x3 x4 x5 x6 x7)).2.2.2 (ix2 r q) = pick A0 A1 b 1 T r := by
  have hc : curOf i q = T.val / 64 := by
    unfold curOf
    rw [H.tile, hT]
    split <;> omega
  have e0 := imp0 A0 A1 A2 i x2 x3 x4 x5 x6 x7 b s H q T hT
  have e1 := imp1 A0 A1 A2 i x2 x3 x4 x5 x6 x7 b s H q T hT
  have h := picks_at i (res i x2 x3 x4 x5 x6 x7) q (fun j _ => by rw [e0 j]; exact imp_nonneg _ _ _ _ _ _) (fun j _ => by rw [e1 j]; exact imp_nonneg _ _ _ _ _ _) r
  rw [h.1, h.2, hc, show (fun j => (res i x2 x3 x4 x5 x6 x7).2.1 (ix2 j q)) = imp A0 A1 b 0 T from funext e0,
    show (fun j => (res i x2 x3 x4 x5 x6 x7).2.2.2 (ix2 j q)) = imp A0 A1 b 1 T from funext e1]
  exact ⟨rfl, rfl⟩

end Values

/-! ## The blocks of a point -/

variable (m : (ℓ : Loc nD τ sig) → Buf (Elt Ideal) ℓ)

section Blocks

variable (c : Dev nD) (t : Fin cfg0.N)

theorem blk0 (b : Fin 2) (hb : t.val / 64 = b.val) (q : Fin 128) (z : Fin 512) (T : Fin 8192) (hT : T.val = 128 * (t.val % 64) + q.val) :
    @Eq EReal (iblk m c 0 t (ix2 q z)) (Operands.A0 m c b T z * ((1 / 8 * log2e : ℝ) : EReal)) := by
  refine Eq.trans ?_ (q_entry m c b T z)
  blk_ext [iblk, idx t]

theorem blk1_lo (b : Fin 2) (hb : t.val / 64 = b.val) (g : Fin 2) (k : Fin 512) (e : Fin 64) :
    @Eq EReal (iblk m c 1 t (ix4 0 g k ⟨e.val, by omega⟩)) (row (Operands.A1 m c) b g k.val e) := by
  refine Eq.trans ?_ (kc_entry_lo m c b g k e)
  blk_ext [iblk, idx t]

theorem blk1_hi (b : Fin 2) (hb : t.val / 64 = b.val) (g : Fin 2) (k : Fin 512) (e : Fin 64) :
    @Eq EReal (iblk m c 1 t (ix4 0 g k ⟨64 + e.val, by omega⟩)) (row (Operands.A1 m c) b g k.val e) := by
  refine Eq.trans ?_ (kc_entry_hi m c b g k e)
  blk_ext [iblk, idx t]

theorem blk2 (b : Fin 2) (hb : t.val / 64 = b.val) (g : Fin 2) (k : Fin 512) (e : Fin 64) :
    @Eq EReal (iblk m c 2 t (ix4 0 g e k)) (row (Operands.A2 m c) b g k.val e) := by
  refine Eq.trans ?_ (vct_entry m c b g k e)
  blk_ext [iblk, idx t]

theorem blk3 (r : Fin 128) (k : Fin 512) : @Eq EReal (iblk m c 3 t (ix2 r k)) (lap r.val k.val) := by
  refine Eq.trans ?_ (ovt_entry m c r k)
  blk_ext [iblk, idx t]

theorem blk4 (k : Fin 512) (j : Fin 4) (q : Fin 128) :
    @Eq EReal (iblk m c 4 t (ix2 k ⟨128 * j.val + q.val, by omega⟩)) (((q.val : ℝ) - (16 * k.val + 31) : ℝ) : EReal) := by
  refine Eq.trans ?_ (d0_entry m c k j q)
  blk_ext [iblk, idx t]

theorem blk5 (g : Fin 2) (k : Fin 512) (j : Fin 4) (q : Fin 128) :
    @Eq EReal (iblk m c 5 t (ix3 g k ⟨128 * j.val + q.val, by omega⟩))
      (-(Spec.slope (4 * g.val + j.val) * ((log2e : ℝ) : EReal)) * (((q.val : ℝ) - (16 * k.val + 31) : ℝ) : EReal)) := by
  refine Eq.trans ?_ (cb_entry m c g k j q)
  blk_ext [iblk, idx t]

end Blocks

theorem at_point (c : Dev nD) (t : Fin cfg0.N) (b : Fin 2) (hb : t.val / 64 = b.val) :
    Blocks (Operands.A0 m c) (Operands.A1 m c) (Operands.A2 m c) (grid0.coords t) (iblk m c 0 t) (iblk m c 1 t) (iblk m c 2 t) (iblk m c 3 t) (iblk m c 4 t) (iblk m c 5 t) b (t.val % 64) where
  tile := (idx t).2.2.2.2.2.2.2.2.2
  q q z T hT := blk0 m c t b hb q z T hT
  lo g k e := blk1_lo m c t b hb g k e
  hi g k e := blk1_hi m c t b hb g k e
  v g k e := blk2 m c t b hb g k e
  lap r k := blk3 m c t r k
  d0 k j q := blk4 m c t k j q
  cb g k j q := blk5 m c t g k j q

end Cert.KernelIdeal.Points

end
-- ==== Proof.Finals.lean ====
/-
  What the launch leaves in its three result arrays: each point's three blocks read at an index, and the blocks put
  together into the arrays.
-/
module

public import proofs.«01_k».proof.Proof.Points

@[expose] public section

set_option maxRecDepth 16384

noncomputable section

namespace Cert.KernelIdeal.Finals

open Cert.KernelIdeal Cert.KernelIdeal.Gen Cert.KernelIdeal.Nsa Cert.KernelIdeal.Points Cert.KernelIdeal.Operands
open Idealize.ShloMosaic Idealize.ShloMosaic.TcCoe Idealize.SL.Sem
open Idealize.ShloMosaic.Pipeline (Dat)
open Cert.Spec

/-! ## The blocks a point writes -/

section Blocks

/-- The scratch buffer: the two groups' heads, one above the other. -/
theorem ot_at (r : Res Ideal) (y : S512x128.Idx) :
    ot r y = if (y 0).val < 256 then r.1 (ix2 ⟨(y 0).val % 64, by omega⟩ ⟨128 * ((y 0).val / 64 % 4) + (y 1).val, by have := (y 1).isLt; change (y 1).val < 128 at this; omega⟩)
      else r.2.2.1 (ix2 ⟨(y 0).val % 64, by omega⟩ ⟨128 * ((y 0).val / 64 % 4) + (y 1).val, by have := (y 1).isLt; change (y 1).val < 128 at this; omega⟩) := by
  rw [ot, View.ld_unit_zero (by decide)]
  obtain ⟨a, a', b, b'⟩ := r
  canon_tiles x h
  all_goals (pointwise [k0_pay54, k0_pay55, k0_pay56, k0_pay57, k0_pay58, k0_pay59, k0_pay60, k0_pay61])
  all_goals (first | rw [if_pos (by omega)] | rw [if_neg (by omega)])
  all_goals blk_ext

theorem out6_at (r : Res Ideal) (q : Fin 128) (z : Fin 512) :
    @Eq EReal (out6 r (ix2 q z)) (ot r (ix2 z q)) := by
  rw [out6, out6of, View.canon_unit_zero (by decide)]
  pointwise [k0_pay62]

theorem out7_at (i : grid0.Coords) (r : Res Ideal) (y : S1x2x1x128x128.Idx) :
    @Eq EReal (out7 i r y) (if (y 1).val = 0 then (picks i r).2.1 (ix2 (y 3) (y 4)) else (picks i r).2.2.2 (ix2 (y 3) (y 4))) := by
  unfold out7
  generalize picks i r = P
  obtain ⟨a, a', b, b'⟩ := P
  canon_tiles x h
  all_goals (pointwise [k0_pay79, k0_pay81])
  all_goals (first | rw [if_pos (by omega)] | rw [if_neg (by omega)])
  all_goals blk_ext

theorem out8_at (i : grid0.Coords) (r : Res Ideal) (y : S1x2x1x8x128.Idx) :
    @Eq EReal (out8 i r y) (if (y 1).val = 0 then ∑ q : Fin 128, (picks i r).2.1 (ix2 (y 4) q) else ∑ q : Fin 128, (picks i r).2.2.2 (ix2 (y 4) q)) := by
  unfold out8
  generalize picks i r = P
  obtain ⟨a, a', b, b'⟩ := P
  canon_tiles x h
  all_goals (pointwise [k0_pay80, k0_pay82, k0_pay1, k0_pay78])
  all_goals (first | rw [if_pos (by omega)] | rw [if_neg (by omega)])
  all_goals refine Finset.sum_congr rfl fun u _ => ?_
  all_goals blk_ext

end Blocks

/-! ## The arrays -/

variable (m : (ℓ : Loc nD τ sig) → Buf (Elt Ideal) ℓ)

theorem point6 (c : Dev nD) (t : Fin cfg0.N) (q : Fin 128) (z : Fin 512) (T : Fin 16384) (hT : T.val = 128 * t.val + q.val) :
    @Eq EReal (out6 (resAt m c t) (ix2 q z)) (outO (A0 m c) (A1 m c) (A2 m c) T z) := by
  have ht : t.val < 128 := t.isLt
  have H := at_point m c t ⟨t.val / 64, by omega⟩ rfl
  rw [out6_at, ot_at]
  unfold resAt
  generalize iblk m c 0 t = x2 at H ⊢
  generalize iblk m c 1 t = x3 at H ⊢
  generalize iblk m c 2 t = x4 at H ⊢
  generalize iblk m c 3 t = x5 at H ⊢
  generalize iblk m c 4 t = x6 at H ⊢
  generalize iblk m c 5 t = x7 at H ⊢
  have hT' : (⟨T.val % 8192, by omega⟩ : Fin 8192).val = 128 * (t.val % 64) + q.val := by show T.val % 8192 = _; omega
  have e0 := attn0 (A0 m c) (A1 m c) (A2 m c) _ x2 x3 x4 x5 x6 x7 _ _ H q _ hT' ⟨z.val / 64 % 4, by omega⟩ ⟨z.val % 64, by omega⟩
  have e1 := attn1 (A0 m c) (A1 m c) (A2 m c) _ x2 x3 x4 x5 x6 x7 _ _ H q _ hT' ⟨z.val / 64 % 4, by omega⟩ ⟨z.val % 64, by omega⟩
  generalize res (grid0.coords t) x2 x3 x4 x5 x6 x7 = R at e0 e1 ⊢
  have hb : (⟨t.val / 64, by omega⟩ : Fin 2) = ⟨T.val / 8192, by omega⟩ := Fin.ext (by show t.val / 64 = T.val / 8192; omega)
  rw [outO]
  by_cases hz : z.val < 256
  · have hg : (⟨z.val / 256, by omega⟩ : Fin 2) = 0 := Fin.ext (by show z.val / 256 = 0; omega)
    rw [hg, ← hb]
    exact (if_pos hz).trans e0
  · have hg : (⟨z.val / 256, by omega⟩ : Fin 2) = 1 := Fin.ext (by show z.val / 256 = 1; omega)
    rw [hg, ← hb]
    exact (if_neg hz).trans e1

theorem point_picks (c : Dev nD) (t : Fin cfg0.N) (b : Fin 2) (hb : t.val / 64 = b.val) (s : Fin 64) (hs : s.val = t.val % 64) (r q : Fin 128) :
    (picks (grid0.coords t) (resAt m c t)).2.1 (ix2 r q) = outSel (A0 m c) (A1 m c) b 0 s r q
      ∧ (picks (grid0.coords t) (resAt m c t)).2.2.2 (ix2 r q) = outSel (A0 m c) (A1 m c) b 1 s r q := by
  have H := at_point m c t b hb
  unfold resAt
  generalize iblk m c 0 t = x2 at H ⊢
  generalize iblk m c 1 t = x3 at H ⊢
  generalize iblk m c 2 t = x4 at H ⊢
  generalize iblk m c 3 t = x5 at H ⊢
  generalize iblk m c 4 t = x6 at H ⊢
  generalize iblk m c 5 t = x7 at H ⊢
  have hT' : (⟨128 * s.val + q.val, by omega⟩ : Fin 8192).val = 128 * (t.val % 64) + q.val := by show 128 * s.val + q.val = _; omega
  exact picks_at_point (A0 m c) (A1 m c) (A2 m c) _ x2 x3 x4 x5 x6 x7 _ _ H q _ hT' r

theorem block6 (c : Dev nD) (t : Fin cfg0.N) (y : S128x512.Idx) (j : S16384x512.Idx) (h0 : (j 0).val = 128 * t.val + (y 0).val) (h1 : (j 1).val = (y 1).val) :
    @Eq EReal (out6 (resAt m c t) y) (outO (A0 m c) (A1 m c) (A2 m c) (j 0) (j 1)) := by
  have hy : y = ix2 (y 0) (y 1) := by blk_ext
  have e : j 1 = y 1 := Fin.ext h1
  refine (congrArg (out6 (resAt m c t)) hy).trans ((point6 m c t (y 0) (y 1) (j 0) h0).trans ?_)
  exact congrArg (outO (A0 m c) (A1 m c) (A2 m c) (j 0)) e.symm

theorem block7 (c : Dev nD) (t : Fin cfg0.N) (y : S1x2x1x128x128.Idx) (j : S2x2x64x128x128.Idx) (h0 : (j 0).val = t.val / 64) (h1 : (j 1).val = (y 1).val)
    (h2 : (j 2).val = t.val % 64) (h3 : (j 3).val = (y 3).val) (h4 : (j 4).val = (y 4).val) :
    @Eq EReal (out7 (grid0.coords t) (resAt m c t) y) (outSel (A0 m c) (A1 m c) (j 0) (j 1) (j 2) (j 3) (j 4)) := by
  refine (out7_at _ _ y).trans ?_
  have h := point_picks m c t (j 0) h0.symm (j 2) h2 (y 3) (y 4)
  rw [show j 3 = y 3 from Fin.ext h3, show j 4 = y 4 from Fin.ext h4]
  split
  · rename_i hy
    rw [show j 1 = (0 : Fin 2) from Fin.ext (h1.trans hy)]
    exact h.1
  · rename_i hy
    have : (y 1).val < 2 := (y 1).isLt
    rw [show j 1 = (1 : Fin 2) from Fin.ext (h1.trans (by show (y 1).val = 1; omega))]
    exact h.2

theorem block8 (c : Dev nD) (t : Fin cfg0.N) (y : S1x2x1x8x128.Idx) (j : S2x2x64x8x128.Idx) (h0 : (j 0).val = t.val / 64) (h1 : (j 1).val = (y 1).val)
    (h2 : (j 2).val = t.val % 64) (h4 : (j 4).val = (y 4).val) :
    @Eq EReal (out8 (grid0.coords t) (resAt m c t) y) (outCnt (A0 m c) (A1 m c) (j 0) (j 1) (j 2) (j 4)) := by
  refine (out8_at _ _ y).trans ?_
  have h := fun q => point_picks m c t (j 0) h0.symm (j 2) h2 (y 4) q
  rw [show j 4 = y 4 from Fin.ext h4]
  split
  · rename_i hy
    rw [show j 1 = (0 : Fin 2) from Fin.ext (h1.trans hy)]
    exact Finset.sum_congr rfl fun q _ => (h q).1
  · rename_i hy
    have : (y 1).val < 2 := (y 1).isLt
    rw [show j 1 = (1 : Fin 2) from Fin.ext (h1.trans (by show (y 1).val = 1; omega))]
    exact Finset.sum_congr rfl fun q _ => (h q).2

/-- The attention outputs' array. -/
theorem final6 (c : Dev nD) : (dats m 0 c).arrAt 6 (cfgs 0).N = fun i : S16384x512.Idx => outO (A0 m c) (A1 m c) (A2 m c) (i 0) (i 1) := by
  refine (dats m 0 c).arrAt_eq_of_covers 6 _ (by decide +kernel) fun t hf y => ?_
  blk_simp
  rw [after_6]
  refine block6 m c t y _ ?_ ?_
  all_goals (blk_simp [idx t] <;> try omega)

/-- The selections' array. -/
theorem final7 (c : Dev nD) : (dats m 0 c).arrAt 7 (cfgs 0).N = fun i : S2x2x64x128x128.Idx => outSel (A0 m c) (A1 m c) (i 0) (i 1) (i 2) (i 3) (i 4) := by
  refine (dats m 0 c).arrAt_eq_of_covers 7 _ (by decide +kernel) fun t hf y => ?_
  blk_simp
  rw [after_7]
  have y0 : (y 0).val < 1 := (y 0).isLt
  have y2 : (y 2).val < 1 := (y 2).isLt
  refine block7 m c t y _ ?_ ?_ ?_ ?_ ?_
  all_goals (blk_simp [idx t] <;> try omega)

/-- The counts' array. -/
theorem final8 (c : Dev nD) : (dats m 0 c).arrAt 8 (cfgs 0).N = fun i : S2x2x64x8x128.Idx => outCnt (A0 m c) (A1 m c) (i 0) (i 1) (i 2) (i 4) := by
  refine (dats m 0 c).arrAt_eq_of_covers 8 _ (by decide +kernel) fun t hf y => ?_
  blk_simp
  rw [after_8]
  have y0 : (y 0).val < 1 := (y 0).isLt
  have y2 : (y 2).val < 1 := (y 2).isLt
  refine block8 m c t y _ ?_ ?_ ?_ ?_
  all_goals (blk_simp [idx t] <;> try omega)

end Cert.KernelIdeal.Finals

end
-- ==== Proof.Stages.lean ====
/-
  The reference's operations in named stages, over variables: the attention over compressed blocks, the importances, the
  ranking and the selected sets; and its three results in terms of them.
-/
module

public import proofs.«01_k».proof.Proof.Gen.ReferenceIdeal.Run
public import Idealize.ShloMosaic.Lib.Pipeline.ValueKit
public import Idealize.ShloMosaic.Lib.Pointwise

@[expose] public section

set_option maxRecDepth 16384

noncomputable section

namespace Cert.ReferenceIdeal.Stages

open Cert.ReferenceIdeal Cert.ReferenceIdeal.Gen Cert.ReferenceIdeal.Value
open Idealize.ShloMosaic Idealize.ShloMosaic.TcCoe Idealize.SL.Sem Idealize.ShloMosaic.StableHlo

/-- The distance from each compressed block's end to each position. -/
def distV : FVec Ideal S8192x511 .f32 :=
  sitofp .f32 (subi (broadcastInDim S8192x511 ![0, 1] bcast_S8192x1_S8192x511_0_1 (broadcastInDim S8192x1 ![0] bcast_S8192_S8192x1_0 (iotaInDim S8192 32 0)))
    (broadcastInDim S8192x511 ![0, 1] bcast_S1x511_S8192x511_0_1 (broadcastInDim S1x511 ![1] bcast_S511_S1x511_1 (subi (addi (muli (iotaInDim S511 32 0) (broadcastInDim
    S511 ![] bcast_S_S511 (constantI S_ 32 16#32))) (broadcastInDim S511 ![] bcast_S_S511 (constantI S_ 32 32#32))) (broadcastInDim S511 ![] bcast_S_S511 (constantI S_ 32
    1#32))))))

/-- Whether a position sees a compressed block. -/
def validV : IVec S8192x511 1 :=
  cmpf .oge distV (broadcastInDim S8192x511 ![] bcast_S_S8192x511 (constant S_ .f32 0x00000000#32))

/-- The heads' slopes. -/
def slopeV : FVec Ideal S8 .f32 :=
  Host.powf (broadcastInDim S8 ![] bcast_S_S8 (constant S_ .f32 0x40000000#32)) (Host.divf (mulf (broadcastInDim S8 ![] bcast_S_S8 (constant S_ .f32 0xC1000000#32)) (addf
    (broadcastInDim S8 ![] bcast_S_S8 (constant S_ .f32 0x3F800000#32)) (sitofp .f32 (iotaInDim S8 32 0)))) (broadcastInDim S8 ![] bcast_S_S8 (constant S_ .f32
    0x41000000#32)))

/-- Keys into queries. -/
def dotV (a0 : FVec Ideal S2x8192x512 .f32) (a1 : FVec Ideal S2x511x2x64 .f32) : FVec Ideal S2x2x511x8192x4 .f32 :=
  Host.dotGeneral dot_S2x511x2x64_S2x8192x2x4x64_S2x2x511x8192x4_3_4_1_13_02_02 none a1 (shapeCast _ a0 shapeCasts_S2x8192x512_S2x8192x2x4x64)

/-- The scores. -/
def scoreV (a0 : FVec Ideal S2x8192x512 .f32) (a1 : FVec Ideal S2x511x2x64 .f32) : FVec Ideal S2x2x4x8192x511 .f32 :=
  subf (mulf (transpose S2x2x4x8192x511 [0, 1, 4, 3, 2] (dotV a0 a1) transposes_S2x2x511x8192x4_S2x2x4x8192x511_0_1_4_3_2) (broadcastInDim S2x2x4x8192x511 ![]
    bcast_S_S2x2x4x8192x511 (constant S_ .f32 0x3E000000#32))) (broadcastInDim S2x2x4x8192x511 ![0, 1, 2, 3, 4] bcast_S1x2x4x8192x511_S2x2x4x8192x511_0_1_2_3_4
    (broadcastInDim S1x2x4x8192x511 ![1, 2, 3, 4] bcast_S2x4x8192x511_S1x2x4x8192x511_1_2_3_4 (mulf (broadcastInDim S2x4x8192x511 ![0, 1, 2, 3]
    bcast_S2x4x1x1_S2x4x8192x511_0_1_2_3 (broadcastInDim S2x4x1x1 ![0, 1] bcast_S2x4_S2x4x1x1_0_1 (shapeCast _ slopeV shapeCasts_S8_S2x4))) (broadcastInDim S2x4x8192x511
    ![0, 1, 2, 3] bcast_S1x1x8192x511_S2x4x8192x511_0_1_2_3 (broadcastInDim S1x1x8192x511 ![2, 3] bcast_S8192x511_S1x1x8192x511_2_3 (sitofp .f32 (subi (broadcastInDim
    S8192x511 ![0, 1] bcast_S8192x1_S8192x511_0_1 (broadcastInDim S8192x1 ![0] bcast_S8192_S8192x1_0 (iotaInDim S8192 32 0))) (broadcastInDim S8192x511 ![0, 1]
    bcast_S1x511_S8192x511_0_1 (broadcastInDim S1x511 ![1] bcast_S511_S1x511_1 (subi (addi (muli (iotaInDim S511 32 0) (broadcastInDim S511 ![] bcast_S_S511 (constantI S_
    32 16#32))) (broadcastInDim S511 ![] bcast_S_S511 (constantI S_ 32 32#32))) (broadcastInDim S511 ![] bcast_S_S511 (constantI S_ 32 1#32))))))))))))

/-- The scores, a block not seen at the bottom. -/
def maskV (a0 : FVec Ideal S2x8192x512 .f32) (a1 : FVec Ideal S2x511x2x64 .f32) : FVec Ideal S2x2x4x8192x511 .f32 :=
  select (broadcastInDim S2x2x4x8192x511 ![3, 4] bcast_S8192x511_S2x2x4x8192x511_3_4 validV) (scoreV a0 a1) (broadcastInDim S2x2x4x8192x511 ![] bcast_S_S2x2x4x8192x511
    (id (constant S_ .f32 0xFF800000#32)))

/-- Each query's largest score. -/
def topV (a0 : FVec Ideal S2x8192x512 .f32) (a1 : FVec Ideal S2x511x2x64 .f32) : FVec Ideal S2x2x4x8192 .f32 :=
  Host.reduce FloatOps.maximumf (maskV a0 a1) (constant S_ .f32 0xFF800000#32) reducesTo_S2x2x4x8192x511_S2x2x4x8192_d4 h_S_

/-- The exponentials. -/
def expV (a0 : FVec Ideal S2x8192x512 .f32) (a1 : FVec Ideal S2x511x2x64 .f32) : FVec Ideal S2x2x4x8192x511 .f32 :=
  select (broadcastInDim S2x2x4x8192x511 ![3, 4] bcast_S8192x511_S2x2x4x8192x511_3_4 validV) (Host.exp (subf (maskV a0 a1) (broadcastInDim S2x2x4x8192x511 ![0, 1, 2, 3,
    4] bcast_S2x2x4x8192x1_S2x2x4x8192x511_0_1_2_3_4 (broadcastInDim S2x2x4x8192x1 ![0, 1, 2, 3] bcast_S2x2x4x8192_S2x2x4x8192x1_0_1_2_3 (topV a0 a1))))) (broadcastInDim
    S2x2x4x8192x511 ![] bcast_S_S2x2x4x8192x511 (id (constant S_ .f32 0x00000000#32)))

/-- Their sums. -/
def denV (a0 : FVec Ideal S2x8192x512 .f32) (a1 : FVec Ideal S2x511x2x64 .f32) : FVec Ideal S2x2x4x8192 .f32 :=
  Host.reduceAdd (expV a0 a1) (constant S_ .f32 0x00000000#32) reducesTo_S2x2x4x8192x511_S2x2x4x8192_d4 h_S_

/-- The weights. -/
def probV (a0 : FVec Ideal S2x8192x512 .f32) (a1 : FVec Ideal S2x511x2x64 .f32) : FVec Ideal S2x2x4x8192x511 .f32 :=
  Host.divf (expV a0 a1) (broadcastInDim S2x2x4x8192x511 ![0, 1, 2, 3, 4] bcast_S2x2x4x8192x1_S2x2x4x8192x511_0_1_2_3_4 (select (cmpf .ogt (broadcastInDim S2x2x4x8192x1
    ![0, 1, 2, 3] bcast_S2x2x4x8192_S2x2x4x8192x1_0_1_2_3 (denV a0 a1)) (broadcastInDim S2x2x4x8192x1 ![] bcast_S_S2x2x4x8192x1 (constant S_ .f32 0x00000000#32)))
    (broadcastInDim S2x2x4x8192x1 ![0, 1, 2, 3] bcast_S2x2x4x8192_S2x2x4x8192x1_0_1_2_3 (denV a0 a1)) (broadcastInDim S2x2x4x8192x1 ![] bcast_S_S2x2x4x8192x1 (id
    (constant S_ .f32 0x3F800000#32)))))

/-- The weights summed over a group's heads. -/
def headsV (a0 : FVec Ideal S2x8192x512 .f32) (a1 : FVec Ideal S2x511x2x64 .f32) : FVec Ideal S2x2x8192x511 .f32 :=
  Host.reduceAdd (probV a0 a1) (constant S_ .f32 0x00000000#32) reducesTo_S2x2x4x8192x511_S2x2x8192x511_d2 h_S_

/-- Which compressed blocks overlap which selection blocks. -/
def lapV : FVec Ideal S511x128 .f32 :=
  uitofp .f32 (andi (cmpi .slt (broadcastInDim S511x128 ![0, 1] bcast_S511x1_S511x128_0_1 (broadcastInDim S511x1 ![0] bcast_S511_S511x1_0 (muli (iotaInDim S511 32 0)
    (broadcastInDim S511 ![] bcast_S_S511 (constantI S_ 32 16#32))))) (broadcastInDim S511x128 ![0, 1] bcast_S1x128_S511x128_0_1 (addi (broadcastInDim S1x128 ![1]
    bcast_S128_S1x128_1 (muli (iotaInDim S128 32 0) (broadcastInDim S128 ![] bcast_S_S128 (constantI S_ 32 64#32)))) (broadcastInDim S1x128 ![] bcast_S_S1x128 (constantI
    S_ 32 64#32))))) (cmpi .sgt (broadcastInDim S511x128 ![0, 1] bcast_S511x1_S511x128_0_1 (addi (broadcastInDim S511x1 ![0] bcast_S511_S511x1_0 (muli (iotaInDim S511 32
    0) (broadcastInDim S511 ![] bcast_S_S511 (constantI S_ 32 16#32)))) (broadcastInDim S511x1 ![] bcast_S_S511x1 (constantI S_ 32 32#32)))) (broadcastInDim S511x128 ![0,
    1] bcast_S1x128_S511x128_0_1 (broadcastInDim S1x128 ![1] bcast_S128_S1x128_1 (muli (iotaInDim S128 32 0) (broadcastInDim S128 ![] bcast_S_S128 (constantI S_ 32
    64#32)))))))

/-- The selection blocks' importances. -/
def impV (a0 : FVec Ideal S2x8192x512 .f32) (a1 : FVec Ideal S2x511x2x64 .f32) : FVec Ideal S2x2x8192x128 .f32 :=
  Host.reduceAdd (mulf (broadcastInDim S2x2x8192x511x128 ![0, 1, 2, 3, 4] bcast_S2x2x8192x511x1_S2x2x8192x511x128_0_1_2_3_4 (broadcastInDim S2x2x8192x511x1 ![0, 1, 2, 3]
    bcast_S2x2x8192x511_S2x2x8192x511x1_0_1_2_3 (headsV a0 a1))) (broadcastInDim S2x2x8192x511x128 ![0, 1, 2, 3, 4] bcast_S1x1x1x511x128_S2x2x8192x511x128_0_1_2_3_4
    (broadcastInDim S1x1x1x511x128 ![3, 4] bcast_S511x128_S1x1x1x511x128_3_4 lapV))) (constant S_ .f32 0x00000000#32) reducesTo_S2x2x8192x511x128_S2x2x8192x128_d3 h_S_

/-- Each position's own selection block. -/
def curV : IVec S8192 32 :=
  select (andi (cmpi .ne (signi (iotaInDim S8192 32 0)) (broadcastInDim S8192 ![] bcast_S_S8192 (signi (id (constantI S_ 32 64#32))))) (cmpi .ne (Host.remsi (iotaInDim
    S8192 32 0) (broadcastInDim S8192 ![] bcast_S_S8192 (id (constantI S_ 32 64#32)))) (broadcastInDim S8192 ![] bcast_S_S8192 (constantI S_ 32 0#32)))) (subi (Host.divsi
    (iotaInDim S8192 32 0) (broadcastInDim S8192 ![] bcast_S_S8192 (id (constantI S_ 32 64#32)))) (broadcastInDim S8192 ![] bcast_S_S8192 (constantI S_ 32 1#32)))
    (Host.divsi (iotaInDim S8192 32 0) (broadcastInDim S8192 ![] bcast_S_S8192 (id (constantI S_ 32 64#32))))

/-- The blocks always taken. -/
def forceV : IVec S8192x128 1 :=
  ori (ori (broadcastInDim S8192x128 ![0, 1] bcast_S1x128_S8192x128_0_1 (cmpi .eq (broadcastInDim S1x128 ![1] bcast_S128_S1x128_1 (iotaInDim S128 32 0)) (broadcastInDim
    S1x128 ![] bcast_S_S1x128 (constantI S_ 32 0#32)))) (cmpi .eq (broadcastInDim S8192x128 ![0, 1] bcast_S1x128_S8192x128_0_1 (broadcastInDim S1x128 ![1]
    bcast_S128_S1x128_1 (iotaInDim S128 32 0))) (broadcastInDim S8192x128 ![0, 1] bcast_S8192x1_S8192x128_0_1 (broadcastInDim S8192x1 ![0] bcast_S8192_S8192x1_0 curV))))
    (cmpi .eq (broadcastInDim S8192x128 ![0, 1] bcast_S1x128_S8192x128_0_1 (broadcastInDim S1x128 ![1] bcast_S128_S1x128_1 (iotaInDim S128 32 0))) (broadcastInDim
    S8192x128 ![0, 1] bcast_S8192x1_S8192x128_0_1 (subi (broadcastInDim S8192x1 ![0] bcast_S8192_S8192x1_0 curV) (broadcastInDim S8192x1 ![] bcast_S_S8192x1 (constantI S_
    32 1#32)))))

/-- The blocks not past a position. -/
def allowV : IVec S8192x128 1 :=
  cmpi .sle (broadcastInDim S8192x128 ![0, 1] bcast_S1x128_S8192x128_0_1 (broadcastInDim S1x128 ![1] bcast_S128_S1x128_1 (iotaInDim S128 32 0))) (broadcastInDim S8192x128
    ![0, 1] bcast_S8192x1_S8192x128_0_1 (broadcastInDim S8192x1 ![0] bcast_S8192_S8192x1_0 curV))

/-- What the blocks are ranked by. -/
def rankV (a0 : FVec Ideal S2x8192x512 .f32) (a1 : FVec Ideal S2x511x2x64 .f32) : FVec Ideal S2x2x8192x128 .f32 :=
  select (broadcastInDim S2x2x8192x128 ![2, 3] bcast_S8192x128_S2x2x8192x128_2_3 forceV) (broadcastInDim S2x2x8192x128 ![] bcast_S_S2x2x8192x128 (id (constant S_ .f32
    0x461C4000#32))) (select (broadcastInDim S2x2x8192x128 ![2, 3] bcast_S8192x128_S2x2x8192x128_2_3 allowV) (impV a0 a1) (broadcastInDim S2x2x8192x128 ![]
    bcast_S_S2x2x8192x128 (id (constant S_ .f32 0xBF800000#32))))

/-- The sixteen highest ranked. -/
def topsV (a0 : FVec Ideal S2x8192x512 .f32) (a1 : FVec Ideal S2x511x2x64 .f32) : IVec S2x2x8192x16 32 :=
  (Host.topK S2x2x8192x16 3 (FloatOps.cmpfTotal .gt) (rankV a0 a1) sliceFits_S2x2x8192x128_S2x2x8192x16).2

/-- Whether a block is among them. -/
def hitV (a0 : FVec Ideal S2x8192x512 .f32) (a1 : FVec Ideal S2x511x2x64 .f32) : IVec S2x2x8192x128 1 :=
  Host.reduce IntOp.ori (cmpi .eq (broadcastInDim S2x2x8192x16x128 ![0, 1, 2, 3, 4] bcast_S2x2x8192x16x1_S2x2x8192x16x128_0_1_2_3_4 (broadcastInDim S2x2x8192x16x1 ![0, 1,
    2, 3] bcast_S2x2x8192x16_S2x2x8192x16x1_0_1_2_3 (topsV a0 a1))) (broadcastInDim S2x2x8192x16x128 ![0, 1, 2, 3, 4] bcast_S1x1x1x1x128_S2x2x8192x16x128_0_1_2_3_4
    (broadcastInDim S1x1x1x1x128 ![4] bcast_S128_S1x1x1x1x128_4 (iotaInDim S128 32 0)))) (constantI S_ 1 0#1) reducesTo_S2x2x8192x16x128_S2x2x8192x128_d3 h_S_

/-- The selected sets. -/
def pickV (a0 : FVec Ideal S2x8192x512 .f32) (a1 : FVec Ideal S2x511x2x64 .f32) : FVec Ideal S2x2x8192x128 .f32 :=
  uitofp .f32 (andi (hitV a0 a1) (broadcastInDim S2x2x8192x128 ![0, 1, 2, 3] bcast_S1x1x8192x128_S2x2x8192x128_0_1_2_3 (broadcastInDim S1x1x8192x128 ![2, 3]
    bcast_S8192x128_S1x1x8192x128_2_3 allowV)))

/-- The attention outputs. -/
def oV (a0 : FVec Ideal S2x8192x512 .f32) (a1 a2 : FVec Ideal S2x511x2x64 .f32) : FVec Ideal S16384x512 .bf16 :=
  truncf .bf16 (shapeCast _ (transpose S2x8192x2x4x64 [0, 4, 1, 3, 2] (Host.dotGeneral dot_S2x511x2x64_S2x2x4x8192x511_S2x2x64x4x8192_1_4_3_23_02_01 none a2 (probV a0
    a1)) transposes_S2x2x64x4x8192_S2x8192x2x4x64_0_4_1_3_2) shapeCasts_S2x8192x2x4x64_S16384x512) bitsLt_bf16_f32

/-- The selections, tile by tile. -/
def selV (a0 : FVec Ideal S2x8192x512 .f32) (a1 : FVec Ideal S2x511x2x64 .f32) : FVec Ideal S2x2x64x128x128 .f32 :=
  transpose S2x2x64x128x128 [0, 1, 2, 4, 3] (shapeCast _ (pickV a0 a1) shapeCasts_S2x2x8192x128_S2x2x64x128x128) transposes_S2x2x64x128x128_S2x2x64x128x128_0_1_2_4_3

/-- The counts, tile by tile. -/
def cntV (a0 : FVec Ideal S2x8192x512 .f32) (a1 : FVec Ideal S2x511x2x64 .f32) : FVec Ideal S2x2x64x8x128 .f32 :=
  broadcastInDim S2x2x64x8x128 ![0, 1, 2, 3, 4] bcast_S2x2x64x1x128_S2x2x64x8x128_0_1_2_3_4 (broadcastInDim S2x2x64x1x128 ![0, 1, 2, 4]
    bcast_S2x2x64x128_S2x2x64x1x128_0_1_2_4 (Host.reduceAdd (shapeCast _ (pickV a0 a1) shapeCasts_S2x2x8192x128_S2x2x64x128x128) (constant S_ .f32 0x00000000#32)
    reducesTo_S2x2x64x128x128_S2x2x64x128_d3 h_S_))

variable (m : (ℓ : Loc nD τ sig) → Buf (Elt Ideal) ℓ) (c : Dev nD)

theorem res0 : res_out0 m c = oV (m ((c.tc : Thread nD τ).loc main_arg0)) (m ((c.tc : Thread nD τ).loc main_arg1)) (m ((c.tc : Thread nD τ).loc main_arg2)) := by
  show res_main_v117 m c = _
  unfold res_main_v117
  rfl

theorem res1 : res_out1 m c = selV (m ((c.tc : Thread nD τ).loc main_arg0)) (m ((c.tc : Thread nD τ).loc main_arg1)) := by
  show res_main_v118 m c = _
  unfold res_main_v118
  rfl

theorem res2 : res_out2 m c = cntV (m ((c.tc : Thread nD τ).loc main_arg0)) (m ((c.tc : Thread nD τ).loc main_arg1)) := by
  show res_main_v120 m c = _
  unfold res_main_v120
  rfl

end Cert.ReferenceIdeal.Stages

end
-- ==== Proof.Reference.lean ====
/-
  What the reference computes, index by index: its stages read as the attention over compressed blocks, the importances and
  the selected sets that the kernel's results are stated by.
-/
module

public import proofs.«01_k».proof.Proof.Stages
public import proofs.«01_k».proof.Proof.Spec
public import proofs.«01_k».proof.Proof.Bools

@[expose] public section

set_option maxRecDepth 16384

noncomputable section

namespace Cert.ReferenceIdeal.Stages

open Cert.ReferenceIdeal Cert.ReferenceIdeal.Gen Cert.ReferenceIdeal.Value
open Idealize.ShloMosaic Idealize.ShloMosaic.TcCoe Idealize.SL.Sem Idealize.ShloMosaic.StableHlo
open Cert.Spec Cert.Softmax Cert.Bools

variable (a0 : FVec Ideal S2x8192x512 .f32) (a1 a2 : FVec Ideal S2x511x2x64 .f32)

/-- The arguments by coordinates. -/
abbrev C0 : Fin 2 → Fin 8192 → Fin 512 → EReal := fun b t z => a0 (ix3 b t z)
abbrev C1 : Fin 2 → Fin 511 → Fin 2 → Fin 64 → EReal := fun b k g e => a1 (ix4 b k g e)

theorem distV_at (t : Fin 8192) (k : Fin 511) : distV (ix2 t k) = (((t.val : ℝ) - (16 * k.val + 31) : ℝ) : EReal) := by
  pointwise [distV]
  exact dist_word t.val k.val (by omega) (by omega)

theorem validV_at (t : Fin 8192) (k : Fin 511) : validV (ix2 t k) = BitVec.ofBool (decide (seen t.val k.val)) := by
  pointwise [validV]
  rw [distV_at]
  refine congrArg BitVec.ofBool (decide_eq_decide.mpr ?_)
  rw [EReal.coe_nonneg, sub_nonneg, seen]
  exact_mod_cast Iff.rfl

theorem row_at (A : Fin 2 → Fin 511 → Fin 2 → Fin 64 → EReal) (b g : Fin 2) (k : Fin 511) (e : Fin 64) : row A b g k.val e = A b k g e :=
  dif_pos k.2

theorem col_at (g : Fin 2) (j : Fin 4) (e : Fin 64) (h : g.val * 256 + j.val * 64 + e.val < 512) :
    (⟨g.val * 256 + j.val * 64 + e.val, h⟩ : Fin 512) = col g j e :=
  Fin.ext (by show g.val * 256 + j.val * 64 + e.val = 256 * g.val + 64 * j.val + e.val; ring)

theorem dotV_at (b g : Fin 2) (j : Fin 4) (t : Fin 8192) (k : Fin 511) :
    dotV a0 a1 (ix5 b g k t j) = ∑ e : Fin 64, row (C1 a1) b g k.val e * C0 a0 b t (col g j e) := by
  pointwise [dotV]
  refine Finset.sum_congr rfl fun e _ => ?_
  rw [row_at, col_at]

theorem slopeV_at (h : Fin 8) : slopeV (ix1 h) = Spec.slope h.val := by
  pointwise [slopeV]
  rw [nat_real h.val (by omega), Spec.slope]

theorem scoreV_at (b g : Fin 2) (j : Fin 4) (t : Fin 8192) (k : Fin 511) :
    scoreV a0 a1 (ix5 b g j t k) = score (C0 a0) (C1 a1) b g j t k.val := by
  pointwise [scoreV]
  rw [dotV_at, slopeV_at, ofBits_eighth, dist_word t.val k.val (by omega) (by omega), score]
  exact congrArg (fun n : ℕ => _ - Spec.slope n * _) (by show g.val * 4 + j.val = _; ring)

theorem ofBits_inf : Ideal.ofBits .f32 0xFF800000#32 = ⊥ := by simp [Ideal.ofBits, Ideal.ieee]

theorem maskV_at (b g : Fin 2) (j : Fin 4) (t : Fin 8192) (k : Fin 511) :
    maskV a0 a1 (ix5 b g j t k) = masked (seen t.val) (score (C0 a0) (C1 a1) b g j t) k.val := by
  pointwise [maskV]
  rw [validV_at, scoreV_at, sel_bool, masked]
  show (if _ then _ else Ideal.ofBits .f32 0xFF800000#32) = _
  rw [ofBits_inf]
  simp only [decide_eq_true_eq]

theorem topV_at (b g : Fin 2) (j : Fin 4) (t : Fin 8192) : topV a0 a1 (ix4 b g j t) = top 511 (seen t.val) (score (C0 a0) (C1 a1) b g j t) := by
  pointwise [topV]
  rw [ofBits_inf]
  simp only [maskV_at]
  rfl

theorem expV_at (b g : Fin 2) (j : Fin 4) (t : Fin 8192) (k : Fin 511) :
    expV a0 a1 (ix5 b g j t k) = wt 511 (seen t.val) (score (C0 a0) (C1 a1) b g j t) k.val := by
  pointwise [expV]
  rw [validV_at, maskV_at, topV_at, sel_bool]
  by_cases h : seen t.val k.val
  · simp only [h, decide_true, if_true]
    rfl
  · rw [wt_of_not 511 _ _ h]
    simp only [h, decide_false, Bool.false_eq_true, if_false]
    show Ideal.ofBits .f32 0#32 = 0
    simp [Ideal.ofBits, Ideal.ieee]

theorem denV_at (b g : Fin 2) (j : Fin 4) (t : Fin 8192) : denV a0 a1 (ix4 b g j t) = den 511 (seen t.val) (score (C0 a0) (C1 a1) b g j t) := by
  pointwise [denV]
  exact Finset.sum_congr rfl fun k _ => expV_at a0 a1 b g j t k

theorem probV_at (b g : Fin 2) (j : Fin 4) (t : Fin 8192) (k : Fin 511) : probV a0 a1 (ix5 b g j t k) = p (C0 a0) (C1 a1) b g j t k.val := by
  pointwise [probV]
  rw [expV_at, denV_at, p, prob]
  show Ideal.div _ (if _ then _ else Ideal.ofBits .f32 0x3F800000#32) = _
  rw [show Ideal.ofBits .f32 0x3F800000#32 = 1 by simp [Ideal.ofBits, Ideal.ieee]; rw [← EReal.coe_mul]; norm_num]

theorem headsV_at (b g : Fin 2) (t : Fin 8192) (k : Fin 511) : headsV a0 a1 (ix4 b g t k) = ∑ j : Fin 4, p (C0 a0) (C1 a1) b g j t k.val := by
  pointwise [headsV]
  exact Finset.sum_congr rfl fun j _ => probV_at a0 a1 b g j t k

/-- A decided proposition as a number. -/
theorem one_zero (a : Bool) : FloatOps.uitofp (F := Ideal) .f32 (BitVec.ofBool a) = if a = true then (1 : EReal) else 0 := by
  cases a
  · show (((0 : ℕ) : ℝ) : EReal) = 0; simp
  · show (((1 : ℕ) : ℝ) : EReal) = 1; simp

theorem lapV_at (k : Fin 511) (r : Fin 128) : lapV (ix2 k r) = lap r.val k.val := by
  pointwise [lapV]
  rw [mul_word, mul_word, add_word, add_word, WordCmp.cmpi_slt_ofNat (by omega) (by omega), WordCmp.cmpi_sgt_ofNat (by omega) (by omega), and_bool, one_zero, lap,
    ← Bool.decide_and]
  simp only [decide_eq_true_eq]
  refine if_congr ?_ rfl rfl
  omega

theorem impV_at (b g : Fin 2) (t : Fin 8192) (r : Fin 128) : impV a0 a1 (ix4 b g t r) = imp (C0 a0) (C1 a1) b g t r := by
  pointwise [impV]
  refine Finset.sum_congr rfl fun k _ => ?_
  rw [headsV_at, lapV_at]

theorem oV_at (t : Fin 16384) (z : Fin 512) : @Eq EReal (oV a0 a1 a2 (ix2 t z)) (outO (C0 a0) (C1 a1) (C1 a2) t z) := by
  pointwise [oV]
  unfold outO attn
  refine Finset.sum_congr rfl fun k _ => ?_
  rw [probV_at, row_at]

theorem cur_word (t : Fin 8192) :
    Scalar.select
      (IntOp.andi
        (IntOp.cmpi .ne (if BitVec.ofNat 32 t.val = 0 then (0 : BitVec 32) else if (BitVec.ofNat 32 t.val).msb = true then -1 else 1)
          (if (64#32 : BitVec 32) = 0 then 0 else if (64#32 : BitVec 32).msb = true then -1 else 1))
        (IntOp.cmpi .ne (IntOp.remsi ArithUnit.host (BitVec.ofNat 32 t.val) 64#32) 0#32))
      (IntOp.subi (IntOp.divsi ArithUnit.host (BitVec.ofNat 32 t.val) 64#32) 1#32)
      (IntOp.divsi ArithUnit.host (BitVec.ofNat 32 t.val) 64#32) =
    BitVec.ofNat 32 (t.val / 64) := by
  revert t
  decide +kernel

/-- The block a position lies in. -/
theorem curV_at (t : Fin 8192) : curV (ix1 t) = BitVec.ofNat 32 (t.val / 64) := by
  pointwise [curV]
  exact cur_word t

theorem before_word (c r : ℕ) (hc : c < 128) (hr : r < 128) :
    IntOp.cmpi .eq (BitVec.ofNat 32 r) (IntOp.subi (BitVec.ofNat 32 c) 1#32) = BitVec.ofBool (decide (r + 1 = c)) := by
  show BitVec.ofBool (BitVec.ofNat 32 r == BitVec.ofNat 32 c - 1#32) = _
  refine congrArg BitVec.ofBool (decide_eq_decide.mpr ?_)
  constructor <;> intro h <;> bv_omega

instance (cur : ℕ) (r : Fin 128) : Decidable (Picks.forced cur r) := inferInstanceAs (Decidable (_ ∨ _ ∨ _))

theorem forceV_at (t : Fin 8192) (r : Fin 128) : forceV (ix2 t r) = BitVec.ofBool (decide (Picks.forced (t.val / 64) r)) := by
  pointwise [forceV]
  rw [curV_at, before_word _ _ (by omega) (by omega), WordCmp.cmpi_eq_ofNat (by omega) (by omega), WordCmp.cmpi_eq_ofNat (by omega) (by omega), or_bool, or_bool,
    ← Bool.decide_or, ← Bool.decide_or]
  exact congrArg BitVec.ofBool (decide_eq_decide.mpr or_assoc)

theorem allowV_at (t : Fin 8192) (r : Fin 128) : allowV (ix2 t r) = BitVec.ofBool (decide (r.val ≤ t.val / 64)) := by
  pointwise [allowV]
  rw [curV_at, WordCmp.cmpi_sle_ofNat (by omega) (by omega)]

/-- What the reference ranks blocks by. -/
def grade (b g : Fin 2) (t : Fin 8192) (r : Fin 128) : EReal :=
  if Picks.forced (t.val / 64) r then ((10000 : ℝ) : EReal) else if r.val ≤ t.val / 64 then imp (C0 a0) (C1 a1) b g t r else ((-1 : ℝ) : EReal)

theorem rankV_at (b g : Fin 2) (t : Fin 8192) (r : Fin 128) : rankV a0 a1 (ix4 b g t r) = grade a0 a1 b g t r := by
  pointwise [rankV]
  rw [forceV_at, allowV_at, impV_at, sel_bool, sel_bool]
  show (if _ then Ideal.ofBits .f32 0x461C4000#32 else if _ then _ else Ideal.ofBits .f32 0xBF800000#32) = _
  rw [ofBits_force, ofBits_neg1, grade]
  simp only [decide_eq_true_eq]

/-- The positions of the greatest, one after another: a stable sort's first sixteen. -/
theorem tops_word (R : FVec Ideal S2x2x8192x128 .f32) (b g : Fin 2) (t : Fin 8192) (i : Fin 16) :
    (Host.topK S2x2x8192x16 3 (FloatOps.cmpfTotal .gt) R sliceFits_S2x2x8192x128_S2x2x8192x16).2 (ix4 b g t i)
      = BitVec.ofNat 32 (sortedFrom (fun k k' : Fin 128 => FloatOps.cmpfTotal .gt (R (ix4 b g t k)) (R (ix4 b g t k')) == 1#1) ⟨i.val, by omega⟩).val := by
  have ha : ∀ (h3 : 3 < S2x2x8192x128.rank) (k : Fin (S2x2x8192x128.size ⟨3, h3⟩)),
      (ix4 b g t ⟨i.val, by omega⟩ : S2x2x8192x128.Idx).along ⟨3, h3⟩ k = ix4 b g t (show Fin 128 from k) := fun h3 k => by
    funext d
    fin_cases d <;> rfl
  have key : ∀ j : S2x2x8192x128.Idx, j = ix4 b g t ⟨i.val, by omega⟩ →
      (Host.sort2 S2x2x8192x128 3 (fun l r : EReal × BitVec 32 => FloatOps.cmpfTotal (F := Ideal) (φ := .f32) .gt l.1 r.1) R
        (fun i => if hd : 3 < S2x2x8192x128.rank then iotaInDim S2x2x8192x128 32 ⟨3, hd⟩ i else 0#32)).2 j
        = BitVec.ofNat 32 (sortedFrom (fun k k' : Fin 128 => FloatOps.cmpfTotal .gt (R (ix4 b g t k)) (R (ix4 b g t k')) == 1#1) ⟨i.val, by omega⟩).val := by
    rintro _ rfl
    unfold Host.sort2
    rw [dif_pos (by decide)]
    dsimp only
    simp only [ha]
    rw [dif_pos (by decide)]
    refine congrArg (fun σ : Fin 128 => BitVec.ofNat 32 σ.val) ?_
    refine congrArg (sortedFrom _) ?_
    rfl
  exact key _ (by blk_ext <;> rfl)

theorem topsV_at (b g : Fin 2) (t : Fin 8192) (i : Fin 16) :
    topsV a0 a1 (ix4 b g t i) = BitVec.ofNat 32 (sortedFrom (fun k k' : Fin 128 => decide (grade a0 a1 b g t k' < grade a0 a1 b g t k)) ⟨i.val, by omega⟩).val := by
  have hB : (fun k k' : Fin 128 => decide (grade a0 a1 b g t k' < grade a0 a1 b g t k))
      = fun k k' : Fin 128 => FloatOps.cmpfTotal .gt (rankV a0 a1 (ix4 b g t k)) (rankV a0 a1 (ix4 b g t k')) == 1#1 := by
    funext k k'
    rw [rankV_at, rankV_at]
    show _ = (BitVec.ofBool (decide (grade a0 a1 b g t k' < grade a0 a1 b g t k)) == 1#1)
    cases decide (grade a0 a1 b g t k' < grade a0 a1 b g t k) <;> rfl
  rw [hB]
  unfold topsV
  generalize rankV a0 a1 = R
  exact tops_word R b g t i

theorem fold_or {n : ℕ} (f : Fin n → Bool) : Finset.univ.fold IntOp.ori (0#1) (fun i => BitVec.ofBool (f i)) = BitVec.ofBool (decide (∃ i, f i = true)) := by
  classical
  have key : ∀ s : Finset (Fin n), s.fold IntOp.ori (0#1) (fun i => BitVec.ofBool (f i)) = BitVec.ofBool (decide (∃ i ∈ s, f i = true)) := fun s => by
    induction s using Finset.induction_on with
    | empty => simp
    | insert a s ha ih =>
      rw [Finset.fold_insert ha, ih, or_bool]
      refine congrArg BitVec.ofBool ?_
      cases h : f a <;> simp [h]
  simpa using key Finset.univ

theorem hitV_at (b g : Fin 2) (t : Fin 8192) (r : Fin 128) :
    hitV a0 a1 (ix4 b g t r) = BitVec.ofBool (decide (Picks.rank (grade a0 a1 b g t) (fun _ => True) r < 16)) := by
  pointwise [hitV]
  have h : ∀ i : Fin 16, IntOp.cmpi .eq (topsV a0 a1 (ix4 b g t i)) (BitVec.ofNat 32 r.val)
      = BitVec.ofBool (decide (sortedFrom (fun k k' : Fin 128 => decide (grade a0 a1 b g t k' < grade a0 a1 b g t k)) ⟨i.val, by omega⟩ = r)) := fun i => by
    rw [topsV_at, WordCmp.cmpi_eq_ofNat (by omega) (by omega)]
    exact congrArg BitVec.ofBool (decide_eq_decide.mpr Fin.ext_iff.symm)
  simp only [h]
  rw [fold_or]
  refine congrArg BitVec.ofBool (decide_eq_decide.mpr ?_)
  rw [← Picks.sorted_first (grade a0 a1 b g t) _ (fun _ _ => rfl) r 16]
  constructor
  · rintro ⟨i, hi⟩
    exact ⟨⟨i.val, by omega⟩, i.2, of_decide_eq_true hi⟩
  · rintro ⟨i, hi, h⟩
    exact ⟨⟨i.val, hi⟩, decide_eq_true h⟩

theorem pickV_at (b g : Fin 2) (t : Fin 8192) (r : Fin 128) : pickV a0 a1 (ix4 b g t r) = pick (C0 a0) (C1 a1) b g t r := by
  have hs := Picks.sixteen (imp (C0 a0) (C1 a1) b g t) (grade a0 a1 b g t) (cur := t.val / 64) (by omega) (hi := ((10000 : ℝ) : EReal))
    (fun j hj => if_pos hj)
    (fun j hj => ⟨(if_neg hj.2).trans (if_pos hj.1), imp_nonneg _ _ b g t j, by
      obtain ⟨y, hy, -, h⟩ := imp_real (C0 a0) (C1 a1) b g t j
      rw [hy]; exact_mod_cast h⟩)
    (fun j hj hj' => by
      rw [grade, if_neg hj, if_neg hj']
      exact_mod_cast (by norm_num : (-1 : ℝ) < 0))
    (by exact_mod_cast (by norm_num : (0 : ℝ) ≤ 10000)) r
  pointwise [pickV]
  rw [hitV_at, allowV_at, and_bool, one_zero, ← Bool.decide_and]
  unfold pick
  simp only [decide_eq_true_eq]
  classical
  exact if_congr hs rfl rfl

theorem selV_at (b g : Fin 2) (s : Fin 64) (r q : Fin 128) : selV a0 a1 (ix5 b g s r q) = outSel (C0 a0) (C1 a1) b g s r q := by
  pointwise [selV]
  rw [pickV_at, outSel]
  exact congrArg (fun u : Fin 8192 => pick (C0 a0) (C1 a1) b g u r) (Fin.ext (by show s.val * 128 + q.val = 128 * s.val + q.val; ring))

theorem cntV_at (b g : Fin 2) (s : Fin 64) (u : Fin 8) (r : Fin 128) : cntV a0 a1 (ix5 b g s u r) = outCnt (C0 a0) (C1 a1) b g s r := by
  pointwise [cntV]
  refine Finset.sum_congr rfl fun q _ => ?_
  rw [pickV_at, outSel]
  exact congrArg (fun u : Fin 8192 => pick (C0 a0) (C1 a1) b g u r) (Fin.ext (by show s.val * 128 + q.val = 128 * s.val + q.val; ring))

/-! ## The results -/

theorem oV_eq : @Eq (S16384x512.Idx → EReal) (oV a0 a1 a2) (fun i => outO (C0 a0) (C1 a1) (C1 a2) (i 0) (i 1)) := by
  funext i
  have hi : i = ix2 (i 0) (i 1) := by blk_ext
  exact (congrArg (fun j : S16384x512.Idx => (oV a0 a1 a2 j : EReal)) hi).trans (oV_at a0 a1 a2 (i 0) (i 1))

theorem selV_eq : @Eq (S2x2x64x128x128.Idx → EReal) (selV a0 a1) (fun i => outSel (C0 a0) (C1 a1) (i 0) (i 1) (i 2) (i 3) (i 4)) := by
  funext i
  have hi : i = ix5 (i 0) (i 1) (i 2) (i 3) (i 4) := by blk_ext
  exact (congrArg (fun j : S2x2x64x128x128.Idx => (selV a0 a1 j : EReal)) hi).trans (selV_at a0 a1 (i 0) (i 1) (i 2) (i 3) (i 4))

theorem cntV_eq : @Eq (S2x2x64x8x128.Idx → EReal) (cntV a0 a1) (fun i => outCnt (C0 a0) (C1 a1) (i 0) (i 1) (i 2) (i 4)) := by
  funext i
  have hi : i = ix5 (i 0) (i 1) (i 2) (i 3) (i 4) := by blk_ext
  exact (congrArg (fun j : S2x2x64x8x128.Idx => (cntV a0 a1 j : EReal)) hi).trans (cntV_at a0 a1 (i 0) (i 1) (i 2) (i 3) (i 4))

end Cert.ReferenceIdeal.Stages

end
-- ==== Proof.Equal.lean ====
/-
  The kernel's three arrays after its run, the reference's three, and that they are the same.
-/
module

public import proofs.«01_k».proof.Defs
public import proofs.«01_k».proof.Proof.Finals
public import proofs.«01_k».proof.Proof.Reference
public import proofs.«01_k».proof.Proof.Gen.ReferenceIdeal.Run
public import Idealize.ShloMosaic.Lib.Claim

@[expose] public section

set_option maxRecDepth 16384

noncomputable section

namespace Cert.Equal

open Idealize.ShloMosaic Idealize.ShloMosaic.TcCoe Idealize.SL.Sem
open Cert.Spec

attribute [local instance] Cert.KernelIdeal.Gen.facts Cert.ReferenceIdeal.Gen.facts

section
open Cert.KernelIdeal Cert.KernelIdeal.Gen Cert.KernelIdeal.Nsa Cert.KernelIdeal.Operands Cert.KernelIdeal.Finals

/-- What the kernel leaves. -/
theorem kernel_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v81_0) = (fun i : S16384x512.Idx => outO (A0 m c) (A1 m c) (A2 m c) (i 0) (i 1))
      ∧ r.2.mem ((c.tc : Thread nD τ).loc main_v81_1) = (fun i : S2x2x64x128x128.Idx => outSel (A0 m c) (A1 m c) (i 0) (i 1) (i 2) (i 3) (i 4))
      ∧ r.2.mem ((c.tc : Thread nD τ).loc main_v81_2) = (fun i : S2x2x64x8x128.Idx => outCnt (A0 m c) (A1 m c) (i 0) (i 1) (i 2) (i 4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r (h : _ ∧ _) c =>
      ⟨((h.1 c).1 6).trans (final6 m c), ((h.1 c).1 7).trans (final7 m c), ((h.1 c).1 8).trans (final8 m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩)
    (run_main m ρ)

end

section
open Cert.ReferenceIdeal Cert.ReferenceIdeal.Value Cert.ReferenceIdeal.Stages

/-- What the reference leaves. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v117)
          = (fun i : S16384x512.Idx => outO (C0 (m ((c.tc : Thread nD τ).loc main_arg0))) (C1 (m ((c.tc : Thread nD τ).loc main_arg1))) (C1 (m ((c.tc : Thread nD τ).loc main_arg2))) (i 0) (i 1))
      ∧ r.2.mem ((c.tc : Thread nD τ).loc main_v118)
          = (fun i : S2x2x64x128x128.Idx => outSel (C0 (m ((c.tc : Thread nD τ).loc main_arg0))) (C1 (m ((c.tc : Thread nD τ).loc main_arg1))) (i 0) (i 1) (i 2) (i 3) (i 4))
      ∧ r.2.mem ((c.tc : Thread nD τ).loc main_v120)
          = (fun i : S2x2x64x8x128.Idx => outCnt (C0 (m ((c.tc : Thread nD τ).loc main_arg0))) (C1 (m ((c.tc : Thread nD τ).loc main_arg1))) (i 0) (i 1) (i 2) (i 4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
      ⟨(h c).1.trans ((res0 m c).trans (oV_eq _ _ _)), (h c).2.1.trans ((res1 m c).trans (selV_eq _ _)), (h c).2.2.1.trans ((res2 m c).trans (cntV_eq _ _)),
      (h c).2.2.2⟩)
    (Value.run m ρ)

end

/-- The two programs' results are equal. -/
theorem algebraic : Cert.algebraic_KernelIdeal_ReferenceIdeal := by
  intro m g m' g' _ hagree
  refine ⟨_, _, _, kernel_run m g, (θ_run _ _ _).mono (fun r h c => ?_) (reference_run m' g')⟩
  obtain ⟨h0, h1, h2, ha⟩ := h c
  obtain ⟨e0, e1, e2⟩ := hagree c
  rw [e0, e1, e2] at h0
  rw [e0, e1] at h1 h2
  exact ⟨h0, h1, h2, ha⟩

end Cert.Equal

end
-- ==== Proof.Linear.lean ====
/-
  What the two projection calls compute: a row of the layer's input against a column of the weights, plus the bias;
  which column of the weights each row or column of a call's result is; and which of them the softmax scale multiplies.
-/
module

public import proofs.«01_k».proof.Proof.Softmax
public import proofs.«01_k».proof.Proof.Spec

@[expose] public section

noncomputable section

namespace Cert.Linear

open Idealize.ShloMosaic

/-- One entry of the layer's projection: token `T` of the two sequences laid end to end, column `n`. -/
def lin (X : Fin 2 → Fin 8192 → Fin 1024 → EReal) (W : Fin 1024 → Fin 11288 → EReal) (B : Fin 11288 → EReal) (T : Fin 16384) (n : Fin 11288) : EReal :=
  (∑ e : Fin 1024, X ⟨T.val / 8192, by omega⟩ ⟨T.val % 8192, by omega⟩ e * W e n) + B n

/-- A call that is given scaled weights and a scaled bias projects, then scales. -/
theorem scaled (x : Fin 1024 → EReal) (w : Fin 1024 → EReal) (b : EReal) {c : ℝ} (hc : 0 < c) :
    (∑ e, x e * (w e * c)) + b * c = ((∑ e, x e * w e) + b) * c := by
  rw [Cert.Softmax.sum_mul_right x hc w, mul_comm b, mul_comm _ (c : EReal),
    EReal.left_distrib_of_nonneg_of_ne_top (EReal.coe_nonneg.mpr hc.le) (EReal.coe_ne_top c)]

/-- The column of the weights that row `n` of the feature-major result is: the first values of the first branch, then
    the selected, windowed and last branch's values. -/
def featCol (n : Fin 896) : Fin 11288 :=
  if h : n.val < 512 then ⟨3072 + n.val, by omega⟩
  else if h : n.val - 512 < 128 then ⟨6016 + (n.val - 512), by omega⟩
  else if h : n.val - 512 - 128 < 128 then ⟨6272 + (n.val - 512 - 128), by omega⟩
  else ⟨7576 + (n.val - 512 - 128 - 128), by omega⟩

/-- The softmax scale and the change of the exponent's base, which the queries are multiplied by. -/
abbrev qScale : ℝ := 1 / 8 * Cert.Spec.log2e

theorem qScale_pos : 0 < qScale := by have := Cert.Spec.log2e_pos; unfold qScale; positivity

/-- Two groups' 64 columns starting at `o`, each group twice. -/
def dup (f : Fin 11288 → EReal) (o : ℕ) (ho : o + 128 ≤ 11288) (z : ℕ) (hz : z < 256) : EReal :=
  if h : z < 64 then f ⟨o + z, by omega⟩
  else if h : z - 64 < 64 then f ⟨o + (z - 64), by omega⟩
  else if h : z - 64 - 64 < 64 then f ⟨o + 64 + (z - 64 - 64), by omega⟩
  else f ⟨o + 64 + (z - 64 - 64 - 64), by omega⟩

/-- What is laid at column `n` of the token-major result, `f` giving the layer's projection by its own column: the gate
    of the last branch's output, then a query (scaled) and a key part of the first branch, the two further branches'
    queries (scaled), three gates, three keys with each group twice, the branch weights, and zeros. -/
def placed (f : Fin 11288 → EReal) (n : Fin 7680) : EReal :=
  if h : n.val < 3072 then f ⟨8216 + n.val, by omega⟩
  else if h : n.val - 3072 < 512 then f ⟨n.val - 3072, by omega⟩ * (qScale : EReal)
  else if h : n.val - 3072 - 512 < 512 then f ⟨1536 + (n.val - 3072 - 512), by omega⟩
  else if h : n.val - 3072 - 512 - 512 < 512 then f ⟨5120 + (n.val - 3072 - 512 - 512), by omega⟩ * (qScale : EReal)
  else if h : n.val - 3072 - 512 - 512 - 512 < 512 then f ⟨6936 + (n.val - 3072 - 512 - 512 - 512), by omega⟩ * (qScale : EReal)
  else if h : n.val - 3072 - 512 - 512 - 512 - 512 < 512 then f ⟨4608 + (n.val - 3072 - 512 - 512 - 512 - 512), by omega⟩
  else if h : n.val - 3072 - 512 - 512 - 512 - 512 - 512 < 512 then f ⟨6400 + (n.val - 3072 - 512 - 512 - 512 - 512 - 512), by omega⟩
  else if h : n.val - 3072 - 512 - 512 - 512 - 512 - 512 - 512 < 512 then f ⟨7704 + (n.val - 3072 - 512 - 512 - 512 - 512 - 512 - 512), by omega⟩
  else if h : n.val - 3072 - 512 - 512 - 512 - 512 - 512 - 512 - 512 < 256 then dup f 5888 (by omega) (n.val - 3072 - 512 - 512 - 512 - 512 - 512 - 512 - 512) h
  else if h : n.val - 3072 - 512 - 512 - 512 - 512 - 512 - 512 - 512 - 256 < 256 then dup f 6144 (by omega) (n.val - 3072 - 512 - 512 - 512 - 512 - 512 - 512 - 512 - 256) h
  else if h : n.val - 3072 - 512 - 512 - 512 - 512 - 512 - 512 - 512 - 256 - 256 < 256 then dup f 7448 (by omega) (n.val - 3072 - 512 - 512 - 512 - 512 - 512 - 512 - 512 - 256 - 256) h
  else if h : n.val - 3072 - 512 - 512 - 512 - 512 - 512 - 512 - 512 - 256 - 256 - 256 < 24 then f ⟨6912 + (n.val - 3072 - 512 - 512 - 512 - 512 - 512 - 512 - 512 - 256 - 256 - 256), by omega⟩
  else 0

theorem dup_lin (x : Fin 1024 → EReal) (W : Fin 1024 → Fin 11288 → EReal) (B : Fin 11288 → EReal) (o : ℕ) (ho : o + 128 ≤ 11288) (z : ℕ) (hz : z < 256) :
    (∑ e, x e * dup (W e) o ho z hz) + dup B o ho z hz = dup (fun k => (∑ e, x e * W e k) + B k) o ho z hz := by
  unfold dup
  split_ifs <;> rfl

/-- A case distinction on the column, which neither the row nor the sum knows, goes outside. -/
theorem cases_lin (x : Fin 1024 → EReal) {p : Prop} [Decidable p] (w₁ : p → Fin 1024 → EReal) (w₂ : ¬ p → Fin 1024 → EReal) (b₁ r₁ : p → EReal) (b₂ r₂ : ¬ p → EReal)
    (h₁ : ∀ h, (∑ e, x e * w₁ h e) + b₁ h = r₁ h) (h₂ : ∀ h, (∑ e, x e * w₂ h e) + b₂ h = r₂ h) :
    (∑ e, x e * (if h : p then w₁ h e else w₂ h e)) + (if h : p then b₁ h else b₂ h) = if h : p then r₁ h else r₂ h := by
  by_cases h : p
  · simpa only [dif_pos h] using h₁ h
  · simpa only [dif_neg h] using h₂ h

/-- Projecting with the placed weights and bias is placing the projection. -/
theorem placed_lin (x : Fin 1024 → EReal) (W : Fin 1024 → Fin 11288 → EReal) (B : Fin 11288 → EReal) (n : Fin 7680) :
    (∑ e, x e * placed (W e) n) + placed B n = placed (fun k => (∑ e, x e * W e k) + B k) n := by
  unfold placed
  refine cases_lin x _ _ _ _ _ _ (fun _ => rfl) fun _ => ?_
  refine cases_lin x _ _ _ _ _ _ (fun _ => scaled x _ _ qScale_pos) fun _ => ?_
  refine cases_lin x _ _ _ _ _ _ (fun _ => rfl) fun _ => ?_
  refine cases_lin x _ _ _ _ _ _ (fun _ => scaled x _ _ qScale_pos) fun _ => ?_
  refine cases_lin x _ _ _ _ _ _ (fun _ => scaled x _ _ qScale_pos) fun _ => ?_
  refine cases_lin x _ _ _ _ _ _ (fun _ => rfl) fun _ => ?_
  refine cases_lin x _ _ _ _ _ _ (fun _ => rfl) fun _ => ?_
  refine cases_lin x _ _ _ _ _ _ (fun _ => rfl) fun _ => ?_
  refine cases_lin x _ _ _ _ _ _ (fun _ => dup_lin x W B _ _ _ _) fun _ => ?_
  refine cases_lin x _ _ _ _ _ _ (fun _ => dup_lin x W B _ _ _ _) fun _ => ?_
  refine cases_lin x _ _ _ _ _ _ (fun _ => dup_lin x W B _ _ _ _) fun _ => ?_
  refine cases_lin x _ _ _ _ _ _ (fun _ => rfl) fun _ => ?_
  simp

end Cert.Linear

end
-- ==== Proof.ProjArrays.lean ====
/-
  The call that projects the layer's input token-major: its operands' entries, what one grid point leaves in its block,
  and the whole array after the run.
-/
module

public import proofs.«01_k».proof.Proof.Linear
public import proofs.«01_k».proof.Proof.Gen.ProjIdeal.Value
public import Idealize.ShloMosaic.Lib.Pointwise
public import Idealize.ShloMosaic.Lib.StableHlo.RunRead
public import Idealize.ShloMosaic.Lib.Pipeline.ValueKit

@[expose] public section

set_option maxRecDepth 16384

noncomputable section

namespace Cert.Proj

open Cert.ProjIdeal Cert.ProjIdeal.Gen
open Idealize.ShloMosaic Idealize.ShloMosaic.TcCoe Idealize.SL.Sem Idealize.ShloMosaic.StableHlo
open Cert.Linear

variable (m : (ℓ : Loc nD τ sig) → Buf (Elt Ideal) ℓ)

/-- The layer's input, weights and bias as the kernel's memory holds them. -/
def kX (c : Dev nD) (b : Fin 2) (t : Fin 8192) (e : Fin 1024) : EReal := m ((c.tc : Thread nD τ).loc main_arg0) (ix3 b t e)
def kW (c : Dev nD) (e : Fin 1024) (n : Fin 11288) : EReal := m ((c.tc : Thread nD τ).loc main_arg1) (ix2 e n)
def kB (c : Dev nD) (n : Fin 11288) : EReal := m ((c.tc : Thread nD τ).loc main_arg2) (ix1 n)

/-- The scale as the host computes it. -/
theorem scale_word (u : EReal) : u * (Ideal.ofBits .f32 0x3E000000#32 * Ideal.div 1 (Ideal.log (Ideal.ofBits .f32 0x40000000#32))) = u * (qScale : EReal) := by
  rw [Cert.Spec.ofBits_eighth, Cert.Spec.log2e_word, ← EReal.coe_mul]

/-- The tokens, one under the other. -/
theorem x_entry (c : Dev nD) (r : Fin 16384) (e : Fin 1024) :
    @Eq EReal (V m c main_v1 (ix2 r e)) (kX m c ⟨r.val / 8192, by omega⟩ ⟨r.val % 8192, by omega⟩ e) := by
  rw [V]
  after_reads_simp
  pointwise
  rfl

/-! ## The bias's thirteen parts, side by side -/

theorem b_8 (c : Dev nD) (z : Fin 3072) :
    @Eq EReal (upto hostOps0 (fun b => m (c, b)) 86 (Proc.tc.devRef main_v8) (ix1 z)) (kB m c ⟨8216 + z.val, by omega⟩) := by
  after_reads_simp
  pointwise
  rfl

theorem b_14 (c : Dev nD) (z : Fin 512) :
    @Eq EReal (upto hostOps0 (fun b => m (c, b)) 86 (Proc.tc.devRef main_v14) (ix1 z)) (kB m c ⟨z.val, by omega⟩ * (qScale : EReal)) := by
  after_reads_simp
  pointwise
  exact scale_word _

theorem b_16 (c : Dev nD) (z : Fin 512) :
    @Eq EReal (upto hostOps0 (fun b => m (c, b)) 86 (Proc.tc.devRef main_v16) (ix1 z)) (kB m c ⟨1536 + z.val, by omega⟩) := by
  after_reads_simp
  pointwise
  rfl

theorem b_22 (c : Dev nD) (z : Fin 512) :
    @Eq EReal (upto hostOps0 (fun b => m (c, b)) 86 (Proc.tc.devRef main_v22) (ix1 z)) (kB m c ⟨5120 + z.val, by omega⟩ * (qScale : EReal)) := by
  after_reads_simp
  pointwise
  exact scale_word _

theorem b_28 (c : Dev nD) (z : Fin 512) :
    @Eq EReal (upto hostOps0 (fun b => m (c, b)) 86 (Proc.tc.devRef main_v28) (ix1 z)) (kB m c ⟨6936 + z.val, by omega⟩ * (qScale : EReal)) := by
  after_reads_simp
  pointwise
  exact scale_word _

theorem b_30 (c : Dev nD) (z : Fin 512) :
    @Eq EReal (upto hostOps0 (fun b => m (c, b)) 86 (Proc.tc.devRef main_v30) (ix1 z)) (kB m c ⟨4608 + z.val, by omega⟩) := by
  after_reads_simp
  pointwise
  rfl

theorem b_32 (c : Dev nD) (z : Fin 512) :
    @Eq EReal (upto hostOps0 (fun b => m (c, b)) 86 (Proc.tc.devRef main_v32) (ix1 z)) (kB m c ⟨6400 + z.val, by omega⟩) := by
  after_reads_simp
  pointwise
  rfl

theorem b_34 (c : Dev nD) (z : Fin 512) :
    @Eq EReal (upto hostOps0 (fun b => m (c, b)) 86 (Proc.tc.devRef main_v34) (ix1 z)) (kB m c ⟨7704 + z.val, by omega⟩) := by
  after_reads_simp
  pointwise
  rfl

theorem b_44 (c : Dev nD) (z : Fin 256) :
    @Eq EReal (upto hostOps0 (fun b => m (c, b)) 86 (Proc.tc.devRef main_v44) (ix1 z)) (dup (kB m c) 5888 (by omega) z.val z.isLt) := by
  after_reads_simp
  pointwise
  after_reads_simp
  pointwise
  rfl

theorem b_54 (c : Dev nD) (z : Fin 256) :
    @Eq EReal (upto hostOps0 (fun b => m (c, b)) 86 (Proc.tc.devRef main_v54) (ix1 z)) (dup (kB m c) 6144 (by omega) z.val z.isLt) := by
  after_reads_simp
  pointwise
  after_reads_simp
  pointwise
  rfl

theorem b_64 (c : Dev nD) (z : Fin 256) :
    @Eq EReal (upto hostOps0 (fun b => m (c, b)) 86 (Proc.tc.devRef main_v64) (ix1 z)) (dup (kB m c) 7448 (by omega) z.val z.isLt) := by
  after_reads_simp
  pointwise
  after_reads_simp
  pointwise
  rfl

theorem b_66 (c : Dev nD) (z : Fin 24) :
    @Eq EReal (upto hostOps0 (fun b => m (c, b)) 86 (Proc.tc.devRef main_v66) (ix1 z)) (kB m c ⟨6912 + z.val, by omega⟩) := by
  after_reads_simp
  pointwise
  rfl

theorem b_6 (c : Dev nD) (z : Fin 232) :
    @Eq EReal (upto hostOps0 (fun b => m (c, b)) 86 (Proc.tc.devRef main_v6) (ix1 z)) 0 := by
  after_reads_simp
  pointwise

set_option maxHeartbeats 8000000 in
theorem b_entry (c : Dev nD) (n : Fin 7680) : @Eq EReal (V m c main_v82 (ix2 0 n)) (placed (kB m c) n) := by
  rw [V]
  simp (disch := decide) only [readAfter, unary_result']
  simp (disch := decide) only [readUpto]
  generalize hU : upto hostOps0 (fun b => m (c, b)) 86 = U
  simp (disch := decide) only [nary_result']
  pointwise
  subst hU
  unfold placed
  refine dite_congr rfl (fun h => b_8 m c ⟨_, h⟩) fun _ => ?_
  refine dite_congr rfl (fun h => b_14 m c ⟨_, h⟩) fun _ => ?_
  refine dite_congr rfl (fun h => b_16 m c ⟨_, h⟩) fun _ => ?_
  refine dite_congr rfl (fun h => b_22 m c ⟨_, h⟩) fun _ => ?_
  refine dite_congr rfl (fun h => b_28 m c ⟨_, h⟩) fun _ => ?_
  refine dite_congr rfl (fun h => b_30 m c ⟨_, h⟩) fun _ => ?_
  refine dite_congr rfl (fun h => b_32 m c ⟨_, h⟩) fun _ => ?_
  refine dite_congr rfl (fun h => b_34 m c ⟨_, h⟩) fun _ => ?_
  refine dite_congr rfl (fun h => b_44 m c ⟨_, h⟩) fun _ => ?_
  refine dite_congr rfl (fun h => b_54 m c ⟨_, h⟩) fun _ => ?_
  refine dite_congr rfl (fun h => b_64 m c ⟨_, h⟩) fun _ => ?_
  exact dite_congr rfl (fun h => b_66 m c ⟨_, h⟩) fun _ => b_6 m c _

/-! ## The weights' thirteen parts, side by side -/

theorem w_67 (c : Dev nD) (e : Fin 1024) (z : Fin 3072) :
    @Eq EReal (upto hostOps0 (fun b => m (c, b)) 85 (Proc.tc.devRef main_v67) (ix2 e z)) (kW m c e ⟨8216 + z.val, by omega⟩) := by
  after_reads_simp
  pointwise
  rfl

theorem w_68 (c : Dev nD) (e : Fin 1024) (z : Fin 512) :
    @Eq EReal (upto hostOps0 (fun b => m (c, b)) 85 (Proc.tc.devRef main_v68) (ix2 e z)) (kW m c e ⟨z.val, by omega⟩ * (qScale : EReal)) := by
  after_reads_simp
  pointwise
  exact scale_word _

theorem w_69 (c : Dev nD) (e : Fin 1024) (z : Fin 512) :
    @Eq EReal (upto hostOps0 (fun b => m (c, b)) 85 (Proc.tc.devRef main_v69) (ix2 e z)) (kW m c e ⟨1536 + z.val, by omega⟩) := by
  after_reads_simp
  pointwise
  rfl

theorem w_70 (c : Dev nD) (e : Fin 1024) (z : Fin 512) :
    @Eq EReal (upto hostOps0 (fun b => m (c, b)) 85 (Proc.tc.devRef main_v70) (ix2 e z)) (kW m c e ⟨5120 + z.val, by omega⟩ * (qScale : EReal)) := by
  after_reads_simp
  pointwise
  exact scale_word _

theorem w_71 (c : Dev nD) (e : Fin 1024) (z : Fin 512) :
    @Eq EReal (upto hostOps0 (fun b => m (c, b)) 85 (Proc.tc.devRef main_v71) (ix2 e z)) (kW m c e ⟨6936 + z.val, by omega⟩ * (qScale : EReal)) := by
  after_reads_simp
  pointwise
  exact scale_word _

theorem w_72 (c : Dev nD) (e : Fin 1024) (z : Fin 512) :
    @Eq EReal (upto hostOps0 (fun b => m (c, b)) 85 (Proc.tc.devRef main_v72) (ix2 e z)) (kW m c e ⟨4608 + z.val, by omega⟩) := by
  after_reads_simp
  pointwise
  rfl

theorem w_73 (c : Dev nD) (e : Fin 1024) (z : Fin 512) :
    @Eq EReal (upto hostOps0 (fun b => m (c, b)) 85 (Proc.tc.devRef main_v73) (ix2 e z)) (kW m c e ⟨6400 + z.val, by omega⟩) := by
  after_reads_simp
  pointwise
  rfl

theorem w_74 (c : Dev nD) (e : Fin 1024) (z : Fin 512) :
    @Eq EReal (upto hostOps0 (fun b => m (c, b)) 85 (Proc.tc.devRef main_v74) (ix2 e z)) (kW m c e ⟨7704 + z.val, by omega⟩) := by
  after_reads_simp
  pointwise
  rfl

theorem w_75 (c : Dev nD) (e : Fin 1024) (z : Fin 256) :
    @Eq EReal (upto hostOps0 (fun b => m (c, b)) 85 (Proc.tc.devRef main_v75) (ix2 e z)) (dup (kW m c e) 5888 (by omega) z.val z.isLt) := by
  after_reads_simp
  pointwise
  after_reads_simp
  pointwise
  rfl

theorem w_76 (c : Dev nD) (e : Fin 1024) (z : Fin 256) :
    @Eq EReal (upto hostOps0 (fun b => m (c, b)) 85 (Proc.tc.devRef main_v76) (ix2 e z)) (dup (kW m c e) 6144 (by omega) z.val z.isLt) := by
  after_reads_simp
  pointwise
  after_reads_simp
  pointwise
  rfl

theorem w_77 (c : Dev nD) (e : Fin 1024) (z : Fin 256) :
    @Eq EReal (upto hostOps0 (fun b => m (c, b)) 85 (Proc.tc.devRef main_v77) (ix2 e z)) (dup (kW m c e) 7448 (by omega) z.val z.isLt) := by
  after_reads_simp
  pointwise
  after_reads_simp
  pointwise
  rfl

theorem w_78 (c : Dev nD) (e : Fin 1024) (z : Fin 24) :
    @Eq EReal (upto hostOps0 (fun b => m (c, b)) 85 (Proc.tc.devRef main_v78) (ix2 e z)) (kW m c e ⟨6912 + z.val, by omega⟩) := by
  after_reads_simp
  pointwise
  rfl

theorem w_79 (c : Dev nD) (e : Fin 1024) (z : Fin 232) :
    @Eq EReal (upto hostOps0 (fun b => m (c, b)) 85 (Proc.tc.devRef main_v79) (ix2 e z)) 0 := by
  after_reads_simp
  pointwise

set_option maxHeartbeats 8000000 in
theorem w_entry (c : Dev nD) (e : Fin 1024) (n : Fin 7680) : @Eq EReal (V m c main_v80 (ix2 e n)) (placed (kW m c e) n) := by
  rw [V]
  simp (disch := decide) only [readAfter]
  generalize hU : upto hostOps0 (fun b => m (c, b)) 85 = U
  simp (disch := decide) only [nary_result']
  pointwise
  subst hU
  unfold placed
  refine dite_congr rfl (fun h => w_67 m c e ⟨_, h⟩) fun _ => ?_
  refine dite_congr rfl (fun h => w_68 m c e ⟨_, h⟩) fun _ => ?_
  refine dite_congr rfl (fun h => w_69 m c e ⟨_, h⟩) fun _ => ?_
  refine dite_congr rfl (fun h => w_70 m c e ⟨_, h⟩) fun _ => ?_
  refine dite_congr rfl (fun h => w_71 m c e ⟨_, h⟩) fun _ => ?_
  refine dite_congr rfl (fun h => w_72 m c e ⟨_, h⟩) fun _ => ?_
  refine dite_congr rfl (fun h => w_73 m c e ⟨_, h⟩) fun _ => ?_
  refine dite_congr rfl (fun h => w_74 m c e ⟨_, h⟩) fun _ => ?_
  refine dite_congr rfl (fun h => w_75 m c e ⟨_, h⟩) fun _ => ?_
  refine dite_congr rfl (fun h => w_76 m c e ⟨_, h⟩) fun _ => ?_
  refine dite_congr rfl (fun h => w_77 m c e ⟨_, h⟩) fun _ => ?_
  exact dite_congr rfl (fun h => w_78 m c e ⟨_, h⟩) fun _ => w_79 m c e _

/-! ## The array -/

/-- What the body leaves in its block. -/
theorem out_at (x0 : Vec Ideal S2048x1024 .bf16) (x1 : Vec Ideal S1024x1280 .bf16) (x2 : Vec Ideal S1x1280 .f32) (p : Fin 2048) (q : Fin 1280) :
    @Eq EReal (out0_3 x0 x1 x2 (ix2 p q)) ((∑ e : Fin 1024, x0 (ix2 p e) * x1 (ix2 e q)) + x2 (ix2 0 q)) := by
  rw [out0_3, View.canon_unit_zero (by decide)]
  pointwise [k0_pay1]

theorem idx : ∀ t : Fin cfg0.N, win0_0.index t = ![t.val / 6, 0] ∧ win0_1.index t = ![0, t.val % 6] ∧ win0_2.index t = ![0, t.val % 6] ∧ win0_3.index t = ![t.val / 6, t.val % 6] :=
  (by decide +kernel : ∀ t : Fin grid0.N, _)

theorem block (c : Dev nD) (t : Fin cfg0.N) (y : S2048x1280.Idx) (j : S16384x7680.Idx) (h0 : (j 0).val = 2048 * (t.val / 6) + (y 0).val) (h1 : (j 1).val = 1280 * (t.val % 6) + (y 1).val) :
    @Eq EReal (out0_3 (iblk m c 0 t) (iblk m c 1 t) (iblk m c 2 t) y) (placed (lin (kX m c) (kW m c) (kB m c) (j 0)) (j 1)) := by
  have hy : y = ix2 (y 0) (y 1) := by blk_ext
  have f0 : ∀ k : Fin 1024, @Eq EReal (iblk m c 0 t (ix2 (y 0) k)) (kX m c ⟨(j 0).val / 8192, by have := (j 0).isLt; change (j 0).val < 16384 at this; omega⟩ ⟨(j 0).val % 8192, by omega⟩ k) := fun k => by
    have h := x_entry m c (j 0) k
    unfold iblk
    generalize V m c = U at h ⊢
    refine Eq.trans ?_ h
    blk_ext [idx t]
  have f1 : ∀ k : Fin 1024, @Eq EReal (iblk m c 1 t (ix2 k (y 1))) (placed (kW m c k) (j 1)) := fun k => by
    have h := w_entry m c k (j 1)
    unfold iblk
    generalize V m c = U at h ⊢
    refine Eq.trans ?_ h
    blk_ext [idx t]
  have f2 : @Eq EReal (iblk m c 2 t (ix2 0 (y 1))) (placed (kB m c) (j 1)) := by
    have h := b_entry m c (j 1)
    unfold iblk
    generalize V m c = U at h ⊢
    refine Eq.trans ?_ h
    blk_ext [idx t]
  refine (congrArg (out0_3 (iblk m c 0 t) (iblk m c 1 t) (iblk m c 2 t)) hy).trans ((out_at _ _ _ (y 0) (y 1)).trans ?_)
  refine Eq.trans ?_ (placed_lin _ (kW m c) (kB m c) (j 1))
  refine congrArg₂ (fun a b : EReal => a + b) (Finset.sum_congr rfl fun k _ => ?_) f2
  exact congrArg₂ (fun a b : EReal => a * b) (f0 k) (f1 k)

/-- The result's array. -/
theorem final (c : Dev nD) : (dats m 0 c).arrAt 3 (cfgs 0).N = fun i : S16384x7680.Idx => placed (lin (kX m c) (kW m c) (kB m c) (i 0)) (i 1) := by
  refine (dats m 0 c).arrAt_eq_of_covers 3 _ (by decide +kernel) fun t hf y => ?_
  blk_simp
  rw [after0_3]
  refine block m c t y _ ?_ ?_
  all_goals (blk_simp [idx t] <;> try omega)

/-- What the kernel leaves. -/
theorem kernel_run (ρ : Dev nD → PrngReg) :
    θ_run defs (onTc (τ := τ) (main (F := Ideal))) ⟨m, fun _ => 0, ρ⟩ fun r => ∀ c : Dev nD,
      r.2.mem ((c.tc : Thread nD τ).loc main_v83) = (fun i : S16384x7680.Idx => placed (lin (kX m c) (kW m c) (kB m c) (i 0)) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (final m c), (h c).2⟩) (Value.run_blocks m ρ)

end Cert.Proj

end
-- ==== Proof.ProjReferenceArray.lean ====
/-
  What the token-major projection's reference leaves.
-/
module

public import proofs.«01_k».proof.Proof.Linear
public import proofs.«01_k».proof.Proof.Gen.ProjReferenceIdeal.Run
public import Idealize.ShloMosaic.Lib.Pointwise
public import Idealize.ShloMosaic.Lib.Pipeline.ValueKit

@[expose] public section

set_option maxRecDepth 16384

noncomputable section

namespace Cert.ProjRef

open Cert.ProjReferenceIdeal Cert.ProjReferenceIdeal.Gen
open Idealize.ShloMosaic Idealize.ShloMosaic.TcCoe Idealize.SL.Sem Idealize.ShloMosaic.StableHlo
open Cert.Linear

variable (m : (ℓ : Loc nD τ sig) → Buf (Elt Ideal) ℓ)

/-- The layer's input, weights and bias as the reference's memory holds them. -/
def rX (c : Dev nD) (b : Fin 2) (t : Fin 8192) (e : Fin 1024) : EReal := m ((c.tc : Thread nD τ).loc main_arg0) (ix3 b t e)
def rW (c : Dev nD) (e : Fin 1024) (n : Fin 11288) : EReal := m ((c.tc : Thread nD τ).loc main_arg1) (ix2 e n)
def rB (c : Dev nD) (n : Fin 11288) : EReal := m ((c.tc : Thread nD τ).loc main_arg2) (ix1 n)

/-- The scale as the reference computes it. -/
theorem scale_word : Ideal.div (Ideal.ofBits .f32 0x3E000000#32) (Ideal.log (Ideal.ofBits .f32 0x40000000#32)) = (qScale : EReal) := by
  have h : Real.log 2 ≠ 0 := (Real.log_pos one_lt_two).ne'
  rw [Cert.Spec.ofBits_eighth, Cert.Spec.ofBits_two, Ideal.log_coe, if_neg (by norm_num), Ideal.div, if_neg (by exact_mod_cast h), ← EReal.coe_inv, ← EReal.coe_mul, qScale,
    Cert.Spec.log2e, one_div (Real.log 2)]

set_option maxHeartbeats 1600000 in
theorem res_at (c : Dev nD) (T : Fin 16384) (n : Fin 7680) :
    @Eq EReal (Value.res_main_v50 m c (ix2 T n)) (placed (lin (rX m c) (rW m c) (rB m c) T) n) := by
  pointwise [Value.res_main_v50]
  unfold placed dup
  refine dite_congr rfl (fun _ => rfl) fun _ => ?_
  refine dite_congr rfl (fun _ => congrArg₂ (fun a b : EReal => a * b) rfl scale_word) fun _ => ?_
  refine dite_congr rfl (fun _ => rfl) fun _ => ?_
  refine dite_congr rfl (fun _ => congrArg₂ (fun a b : EReal => a * b) rfl scale_word) fun _ => ?_
  refine dite_congr rfl (fun _ => congrArg₂ (fun a b : EReal => a * b) rfl scale_word) fun _ => ?_
  refine dite_congr rfl (fun _ => rfl) fun _ => ?_
  refine dite_congr rfl (fun _ => rfl) fun _ => ?_
  refine dite_congr rfl (fun _ => rfl) fun _ => ?_
  iterate 3
    refine dite_congr rfl (fun _ => ?_) fun _ => ?_
    · refine dite_congr rfl (fun _ => rfl) fun _ => ?_
      refine dite_congr rfl (fun _ => rfl) fun _ => ?_
      refine dite_congr rfl (fun _ => ?_) fun _ => ?_
      all_goals simp only [← Nat.add_assoc]
      all_goals rfl
  exact dite_congr rfl (fun _ => rfl) fun _ => rfl

/-- What the reference leaves. -/
theorem reference_run (ρ : Dev nD → PrngReg) :
    θ_run defs (onTc (τ := τ) (main (F := Ideal))) ⟨m, fun _ => 0, ρ⟩ fun r => ∀ c : Dev nD,
      r.2.mem ((c.tc : Thread nD τ).loc main_v50) = (fun i : S16384x7680.Idx => placed (lin (rX m c) (rW m c) (rB m c) (i 0)) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2⟩) (Value.run m ρ)
  funext i
  refine Eq.trans ?_ (res_at m c (i 0) (i 1))
  exact congrArg (Value.res_main_v50 m c) (by blk_ext)

end Cert.ProjRef

end
-- ==== Proof.FeatArrays.lean ====
/-
  The call that projects the values feature-major: its operands' entries, what one grid point leaves in its block, the
  whole array after the run; and the reference's array.
-/
module

public import proofs.«01_k».proof.Proof.Linear
public import proofs.«01_k».proof.Proof.Gen.FeatIdeal.Value
public import proofs.«01_k».proof.Proof.Gen.FeatReferenceIdeal.Run
public import Idealize.ShloMosaic.Lib.Pointwise
public import Idealize.ShloMosaic.Lib.Pipeline.ValueKit

@[expose] public section

set_option maxRecDepth 16384

noncomputable section

namespace Cert.Feat

open Idealize.ShloMosaic Idealize.ShloMosaic.TcCoe Idealize.SL.Sem Idealize.ShloMosaic.StableHlo
open Cert.Linear

section Kernel
open Cert.FeatIdeal Cert.FeatIdeal.Gen
variable (m : (ℓ : Loc nD τ sig) → Buf (Elt Ideal) ℓ)

/-- The layer's input, weights and bias as the kernel's memory holds them. -/
def kX (c : Dev nD) (b : Fin 2) (t : Fin 8192) (e : Fin 1024) : EReal := m ((c.tc : Thread nD τ).loc main_arg0) (ix3 b t e)
def kW (c : Dev nD) (e : Fin 1024) (n : Fin 11288) : EReal := m ((c.tc : Thread nD τ).loc main_arg1) (ix2 e n)
def kB (c : Dev nD) (n : Fin 11288) : EReal := m ((c.tc : Thread nD τ).loc main_arg2) (ix1 n)

/-- The tokens, one under the other. -/
theorem x_entry (c : Dev nD) (r : Fin 16384) (e : Fin 1024) :
    @Eq EReal (V m c main_v1 (ix2 r e)) (kX m c ⟨r.val / 8192, by omega⟩ ⟨r.val % 8192, by omega⟩ e) := by
  simp only [V, hostOps0, TRef.binary, TRef.nullary, TRef.ternary, TRef.unary, TRef.toBuf, TRef.ofBuf, cast_eq]
  after_results_simp
  pointwise
  rfl

/-- The weights' columns as rows. -/
theorem w_entry (c : Dev nD) (n : Fin 896) (e : Fin 1024) :
    @Eq EReal (V m c main_v12 (ix2 n e)) (kW m c e (featCol n)) := by
  simp only [V, hostOps0, TRef.binary, TRef.nullary, TRef.ternary, TRef.unary, TRef.toBuf, TRef.ofBuf, cast_eq]
  after_results_simp
  pointwise
  after_results_simp
  pointwise
  unfold featCol
  split_ifs <;> rfl

/-- The bias's entries. -/
theorem b_entry (c : Dev nD) (n : Fin 896) :
    @Eq EReal (V m c main_v14 (ix2 n 0)) (kB m c (featCol n)) := by
  simp only [V, hostOps0, TRef.binary, TRef.nullary, TRef.ternary, TRef.unary, TRef.toBuf, TRef.ofBuf, cast_eq]
  after_results_simp
  pointwise
  after_results_simp
  pointwise
  unfold featCol
  split_ifs <;> rfl

/-- What the body leaves in its block. -/
theorem out_at (x0 : Vec Ideal S1024x1024 .bf16) (x1 : Vec Ideal S896x1024 .bf16) (x2 : Vec Ideal S896x1 .f32) (n : Fin 896) (q : Fin 1024) :
    @Eq EReal (out0_3 x0 x1 x2 (ix2 n q)) ((∑ e : Fin 1024, x1 (ix2 n e) * x0 (ix2 q e)) + x2 (ix2 n 0)) := by
  rw [out0_3, View.canon_unit_zero (by decide)]
  pointwise [k0_pay1]

theorem idx : ∀ t : Fin cfg0.N, win0_0.index t = ![t.val, 0] ∧ win0_1.index t = ![0, 0] ∧ win0_2.index t = ![0, 0] ∧ win0_3.index t = ![0, t.val] :=
  (by decide +kernel : ∀ t : Fin grid0.N, _)

theorem block (c : Dev nD) (t : Fin cfg0.N) (y : S896x1024.Idx) (j : S896x16384.Idx) (h0 : (j 0).val = (y 0).val) (h1 : (j 1).val = 1024 * t.val + (y 1).val) :
    @Eq EReal (out0_3 (iblk m c 0 t) (iblk m c 1 t) (iblk m c 2 t) y) (lin (kX m c) (kW m c) (kB m c) (j 1) (featCol (j 0))) := by
  have hy : y = ix2 (y 0) (y 1) := by blk_ext
  have e : j 0 = y 0 := Fin.ext h0
  have f0 : ∀ k : Fin 1024, @Eq EReal (iblk m c 0 t (ix2 (y 1) k)) (kX m c ⟨(j 1).val / 8192, by have := (j 1).isLt; change (j 1).val < 16384 at this; omega⟩ ⟨(j 1).val % 8192, by omega⟩ k) := fun k => by
    refine Eq.trans ?_ (x_entry m c (j 1) k)
    blk_ext [iblk, idx t]
  have f1 : ∀ k : Fin 1024, @Eq EReal (iblk m c 1 t (ix2 (y 0) k)) (kW m c k (featCol (y 0))) := fun k => by
    refine Eq.trans ?_ (w_entry m c (y 0) k)
    blk_ext [iblk, idx t]
  have f2 : @Eq EReal (iblk m c 2 t (ix2 (y 0) 0)) (kB m c (featCol (y 0))) := by
    refine Eq.trans ?_ (b_entry m c (y 0))
    blk_ext [iblk, idx t]
  refine (congrArg (out0_3 (iblk m c 0 t) (iblk m c 1 t) (iblk m c 2 t)) hy).trans ((out_at _ _ _ (y 0) (y 1)).trans ?_)
  rw [e]
  unfold lin
  refine congrArg₂ (fun a b : EReal => a + b) (Finset.sum_congr rfl fun k _ => ?_) f2
  rw [mul_comm]
  exact congrArg₂ (fun a b : EReal => a * b) (f0 k) (f1 k)

/-- The result's array. -/
theorem final (c : Dev nD) : (dats m 0 c).arrAt 3 (cfgs 0).N = fun i : S896x16384.Idx => lin (kX m c) (kW m c) (kB m c) (i 1) (featCol (i 0)) := by
  refine (dats m 0 c).arrAt_eq_of_covers 3 _ (by decide +kernel) fun t hf y => ?_
  blk_simp
  rw [after0_3]
  refine block m c t y _ ?_ ?_
  all_goals (blk_simp [idx t] <;> try omega)

/-- What the kernel leaves. -/
theorem kernel_run (ρ : Dev nD → PrngReg) :
    θ_run defs (onTc (τ := τ) (main (F := Ideal))) ⟨m, fun _ => 0, ρ⟩ fun r => ∀ c : Dev nD,
      r.2.mem ((c.tc : Thread nD τ).loc main_v15) = (fun i : S896x16384.Idx => lin (kX m c) (kW m c) (kB m c) (i 1) (featCol (i 0)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (final m c), (h c).2⟩) (Value.run_blocks m ρ)

end Kernel

section Reference
open Cert.FeatReferenceIdeal Cert.FeatReferenceIdeal.Gen
variable (m : (ℓ : Loc nD τ sig) → Buf (Elt Ideal) ℓ)

/-- The layer's input, weights and bias as the reference's memory holds them. -/
def rX (c : Dev nD) (b : Fin 2) (t : Fin 8192) (e : Fin 1024) : EReal := m ((c.tc : Thread nD τ).loc main_arg0) (ix3 b t e)
def rW (c : Dev nD) (e : Fin 1024) (n : Fin 11288) : EReal := m ((c.tc : Thread nD τ).loc main_arg1) (ix2 e n)
def rB (c : Dev nD) (n : Fin 11288) : EReal := m ((c.tc : Thread nD τ).loc main_arg2) (ix1 n)

/-- What the reference leaves. -/
theorem reference_run (ρ : Dev nD → PrngReg) :
    θ_run defs (onTc (τ := τ) (main (F := Ideal))) ⟨m, fun _ => 0, ρ⟩ fun r => ∀ c : Dev nD,
      r.2.mem ((c.tc : Thread nD τ).loc main_v26) = (fun i : S896x16384.Idx => lin (rX m c) (rW m c) (rB m c) (i 1) (featCol (i 0)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2⟩) (Value.run m ρ)
  funext i
  obtain ⟨n, T, rfl⟩ : ∃ (n : Fin 896) (T : Fin 16384), i = ix2 n T := ⟨i 0, i 1, by blk_ext⟩
  pointwise
  unfold featCol
  split_ifs <;> rfl

end Reference

end Cert.Feat

end
-- ==== Proof.ProjEqual.lean ====
/-
  The two projection calls: their frames, and that each leaves what its reference leaves.
-/
module

public import proofs.«01_k».proof.Defs
public import proofs.«01_k».proof.Proof.ProjArrays
public import proofs.«01_k».proof.Proof.ProjReferenceArray
public import proofs.«01_k».proof.Proof.FeatArrays
public import proofs.«01_k».proof.Proof.Gen.Proj.Frame
public import proofs.«01_k».proof.Proof.Gen.Feat.Frame
public import proofs.«01_k».proof.Proof.Gen.ProjReference
public import proofs.«01_k».proof.Proof.Gen.FeatReference
public import Idealize.ShloMosaic.Lib.Claim

@[expose] public section

set_option maxRecDepth 16384

noncomputable section

namespace Cert.ProjEqual

open Idealize.ShloMosaic Idealize.ShloMosaic.TcCoe Idealize.SL.Sem

attribute [local instance] Cert.Proj.Gen.facts Cert.ProjIdeal.Gen.facts Cert.ProjReferenceIdeal.Gen.facts Cert.ProjReference.Gen.facts
  Cert.Feat.Gen.facts Cert.FeatIdeal.Gen.facts Cert.FeatReferenceIdeal.Gen.facts Cert.FeatReference.Gen.facts

/-! ## The frames -/

theorem proj : Cert.quiescent_Proj := fun m g _ => Cert.Proj.Gen.frame m g
theorem projIdeal : Cert.quiescent_ProjIdeal := fun m g _ => Cert.ProjIdeal.Gen.frame m g
theorem feat : Cert.quiescent_Feat := fun m g _ => Cert.Feat.Gen.frame m g
theorem featIdeal : Cert.quiescent_FeatIdeal := fun m g _ => Cert.FeatIdeal.Gen.frame m g

set_option maxHeartbeats 3200000 in
theorem projReferenceIdeal : Cert.quiescent_ProjReferenceIdeal := by
  intro m g _
  hlo_run
  · exact fun _ => ⟨trivial, trivial, trivial⟩
  · exact sem_eq_zero_of_no_sems (sig := Cert.ProjReferenceIdeal.sig) (by decide) _

set_option maxHeartbeats 3200000 in
theorem projReference : Cert.quiescent_ProjReference := by
  intro m g _
  hlo_run
  · exact fun _ => ⟨trivial, trivial, trivial⟩
  · exact sem_eq_zero_of_no_sems (sig := Cert.ProjReference.sig) (by decide) _

set_option maxHeartbeats 3200000 in
theorem featReferenceIdeal : Cert.quiescent_FeatReferenceIdeal := by
  intro m g _
  hlo_run
  · exact fun _ => ⟨trivial, trivial, trivial⟩
  · exact sem_eq_zero_of_no_sems (sig := Cert.FeatReferenceIdeal.sig) (by decide) _

set_option maxHeartbeats 3200000 in
theorem featReference : Cert.quiescent_FeatReference := by
  intro m g _
  hlo_run
  · exact fun _ => ⟨trivial, trivial, trivial⟩
  · exact sem_eq_zero_of_no_sems (sig := Cert.FeatReference.sig) (by decide) _

/-! ## The results -/

/-- The token-major call. -/
theorem proj_algebraic : Cert.algebraic_ProjIdeal_ProjReferenceIdeal := by
  intro m g m' g' _ hagree
  refine ⟨_, Cert.Proj.kernel_run m g, (θ_run _ _ _).mono (fun r h c => ?_) (Cert.ProjRef.reference_run m' g')⟩
  obtain ⟨h0, ha⟩ := h c
  obtain ⟨e0, e1, e2⟩ := hagree c
  have ex : Cert.ProjRef.rX m' c = Cert.Proj.kX m c := funext fun b => funext fun t => funext fun e => congrFun e0 (ix3 b t e)
  have ew : Cert.ProjRef.rW m' c = Cert.Proj.kW m c := funext fun e => funext fun n => congrFun e1 (ix2 e n)
  have eb : Cert.ProjRef.rB m' c = Cert.Proj.kB m c := funext fun n => congrFun e2 (ix1 n)
  refine ⟨h0.trans ?_, ha⟩
  exact congr (congr (congrArg (fun X W B => fun i : Cert.ProjIdeal.S16384x7680.Idx => Cert.Linear.placed (Cert.Linear.lin X W B (i 0)) (i 1)) ex) ew) eb

/-- The feature-major call. -/
theorem feat_algebraic : Cert.algebraic_FeatIdeal_FeatReferenceIdeal := by
  intro m g m' g' _ hagree
  refine ⟨_, Cert.Feat.kernel_run m g, (θ_run _ _ _).mono (fun r h c => ?_) (Cert.Feat.reference_run m' g')⟩
  obtain ⟨h0, ha⟩ := h c
  obtain ⟨e0, e1, e2⟩ := hagree c
  have ex : Cert.Feat.rX m' c = Cert.Feat.kX m c := funext fun b => funext fun t => funext fun e => congrFun e0 (ix3 b t e)
  have ew : Cert.Feat.rW m' c = Cert.Feat.kW m c := funext fun e => funext fun n => congrFun e1 (ix2 e n)
  have eb : Cert.Feat.rB m' c = Cert.Feat.kB m c := funext fun n => congrFun e2 (ix1 n)
  refine ⟨h0.trans ?_, ha⟩
  exact congr (congr (congrArg (fun X W B => fun i : Cert.FeatIdeal.S896x16384.Idx => Cert.Linear.lin X W B (i 1) (Cert.Linear.featCol (i 0))) ex) ew) eb

end Cert.ProjEqual

end
-- ==== Proof.FoldLinear.lean ====
/-
  The calls that lay the tokens by their residue class modulo the dilation: which token a class's position is, and what
  is laid at each column of the two token-major results.
-/
module

public import proofs.«01_k».proof.Proof.Linear

@[expose] public section

noncomputable section

namespace Cert.FoldLinear

open Idealize.ShloMosaic
open Cert.Linear

/-- The token at position `p` of class `c` modulo four. -/
def token4 (p : Fin 4096) (c : Fin 4) : Fin 16384 := ⟨4 * p.val + c.val, by omega⟩

/-- The token at position `p` of class `c` modulo sixteen. -/
def token16 (p : Fin 1024) (c : Fin 16) : Fin 16384 := ⟨16 * p.val + c.val, by omega⟩

/-- The column of the weights that row `n` of the values at dilation four is. -/
def featCol4 (n : Fin 512) : Fin 11288 := ⟨3584 + n.val, by omega⟩

/-- The column of the weights that row `n` of the values at dilation sixteen is. -/
def featCol16 (n : Fin 512) : Fin 11288 := ⟨4096 + n.val, by omega⟩

/-- The columns at dilation four: the second part's queries (scaled) and keys. -/
def placed4 (f : Fin 11288 → EReal) (n : Fin 1024) : EReal :=
  if h : n.val < 512 then f ⟨512 + n.val, by omega⟩ * (qScale : EReal) else f ⟨2048 + (n.val - 512), by omega⟩

/-- The columns at dilation sixteen: the third part's queries (scaled) and keys, then the inputs of the compression, each
    group's 64 columns followed by 64 zeros. -/
def placed16 (f : Fin 11288 → EReal) (n : Fin 1536) : EReal :=
  if h : n.val < 512 then f ⟨1024 + n.val, by omega⟩ * (qScale : EReal)
  else if h : n.val - 512 < 512 then f ⟨2560 + (n.val - 512), by omega⟩
  else if h : n.val - 512 - 512 < 64 then f ⟨5632 + (n.val - 512 - 512), by omega⟩
  else if h : n.val - 512 - 512 - 64 < 64 then 0
  else if h : n.val - 512 - 512 - 64 - 64 < 64 then f ⟨5696 + (n.val - 512 - 512 - 64 - 64), by omega⟩
  else if h : n.val - 512 - 512 - 64 - 64 - 64 < 64 then 0
  else if h : n.val - 512 - 512 - 64 - 64 - 64 - 64 < 64 then f ⟨5760 + (n.val - 512 - 512 - 64 - 64 - 64 - 64), by omega⟩
  else if h : n.val - 512 - 512 - 64 - 64 - 64 - 64 - 64 < 64 then 0
  else if h : n.val - 512 - 512 - 64 - 64 - 64 - 64 - 64 - 64 < 64 then f ⟨5824 + (n.val - 512 - 512 - 64 - 64 - 64 - 64 - 64 - 64), by omega⟩
  else 0

theorem placed4_lin (x : Fin 1024 → EReal) (W : Fin 1024 → Fin 11288 → EReal) (B : Fin 11288 → EReal) (n : Fin 1024) :
    (∑ e, x e * placed4 (W e) n) + placed4 B n = placed4 (fun k => (∑ e, x e * W e k) + B k) n := by
  unfold placed4
  exact cases_lin x _ _ _ _ _ _ (fun _ => scaled x _ _ qScale_pos) fun _ => rfl

theorem zeros_lin (x : Fin 1024 → EReal) : (∑ e, x e * (0 : EReal)) + 0 = 0 := by simp

theorem placed16_lin (x : Fin 1024 → EReal) (W : Fin 1024 → Fin 11288 → EReal) (B : Fin 11288 → EReal) (n : Fin 1536) :
    (∑ e, x e * placed16 (W e) n) + placed16 B n = placed16 (fun k => (∑ e, x e * W e k) + B k) n := by
  unfold placed16
  refine cases_lin x _ _ _ _ _ _ (fun _ => scaled x _ _ qScale_pos) fun _ => ?_
  refine cases_lin x _ _ _ _ _ _ (fun _ => rfl) fun _ => ?_
  iterate 3
    refine cases_lin x _ _ _ _ _ _ (fun _ => rfl) fun _ => ?_
    refine cases_lin x _ _ _ _ _ _ (fun _ => zeros_lin x) fun _ => ?_
  exact cases_lin x _ _ _ _ _ _ (fun _ => rfl) fun _ => zeros_lin x

end Cert.FoldLinear

end
-- ==== Proof.Fold4Array.lean ====
/-
  The call that projects the queries and keys of the branch part dilated by four,
  tokens laid by residue class: how the body gathers a block's tokens, what it leaves in its block, the operands' entries,
  and the whole array after the run.
-/
module

public import proofs.«01_k».proof.Proof.FoldLinear
public import proofs.«01_k».proof.Proof.Gen.Fold4Ideal.Value
public import Idealize.ShloMosaic.Lib.Pointwise
public import Idealize.ShloMosaic.Lib.StableHlo.RunRead
public import Idealize.ShloMosaic.Lib.Pipeline.ValueKit

@[expose] public section

set_option maxRecDepth 16384

noncomputable section

namespace Cert.Fold4Array

open Idealize.ShloMosaic Idealize.ShloMosaic.TcCoe Idealize.SL.Sem Idealize.ShloMosaic.StableHlo
open Cert.Linear Cert.FoldLinear
open Cert.Fold4Ideal Cert.Fold4Ideal.Gen

/-! ## The body -/

/-- Row `R` of the gathered block: class `R / 256`, position `R % 256`; its column `e` lies in the column block `e / 128`. -/
def gathered (xs : Fin 8 → Vec Ideal S1024x128 .f32) (R : Fin 1024) (e : Fin 1024) : EReal :=
  xs ⟨e.val / 128, by omega⟩ (ix2 ⟨4 * (R.val % 256) + R.val / 256, by omega⟩ ⟨e.val % 128, by omega⟩)

theorem gathered_at (xs : Fin 8 → Vec Ideal S1024x128 .f32) (j : Fin 8) (R : Fin 1024) (e : Fin 1024) (i : S1024x128.Idx)
    (i0 : (i 0).val = 4 * (R.val % 256) + R.val / 256) (i1 : (i 1).val = e.val % 128) (hj : e.val / 128 = j.val) :
    xs j i = gathered xs R e := by
  have a0 : i 0 = ⟨4 * (R.val % 256) + R.val / 256, by omega⟩ := Fin.ext i0
  have a1 : i 1 = ⟨e.val % 128, by omega⟩ := Fin.ext i1
  have aj : (⟨e.val / 128, by omega⟩ : Fin 8) = j := Fin.ext hj
  have : i = ix2 (i 0) (i 1) := by blk_ext
  rw [this, a0, a1]
  unfold gathered
  rw [aj]
  rfl

set_option maxHeartbeats 32000000 in
/-- The strided stores, taken together. -/
theorem staged (c : Dev nD) (arg1 : Memref sig .tc .vmem S1024x128 .f32) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole)
    (xs : Fin 8 → Vec Ideal S1024x128 .f32) (y : S1024x1024.Idx) :
    View.canon (kernelRun0_A.sl.HS0_32 c arg1 harg1 arg2 harg2 arg3 harg3 arg4 harg4 arg5 harg5 arg6 harg6 arg7 harg7 arg8 harg8 (xs 0) (xs 1) (xs 2) (xs 3) (xs 4) (xs 5) (xs 6) (xs 7)) y = gathered xs (y 0) (y 1) := by
  dsimp only [kernelRun0_A.sl.HS0_32, kernelRun0_A.sl.r, kernelRun0_A.sl.r_1, kernelRun0_A.sl.r_2, kernelRun0_A.sl.r_3]
  canon_tiles x h
  all_goals
    open_payloads
    pointwise
    rw [View.readAt_apply, Memref.IsWhole.read_unread]
    refine gathered_at xs _ _ _ _ ?_ ?_ ?_
  all_goals first | omega | (simp only [LoadRect.idx_apply, Matrix.cons_val_zero, Matrix.cons_val_one]; omega)

set_option maxHeartbeats 8000000 in
/-- What the body leaves in its block. -/
theorem out_at (c : Dev nD) (i : grid0.Coords) (arg1 : Memref sig .tc .vmem S1024x128 .f32) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S4x256x1024 .bf16) (harg11 : arg11.IsWhole) (arg12 : Memref sig .tc .vmem S1024x1024 .bf16) (harg12 : arg12.IsWhole)
    (xs : Fin 8 → Vec Ideal S1024x128 .f32) (x8 : Vec Ideal S1024x1024 .bf16) (x9 : Vec Ideal S1x1024 .f32) (y : S4x256x1024.Idx) (R : Fin 1024) (hR : R.val = 256 * (y 0).val + (y 1).val) :
    @Eq EReal (out0_A_10 c i arg1 harg1 arg2 harg2 arg3 harg3 arg4 harg4 arg5 harg5 arg6 harg6 arg7 harg7 arg8 harg8 arg9 harg9 arg10 harg10 arg11 harg11 arg12 harg12 (xs 0) (xs 1) (xs 2) (xs 3) (xs 4) (xs 5) (xs 6) (xs 7) x8 x9 y)
      ((∑ e : Fin 1024, gathered xs R e * x8 (ix2 e (y 2))) + x9 (ix2 0 (y 2))) := by
  have hv : kernelRun0_A.sl.v192 c arg1 harg1 arg2 harg2 arg3 harg3 arg4 harg4 arg5 harg5 arg6 harg6 arg7 harg7 arg8 harg8 arg12 (xs 0) (xs 1) (xs 2) (xs 3) (xs 4) (xs 5) (xs 6) (xs 7) = fun i : S1024x1024.Idx => gathered xs (i 0) (i 1) := by
    unfold kernelRun0_A.sl.v192
    rw [View.readCov_eq_canon']
    funext z
    refine (staged c arg1 harg1 arg2 harg2 arg3 harg3 arg4 harg4 arg5 harg5 arg6 harg6 arg7 harg7 arg8 harg8 xs _).trans (congrArg₂ (gathered xs) (Fin.ext ?_) (Fin.ext ?_))
    · show 0 + 1 * (z 0).val = (z 0).val; omega
    · show 0 + 1 * (z 1).val = (z 1).val; omega
  have hw : kernelRun0_A.sl.r_4 c arg9 harg9 x8 = x8 := by
    unfold kernelRun0_A.sl.r_4
    rw [View.readAt_eq_ld, harg9.read_unread, View.ld_unit_zero (by decide)]
    funext z
    open_payloads
    pointwise
  unfold out0_A_10
  rw [View.read_writes_junk_eq_canon]
  dsimp only [kernelRun0_A]
  rw [hv, hw, View.readAt_eq_ld, harg10.read_unread, View.ld_unit_zero (by decide)]
  canon_tiles x h
  all_goals
    open_payloads
    pointwise
    refine congrArg₂ (fun (r : Fin 1024) (n : Fin 1024) => (∑ e : Fin 1024, gathered xs r e * x8 (ix2 e n)) + x9 (ix2 0 n)) (Fin.ext ?_) (Fin.ext h2.symm)
    simp only
    omega

/-! ## The operands' entries -/

variable (m : (ℓ : Loc nD τ sig) → Buf (Elt Ideal) ℓ)

/-- The layer's input, weights and bias as the kernel's memory holds them. -/
def kX (c : Dev nD) (b : Fin 2) (t : Fin 8192) (e : Fin 1024) : EReal := m ((c.tc : Thread nD τ).loc main_arg0) (ix3 b t e)
def kW (c : Dev nD) (e : Fin 1024) (n : Fin 11288) : EReal := m ((c.tc : Thread nD τ).loc main_arg1) (ix2 e n)
def kB (c : Dev nD) (n : Fin 11288) : EReal := m ((c.tc : Thread nD τ).loc main_arg2) (ix1 n)

/-- The input by token, the two sequences laid end to end. -/
def tok (c : Dev nD) (T : Fin 16384) (e : Fin 1024) : EReal := kX m c ⟨T.val / 8192, by omega⟩ ⟨T.val % 8192, by omega⟩ e

/-- The tokens, one under the other. -/
theorem x_entry (c : Dev nD) (T : Fin 16384) (e : Fin 1024) : @Eq EReal (V m c main_v0 (ix2 T e)) (tok m c T e) := by
  rw [V]
  after_reads_simp
  pointwise
  rfl

/-- The scale as the host computes it. -/
theorem scale_word (u : EReal) : u * (Ideal.ofBits .f32 0x3E000000#32 * Ideal.div 1 (Ideal.log (Ideal.ofBits .f32 0x40000000#32))) = u * (qScale : EReal) := by
  rw [Cert.Spec.ofBits_eighth, Cert.Spec.log2e_word, ← EReal.coe_mul]

theorem w_entry (c : Dev nD) (e : Fin 1024) (n : Fin 1024) : @Eq EReal (V m c main_v11 (ix2 e n)) (placed4 (kW m c e) n) := by
  rw [V]
  after_reads_simp
  pointwise
  after_reads_simp
  pointwise
  unfold placed4
  exact dite_congr rfl (fun _ => scale_word _) fun _ => rfl

theorem b_entry (c : Dev nD) (n : Fin 1024) : @Eq EReal (V m c main_v15 (ix2 0 n)) (placed4 (kB m c) n) := by
  rw [V]
  after_reads_simp
  pointwise
  after_reads_simp
  pointwise
  unfold placed4
  exact dite_congr rfl (fun _ => scale_word _) fun _ => rfl

/-! ## The array -/

theorem idx : ∀ t : Fin cfg0.N, win0_0.index t = ![t.val, 0] ∧ win0_1.index t = ![t.val, 1] ∧ win0_2.index t = ![t.val, 2] ∧ win0_3.index t = ![t.val, 3] ∧ win0_4.index t = ![t.val, 4] ∧ win0_5.index t = ![t.val, 5] ∧ win0_6.index t = ![t.val, 6] ∧ win0_7.index t = ![t.val, 7] ∧ win0_8.index t = ![0, 0] ∧ win0_9.index t = ![0, 0] ∧ win0_10.index t = ![0, t.val, 0] :=
  (by decide +kernel : ∀ t : Fin grid0.N, _)

theorem points (t : Fin cfg0.N) : t.val < 16 := lt_of_lt_of_eq t.isLt (by decide)

theorem x_0 (c : Dev nD) (t : Fin cfg0.N) (r : Fin 1024) (q : Fin 128) :
    @Eq EReal (iblk m c 0 t (ix2 r q)) (tok m c ⟨1024 * t.val + r.val, by have := points t; omega⟩ ⟨128 * 0 + q.val, by omega⟩) := by
  refine Eq.trans ?_ (x_entry m c _ _)
  unfold iblk
  generalize V m c = U
  blk_ext [idx t]

theorem x_1 (c : Dev nD) (t : Fin cfg0.N) (r : Fin 1024) (q : Fin 128) :
    @Eq EReal (iblk m c 1 t (ix2 r q)) (tok m c ⟨1024 * t.val + r.val, by have := points t; omega⟩ ⟨128 * 1 + q.val, by omega⟩) := by
  refine Eq.trans ?_ (x_entry m c _ _)
  unfold iblk
  generalize V m c = U
  blk_ext [idx t]

theorem x_2 (c : Dev nD) (t : Fin cfg0.N) (r : Fin 1024) (q : Fin 128) :
    @Eq EReal (iblk m c 2 t (ix2 r q)) (tok m c ⟨1024 * t.val + r.val, by have := points t; omega⟩ ⟨128 * 2 + q.val, by omega⟩) := by
  refine Eq.trans ?_ (x_entry m c _ _)
  unfold iblk
  generalize V m c = U
  blk_ext [idx t]

theorem x_3 (c : Dev nD) (t : Fin cfg0.N) (r : Fin 1024) (q : Fin 128) :
    @Eq EReal (iblk m c 3 t (ix2 r q)) (tok m c ⟨1024 * t.val + r.val, by have := points t; omega⟩ ⟨128 * 3 + q.val, by omega⟩) := by
  refine Eq.trans ?_ (x_entry m c _ _)
  unfold iblk
  generalize V m c = U
  blk_ext [idx t]

theorem x_4 (c : Dev nD) (t : Fin cfg0.N) (r : Fin 1024) (q : Fin 128) :
    @Eq EReal (iblk m c 4 t (ix2 r q)) (tok m c ⟨1024 * t.val + r.val, by have := points t; omega⟩ ⟨128 * 4 + q.val, by omega⟩) := by
  refine Eq.trans ?_ (x_entry m c _ _)
  unfold iblk
  generalize V m c = U
  blk_ext [idx t]

theorem x_5 (c : Dev nD) (t : Fin cfg0.N) (r : Fin 1024) (q : Fin 128) :
    @Eq EReal (iblk m c 5 t (ix2 r q)) (tok m c ⟨1024 * t.val + r.val, by have := points t; omega⟩ ⟨128 * 5 + q.val, by omega⟩) := by
  refine Eq.trans ?_ (x_entry m c _ _)
  unfold iblk
  generalize V m c = U
  blk_ext [idx t]

theorem x_6 (c : Dev nD) (t : Fin cfg0.N) (r : Fin 1024) (q : Fin 128) :
    @Eq EReal (iblk m c 6 t (ix2 r q)) (tok m c ⟨1024 * t.val + r.val, by have := points t; omega⟩ ⟨128 * 6 + q.val, by omega⟩) := by
  refine Eq.trans ?_ (x_entry m c _ _)
  unfold iblk
  generalize V m c = U
  blk_ext [idx t]

theorem x_7 (c : Dev nD) (t : Fin cfg0.N) (r : Fin 1024) (q : Fin 128) :
    @Eq EReal (iblk m c 7 t (ix2 r q)) (tok m c ⟨1024 * t.val + r.val, by have := points t; omega⟩ ⟨128 * 7 + q.val, by omega⟩) := by
  refine Eq.trans ?_ (x_entry m c _ _)
  unfold iblk
  generalize V m c = U
  blk_ext [idx t]

/-- The input's eight column blocks. -/
def xs (c : Dev nD) (t : Fin cfg0.N) : Fin 8 → Vec Ideal S1024x128 .f32 := ![iblk m c 0 t, iblk m c 1 t, iblk m c 2 t, iblk m c 3 t, iblk m c 4 t, iblk m c 5 t, iblk m c 6 t, iblk m c 7 t]

theorem x_block (c : Dev nD) (t : Fin cfg0.N) (k : Fin 8) (r : Fin 1024) (q : Fin 128) :
    @Eq EReal (xs m c t k (ix2 r q)) (tok m c ⟨1024 * t.val + r.val, by have := points t; omega⟩ ⟨128 * k.val + q.val, by omega⟩) := by
  fin_cases k
  exacts [x_0 m c t r q, x_1 m c t r q, x_2 m c t r q, x_3 m c t r q, x_4 m c t r q, x_5 m c t r q, x_6 m c t r q, x_7 m c t r q]

/-- A row of the gathered block is a token. -/
theorem gathered_tok (c : Dev nD) (t : Fin cfg0.N) (R : Fin 1024) (T : Fin 16384) (e : Fin 1024) (hT : T.val = 1024 * t.val + (4 * (R.val % 256) + R.val / 256)) :
    gathered (xs m c t) R e = tok m c T e :=
  (x_block m c t _ _ _).trans (congrArg₂ (tok m c) (Fin.ext hT.symm) (Fin.ext (by show 128 * (e.val / 128) + e.val % 128 = e.val; omega)))

set_option maxHeartbeats 1600000 in
theorem block (c : Dev nD) (t : Fin cfg0.N) (y : S4x256x1024.Idx) (j : S4x4096x1024.Idx) (h0 : (j 0).val = (y 0).val) (h1 : (j 1).val = 256 * t.val + (y 1).val) (h2 : (j 2).val = (y 2).val) :
    @Eq EReal (outsAt0 m c t y) ((fun i : S4x4096x1024.Idx => placed4 (lin (kX m c) (kW m c) (kB m c) (token4 (i 1) (i 0))) (i 2)) j) := by
  have y0 : (y 0).val < 4 := (y 0).isLt
  have y1 : (y 1).val < 256 := (y 1).isLt
  have e2 : j 2 = y 2 := Fin.ext h2
  have hT : (token4 (j 1) (j 0)).val = 1024 * t.val + (4 * ((256 * (y 0).val + (y 1).val) % 256) + (256 * (y 0).val + (y 1).val) / 256) := by
    unfold token4
    show 4 * (j 1).val + (j 0).val = _
    omega
  have f1 : ∀ k : Fin 1024, @Eq EReal (iblk m c 8 t (ix2 k (y 2))) (placed4 (kW m c k) (y 2)) := fun k => by
    refine Eq.trans ?_ (w_entry m c k (y 2))
    unfold iblk
    generalize V m c = U
    blk_ext [idx t]
  have f2 : @Eq EReal (iblk m c 9 t (ix2 0 (y 2))) (placed4 (kB m c) (y 2)) := by
    refine Eq.trans ?_ (b_entry m c (y 2))
    unfold iblk
    generalize V m c = U
    blk_ext [idx t]
  unfold outsAt0
  refine (out_at c _ _ _ _ _ _ _ _ _ _ _ _ _ _ _ _ _ _ _ _ _ _ _ _ _ (xs m c t) (iblk m c 8 t) (iblk m c 9 t) y ⟨256 * (y 0).val + (y 1).val, by omega⟩ rfl).trans ?_
  show _ = placed4 (lin (kX m c) (kW m c) (kB m c) (token4 (j 1) (j 0))) (j 2)
  rw [e2]
  refine Eq.trans ?_ (placed4_lin (tok m c (token4 (j 1) (j 0))) (kW m c) (kB m c) (y 2))
  refine congrArg₂ (fun a b : EReal => a + b) (Finset.sum_congr rfl fun k _ => ?_) f2
  exact congrArg₂ (fun a b : EReal => a * b) (gathered_tok m c t _ _ k hT) (f1 k)

set_option maxHeartbeats 3200000 in
/-- The result's array. -/
theorem final (c : Dev nD) : (dats m 0 c).arrAt 10 (cfgs 0).N = fun i : S4x4096x1024.Idx => placed4 (lin (kX m c) (kW m c) (kB m c) (token4 (i 1) (i 0))) (i 2) := by
  refine (dats m 0 c).arrAt_eq_of_covers 10 _ (by decide +kernel) fun t hf y => ?_
  blk_simp
  rw [after0_10]
  refine block m c t y _ ?_ ?_ ?_
  all_goals (blk_simp [idx t] <;> try omega)

/-- What the kernel leaves. -/
theorem kernel_run (ρ : Dev nD → PrngReg) :
    θ_run defs (onTc (τ := τ) (main (F := Ideal))) ⟨m, fun _ => 0, ρ⟩ fun r => ∀ c : Dev nD,
      r.2.mem ((c.tc : Thread nD τ).loc main_v16) = (fun i : S4x4096x1024.Idx => placed4 (lin (kX m c) (kW m c) (kB m c) (token4 (i 1) (i 0))) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (final m c), (h c).2⟩) (Value.run_blocks m ρ)

end Cert.Fold4Array

end
-- ==== Proof.Fold4Ref.lean ====
/-
  What the reference of the call in `Fold4Array.lean` leaves.
-/
module

public import proofs.«01_k».proof.Proof.FoldLinear
public import proofs.«01_k».proof.Proof.Gen.Fold4ReferenceIdeal.Run
public import Idealize.ShloMosaic.Lib.Pointwise
public import Idealize.ShloMosaic.Lib.Pipeline.ValueKit

@[expose] public section

set_option maxRecDepth 16384

noncomputable section

namespace Cert.Fold4Ref

open Idealize.ShloMosaic Idealize.ShloMosaic.TcCoe Idealize.SL.Sem Idealize.ShloMosaic.StableHlo
open Cert.Linear Cert.FoldLinear
open Cert.Fold4ReferenceIdeal Cert.Fold4ReferenceIdeal.Gen

variable (m : (ℓ : Loc nD τ sig) → Buf (Elt Ideal) ℓ)

/-- The layer's input, weights and bias as the reference's memory holds them. -/
def rX (c : Dev nD) (b : Fin 2) (t : Fin 8192) (e : Fin 1024) : EReal := m ((c.tc : Thread nD τ).loc main_arg0) (ix3 b t e)
def rW (c : Dev nD) (e : Fin 1024) (n : Fin 11288) : EReal := m ((c.tc : Thread nD τ).loc main_arg1) (ix2 e n)
def rB (c : Dev nD) (n : Fin 11288) : EReal := m ((c.tc : Thread nD τ).loc main_arg2) (ix1 n)

/-- The scale as the reference computes it. -/
theorem scale_word : Ideal.div (Ideal.ofBits .f32 0x3E000000#32) (Ideal.log (Ideal.ofBits .f32 0x40000000#32)) = (qScale : EReal) := by
  have h : Real.log 2 ≠ 0 := (Real.log_pos one_lt_two).ne'
  rw [Cert.Spec.ofBits_eighth, Cert.Spec.ofBits_two, Ideal.log_coe, if_neg (by norm_num), Ideal.div, if_neg (by exact_mod_cast h), ← EReal.coe_inv, ← EReal.coe_mul, qScale,
    Cert.Spec.log2e, one_div (Real.log 2)]

/-- One entry of the projection, by sequence and position. -/
theorem entry (c : Dev nD) (T : Fin 16384) (n : Fin 11288) (b : Fin 2) (s : Fin 8192) (k : Fin 11288) (hb : b.val = T.val / 8192) (hs : s.val = T.val % 8192) (hk : k.val = n.val) :
    (∑ e : Fin 1024, rX m c b s e * rW m c e k) + rB m c k = lin (rX m c) (rW m c) (rB m c) T n := by
  have eb : b = ⟨T.val / 8192, by omega⟩ := Fin.ext hb
  have es : s = ⟨T.val % 8192, by omega⟩ := Fin.ext hs
  have ek : k = n := Fin.ext hk
  rw [eb, es, ek]
  rfl

set_option maxHeartbeats 3200000 in
/-- What the reference leaves. -/
theorem reference_run (ρ : Dev nD → PrngReg) :
    θ_run defs (onTc (τ := τ) (main (F := Ideal))) ⟨m, fun _ => 0, ρ⟩ fun r => ∀ c : Dev nD,
      r.2.mem ((c.tc : Thread nD τ).loc main_v31) = (fun i : S4x4096x1024.Idx => placed4 (lin (rX m c) (rW m c) (rB m c) (token4 (i 1) (i 0))) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2⟩) (Value.run m ρ)
  funext i
  obtain ⟨a, q, n, rfl⟩ : ∃ (a : Fin 4) (q : Fin 4096) (n : Fin 1024), i = ix3 a q n := ⟨i 0, i 1, i 2, by blk_ext⟩
  pointwise
  unfold placed4
  refine dite_congr rfl (fun h => congrArg₂ (fun a b : EReal => a * b) (entry m c (token4 q a) _ _ _ _ ?_ ?_ ?_) scale_word) fun h => entry m c (token4 q a) _ _ _ _ ?_ ?_ ?_
  all_goals try simp only [token4]
  all_goals omega

end Cert.Fold4Ref

end
-- ==== Proof.Fold16Array.lean ====
/-
  The call that projects the queries and keys of the branch part dilated by sixteen, and the inputs of the compression,
  tokens laid by residue class: how the body gathers a block's tokens, what it leaves in its block, the operands' entries,
  and the whole array after the run.
-/
module

public import proofs.«01_k».proof.Proof.FoldLinear
public import proofs.«01_k».proof.Proof.Gen.Fold16Ideal.Value
public import Idealize.ShloMosaic.Lib.Pointwise
public import Idealize.ShloMosaic.Lib.StableHlo.RunRead
public import Idealize.ShloMosaic.Lib.Pipeline.ValueKit

@[expose] public section

set_option maxRecDepth 16384

noncomputable section

namespace Cert.Fold16Array

open Idealize.ShloMosaic Idealize.ShloMosaic.TcCoe Idealize.SL.Sem Idealize.ShloMosaic.StableHlo
open Cert.Linear Cert.FoldLinear
open Cert.Fold16Ideal Cert.Fold16Ideal.Gen

/-! ## The body -/

/-- Row `R` of the gathered block: class `R / 64`, position `R % 64`; its column `e` lies in the column block `e / 128`. -/
def gathered (xs : Fin 8 → Vec Ideal S1024x128 .f32) (R : Fin 1024) (e : Fin 1024) : EReal :=
  xs ⟨e.val / 128, by omega⟩ (ix2 ⟨16 * (R.val % 64) + R.val / 64, by omega⟩ ⟨e.val % 128, by omega⟩)

theorem gathered_at (xs : Fin 8 → Vec Ideal S1024x128 .f32) (j : Fin 8) (R : Fin 1024) (e : Fin 1024) (i : S1024x128.Idx)
    (i0 : (i 0).val = 16 * (R.val % 64) + R.val / 64) (i1 : (i 1).val = e.val % 128) (hj : e.val / 128 = j.val) :
    xs j i = gathered xs R e := by
  have a0 : i 0 = ⟨16 * (R.val % 64) + R.val / 64, by omega⟩ := Fin.ext i0
  have a1 : i 1 = ⟨e.val % 128, by omega⟩ := Fin.ext i1
  have aj : (⟨e.val / 128, by omega⟩ : Fin 8) = j := Fin.ext hj
  have : i = ix2 (i 0) (i 1) := by blk_ext
  rw [this, a0, a1]
  unfold gathered
  rw [aj]
  rfl

set_option maxHeartbeats 32000000 in
/-- The strided stores, taken together. -/
theorem staged (c : Dev nD) (arg1 : Memref sig .tc .vmem S1024x128 .f32) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole)
    (xs : Fin 8 → Vec Ideal S1024x128 .f32) (y : S1024x1024.Idx) :
    View.canon (kernelRun0_A.sl.HS0_128 c arg1 harg1 arg2 harg2 arg3 harg3 arg4 harg4 arg5 harg5 arg6 harg6 arg7 harg7 arg8 harg8 (xs 0) (xs 1) (xs 2) (xs 3) (xs 4) (xs 5) (xs 6) (xs 7)) y = gathered xs (y 0) (y 1) := by
  dsimp only [kernelRun0_A.sl.HS0_128, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16]
  canon_tiles x h
  all_goals
    open_payloads
    pointwise
    rw [View.readAt_apply, Memref.IsWhole.read_unread]
    refine gathered_at xs _ _ _ _ ?_ ?_ ?_
  all_goals first | omega | (simp only [LoadRect.idx_apply, Matrix.cons_val_zero, Matrix.cons_val_one]; omega)

set_option maxHeartbeats 8000000 in
/-- What the body leaves in its block. -/
theorem out_at (c : Dev nD) (i : grid0.Coords) (arg1 : Memref sig .tc .vmem S1024x128 .f32) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x1536 .bf16) (harg9 : arg9.IsWhole) (arg10 : Memref sig .tc .vmem S1x1536 .f32) (harg10 : arg10.IsWhole) (arg11 : Memref sig .tc .vmem S16x64x1536 .bf16) (harg11 : arg11.IsWhole) (arg12 : Memref sig .tc .vmem S1024x1024 .bf16) (harg12 : arg12.IsWhole)
    (xs : Fin 8 → Vec Ideal S1024x128 .f32) (x8 : Vec Ideal S1024x1536 .bf16) (x9 : Vec Ideal S1x1536 .f32) (y : S16x64x1536.Idx) (R : Fin 1024) (hR : R.val = 64 * (y 0).val + (y 1).val) :
    @Eq EReal (out0_A_10 c i arg1 harg1 arg2 harg2 arg3 harg3 arg4 harg4 arg5 harg5 arg6 harg6 arg7 harg7 arg8 harg8 arg9 harg9 arg10 harg10 arg11 harg11 arg12 harg12 (xs 0) (xs 1) (xs 2) (xs 3) (xs 4) (xs 5) (xs 6) (xs 7) x8 x9 y)
      ((∑ e : Fin 1024, gathered xs R e * x8 (ix2 e (y 2))) + x9 (ix2 0 (y 2))) := by
  have hv : kernelRun0_A.sl.v768 c arg1 harg1 arg2 harg2 arg3 harg3 arg4 harg4 arg5 harg5 arg6 harg6 arg7 harg7 arg8 harg8 arg12 (xs 0) (xs 1) (xs 2) (xs 3) (xs 4) (xs 5) (xs 6) (xs 7) = fun i : S1024x1024.Idx => gathered xs (i 0) (i 1) := by
    unfold kernelRun0_A.sl.v768
    rw [View.readCov_eq_canon']
    funext z
    refine (staged c arg1 harg1 arg2 harg2 arg3 harg3 arg4 harg4 arg5 harg5 arg6 harg6 arg7 harg7 arg8 harg8 xs _).trans (congrArg₂ (gathered xs) (Fin.ext ?_) (Fin.ext ?_))
    · show 0 + 1 * (z 0).val = (z 0).val; omega
    · show 0 + 1 * (z 1).val = (z 1).val; omega
  unfold out0_A_10
  rw [View.read_writes_junk_eq_canon]
  dsimp only [kernelRun0_A, kernelRun0_A.sl.r_18, kernelRun0_A.sl.r_19, kernelRun0_A.sl.r_20, kernelRun0_A.sl.r_17]
  rw [hv]
  first
    | rw [View.readAt_eq_ld, harg9.read_unread, View.ld_unit_zero (by decide), View.readAt_eq_ld, harg10.read_unread, View.ld_unit_zero (by decide)]
    | rw [View.readAt_eq_ld, harg10.read_unread, View.ld_unit_zero (by decide), View.readAt_eq_ld, harg9.read_unread, View.ld_unit_zero (by decide)]
  canon_tiles x h
  all_goals
    open_payloads
    pointwise
    refine congrArg₂ (fun (r : Fin 1024) (n : Fin 1536) => (∑ e : Fin 1024, gathered xs r e * x8 (ix2 e n)) + x9 (ix2 0 n)) (Fin.ext ?_) (Fin.ext h2.symm)
    simp only
    omega

/-! ## The operands' entries -/

variable (m : (ℓ : Loc nD τ sig) → Buf (Elt Ideal) ℓ)

/-- The layer's input, weights and bias as the kernel's memory holds them. -/
def kX (c : Dev nD) (b : Fin 2) (t : Fin 8192) (e : Fin 1024) : EReal := m ((c.tc : Thread nD τ).loc main_arg0) (ix3 b t e)
def kW (c : Dev nD) (e : Fin 1024) (n : Fin 11288) : EReal := m ((c.tc : Thread nD τ).loc main_arg1) (ix2 e n)
def kB (c : Dev nD) (n : Fin 11288) : EReal := m ((c.tc : Thread nD τ).loc main_arg2) (ix1 n)

/-- The input by token, the two sequences laid end to end. -/
def tok (c : Dev nD) (T : Fin 16384) (e : Fin 1024) : EReal := kX m c ⟨T.val / 8192, by omega⟩ ⟨T.val % 8192, by omega⟩ e

/-- The tokens, one under the other. -/
theorem x_entry (c : Dev nD) (T : Fin 16384) (e : Fin 1024) : @Eq EReal (V m c main_v0 (ix2 T e)) (tok m c T e) := by
  rw [V]
  after_reads_simp
  pointwise
  rfl

/-- The scale as the host computes it. -/
theorem scale_word (u : EReal) : u * (Ideal.ofBits .f32 0x3E000000#32 * Ideal.div 1 (Ideal.log (Ideal.ofBits .f32 0x40000000#32))) = u * (qScale : EReal) := by
  rw [Cert.Spec.ofBits_eighth, Cert.Spec.log2e_word, ← EReal.coe_mul]

/-! ### The weights's parts, side by side -/

theorem w_v19 (c : Dev nD) (e : Fin 1024) (z : Fin 512) :
    @Eq EReal (upto hostOps0 (fun b => m (c, b)) 25 (Proc.tc.devRef main_v19) (ix2 e z)) (kW m c e ⟨1024 + z.val, by omega⟩ * (qScale : EReal)) := by
  after_reads_simp
  pointwise
  exact scale_word _

theorem w_v6 (c : Dev nD) (e : Fin 1024) (z : Fin 512) :
    @Eq EReal (upto hostOps0 (fun b => m (c, b)) 25 (Proc.tc.devRef main_v6) (ix2 e z)) (kW m c e ⟨2560 + z.val, by omega⟩) := by
  after_reads_simp
  pointwise
  rfl

theorem w_v10 (c : Dev nD) (e : Fin 1024) (z : Fin 64) :
    @Eq EReal (upto hostOps0 (fun b => m (c, b)) 25 (Proc.tc.devRef main_v10) (ix2 e z)) (kW m c e ⟨5632 + z.val, by omega⟩) := by
  after_reads_simp
  pointwise
  rfl

theorem w_v8 (c : Dev nD) (e : Fin 1024) (z : Fin 64) :
    @Eq EReal (upto hostOps0 (fun b => m (c, b)) 25 (Proc.tc.devRef main_v8) (ix2 e z)) (0) := by
  after_reads_simp
  pointwise

theorem w_v12 (c : Dev nD) (e : Fin 1024) (z : Fin 64) :
    @Eq EReal (upto hostOps0 (fun b => m (c, b)) 25 (Proc.tc.devRef main_v12) (ix2 e z)) (kW m c e ⟨5696 + z.val, by omega⟩) := by
  after_reads_simp
  pointwise
  rfl

theorem w_v14 (c : Dev nD) (e : Fin 1024) (z : Fin 64) :
    @Eq EReal (upto hostOps0 (fun b => m (c, b)) 25 (Proc.tc.devRef main_v14) (ix2 e z)) (kW m c e ⟨5760 + z.val, by omega⟩) := by
  after_reads_simp
  pointwise
  rfl

theorem w_v16 (c : Dev nD) (e : Fin 1024) (z : Fin 64) :
    @Eq EReal (upto hostOps0 (fun b => m (c, b)) 25 (Proc.tc.devRef main_v16) (ix2 e z)) (kW m c e ⟨5824 + z.val, by omega⟩) := by
  after_reads_simp
  pointwise
  rfl

set_option maxHeartbeats 8000000 in
theorem w_entry (c : Dev nD) (e : Fin 1024) (n : Fin 1536) : @Eq EReal (V m c main_v21 (ix2 e n)) (placed16 (kW m c e) n) := by
  rw [V]
  simp (disch := decide) only [readAfter, unary_result']
  simp (disch := decide) only [readUpto]
  generalize hU : upto hostOps0 (fun b => m (c, b)) 25 = U
  simp (disch := decide) only [nary_result']
  pointwise
  subst hU
  unfold placed16
  refine dite_congr rfl (fun h => w_v19 m c e ⟨_, h⟩) fun _ => ?_
  refine dite_congr rfl (fun h => w_v6 m c e ⟨_, h⟩) fun _ => ?_
  refine dite_congr rfl (fun h => w_v10 m c e ⟨_, h⟩) fun _ => ?_
  refine dite_congr rfl (fun h => w_v8 m c e ⟨_, h⟩) fun _ => ?_
  refine dite_congr rfl (fun h => w_v12 m c e ⟨_, h⟩) fun _ => ?_
  refine dite_congr rfl (fun h => w_v8 m c e ⟨_, h⟩) fun _ => ?_
  refine dite_congr rfl (fun h => w_v14 m c e ⟨_, h⟩) fun _ => ?_
  refine dite_congr rfl (fun h => w_v8 m c e ⟨_, h⟩) fun _ => ?_
  exact dite_congr rfl (fun h => w_v16 m c e ⟨_, h⟩) fun _ => w_v8 m c e _

/-! ### The bias's parts, side by side -/

theorem b_v23 (c : Dev nD) (z : Fin 512) :
    @Eq EReal (upto hostOps0 (fun b => m (c, b)) 29 (Proc.tc.devRef main_v23) (ix1 z)) (kB m c ⟨1024 + z.val, by omega⟩ * (qScale : EReal)) := by
  after_reads_simp
  pointwise
  exact scale_word _

theorem b_v7 (c : Dev nD) (z : Fin 512) :
    @Eq EReal (upto hostOps0 (fun b => m (c, b)) 29 (Proc.tc.devRef main_v7) (ix1 z)) (kB m c ⟨2560 + z.val, by omega⟩) := by
  after_reads_simp
  pointwise
  rfl

theorem b_v11 (c : Dev nD) (z : Fin 64) :
    @Eq EReal (upto hostOps0 (fun b => m (c, b)) 29 (Proc.tc.devRef main_v11) (ix1 z)) (kB m c ⟨5632 + z.val, by omega⟩) := by
  after_reads_simp
  pointwise
  rfl

theorem b_v9 (c : Dev nD) (z : Fin 64) :
    @Eq EReal (upto hostOps0 (fun b => m (c, b)) 29 (Proc.tc.devRef main_v9) (ix1 z)) (0) := by
  after_reads_simp
  pointwise

theorem b_v13 (c : Dev nD) (z : Fin 64) :
    @Eq EReal (upto hostOps0 (fun b => m (c, b)) 29 (Proc.tc.devRef main_v13) (ix1 z)) (kB m c ⟨5696 + z.val, by omega⟩) := by
  after_reads_simp
  pointwise
  rfl

theorem b_v15 (c : Dev nD) (z : Fin 64) :
    @Eq EReal (upto hostOps0 (fun b => m (c, b)) 29 (Proc.tc.devRef main_v15) (ix1 z)) (kB m c ⟨5760 + z.val, by omega⟩) := by
  after_reads_simp
  pointwise
  rfl

theorem b_v17 (c : Dev nD) (z : Fin 64) :
    @Eq EReal (upto hostOps0 (fun b => m (c, b)) 29 (Proc.tc.devRef main_v17) (ix1 z)) (kB m c ⟨5824 + z.val, by omega⟩) := by
  after_reads_simp
  pointwise
  rfl

set_option maxHeartbeats 8000000 in
theorem b_entry (c : Dev nD) (n : Fin 1536) : @Eq EReal (V m c main_v25 (ix2 0 n)) (placed16 (kB m c) n) := by
  rw [V]
  simp (disch := decide) only [readAfter, unary_result']
  simp (disch := decide) only [readUpto]
  generalize hU : upto hostOps0 (fun b => m (c, b)) 29 = U
  simp (disch := decide) only [nary_result']
  pointwise
  subst hU
  unfold placed16
  refine dite_congr rfl (fun h => b_v23 m c ⟨_, h⟩) fun _ => ?_
  refine dite_congr rfl (fun h => b_v7 m c ⟨_, h⟩) fun _ => ?_
  refine dite_congr rfl (fun h => b_v11 m c ⟨_, h⟩) fun _ => ?_
  refine dite_congr rfl (fun h => b_v9 m c ⟨_, h⟩) fun _ => ?_
  refine dite_congr rfl (fun h => b_v13 m c ⟨_, h⟩) fun _ => ?_
  refine dite_congr rfl (fun h => b_v9 m c ⟨_, h⟩) fun _ => ?_
  refine dite_congr rfl (fun h => b_v15 m c ⟨_, h⟩) fun _ => ?_
  refine dite_congr rfl (fun h => b_v9 m c ⟨_, h⟩) fun _ => ?_
  exact dite_congr rfl (fun h => b_v17 m c ⟨_, h⟩) fun _ => b_v9 m c _

/-! ## The array -/

theorem idx : ∀ t : Fin cfg0.N, win0_0.index t = ![t.val, 0] ∧ win0_1.index t = ![t.val, 1] ∧ win0_2.index t = ![t.val, 2] ∧ win0_3.index t = ![t.val, 3] ∧ win0_4.index t = ![t.val, 4] ∧ win0_5.index t = ![t.val, 5] ∧ win0_6.index t = ![t.val, 6] ∧ win0_7.index t = ![t.val, 7] ∧ win0_8.index t = ![0, 0] ∧ win0_9.index t = ![0, 0] ∧ win0_10.index t = ![0, t.val, 0] :=
  (by decide +kernel : ∀ t : Fin grid0.N, _)

theorem points (t : Fin cfg0.N) : t.val < 16 := lt_of_lt_of_eq t.isLt (by decide)

theorem x_0 (c : Dev nD) (t : Fin cfg0.N) (r : Fin 1024) (q : Fin 128) :
    @Eq EReal (iblk m c 0 t (ix2 r q)) (tok m c ⟨1024 * t.val + r.val, by have := points t; omega⟩ ⟨128 * 0 + q.val, by omega⟩) := by
  refine Eq.trans ?_ (x_entry m c _ _)
  unfold iblk
  generalize V m c = U
  blk_ext [idx t]

theorem x_1 (c : Dev nD) (t : Fin cfg0.N) (r : Fin 1024) (q : Fin 128) :
    @Eq EReal (iblk m c 1 t (ix2 r q)) (tok m c ⟨1024 * t.val + r.val, by have := points t; omega⟩ ⟨128 * 1 + q.val, by omega⟩) := by
  refine Eq.trans ?_ (x_entry m c _ _)
  unfold iblk
  generalize V m c = U
  blk_ext [idx t]

theorem x_2 (c : Dev nD) (t : Fin cfg0.N) (r : Fin 1024) (q : Fin 128) :
    @Eq EReal (iblk m c 2 t (ix2 r q)) (tok m c ⟨1024 * t.val + r.val, by have := points t; omega⟩ ⟨128 * 2 + q.val, by omega⟩) := by
  refine Eq.trans ?_ (x_entry m c _ _)
  unfold iblk
  generalize V m c = U
  blk_ext [idx t]

theorem x_3 (c : Dev nD) (t : Fin cfg0.N) (r : Fin 1024) (q : Fin 128) :
    @Eq EReal (iblk m c 3 t (ix2 r q)) (tok m c ⟨1024 * t.val + r.val, by have := points t; omega⟩ ⟨128 * 3 + q.val, by omega⟩) := by
  refine Eq.trans ?_ (x_entry m c _ _)
  unfold iblk
  generalize V m c = U
  blk_ext [idx t]

theorem x_4 (c : Dev nD) (t : Fin cfg0.N) (r : Fin 1024) (q : Fin 128) :
    @Eq EReal (iblk m c 4 t (ix2 r q)) (tok m c ⟨1024 * t.val + r.val, by have := points t; omega⟩ ⟨128 * 4 + q.val, by omega⟩) := by
  refine Eq.trans ?_ (x_entry m c _ _)
  unfold iblk
  generalize V m c = U
  blk_ext [idx t]

theorem x_5 (c : Dev nD) (t : Fin cfg0.N) (r : Fin 1024) (q : Fin 128) :
    @Eq EReal (iblk m c 5 t (ix2 r q)) (tok m c ⟨1024 * t.val + r.val, by have := points t; omega⟩ ⟨128 * 5 + q.val, by omega⟩) := by
  refine Eq.trans ?_ (x_entry m c _ _)
  unfold iblk
  generalize V m c = U
  blk_ext [idx t]

theorem x_6 (c : Dev nD) (t : Fin cfg0.N) (r : Fin 1024) (q : Fin 128) :
    @Eq EReal (iblk m c 6 t (ix2 r q)) (tok m c ⟨1024 * t.val + r.val, by have := points t; omega⟩ ⟨128 * 6 + q.val, by omega⟩) := by
  refine Eq.trans ?_ (x_entry m c _ _)
  unfold iblk
  generalize V m c = U
  blk_ext [idx t]

theorem x_7 (c : Dev nD) (t : Fin cfg0.N) (r : Fin 1024) (q : Fin 128) :
    @Eq EReal (iblk m c 7 t (ix2 r q)) (tok m c ⟨1024 * t.val + r.val, by have := points t; omega⟩ ⟨128 * 7 + q.val, by omega⟩) := by
  refine Eq.trans ?_ (x_entry m c _ _)
  unfold iblk
  generalize V m c = U
  blk_ext [idx t]

/-- The input's eight column blocks. -/
def xs (c : Dev nD) (t : Fin cfg0.N) : Fin 8 → Vec Ideal S1024x128 .f32 := ![iblk m c 0 t, iblk m c 1 t, iblk m c 2 t, iblk m c 3 t, iblk m c 4 t, iblk m c 5 t, iblk m c 6 t, iblk m c 7 t]

theorem x_block (c : Dev nD) (t : Fin cfg0.N) (k : Fin 8) (r : Fin 1024) (q : Fin 128) :
    @Eq EReal (xs m c t k (ix2 r q)) (tok m c ⟨1024 * t.val + r.val, by have := points t; omega⟩ ⟨128 * k.val + q.val, by omega⟩) := by
  fin_cases k
  exacts [x_0 m c t r q, x_1 m c t r q, x_2 m c t r q, x_3 m c t r q, x_4 m c t r q, x_5 m c t r q, x_6 m c t r q, x_7 m c t r q]

/-- A row of the gathered block is a token. -/
theorem gathered_tok (c : Dev nD) (t : Fin cfg0.N) (R : Fin 1024) (T : Fin 16384) (e : Fin 1024) (hT : T.val = 1024 * t.val + (16 * (R.val % 64) + R.val / 64)) :
    gathered (xs m c t) R e = tok m c T e :=
  (x_block m c t _ _ _).trans (congrArg₂ (tok m c) (Fin.ext hT.symm) (Fin.ext (by show 128 * (e.val / 128) + e.val % 128 = e.val; omega)))

set_option maxHeartbeats 1600000 in
theorem block (c : Dev nD) (t : Fin cfg0.N) (y : S16x64x1536.Idx) (j : S16x1024x1536.Idx) (h0 : (j 0).val = (y 0).val) (h1 : (j 1).val = 64 * t.val + (y 1).val) (h2 : (j 2).val = (y 2).val) :
    @Eq EReal (outsAt0 m c t y) ((fun i : S16x1024x1536.Idx => placed16 (lin (kX m c) (kW m c) (kB m c) (token16 (i 1) (i 0))) (i 2)) j) := by
  have y0 : (y 0).val < 16 := (y 0).isLt
  have y1 : (y 1).val < 64 := (y 1).isLt
  have e2 : j 2 = y 2 := Fin.ext h2
  have hT : (token16 (j 1) (j 0)).val = 1024 * t.val + (16 * ((64 * (y 0).val + (y 1).val) % 64) + (64 * (y 0).val + (y 1).val) / 64) := by
    unfold token16
    show 16 * (j 1).val + (j 0).val = _
    omega
  have f1 : ∀ k : Fin 1024, @Eq EReal (iblk m c 8 t (ix2 k (y 2))) (placed16 (kW m c k) (y 2)) := fun k => by
    refine Eq.trans ?_ (w_entry m c k (y 2))
    unfold iblk
    generalize V m c = U
    blk_ext [idx t]
  have f2 : @Eq EReal (iblk m c 9 t (ix2 0 (y 2))) (placed16 (kB m c) (y 2)) := by
    refine Eq.trans ?_ (b_entry m c (y 2))
    unfold iblk
    generalize V m c = U
    blk_ext [idx t]
  unfold outsAt0
  refine (out_at c _ _ _ _ _ _ _ _ _ _ _ _ _ _ _ _ _ _ _ _ _ _ _ _ _ (xs m c t) (iblk m c 8 t) (iblk m c 9 t) y ⟨64 * (y 0).val + (y 1).val, by omega⟩ rfl).trans ?_
  show _ = placed16 (lin (kX m c) (kW m c) (kB m c) (token16 (j 1) (j 0))) (j 2)
  rw [e2]
  refine Eq.trans ?_ (placed16_lin (tok m c (token16 (j 1) (j 0))) (kW m c) (kB m c) (y 2))
  refine congrArg₂ (fun a b : EReal => a + b) (Finset.sum_congr rfl fun k _ => ?_) f2
  exact congrArg₂ (fun a b : EReal => a * b) (gathered_tok m c t _ _ k hT) (f1 k)

set_option maxHeartbeats 3200000 in
/-- The result's array. -/
theorem final (c : Dev nD) : (dats m 0 c).arrAt 10 (cfgs 0).N = fun i : S16x1024x1536.Idx => placed16 (lin (kX m c) (kW m c) (kB m c) (token16 (i 1) (i 0))) (i 2) := by
  refine (dats m 0 c).arrAt_eq_of_covers 10 _ (by decide +kernel) fun t hf y => ?_
  blk_simp
  rw [after0_10]
  refine block m c t y _ ?_ ?_ ?_
  all_goals (blk_simp [idx t] <;> try omega)

/-- What the kernel leaves. -/
theorem kernel_run (ρ : Dev nD → PrngReg) :
    θ_run defs (onTc (τ := τ) (main (F := Ideal))) ⟨m, fun _ => 0, ρ⟩ fun r => ∀ c : Dev nD,
      r.2.mem ((c.tc : Thread nD τ).loc main_v26) = (fun i : S16x1024x1536.Idx => placed16 (lin (kX m c) (kW m c) (kB m c) (token16 (i 1) (i 0))) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (final m c), (h c).2⟩) (Value.run_blocks m ρ)

end Cert.Fold16Array

end
-- ==== Proof.Fold16Ref.lean ====
/-
  What the reference of the call in `Fold16Array.lean` leaves.
-/
module

public import proofs.«01_k».proof.Proof.FoldLinear
public import proofs.«01_k».proof.Proof.Gen.Fold16ReferenceIdeal.Run
public import Idealize.ShloMosaic.Lib.Pointwise
public import Idealize.ShloMosaic.Lib.Pipeline.ValueKit

@[expose] public section

set_option maxRecDepth 16384

noncomputable section

namespace Cert.Fold16Ref

open Idealize.ShloMosaic Idealize.ShloMosaic.TcCoe Idealize.SL.Sem Idealize.ShloMosaic.StableHlo
open Cert.Linear Cert.FoldLinear
open Cert.Fold16ReferenceIdeal Cert.Fold16ReferenceIdeal.Gen

variable (m : (ℓ : Loc nD τ sig) → Buf (Elt Ideal) ℓ)

/-- The layer's input, weights and bias as the reference's memory holds them. -/
def rX (c : Dev nD) (b : Fin 2) (t : Fin 8192) (e : Fin 1024) : EReal := m ((c.tc : Thread nD τ).loc main_arg0) (ix3 b t e)
def rW (c : Dev nD) (e : Fin 1024) (n : Fin 11288) : EReal := m ((c.tc : Thread nD τ).loc main_arg1) (ix2 e n)
def rB (c : Dev nD) (n : Fin 11288) : EReal := m ((c.tc : Thread nD τ).loc main_arg2) (ix1 n)

/-- The scale as the reference computes it. -/
theorem scale_word : Ideal.div (Ideal.ofBits .f32 0x3E000000#32) (Ideal.log (Ideal.ofBits .f32 0x40000000#32)) = (qScale : EReal) := by
  have h : Real.log 2 ≠ 0 := (Real.log_pos one_lt_two).ne'
  rw [Cert.Spec.ofBits_eighth, Cert.Spec.ofBits_two, Ideal.log_coe, if_neg (by norm_num), Ideal.div, if_neg (by exact_mod_cast h), ← EReal.coe_inv, ← EReal.coe_mul, qScale,
    Cert.Spec.log2e, one_div (Real.log 2)]

/-- One entry of the projection, by sequence and position. -/
theorem entry (c : Dev nD) (T : Fin 16384) (n : Fin 11288) (b : Fin 2) (s : Fin 8192) (k : Fin 11288) (hb : b.val = T.val / 8192) (hs : s.val = T.val % 8192) (hk : k.val = n.val) :
    (∑ e : Fin 1024, rX m c b s e * rW m c e k) + rB m c k = lin (rX m c) (rW m c) (rB m c) T n := by
  have eb : b = ⟨T.val / 8192, by omega⟩ := Fin.ext hb
  have es : s = ⟨T.val % 8192, by omega⟩ := Fin.ext hs
  have ek : k = n := Fin.ext hk
  rw [eb, es, ek]
  rfl

set_option maxHeartbeats 3200000 in
/-- What the reference leaves. -/
theorem reference_run (ρ : Dev nD → PrngReg) :
    θ_run defs (onTc (τ := τ) (main (F := Ideal))) ⟨m, fun _ => 0, ρ⟩ fun r => ∀ c : Dev nD,
      r.2.mem ((c.tc : Thread nD τ).loc main_v36) = (fun i : S16x1024x1536.Idx => placed16 (lin (rX m c) (rW m c) (rB m c) (token16 (i 1) (i 0))) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2⟩) (Value.run m ρ)
  funext i
  obtain ⟨a, q, n, rfl⟩ : ∃ (a : Fin 16) (q : Fin 1024) (n : Fin 1536), i = ix3 a q n := ⟨i 0, i 1, i 2, by blk_ext⟩
  pointwise [Value.res_main_v36]
  unfold placed16
  refine dite_congr rfl (fun _ => congrArg₂ (fun a b : EReal => a * b) (entry m c (token16 q a) _ _ _ _ (by simp only [token16]; omega) (by simp only [token16]; omega) (by show _ + _ = _ + _; omega)) scale_word) fun _ => ?_
  refine dite_congr rfl (fun _ => entry m c (token16 q a) _ _ _ _ (by simp only [token16]; omega) (by simp only [token16]; omega) (by show _ + _ = _ + _; omega)) fun _ => ?_
  iterate 3
    refine dite_congr rfl (fun _ => entry m c (token16 q a) _ _ _ _ (by simp only [token16]; omega) (by simp only [token16]; omega) (by show _ + _ = _ + _; omega)) fun _ => ?_
    refine dite_congr rfl (fun _ => rfl) fun _ => ?_
  exact dite_congr rfl (fun _ => entry m c (token16 q a) _ _ _ _ (by simp only [token16]; omega) (by simp only [token16]; omega) (by show _ + _ = _ + _; omega)) fun _ => rfl

end Cert.Fold16Ref

end
-- ==== Proof.FeatFold4Array.lean ====
/-
  The call that projects the values of the branch part dilated by four,
  tokens laid by residue class: how the body gathers a block's tokens, what it leaves in its block, the operands' entries,
  and the whole array after the run.
-/
module

public import proofs.«01_k».proof.Proof.FoldLinear
public import proofs.«01_k».proof.Proof.Gen.FeatFold4Ideal.Value
public import Idealize.ShloMosaic.Lib.Pointwise
public import Idealize.ShloMosaic.Lib.StableHlo.RunRead
public import Idealize.ShloMosaic.Lib.Pipeline.ValueKit

@[expose] public section

set_option maxRecDepth 16384

noncomputable section

namespace Cert.FeatFold4Array

open Idealize.ShloMosaic Idealize.ShloMosaic.TcCoe Idealize.SL.Sem Idealize.ShloMosaic.StableHlo
open Cert.Linear Cert.FoldLinear
open Cert.FeatFold4Ideal Cert.FeatFold4Ideal.Gen

/-! ## The body -/

/-- Row `R` of the gathered block: class `R / 512`, position `R % 512`; its column `e` lies in the column block `e / 128`. -/
def gathered (xs : Fin 8 → Vec Ideal S2048x128 .f32) (R : Fin 2048) (e : Fin 1024) : EReal :=
  xs ⟨e.val / 128, by omega⟩ (ix2 ⟨4 * (R.val % 512) + R.val / 512, by omega⟩ ⟨e.val % 128, by omega⟩)

theorem gathered_at (xs : Fin 8 → Vec Ideal S2048x128 .f32) (j : Fin 8) (R : Fin 2048) (e : Fin 1024) (i : S2048x128.Idx)
    (i0 : (i 0).val = 4 * (R.val % 512) + R.val / 512) (i1 : (i 1).val = e.val % 128) (hj : e.val / 128 = j.val) :
    xs j i = gathered xs R e := by
  have a0 : i 0 = ⟨4 * (R.val % 512) + R.val / 512, by omega⟩ := Fin.ext i0
  have a1 : i 1 = ⟨e.val % 128, by omega⟩ := Fin.ext i1
  have aj : (⟨e.val / 128, by omega⟩ : Fin 8) = j := Fin.ext hj
  have : i = ix2 (i 0) (i 1) := by blk_ext
  rw [this, a0, a1]
  unfold gathered
  rw [aj]
  rfl

set_option maxHeartbeats 32000000 in
/-- The strided stores, taken together. -/
theorem staged (c : Dev nD) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole)
    (xs : Fin 8 → Vec Ideal S2048x128 .f32) (y : S2048x1024.Idx) :
    View.canon (kernelRun0_A.sl.HS0_32 c arg1 harg1 arg2 harg2 arg3 harg3 arg4 harg4 arg5 harg5 arg6 harg6 arg7 harg7 arg8 harg8 (xs 0) (xs 1) (xs 2) (xs 3) (xs 4) (xs 5) (xs 6) (xs 7)) y = gathered xs (y 0) (y 1) := by
  dsimp only [kernelRun0_A.sl.HS0_32, kernelRun0_A.sl.r, kernelRun0_A.sl.r_1, kernelRun0_A.sl.r_2, kernelRun0_A.sl.r_3]
  canon_tiles x h
  all_goals
    open_payloads
    pointwise
    rw [View.readAt_apply, Memref.IsWhole.read_unread]
    refine gathered_at xs _ _ _ _ ?_ ?_ ?_
  all_goals first | omega | (simp only [LoadRect.idx_apply, Matrix.cons_val_zero, Matrix.cons_val_one]; omega)

set_option maxHeartbeats 8000000 in
/-- What the body leaves in its block. -/
theorem out_at (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S512x1024 .bf16) (harg9 : arg9.IsWhole) (arg10 : Memref sig .tc .vmem S512x1 .f32) (harg10 : arg10.IsWhole) (arg11 : Memref sig .tc .vmem S4x512x512 .bf16) (harg11 : arg11.IsWhole) (arg12 : Memref sig .tc .vmem S2048x1024 .bf16) (harg12 : arg12.IsWhole)
    (xs : Fin 8 → Vec Ideal S2048x128 .f32) (x8 : Vec Ideal S512x1024 .bf16) (x9 : Vec Ideal S512x1 .f32) (y : S4x512x512.Idx) (R : Fin 2048) (hR : R.val = 512 * (y 0).val + (y 2).val) :
    @Eq EReal (out0_A_10 c i arg1 harg1 arg2 harg2 arg3 harg3 arg4 harg4 arg5 harg5 arg6 harg6 arg7 harg7 arg8 harg8 arg9 harg9 arg10 harg10 arg11 harg11 arg12 harg12 (xs 0) (xs 1) (xs 2) (xs 3) (xs 4) (xs 5) (xs 6) (xs 7) x8 x9 y)
      ((∑ e : Fin 1024, x8 (ix2 (y 1) e) * gathered xs R e) + x9 (ix2 (y 1) 0)) := by
  have hv : kernelRun0_A.sl.v194 c arg1 harg1 arg2 harg2 arg3 harg3 arg4 harg4 arg5 harg5 arg6 harg6 arg7 harg7 arg8 harg8 arg12 (xs 0) (xs 1) (xs 2) (xs 3) (xs 4) (xs 5) (xs 6) (xs 7) = fun i : S2048x1024.Idx => gathered xs (i 0) (i 1) := by
    unfold kernelRun0_A.sl.v194
    rw [View.readCov_eq_canon']
    funext z
    refine (staged c arg1 harg1 arg2 harg2 arg3 harg3 arg4 harg4 arg5 harg5 arg6 harg6 arg7 harg7 arg8 harg8 xs _).trans (congrArg₂ (gathered xs) (Fin.ext ?_) (Fin.ext ?_))
    · show 0 + 1 * (z 0).val = (z 0).val; omega
    · show 0 + 1 * (z 1).val = (z 1).val; omega
  have hw : kernelRun0_A.sl.r_4 c arg9 harg9 x8 = x8 := by
    unfold kernelRun0_A.sl.r_4
    rw [View.readAt_eq_ld, harg9.read_unread, View.ld_unit_zero (by decide)]
    funext z
    open_payloads
    pointwise
  unfold out0_A_10
  rw [View.read_writes_junk_eq_canon]
  dsimp only [kernelRun0_A]
  rw [hv, hw, View.readAt_eq_ld, harg10.read_unread, View.ld_unit_zero (by decide)]
  canon_tiles x h
  all_goals
    open_payloads
    pointwise
    refine congrArg₂ (fun (r : Fin 2048) (n : Fin 512) => (∑ e : Fin 1024, x8 (ix2 n e) * gathered xs r e) + x9 (ix2 n 0)) (Fin.ext ?_) (Fin.ext h1.symm)
    simp only
    omega

/-! ## The operands' entries -/

variable (m : (ℓ : Loc nD τ sig) → Buf (Elt Ideal) ℓ)

/-- The layer's input, weights and bias as the kernel's memory holds them. -/
def kX (c : Dev nD) (b : Fin 2) (t : Fin 8192) (e : Fin 1024) : EReal := m ((c.tc : Thread nD τ).loc main_arg0) (ix3 b t e)
def kW (c : Dev nD) (e : Fin 1024) (n : Fin 11288) : EReal := m ((c.tc : Thread nD τ).loc main_arg1) (ix2 e n)
def kB (c : Dev nD) (n : Fin 11288) : EReal := m ((c.tc : Thread nD τ).loc main_arg2) (ix1 n)

/-- The input by token, the two sequences laid end to end. -/
def tok (c : Dev nD) (T : Fin 16384) (e : Fin 1024) : EReal := kX m c ⟨T.val / 8192, by omega⟩ ⟨T.val % 8192, by omega⟩ e

/-- The tokens, one under the other. -/
theorem x_entry (c : Dev nD) (T : Fin 16384) (e : Fin 1024) : @Eq EReal (V m c main_v0 (ix2 T e)) (tok m c T e) := by
  rw [V]
  after_reads_simp
  pointwise
  rfl

/-- The weights' columns as rows. -/
theorem w_entry (c : Dev nD) (n : Fin 512) (e : Fin 1024) : @Eq EReal (V m c main_v3 (ix2 n e)) (kW m c e (featCol4 n)) := by
  rw [V]
  after_reads_simp
  pointwise
  rfl

/-- The bias's entries. -/
theorem b_entry (c : Dev nD) (n : Fin 512) : @Eq EReal (V m c main_v5 (ix2 n 0)) (kB m c (featCol4 n)) := by
  rw [V]
  after_reads_simp
  pointwise
  rfl

/-! ## The array -/

theorem idx : ∀ t : Fin cfg0.N, win0_0.index t = ![t.val, 0] ∧ win0_1.index t = ![t.val, 1] ∧ win0_2.index t = ![t.val, 2] ∧ win0_3.index t = ![t.val, 3] ∧ win0_4.index t = ![t.val, 4] ∧ win0_5.index t = ![t.val, 5] ∧ win0_6.index t = ![t.val, 6] ∧ win0_7.index t = ![t.val, 7] ∧ win0_8.index t = ![0, 0] ∧ win0_9.index t = ![0, 0] ∧ win0_10.index t = ![0, 0, t.val] :=
  (by decide +kernel : ∀ t : Fin grid0.N, _)

theorem points (t : Fin cfg0.N) : t.val < 8 := lt_of_lt_of_eq t.isLt (by decide)

theorem x_0 (c : Dev nD) (t : Fin cfg0.N) (r : Fin 2048) (q : Fin 128) :
    @Eq EReal (iblk m c 0 t (ix2 r q)) (tok m c ⟨2048 * t.val + r.val, by have := points t; omega⟩ ⟨128 * 0 + q.val, by omega⟩) := by
  refine Eq.trans ?_ (x_entry m c _ _)
  unfold iblk
  generalize V m c = U
  blk_ext [idx t]

theorem x_1 (c : Dev nD) (t : Fin cfg0.N) (r : Fin 2048) (q : Fin 128) :
    @Eq EReal (iblk m c 1 t (ix2 r q)) (tok m c ⟨2048 * t.val + r.val, by have := points t; omega⟩ ⟨128 * 1 + q.val, by omega⟩) := by
  refine Eq.trans ?_ (x_entry m c _ _)
  unfold iblk
  generalize V m c = U
  blk_ext [idx t]

theorem x_2 (c : Dev nD) (t : Fin cfg0.N) (r : Fin 2048) (q : Fin 128) :
    @Eq EReal (iblk m c 2 t (ix2 r q)) (tok m c ⟨2048 * t.val + r.val, by have := points t; omega⟩ ⟨128 * 2 + q.val, by omega⟩) := by
  refine Eq.trans ?_ (x_entry m c _ _)
  unfold iblk
  generalize V m c = U
  blk_ext [idx t]

theorem x_3 (c : Dev nD) (t : Fin cfg0.N) (r : Fin 2048) (q : Fin 128) :
    @Eq EReal (iblk m c 3 t (ix2 r q)) (tok m c ⟨2048 * t.val + r.val, by have := points t; omega⟩ ⟨128 * 3 + q.val, by omega⟩) := by
  refine Eq.trans ?_ (x_entry m c _ _)
  unfold iblk
  generalize V m c = U
  blk_ext [idx t]

theorem x_4 (c : Dev nD) (t : Fin cfg0.N) (r : Fin 2048) (q : Fin 128) :
    @Eq EReal (iblk m c 4 t (ix2 r q)) (tok m c ⟨2048 * t.val + r.val, by have := points t; omega⟩ ⟨128 * 4 + q.val, by omega⟩) := by
  refine Eq.trans ?_ (x_entry m c _ _)
  unfold iblk
  generalize V m c = U
  blk_ext [idx t]

theorem x_5 (c : Dev nD) (t : Fin cfg0.N) (r : Fin 2048) (q : Fin 128) :
    @Eq EReal (iblk m c 5 t (ix2 r q)) (tok m c ⟨2048 * t.val + r.val, by have := points t; omega⟩ ⟨128 * 5 + q.val, by omega⟩) := by
  refine Eq.trans ?_ (x_entry m c _ _)
  unfold iblk
  generalize V m c = U
  blk_ext [idx t]

theorem x_6 (c : Dev nD) (t : Fin cfg0.N) (r : Fin 2048) (q : Fin 128) :
    @Eq EReal (iblk m c 6 t (ix2 r q)) (tok m c ⟨2048 * t.val + r.val, by have := points t; omega⟩ ⟨128 * 6 + q.val, by omega⟩) := by
  refine Eq.trans ?_ (x_entry m c _ _)
  unfold iblk
  generalize V m c = U
  blk_ext [idx t]

theorem x_7 (c : Dev nD) (t : Fin cfg0.N) (r : Fin 2048) (q : Fin 128) :
    @Eq EReal (iblk m c 7 t (ix2 r q)) (tok m c ⟨2048 * t.val + r.val, by have := points t; omega⟩ ⟨128 * 7 + q.val, by omega⟩) := by
  refine Eq.trans ?_ (x_entry m c _ _)
  unfold iblk
  generalize V m c = U
  blk_ext [idx t]

/-- The input's eight column blocks. -/
def xs (c : Dev nD) (t : Fin cfg0.N) : Fin 8 → Vec Ideal S2048x128 .f32 := ![iblk m c 0 t, iblk m c 1 t, iblk m c 2 t, iblk m c 3 t, iblk m c 4 t, iblk m c 5 t, iblk m c 6 t, iblk m c 7 t]

theorem x_block (c : Dev nD) (t : Fin cfg0.N) (k : Fin 8) (r : Fin 2048) (q : Fin 128) :
    @Eq EReal (xs m c t k (ix2 r q)) (tok m c ⟨2048 * t.val + r.val, by have := points t; omega⟩ ⟨128 * k.val + q.val, by omega⟩) := by
  fin_cases k
  exacts [x_0 m c t r q, x_1 m c t r q, x_2 m c t r q, x_3 m c t r q, x_4 m c t r q, x_5 m c t r q, x_6 m c t r q, x_7 m c t r q]

/-- A row of the gathered block is a token. -/
theorem gathered_tok (c : Dev nD) (t : Fin cfg0.N) (R : Fin 2048) (T : Fin 16384) (e : Fin 1024) (hT : T.val = 2048 * t.val + (4 * (R.val % 512) + R.val / 512)) :
    gathered (xs m c t) R e = tok m c T e :=
  (x_block m c t _ _ _).trans (congrArg₂ (tok m c) (Fin.ext hT.symm) (Fin.ext (by show 128 * (e.val / 128) + e.val % 128 = e.val; omega)))

set_option maxHeartbeats 1600000 in
theorem block (c : Dev nD) (t : Fin cfg0.N) (y : S4x512x512.Idx) (j : S4x512x4096.Idx) (h0 : (j 0).val = (y 0).val) (h1 : (j 1).val = (y 1).val) (h2 : (j 2).val = 512 * t.val + (y 2).val) :
    @Eq EReal (outsAt0 m c t y) ((fun i : S4x512x4096.Idx => lin (kX m c) (kW m c) (kB m c) (token4 (i 2) (i 0)) (featCol4 (i 1))) j) := by
  have y0 : (y 0).val < 4 := (y 0).isLt
  have y1 : (y 2).val < 512 := (y 2).isLt
  have e2 : j 1 = y 1 := Fin.ext h1
  have hT : (token4 (j 2) (j 0)).val = 2048 * t.val + (4 * ((512 * (y 0).val + (y 2).val) % 512) + (512 * (y 0).val + (y 2).val) / 512) := by
    unfold token4
    show 4 * (j 2).val + (j 0).val = _
    omega
  have f1 : ∀ k : Fin 1024, @Eq EReal (iblk m c 8 t (ix2 (y 1) k)) (kW m c k (featCol4 (y 1))) := fun k => by
    refine Eq.trans ?_ (w_entry m c (y 1) k)
    unfold iblk
    generalize V m c = U
    blk_ext [idx t]
  have f2 : @Eq EReal (iblk m c 9 t (ix2 (y 1) 0)) (kB m c (featCol4 (y 1))) := by
    refine Eq.trans ?_ (b_entry m c (y 1))
    unfold iblk
    generalize V m c = U
    blk_ext [idx t]
  unfold outsAt0
  refine (out_at c _ _ _ _ _ _ _ _ _ _ _ _ _ _ _ _ _ _ _ _ _ _ _ _ _ (xs m c t) (iblk m c 8 t) (iblk m c 9 t) y ⟨512 * (y 0).val + (y 2).val, by omega⟩ rfl).trans ?_
  show _ = lin (kX m c) (kW m c) (kB m c) (token4 (j 2) (j 0)) (featCol4 (j 1))
  rw [e2]
  unfold lin
  refine congrArg₂ (fun a b : EReal => a + b) (Finset.sum_congr rfl fun k _ => ?_) f2
  rw [mul_comm]
  exact congrArg₂ (fun a b : EReal => a * b) (gathered_tok m c t _ _ k hT) (f1 k)

set_option maxHeartbeats 3200000 in
/-- The result's array. -/
theorem final (c : Dev nD) : (dats m 0 c).arrAt 10 (cfgs 0).N = fun i : S4x512x4096.Idx => lin (kX m c) (kW m c) (kB m c) (token4 (i 2) (i 0)) (featCol4 (i 1)) := by
  refine (dats m 0 c).arrAt_eq_of_covers 10 _ (by decide +kernel) fun t hf y => ?_
  blk_simp
  rw [after0_10]
  refine block m c t y _ ?_ ?_ ?_
  all_goals (blk_simp [idx t] <;> try omega)

/-- What the kernel leaves. -/
theorem kernel_run (ρ : Dev nD → PrngReg) :
    θ_run defs (onTc (τ := τ) (main (F := Ideal))) ⟨m, fun _ => 0, ρ⟩ fun r => ∀ c : Dev nD,
      r.2.mem ((c.tc : Thread nD τ).loc main_v6) = (fun i : S4x512x4096.Idx => lin (kX m c) (kW m c) (kB m c) (token4 (i 2) (i 0)) (featCol4 (i 1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (final m c), (h c).2⟩) (Value.run_blocks m ρ)

end Cert.FeatFold4Array

end
-- ==== Proof.FeatFold4Ref.lean ====
/-
  What the reference of the call in `FeatFold4Array.lean` leaves.
-/
module

public import proofs.«01_k».proof.Proof.FoldLinear
public import proofs.«01_k».proof.Proof.Gen.FeatFold4ReferenceIdeal.Run
public import Idealize.ShloMosaic.Lib.Pointwise
public import Idealize.ShloMosaic.Lib.Pipeline.ValueKit

@[expose] public section

set_option maxRecDepth 16384

noncomputable section

namespace Cert.FeatFold4Ref

open Idealize.ShloMosaic Idealize.ShloMosaic.TcCoe Idealize.SL.Sem Idealize.ShloMosaic.StableHlo
open Cert.Linear Cert.FoldLinear
open Cert.FeatFold4ReferenceIdeal Cert.FeatFold4ReferenceIdeal.Gen

variable (m : (ℓ : Loc nD τ sig) → Buf (Elt Ideal) ℓ)

/-- The layer's input, weights and bias as the reference's memory holds them. -/
def rX (c : Dev nD) (b : Fin 2) (t : Fin 8192) (e : Fin 1024) : EReal := m ((c.tc : Thread nD τ).loc main_arg0) (ix3 b t e)
def rW (c : Dev nD) (e : Fin 1024) (n : Fin 11288) : EReal := m ((c.tc : Thread nD τ).loc main_arg1) (ix2 e n)
def rB (c : Dev nD) (n : Fin 11288) : EReal := m ((c.tc : Thread nD τ).loc main_arg2) (ix1 n)

/-- One entry of the projection, by sequence and position. -/
theorem entry (c : Dev nD) (T : Fin 16384) (n : Fin 11288) (b : Fin 2) (s : Fin 8192) (k : Fin 11288) (hb : b.val = T.val / 8192) (hs : s.val = T.val % 8192) (hk : k.val = n.val) :
    (∑ e : Fin 1024, rX m c b s e * rW m c e k) + rB m c k = lin (rX m c) (rW m c) (rB m c) T n := by
  have eb : b = ⟨T.val / 8192, by omega⟩ := Fin.ext hb
  have es : s = ⟨T.val % 8192, by omega⟩ := Fin.ext hs
  have ek : k = n := Fin.ext hk
  rw [eb, es, ek]
  rfl

set_option maxHeartbeats 3200000 in
/-- What the reference leaves. -/
theorem reference_run (ρ : Dev nD → PrngReg) :
    θ_run defs (onTc (τ := τ) (main (F := Ideal))) ⟨m, fun _ => 0, ρ⟩ fun r => ∀ c : Dev nD,
      r.2.mem ((c.tc : Thread nD τ).loc main_v26) = (fun i : S4x512x4096.Idx => lin (rX m c) (rW m c) (rB m c) (token4 (i 2) (i 0)) (featCol4 (i 1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2⟩) (Value.run m ρ)
  funext i
  obtain ⟨a, q, n, rfl⟩ : ∃ (a : Fin 4) (q : Fin 4096) (n : Fin 512), i = ix3 a n q := ⟨i 0, i 2, i 1, by blk_ext⟩
  pointwise
  refine entry m c (token4 q a) (featCol4 n) _ _ _ ?_ ?_ ?_
  all_goals simp only [token4, featCol4]
  all_goals omega

end Cert.FeatFold4Ref

end
-- ==== Proof.FeatFold16Array.lean ====
/-
  The call that projects the values of the branch part dilated by sixteen,
  tokens laid by residue class: how the body gathers a block's tokens, what it leaves in its block, the operands' entries,
  and the whole array after the run.
-/
module

public import proofs.«01_k».proof.Proof.FoldLinear
public import proofs.«01_k».proof.Proof.Gen.FeatFold16Ideal.Value
public import Idealize.ShloMosaic.Lib.Pointwise
public import Idealize.ShloMosaic.Lib.StableHlo.RunRead
public import Idealize.ShloMosaic.Lib.Pipeline.ValueKit

@[expose] public section

set_option maxRecDepth 16384

noncomputable section

namespace Cert.FeatFold16Array

open Idealize.ShloMosaic Idealize.ShloMosaic.TcCoe Idealize.SL.Sem Idealize.ShloMosaic.StableHlo
open Cert.Linear Cert.FoldLinear
open Cert.FeatFold16Ideal Cert.FeatFold16Ideal.Gen

/-! ## The body -/

/-- Row `R` of the gathered block: class `R / 128`, position `R % 128`; its column `e` lies in the column block `e / 128`. -/
def gathered (xs : Fin 8 → Vec Ideal S2048x128 .f32) (R : Fin 2048) (e : Fin 1024) : EReal :=
  xs ⟨e.val / 128, by omega⟩ (ix2 ⟨16 * (R.val % 128) + R.val / 128, by omega⟩ ⟨e.val % 128, by omega⟩)

theorem gathered_at (xs : Fin 8 → Vec Ideal S2048x128 .f32) (j : Fin 8) (R : Fin 2048) (e : Fin 1024) (i : S2048x128.Idx)
    (i0 : (i 0).val = 16 * (R.val % 128) + R.val / 128) (i1 : (i 1).val = e.val % 128) (hj : e.val / 128 = j.val) :
    xs j i = gathered xs R e := by
  have a0 : i 0 = ⟨16 * (R.val % 128) + R.val / 128, by omega⟩ := Fin.ext i0
  have a1 : i 1 = ⟨e.val % 128, by omega⟩ := Fin.ext i1
  have aj : (⟨e.val / 128, by omega⟩ : Fin 8) = j := Fin.ext hj
  have : i = ix2 (i 0) (i 1) := by blk_ext
  rw [this, a0, a1]
  unfold gathered
  rw [aj]
  rfl

set_option maxHeartbeats 32000000 in
/-- The strided stores, taken together. -/
theorem staged (c : Dev nD) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole)
    (xs : Fin 8 → Vec Ideal S2048x128 .f32) (y : S2048x1024.Idx) :
    View.canon (kernelRun0_A.sl.HS0_128 c arg1 harg1 arg2 harg2 arg3 harg3 arg4 harg4 arg5 harg5 arg6 harg6 arg7 harg7 arg8 harg8 (xs 0) (xs 1) (xs 2) (xs 3) (xs 4) (xs 5) (xs 6) (xs 7)) y = gathered xs (y 0) (y 1) := by
  dsimp only [kernelRun0_A.sl.HS0_128, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16]
  canon_tiles x h
  all_goals
    open_payloads
    pointwise
    rw [View.readAt_apply, Memref.IsWhole.read_unread]
    refine gathered_at xs _ _ _ _ ?_ ?_ ?_
  all_goals first | omega | (simp only [LoadRect.idx_apply, Matrix.cons_val_zero, Matrix.cons_val_one]; omega)

set_option maxHeartbeats 8000000 in
/-- What the body leaves in its block. -/
theorem out_at (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S512x1024 .bf16) (harg9 : arg9.IsWhole) (arg10 : Memref sig .tc .vmem S512x1 .f32) (harg10 : arg10.IsWhole) (arg11 : Memref sig .tc .vmem S16x512x128 .bf16) (harg11 : arg11.IsWhole) (arg12 : Memref sig .tc .vmem S2048x1024 .bf16) (harg12 : arg12.IsWhole)
    (xs : Fin 8 → Vec Ideal S2048x128 .f32) (x8 : Vec Ideal S512x1024 .bf16) (x9 : Vec Ideal S512x1 .f32) (y : S16x512x128.Idx) (R : Fin 2048) (hR : R.val = 128 * (y 0).val + (y 2).val) :
    @Eq EReal (out0_A_10 c i arg1 harg1 arg2 harg2 arg3 harg3 arg4 harg4 arg5 harg5 arg6 harg6 arg7 harg7 arg8 harg8 arg9 harg9 arg10 harg10 arg11 harg11 arg12 harg12 (xs 0) (xs 1) (xs 2) (xs 3) (xs 4) (xs 5) (xs 6) (xs 7) x8 x9 y)
      ((∑ e : Fin 1024, x8 (ix2 (y 1) e) * gathered xs R e) + x9 (ix2 (y 1) 0)) := by
  have hv : kernelRun0_A.sl.v770 c arg1 harg1 arg2 harg2 arg3 harg3 arg4 harg4 arg5 harg5 arg6 harg6 arg7 harg7 arg8 harg8 arg12 (xs 0) (xs 1) (xs 2) (xs 3) (xs 4) (xs 5) (xs 6) (xs 7) = fun i : S2048x1024.Idx => gathered xs (i 0) (i 1) := by
    unfold kernelRun0_A.sl.v770
    rw [View.readCov_eq_canon']
    funext z
    refine (staged c arg1 harg1 arg2 harg2 arg3 harg3 arg4 harg4 arg5 harg5 arg6 harg6 arg7 harg7 arg8 harg8 xs _).trans (congrArg₂ (gathered xs) (Fin.ext ?_) (Fin.ext ?_))
    · show 0 + 1 * (z 0).val = (z 0).val; omega
    · show 0 + 1 * (z 1).val = (z 1).val; omega
  unfold out0_A_10
  rw [View.read_writes_junk_eq_canon]
  dsimp only [kernelRun0_A, kernelRun0_A.sl.r_18, kernelRun0_A.sl.r_19, kernelRun0_A.sl.r_20, kernelRun0_A.sl.r_17]
  rw [hv]
  first
    | rw [View.readAt_eq_ld, harg9.read_unread, View.ld_unit_zero (by decide), View.readAt_eq_ld, harg10.read_unread, View.ld_unit_zero (by decide)]
    | rw [View.readAt_eq_ld, harg10.read_unread, View.ld_unit_zero (by decide), View.readAt_eq_ld, harg9.read_unread, View.ld_unit_zero (by decide)]
  canon_tiles x h
  all_goals
    open_payloads
    pointwise
    refine congrArg₂ (fun (r : Fin 2048) (n : Fin 512) => (∑ e : Fin 1024, x8 (ix2 n e) * gathered xs r e) + x9 (ix2 n 0)) (Fin.ext ?_) (Fin.ext h1.symm)
    simp only
    omega

/-! ## The operands' entries -/

variable (m : (ℓ : Loc nD τ sig) → Buf (Elt Ideal) ℓ)

/-- The layer's input, weights and bias as the kernel's memory holds them. -/
def kX (c : Dev nD) (b : Fin 2) (t : Fin 8192) (e : Fin 1024) : EReal := m ((c.tc : Thread nD τ).loc main_arg0) (ix3 b t e)
def kW (c : Dev nD) (e : Fin 1024) (n : Fin 11288) : EReal := m ((c.tc : Thread nD τ).loc main_arg1) (ix2 e n)
def kB (c : Dev nD) (n : Fin 11288) : EReal := m ((c.tc : Thread nD τ).loc main_arg2) (ix1 n)

/-- The input by token, the two sequences laid end to end. -/
def tok (c : Dev nD) (T : Fin 16384) (e : Fin 1024) : EReal := kX m c ⟨T.val / 8192, by omega⟩ ⟨T.val % 8192, by omega⟩ e

/-- The tokens, one under the other. -/
theorem x_entry (c : Dev nD) (T : Fin 16384) (e : Fin 1024) : @Eq EReal (V m c main_v0 (ix2 T e)) (tok m c T e) := by
  rw [V]
  after_reads_simp
  pointwise
  rfl

/-- The weights' columns as rows. -/
theorem w_entry (c : Dev nD) (n : Fin 512) (e : Fin 1024) : @Eq EReal (V m c main_v3 (ix2 n e)) (kW m c e (featCol16 n)) := by
  rw [V]
  after_reads_simp
  pointwise
  rfl

/-- The bias's entries. -/
theorem b_entry (c : Dev nD) (n : Fin 512) : @Eq EReal (V m c main_v5 (ix2 n 0)) (kB m c (featCol16 n)) := by
  rw [V]
  after_reads_simp
  pointwise
  rfl

/-! ## The array -/

theorem idx : ∀ t : Fin cfg0.N, win0_0.index t = ![t.val, 0] ∧ win0_1.index t = ![t.val, 1] ∧ win0_2.index t = ![t.val, 2] ∧ win0_3.index t = ![t.val, 3] ∧ win0_4.index t = ![t.val, 4] ∧ win0_5.index t = ![t.val, 5] ∧ win0_6.index t = ![t.val, 6] ∧ win0_7.index t = ![t.val, 7] ∧ win0_8.index t = ![0, 0] ∧ win0_9.index t = ![0, 0] ∧ win0_10.index t = ![0, 0, t.val] :=
  (by decide +kernel : ∀ t : Fin grid0.N, _)

theorem points (t : Fin cfg0.N) : t.val < 8 := lt_of_lt_of_eq t.isLt (by decide)

theorem x_0 (c : Dev nD) (t : Fin cfg0.N) (r : Fin 2048) (q : Fin 128) :
    @Eq EReal (iblk m c 0 t (ix2 r q)) (tok m c ⟨2048 * t.val + r.val, by have := points t; omega⟩ ⟨128 * 0 + q.val, by omega⟩) := by
  refine Eq.trans ?_ (x_entry m c _ _)
  unfold iblk
  generalize V m c = U
  blk_ext [idx t]

theorem x_1 (c : Dev nD) (t : Fin cfg0.N) (r : Fin 2048) (q : Fin 128) :
    @Eq EReal (iblk m c 1 t (ix2 r q)) (tok m c ⟨2048 * t.val + r.val, by have := points t; omega⟩ ⟨128 * 1 + q.val, by omega⟩) := by
  refine Eq.trans ?_ (x_entry m c _ _)
  unfold iblk
  generalize V m c = U
  blk_ext [idx t]

theorem x_2 (c : Dev nD) (t : Fin cfg0.N) (r : Fin 2048) (q : Fin 128) :
    @Eq EReal (iblk m c 2 t (ix2 r q)) (tok m c ⟨2048 * t.val + r.val, by have := points t; omega⟩ ⟨128 * 2 + q.val, by omega⟩) := by
  refine Eq.trans ?_ (x_entry m c _ _)
  unfold iblk
  generalize V m c = U
  blk_ext [idx t]

theorem x_3 (c : Dev nD) (t : Fin cfg0.N) (r : Fin 2048) (q : Fin 128) :
    @Eq EReal (iblk m c 3 t (ix2 r q)) (tok m c ⟨2048 * t.val + r.val, by have := points t; omega⟩ ⟨128 * 3 + q.val, by omega⟩) := by
  refine Eq.trans ?_ (x_entry m c _ _)
  unfold iblk
  generalize V m c = U
  blk_ext [idx t]

theorem x_4 (c : Dev nD) (t : Fin cfg0.N) (r : Fin 2048) (q : Fin 128) :
    @Eq EReal (iblk m c 4 t (ix2 r q)) (tok m c ⟨2048 * t.val + r.val, by have := points t; omega⟩ ⟨128 * 4 + q.val, by omega⟩) := by
  refine Eq.trans ?_ (x_entry m c _ _)
  unfold iblk
  generalize V m c = U
  blk_ext [idx t]

theorem x_5 (c : Dev nD) (t : Fin cfg0.N) (r : Fin 2048) (q : Fin 128) :
    @Eq EReal (iblk m c 5 t (ix2 r q)) (tok m c ⟨2048 * t.val + r.val, by have := points t; omega⟩ ⟨128 * 5 + q.val, by omega⟩) := by
  refine Eq.trans ?_ (x_entry m c _ _)
  unfold iblk
  generalize V m c = U
  blk_ext [idx t]

theorem x_6 (c : Dev nD) (t : Fin cfg0.N) (r : Fin 2048) (q : Fin 128) :
    @Eq EReal (iblk m c 6 t (ix2 r q)) (tok m c ⟨2048 * t.val + r.val, by have := points t; omega⟩ ⟨128 * 6 + q.val, by omega⟩) := by
  refine Eq.trans ?_ (x_entry m c _ _)
  unfold iblk
  generalize V m c = U
  blk_ext [idx t]

theorem x_7 (c : Dev nD) (t : Fin cfg0.N) (r : Fin 2048) (q : Fin 128) :
    @Eq EReal (iblk m c 7 t (ix2 r q)) (tok m c ⟨2048 * t.val + r.val, by have := points t; omega⟩ ⟨128 * 7 + q.val, by omega⟩) := by
  refine Eq.trans ?_ (x_entry m c _ _)
  unfold iblk
  generalize V m c = U
  blk_ext [idx t]

/-- The input's eight column blocks. -/
def xs (c : Dev nD) (t : Fin cfg0.N) : Fin 8 → Vec Ideal S2048x128 .f32 := ![iblk m c 0 t, iblk m c 1 t, iblk m c 2 t, iblk m c 3 t, iblk m c 4 t, iblk m c 5 t, iblk m c 6 t, iblk m c 7 t]

theorem x_block (c : Dev nD) (t : Fin cfg0.N) (k : Fin 8) (r : Fin 2048) (q : Fin 128) :
    @Eq EReal (xs m c t k (ix2 r q)) (tok m c ⟨2048 * t.val + r.val, by have := points t; omega⟩ ⟨128 * k.val + q.val, by omega⟩) := by
  fin_cases k
  exacts [x_0 m c t r q, x_1 m c t r q, x_2 m c t r q, x_3 m c t r q, x_4 m c t r q, x_5 m c t r q, x_6 m c t r q, x_7 m c t r q]

/-- A row of the gathered block is a token. -/
theorem gathered_tok (c : Dev nD) (t : Fin cfg0.N) (R : Fin 2048) (T : Fin 16384) (e : Fin 1024) (hT : T.val = 2048 * t.val + (16 * (R.val % 128) + R.val / 128)) :
    gathered (xs m c t) R e = tok m c T e :=
  (x_block m c t _ _ _).trans (congrArg₂ (tok m c) (Fin.ext hT.symm) (Fin.ext (by show 128 * (e.val / 128) + e.val % 128 = e.val; omega)))

set_option maxHeartbeats 1600000 in
theorem block (c : Dev nD) (t : Fin cfg0.N) (y : S16x512x128.Idx) (j : S16x512x1024.Idx) (h0 : (j 0).val = (y 0).val) (h1 : (j 1).val = (y 1).val) (h2 : (j 2).val = 128 * t.val + (y 2).val) :
    @Eq EReal (outsAt0 m c t y) ((fun i : S16x512x1024.Idx => lin (kX m c) (kW m c) (kB m c) (token16 (i 2) (i 0)) (featCol16 (i 1))) j) := by
  have y0 : (y 0).val < 16 := (y 0).isLt
  have y1 : (y 2).val < 128 := (y 2).isLt
  have e2 : j 1 = y 1 := Fin.ext h1
  have hT : (token16 (j 2) (j 0)).val = 2048 * t.val + (16 * ((128 * (y 0).val + (y 2).val) % 128) + (128 * (y 0).val + (y 2).val) / 128) := by
    unfold token16
    show 16 * (j 2).val + (j 0).val = _
    omega
  have f1 : ∀ k : Fin 1024, @Eq EReal (iblk m c 8 t (ix2 (y 1) k)) (kW m c k (featCol16 (y 1))) := fun k => by
    refine Eq.trans ?_ (w_entry m c (y 1) k)
    unfold iblk
    generalize V m c = U
    blk_ext [idx t]
  have f2 : @Eq EReal (iblk m c 9 t (ix2 (y 1) 0)) (kB m c (featCol16 (y 1))) := by
    refine Eq.trans ?_ (b_entry m c (y 1))
    unfold iblk
    generalize V m c = U
    blk_ext [idx t]
  unfold outsAt0
  refine (out_at c _ _ _ _ _ _ _ _ _ _ _ _ _ _ _ _ _ _ _ _ _ _ _ _ _ (xs m c t) (iblk m c 8 t) (iblk m c 9 t) y ⟨128 * (y 0).val + (y 2).val, by omega⟩ rfl).trans ?_
  show _ = lin (kX m c) (kW m c) (kB m c) (token16 (j 2) (j 0)) (featCol16 (j 1))
  rw [e2]
  unfold lin
  refine congrArg₂ (fun a b : EReal => a + b) (Finset.sum_congr rfl fun k _ => ?_) f2
  rw [mul_comm]
  exact congrArg₂ (fun a b : EReal => a * b) (gathered_tok m c t _ _ k hT) (f1 k)

set_option maxHeartbeats 3200000 in
/-- The result's array. -/
theorem final (c : Dev nD) : (dats m 0 c).arrAt 10 (cfgs 0).N = fun i : S16x512x1024.Idx => lin (kX m c) (kW m c) (kB m c) (token16 (i 2) (i 0)) (featCol16 (i 1)) := by
  refine (dats m 0 c).arrAt_eq_of_covers 10 _ (by decide +kernel) fun t hf y => ?_
  blk_simp
  rw [after0_10]
  refine block m c t y _ ?_ ?_ ?_
  all_goals (blk_simp [idx t] <;> try omega)

/-- What the kernel leaves. -/
theorem kernel_run (ρ : Dev nD → PrngReg) :
    θ_run defs (onTc (τ := τ) (main (F := Ideal))) ⟨m, fun _ => 0, ρ⟩ fun r => ∀ c : Dev nD,
      r.2.mem ((c.tc : Thread nD τ).loc main_v6) = (fun i : S16x512x1024.Idx => lin (kX m c) (kW m c) (kB m c) (token16 (i 2) (i 0)) (featCol16 (i 1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (final m c), (h c).2⟩) (Value.run_blocks m ρ)

end Cert.FeatFold16Array

end
-- ==== Proof.FeatFold16Ref.lean ====
/-
  What the reference of the call in `FeatFold16Array.lean` leaves.
-/
module

public import proofs.«01_k».proof.Proof.FoldLinear
public import proofs.«01_k».proof.Proof.Gen.FeatFold16ReferenceIdeal.Run
public import Idealize.ShloMosaic.Lib.Pointwise
public import Idealize.ShloMosaic.Lib.Pipeline.ValueKit

@[expose] public section

set_option maxRecDepth 16384

noncomputable section

namespace Cert.FeatFold16Ref

open Idealize.ShloMosaic Idealize.ShloMosaic.TcCoe Idealize.SL.Sem Idealize.ShloMosaic.StableHlo
open Cert.Linear Cert.FoldLinear
open Cert.FeatFold16ReferenceIdeal Cert.FeatFold16ReferenceIdeal.Gen

variable (m : (ℓ : Loc nD τ sig) → Buf (Elt Ideal) ℓ)

/-- The layer's input, weights and bias as the reference's memory holds them. -/
def rX (c : Dev nD) (b : Fin 2) (t : Fin 8192) (e : Fin 1024) : EReal := m ((c.tc : Thread nD τ).loc main_arg0) (ix3 b t e)
def rW (c : Dev nD) (e : Fin 1024) (n : Fin 11288) : EReal := m ((c.tc : Thread nD τ).loc main_arg1) (ix2 e n)
def rB (c : Dev nD) (n : Fin 11288) : EReal := m ((c.tc : Thread nD τ).loc main_arg2) (ix1 n)

/-- One entry of the projection, by sequence and position. -/
theorem entry (c : Dev nD) (T : Fin 16384) (n : Fin 11288) (b : Fin 2) (s : Fin 8192) (k : Fin 11288) (hb : b.val = T.val / 8192) (hs : s.val = T.val % 8192) (hk : k.val = n.val) :
    (∑ e : Fin 1024, rX m c b s e * rW m c e k) + rB m c k = lin (rX m c) (rW m c) (rB m c) T n := by
  have eb : b = ⟨T.val / 8192, by omega⟩ := Fin.ext hb
  have es : s = ⟨T.val % 8192, by omega⟩ := Fin.ext hs
  have ek : k = n := Fin.ext hk
  rw [eb, es, ek]
  rfl

set_option maxHeartbeats 3200000 in
/-- What the reference leaves. -/
theorem reference_run (ρ : Dev nD → PrngReg) :
    θ_run defs (onTc (τ := τ) (main (F := Ideal))) ⟨m, fun _ => 0, ρ⟩ fun r => ∀ c : Dev nD,
      r.2.mem ((c.tc : Thread nD τ).loc main_v26) = (fun i : S16x512x1024.Idx => lin (rX m c) (rW m c) (rB m c) (token16 (i 2) (i 0)) (featCol16 (i 1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2⟩) (Value.run m ρ)
  funext i
  obtain ⟨a, q, n, rfl⟩ : ∃ (a : Fin 16) (q : Fin 1024) (n : Fin 512), i = ix3 a n q := ⟨i 0, i 2, i 1, by blk_ext⟩
  pointwise
  refine entry m c (token16 q a) (featCol16 n) _ _ _ ?_ ?_ ?_
  all_goals simp only [token16, featCol16]
  all_goals omega

end Cert.FeatFold16Ref

end
-- ==== Proof.FoldEqual.lean ====
/-
  The four calls that lay the tokens by residue class: their frames, and that each leaves what its reference leaves.
-/
module

public import proofs.«01_k».proof.Defs
public import proofs.«01_k».proof.Proof.Fold4Array
public import proofs.«01_k».proof.Proof.Fold4Ref
public import proofs.«01_k».proof.Proof.Fold16Array
public import proofs.«01_k».proof.Proof.Fold16Ref
public import proofs.«01_k».proof.Proof.FeatFold4Array
public import proofs.«01_k».proof.Proof.FeatFold4Ref
public import proofs.«01_k».proof.Proof.FeatFold16Array
public import proofs.«01_k».proof.Proof.FeatFold16Ref
public import proofs.«01_k».proof.Proof.Gen.Fold4.Frame
public import proofs.«01_k».proof.Proof.Gen.Fold4Reference
public import proofs.«01_k».proof.Proof.Gen.Fold16.Frame
public import proofs.«01_k».proof.Proof.Gen.Fold16Reference
public import proofs.«01_k».proof.Proof.Gen.FeatFold4.Frame
public import proofs.«01_k».proof.Proof.Gen.FeatFold4Reference
public import proofs.«01_k».proof.Proof.Gen.FeatFold16.Frame
public import proofs.«01_k».proof.Proof.Gen.FeatFold16Reference
public import Idealize.ShloMosaic.Lib.Claim

@[expose] public section

set_option maxRecDepth 16384

noncomputable section

namespace Cert.FoldEqual

open Idealize.ShloMosaic Idealize.ShloMosaic.TcCoe Idealize.SL.Sem

attribute [local instance] Cert.Fold4.Gen.facts Cert.Fold4Ideal.Gen.facts Cert.Fold4ReferenceIdeal.Gen.facts Cert.Fold4Reference.Gen.facts
  Cert.Fold16.Gen.facts Cert.Fold16Ideal.Gen.facts Cert.Fold16ReferenceIdeal.Gen.facts Cert.Fold16Reference.Gen.facts
  Cert.FeatFold4.Gen.facts Cert.FeatFold4Ideal.Gen.facts Cert.FeatFold4ReferenceIdeal.Gen.facts Cert.FeatFold4Reference.Gen.facts
  Cert.FeatFold16.Gen.facts Cert.FeatFold16Ideal.Gen.facts Cert.FeatFold16ReferenceIdeal.Gen.facts Cert.FeatFold16Reference.Gen.facts

/-! ## The frames -/

theorem fold4 : Cert.quiescent_Fold4 := fun m g _ => Cert.Fold4.Gen.frame m g
theorem fold4Ideal : Cert.quiescent_Fold4Ideal := fun m g _ => Cert.Fold4Ideal.Gen.frame m g
theorem fold16 : Cert.quiescent_Fold16 := fun m g _ => Cert.Fold16.Gen.frame m g
theorem fold16Ideal : Cert.quiescent_Fold16Ideal := fun m g _ => Cert.Fold16Ideal.Gen.frame m g
theorem featFold4 : Cert.quiescent_FeatFold4 := fun m g _ => Cert.FeatFold4.Gen.frame m g
theorem featFold4Ideal : Cert.quiescent_FeatFold4Ideal := fun m g _ => Cert.FeatFold4Ideal.Gen.frame m g
theorem featFold16 : Cert.quiescent_FeatFold16 := fun m g _ => Cert.FeatFold16.Gen.frame m g
theorem featFold16Ideal : Cert.quiescent_FeatFold16Ideal := fun m g _ => Cert.FeatFold16Ideal.Gen.frame m g

set_option maxHeartbeats 3200000 in
theorem fold4ReferenceIdeal : Cert.quiescent_Fold4ReferenceIdeal := by
  intro m g _
  hlo_run
  · exact fun _ => ⟨trivial, trivial, trivial⟩
  · exact sem_eq_zero_of_no_sems (sig := Cert.Fold4ReferenceIdeal.sig) (by decide) _

set_option maxHeartbeats 3200000 in
theorem fold4Reference : Cert.quiescent_Fold4Reference := by
  intro m g _
  hlo_run
  · exact fun _ => ⟨trivial, trivial, trivial⟩
  · exact sem_eq_zero_of_no_sems (sig := Cert.Fold4Reference.sig) (by decide) _

set_option maxHeartbeats 3200000 in
theorem fold16ReferenceIdeal : Cert.quiescent_Fold16ReferenceIdeal := by
  intro m g _
  hlo_run
  · exact fun _ => ⟨trivial, trivial, trivial⟩
  · exact sem_eq_zero_of_no_sems (sig := Cert.Fold16ReferenceIdeal.sig) (by decide) _

set_option maxHeartbeats 3200000 in
theorem fold16Reference : Cert.quiescent_Fold16Reference := by
  intro m g _
  hlo_run
  · exact fun _ => ⟨trivial, trivial, trivial⟩
  · exact sem_eq_zero_of_no_sems (sig := Cert.Fold16Reference.sig) (by decide) _

set_option maxHeartbeats 3200000 in
theorem featFold4ReferenceIdeal : Cert.quiescent_FeatFold4ReferenceIdeal := by
  intro m g _
  hlo_run
  · exact fun _ => ⟨trivial, trivial, trivial⟩
  · exact sem_eq_zero_of_no_sems (sig := Cert.FeatFold4ReferenceIdeal.sig) (by decide) _

set_option maxHeartbeats 3200000 in
theorem featFold4Reference : Cert.quiescent_FeatFold4Reference := by
  intro m g _
  hlo_run
  · exact fun _ => ⟨trivial, trivial, trivial⟩
  · exact sem_eq_zero_of_no_sems (sig := Cert.FeatFold4Reference.sig) (by decide) _

set_option maxHeartbeats 3200000 in
theorem featFold16ReferenceIdeal : Cert.quiescent_FeatFold16ReferenceIdeal := by
  intro m g _
  hlo_run
  · exact fun _ => ⟨trivial, trivial, trivial⟩
  · exact sem_eq_zero_of_no_sems (sig := Cert.FeatFold16ReferenceIdeal.sig) (by decide) _

set_option maxHeartbeats 3200000 in
theorem featFold16Reference : Cert.quiescent_FeatFold16Reference := by
  intro m g _
  hlo_run
  · exact fun _ => ⟨trivial, trivial, trivial⟩
  · exact sem_eq_zero_of_no_sems (sig := Cert.FeatFold16Reference.sig) (by decide) _

/-! ## The results -/

/-- Queries and keys at dilation four. -/
theorem fold4_algebraic : Cert.algebraic_Fold4Ideal_Fold4ReferenceIdeal := by
  intro m g m' g' _ hagree
  refine ⟨_, Cert.Fold4Array.kernel_run m g, (θ_run _ _ _).mono (fun r h c => ?_) (Cert.Fold4Ref.reference_run m' g')⟩
  obtain ⟨h0, ha⟩ := h c
  obtain ⟨e0, e1, e2⟩ := hagree c
  have ex : Cert.Fold4Ref.rX m' c = Cert.Fold4Array.kX m c := funext fun b => funext fun t => funext fun e => congrFun e0 (ix3 b t e)
  have ew : Cert.Fold4Ref.rW m' c = Cert.Fold4Array.kW m c := funext fun e => funext fun n => congrFun e1 (ix2 e n)
  have eb : Cert.Fold4Ref.rB m' c = Cert.Fold4Array.kB m c := funext fun n => congrFun e2 (ix1 n)
  refine ⟨h0.trans ?_, ha⟩
  exact congr (congr (congrArg (fun X W B => fun i : Cert.Fold4Ideal.S4x4096x1024.Idx => Cert.FoldLinear.placed4 (Cert.Linear.lin X W B (Cert.FoldLinear.token4 (i 1) (i 0))) (i 2)) ex) ew) eb

/-- Queries, keys and the inputs of the compression at dilation sixteen. -/
theorem fold16_algebraic : Cert.algebraic_Fold16Ideal_Fold16ReferenceIdeal := by
  intro m g m' g' _ hagree
  refine ⟨_, Cert.Fold16Array.kernel_run m g, (θ_run _ _ _).mono (fun r h c => ?_) (Cert.Fold16Ref.reference_run m' g')⟩
  obtain ⟨h0, ha⟩ := h c
  obtain ⟨e0, e1, e2⟩ := hagree c
  have ex : Cert.Fold16Ref.rX m' c = Cert.Fold16Array.kX m c := funext fun b => funext fun t => funext fun e => congrFun e0 (ix3 b t e)
  have ew : Cert.Fold16Ref.rW m' c = Cert.Fold16Array.kW m c := funext fun e => funext fun n => congrFun e1 (ix2 e n)
  have eb : Cert.Fold16Ref.rB m' c = Cert.Fold16Array.kB m c := funext fun n => congrFun e2 (ix1 n)
  refine ⟨h0.trans ?_, ha⟩
  exact congr (congr (congrArg (fun X W B => fun i : Cert.Fold16Ideal.S16x1024x1536.Idx => Cert.FoldLinear.placed16 (Cert.Linear.lin X W B (Cert.FoldLinear.token16 (i 1) (i 0))) (i 2)) ex) ew) eb

/-- Values at dilation four. -/
theorem featFold4_algebraic : Cert.algebraic_FeatFold4Ideal_FeatFold4ReferenceIdeal := by
  intro m g m' g' _ hagree
  refine ⟨_, Cert.FeatFold4Array.kernel_run m g, (θ_run _ _ _).mono (fun r h c => ?_) (Cert.FeatFold4Ref.reference_run m' g')⟩
  obtain ⟨h0, ha⟩ := h c
  obtain ⟨e0, e1, e2⟩ := hagree c
  have ex : Cert.FeatFold4Ref.rX m' c = Cert.FeatFold4Array.kX m c := funext fun b => funext fun t => funext fun e => congrFun e0 (ix3 b t e)
  have ew : Cert.FeatFold4Ref.rW m' c = Cert.FeatFold4Array.kW m c := funext fun e => funext fun n => congrFun e1 (ix2 e n)
  have eb : Cert.FeatFold4Ref.rB m' c = Cert.FeatFold4Array.kB m c := funext fun n => congrFun e2 (ix1 n)
  refine ⟨h0.trans ?_, ha⟩
  exact congr (congr (congrArg (fun X W B => fun i : Cert.FeatFold4Ideal.S4x512x4096.Idx => Cert.Linear.lin X W B (Cert.FoldLinear.token4 (i 2) (i 0)) (Cert.FoldLinear.featCol4 (i 1))) ex) ew) eb

/-- Values at dilation sixteen. -/
theorem featFold16_algebraic : Cert.algebraic_FeatFold16Ideal_FeatFold16ReferenceIdeal := by
  intro m g m' g' _ hagree
  refine ⟨_, Cert.FeatFold16Array.kernel_run m g, (θ_run _ _ _).mono (fun r h c => ?_) (Cert.FeatFold16Ref.reference_run m' g')⟩
  obtain ⟨h0, ha⟩ := h c
  obtain ⟨e0, e1, e2⟩ := hagree c
  have ex : Cert.FeatFold16Ref.rX m' c = Cert.FeatFold16Array.kX m c := funext fun b => funext fun t => funext fun e => congrFun e0 (ix3 b t e)
  have ew : Cert.FeatFold16Ref.rW m' c = Cert.FeatFold16Array.kW m c := funext fun e => funext fun n => congrFun e1 (ix2 e n)
  have eb : Cert.FeatFold16Ref.rB m' c = Cert.FeatFold16Array.kB m c := funext fun n => congrFun e2 (ix1 n)
  refine ⟨h0.trans ?_, ha⟩
  exact congr (congr (congrArg (fun X W B => fun i : Cert.FeatFold16Ideal.S16x512x1024.Idx => Cert.Linear.lin X W B (Cert.FoldLinear.token16 (i 2) (i 0)) (Cert.FoldLinear.featCol16 (i 1))) ex) ew) eb

end Cert.FoldEqual

end
-- ==== Proof.lean ====
/-
  The proof of `Cert.Claim`: the frames and the named constants (`Proof/Frames.lean`), and the equality of the results
  (`Proof/Equal.lean`) for the selection call; both for `proj_tok` and `proj_feat` (`Proof/ProjEqual.lean`) and
  for the four calls that lay the tokens by residue class (`Proof/FoldEqual.lean`).
-/
module

public import proofs.«01_k».proof.Defs
public import proofs.«01_k».proof.Proof.Frames
public import proofs.«01_k».proof.Proof.Equal
public import proofs.«01_k».proof.Proof.ProjEqual
public import proofs.«01_k».proof.Proof.FoldEqual

@[expose] public section

noncomputable section

namespace Cert.Proof

open Idealize.ShloMosaic

theorem claim : Cert.Claim :=
  ⟨Cert.Kernel.Gen.facts, Cert.KernelIdeal.Gen.facts, Cert.ReferenceIdeal.Gen.facts, Cert.Reference.Gen.facts,
    Cert.Proj.Gen.facts, Cert.ProjIdeal.Gen.facts, Cert.ProjReferenceIdeal.Gen.facts, Cert.ProjReference.Gen.facts,
    Cert.Feat.Gen.facts, Cert.FeatIdeal.Gen.facts, Cert.FeatReferenceIdeal.Gen.facts, Cert.FeatReference.Gen.facts,
    Cert.Fold4.Gen.facts, Cert.Fold4Ideal.Gen.facts, Cert.Fold4ReferenceIdeal.Gen.facts, Cert.Fold4Reference.Gen.facts,
    Cert.Fold16.Gen.facts, Cert.Fold16Ideal.Gen.facts, Cert.Fold16ReferenceIdeal.Gen.facts, Cert.Fold16Reference.Gen.facts,
    Cert.FeatFold4.Gen.facts, Cert.FeatFold4Ideal.Gen.facts, Cert.FeatFold4ReferenceIdeal.Gen.facts, Cert.FeatFold4Reference.Gen.facts,
    Cert.FeatFold16.Gen.facts, Cert.FeatFold16Ideal.Gen.facts, Cert.FeatFold16ReferenceIdeal.Gen.facts, Cert.FeatFold16Reference.Gen.facts,
    Cert.Frames.kernel, Cert.Frames.kernelIdeal, Cert.Frames.referenceIdeal, Cert.Frames.reference,
    Cert.ProjEqual.proj, Cert.ProjEqual.projIdeal, Cert.ProjEqual.projReferenceIdeal, Cert.ProjEqual.projReference,
    Cert.ProjEqual.feat, Cert.ProjEqual.featIdeal, Cert.ProjEqual.featReferenceIdeal, Cert.ProjEqual.featReference,
    Cert.FoldEqual.fold4, Cert.FoldEqual.fold4Ideal, Cert.FoldEqual.fold4ReferenceIdeal, Cert.FoldEqual.fold4Reference,
    Cert.FoldEqual.fold16, Cert.FoldEqual.fold16Ideal, Cert.FoldEqual.fold16ReferenceIdeal, Cert.FoldEqual.fold16Reference,
    Cert.FoldEqual.featFold4, Cert.FoldEqual.featFold4Ideal, Cert.FoldEqual.featFold4ReferenceIdeal, Cert.FoldEqual.featFold4Reference,
    Cert.FoldEqual.featFold16, Cert.FoldEqual.featFold16Ideal, Cert.FoldEqual.featFold16ReferenceIdeal, Cert.FoldEqual.featFold16Reference,
    Cert.Frames.named, trivial, Cert.Equal.algebraic,
    trivial, trivial, Cert.ProjEqual.proj_algebraic,
    trivial, trivial, Cert.ProjEqual.feat_algebraic,
    trivial, trivial, Cert.FoldEqual.fold4_algebraic,
    trivial, trivial, Cert.FoldEqual.fold16_algebraic,
    trivial, trivial, Cert.FoldEqual.featFold4_algebraic,
    trivial, trivial, Cert.FoldEqual.featFold16_algebraic⟩

end Cert.Proof

end
